-- ==== Defs.lean ====
def Pre_Kernel [hPre_tokens_in_vocab : Cert.Pre_tokens_in_vocab.Facts] (m : (ℓ : Loc Cert.Kernel.nD Cert.Kernel.τ Cert.Kernel.sig) → Buf (Elt Bits) ℓ) : Prop :=
  ∀ c : Dev Cert.Kernel.nD,
    (Cert.Pre_tokens_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_tokens_in_vocab : Cert.Pre_tokens_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_finite_tables [hPre_finite_tables : Cert.Pre_finite_tables.Facts] (m : (ℓ : Loc Cert.KernelIdeal.nD Cert.KernelIdeal.τ Cert.KernelIdeal.sig) → Buf (Elt Ideal) ℓ) : Prop :=
  ∀ c : Dev Cert.KernelIdeal.nD,
    (Cert.Pre_finite_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_tables [hPre_finite_tables : Cert.Pre_finite_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_tokens_in_vocab : Cert.Pre_tokens_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_tokens_in_vocab : Cert.Pre_tokens_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_tables [hKernelIdeal : Cert.KernelIdeal.Facts] [hPre_finite_tables : Cert.Pre_finite_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_tables m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_tables [hReferenceIdeal : Cert.ReferenceIdeal.Facts] [hPre_finite_tables : Cert.Pre_finite_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_L" .f32 0x3BA3D70A#32 ((200⁻¹ : ℝ) : EReal)

def algebraic_KernelIdeal_ReferenceIdeal_pre_finite_tables [hKernelIdeal : Cert.KernelIdeal.Facts] [hReferenceIdeal : Cert.ReferenceIdeal.Facts] [hPre_finite_tables : Cert.Pre_finite_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_tokens_in_vocab : Cert.Pre_tokens_in_vocab.Facts) (hPre_finite_tables : Cert.Pre_finite_tables.Facts),
    quiescent_Kernel (hKernel := hKernel) (hPre_tokens_in_vocab := hPre_tokens_in_vocab)
    ∧ quiescent_KernelIdeal (hKernelIdeal := hKernelIdeal) (hPre_tokens_in_vocab := hPre_tokens_in_vocab)
    ∧ quiescent_KernelIdeal_pre_finite_tables (hKernelIdeal := hKernelIdeal) (hPre_finite_tables := hPre_finite_tables)
    ∧ quiescent_ReferenceIdeal (hReferenceIdeal := hReferenceIdeal)
    ∧ quiescent_ReferenceIdeal_pre_finite_tables (hReferenceIdeal := hReferenceIdeal) (hPre_finite_tables := hPre_finite_tables)
    ∧ preserves_Kernel_KernelIdeal
    ∧ algebraic_KernelIdeal_ReferenceIdeal_pre_finite_tables (hKernelIdeal := hKernelIdeal) (hReferenceIdeal := hReferenceIdeal) (hPre_finite_tables := hPre_finite_tables)
-- ==== Pre_finite_tables.lean ====
abbrev S16384x200 : Shape := ⟨2, ![16384, 200]⟩
abbrev S1000x128 : Shape := ⟨2, ![1000, 128]⟩
abbrev S128x128 : Shape := ⟨2, ![128, 128]⟩
abbrev S128 : Shape := ⟨1, ![128]⟩
abbrev S_ : Shape := ⟨0, ![]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : IVec S16384x200 32) (main_arg1 : FVec F S1000x128 .f32) (main_arg2 : FVec F S128x128 .f32) (main_arg3 : FVec F S128 .f32) : IVec S_ 1 :=
  let main_c : IVec S_ 32 := constantI S_ 32 0#32
  let main_v0 : IVec S16384x200 32 := broadcastInDim S16384x200 ![] bcast_S_S16384x200 main_c
  let main_v1 : IVec S16384x200 1 := cmpi .sge main_arg0 main_v0
  let main_c_0 : IVec S_ 32 := constantI S_ 32 1000#32
  let main_v2 : IVec S16384x200 32 := broadcastInDim S16384x200 ![] bcast_S_S16384x200 main_c_0
  let main_v3 : IVec S16384x200 1 := cmpi .slt main_arg0 main_v2
  let main_v4 : IVec S16384x200 1 := andi main_v1 main_v3
  let main_c_1 : IVec S_ 1 := constantI S_ 1 1#1
  let main_v5 : IVec S_ 1 := (fun x v => Host.reduce IntOp.andi x v reducesTo_S16384x200_S_d0_1 h_S_) main_v4 main_c_1
  let main_v6 : FVec F S1000x128 .f32 := Host.absf main_arg1
  let main_cst : FVec F S_ .f32 := constant S_ .f32 0x7F800000#32
  let main_v7 : FVec F S1000x128 .f32 := broadcastInDim S1000x128 ![] bcast_S_S1000x128 main_cst
  let main_v8 : IVec S1000x128 1 := cmpf .olt main_v6 main_v7
  let main_c_2 : IVec S_ 1 := constantI S_ 1 1#1
  let main_v9 : IVec S_ 1 := (fun x v => Host.reduce IntOp.andi x v reducesTo_S1000x128_S_d0_1 h_S_) main_v8 main_c_2
  let main_v10 : IVec S_ 1 := andi main_v5 main_v9
  let main_v11 : FVec F S128x128 .f32 := Host.absf main_arg2
  let main_cst_3 : FVec F S_ .f32 := constant S_ .f32 0x7F800000#32
  let main_v12 : FVec F S128x128 .f32 := broadcastInDim S128x128 ![] bcast_S_S128x128 main_cst_3
  let main_v13 : IVec S128x128 1 := cmpf .olt main_v11 main_v12
  let main_c_4 : IVec S_ 1 := constantI S_ 1 1#1
  let main_v14 : IVec S_ 1 := (fun x v => Host.reduce IntOp.andi x v reducesTo_S128x128_S_d0_1 h_S_) main_v13 main_c_4
  let main_v15 : IVec S_ 1 := andi main_v10 main_v14
  main_v15
-- ==== Pre_tokens_in_vocab.lean ====
abbrev S16384x200 : Shape := ⟨2, ![16384, 200]⟩
abbrev S1000x128 : Shape := ⟨2, ![1000, 128]⟩
abbrev S128x128 : Shape := ⟨2, ![128, 128]⟩
abbrev S128 : Shape := ⟨1, ![128]⟩
abbrev S_ : Shape := ⟨0, ![]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel

variable [Facts]

def fn {F : FTy → Type} [FloatOps F] (main_arg0 : IVec S16384x200 32) (main_arg1 : FVec F S1000x128 .f32) (main_arg2 : FVec F S128x128 .f32) (main_arg3 : FVec F S128 .f32) : IVec S_ 1 :=
  let main_c : IVec S_ 32 := constantI S_ 32 0#32
  let main_v0 : IVec S16384x200 32 := broadcastInDim S16384x200 ![] bcast_S_S16384x200 main_c
  let main_v1 : IVec S16384x200 1 := cmpi .sge main_arg0 main_v0
  let main_c_0 : IVec S_ 32 := constantI S_ 32 1000#32
  let main_v2 : IVec S16384x200 32 := broadcastInDim S16384x200 ![] bcast_S_S16384x200 main_c_0
  let main_v3 : IVec S16384x200 1 := cmpi .slt main_arg0 main_v2
  let main_v4 : IVec S16384x200 1 := andi main_v1 main_v3
  let main_c_1 : IVec S_ 1 := constantI S_ 1 1#1
  let main_v5 : IVec S_ 1 := (fun x v => Host.reduce IntOp.andi x v reducesTo_S16384x200_S_d0_1 h_S_) main_v4 main_c_1
  main_v5
-- ==== Kernel.lean ====
abbrev S16384x200 : Shape := ⟨2, ![16384, 200]⟩
abbrev S1000x128 : Shape := ⟨2, ![1000, 128]⟩
abbrev S128x128 : Shape := ⟨2, ![128, 128]⟩
abbrev S128 : Shape := ⟨1, ![128]⟩
abbrev S_ : Shape := ⟨0, ![]⟩
abbrev S1024x128 : Shape := ⟨2, ![1024, 128]⟩
abbrev S1x128 : Shape := ⟨2, ![1, 128]⟩
abbrev S16384x128 : Shape := ⟨2, ![16384, 128]⟩
abbrev S4096x1024 : Shape := ⟨2, ![4096, 1024]⟩
abbrev S32x200 : Shape := ⟨2, ![32, 200]⟩
abbrev S32x1024 : Shape := ⟨2, ![32, 1024]⟩
abbrev S16 : Shape := ⟨1, ![16]⟩
abbrev S1x16 : Shape := ⟨2, ![1, 16]⟩
abbrev S1024x1024 : Shape := ⟨2, ![1024, 1024]⟩

abbrev nBuf : Table → Nat
  | .hbm => 19
  | .local .tc .vmem => 35
  | .local .scVector .vmem => 16
  | _ => 0

abbrev bufTy : (tb : Table) → Fin (nBuf tb) → BufTy
  | .hbm, ⟨0, _⟩ => ⟨S16384x200, .i32⟩
  | .hbm, ⟨1, _⟩ => ⟨S1000x128, .f32⟩
  | .hbm, ⟨2, _⟩ => ⟨S128x128, .f32⟩
  | .hbm, ⟨3, _⟩ => ⟨S128, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S1024x128, .f32⟩
  | .hbm, ⟨8, _⟩ => ⟨S1x128, .f32⟩
  | .hbm, ⟨9, _⟩ => ⟨S_, .f32⟩
  | .hbm, ⟨10, _⟩ => ⟨S16384x128, .f32⟩
  | .hbm, ⟨11, _⟩ => ⟨S4096x1024, .f32⟩
  | .hbm, ⟨12, _⟩ => ⟨S16384x128, .f32⟩
  | .hbm, ⟨13, _⟩ => ⟨S4096x1024, .f32⟩
  | .hbm, ⟨14, _⟩ => ⟨S16384x128, .f32⟩
  | .hbm, ⟨15, _⟩ => ⟨S4096x1024, .f32⟩
  | .hbm, ⟨16, _⟩ => ⟨S16384x128, .f32⟩
  | .hbm, ⟨17, _⟩ => ⟨S4096x1024, .f32⟩
  | .hbm, ⟨18, _⟩ => ⟨S16384x128, .f32⟩
  | .local .tc .vmem, ⟨0, _⟩ => ⟨S1024x128, .f32⟩
  | .local .tc .vmem, ⟨1, _⟩ => ⟨S128x128, .f32⟩
  | .local .tc .vmem, ⟨2, _⟩ => ⟨S1024x128, .f32⟩
  | .local .tc .vmem, ⟨3, _⟩ => ⟨S1024x1024, .f32⟩
  | .local .tc .vmem, ⟨4, _⟩ => ⟨S1024x1024, .f32⟩
  | .local .tc .vmem, ⟨5, _⟩ => ⟨S1024x128, .f32⟩
  | .local .tc .vmem, ⟨6, _⟩ => ⟨S1x128, .f32⟩
  | .local .tc .vmem, ⟨7, _⟩ => ⟨S1024x128, .f32⟩
  | .local .tc .vmem, ⟨8, _⟩ => ⟨S1024x128, .f32⟩
  | .local .tc .vmem, ⟨9, _⟩ => ⟨S1024x128, .f32⟩
  | .local .tc .vmem, ⟨10, _⟩ => ⟨S1024x128, .f32⟩
  | .local .tc .vmem, ⟨11, _⟩ => ⟨S1024x1024, .f32⟩
  | .local .tc .vmem, ⟨12, _⟩ => ⟨S1024x1024, .f32⟩
  | .local .tc .vmem, ⟨13, _⟩ => ⟨S1024x128, .f32⟩
  | .local .tc .vmem, ⟨14, _⟩ => ⟨S1x128, .f32⟩
  | .local .tc .vmem, ⟨15, _⟩ => ⟨S1024x128, .f32⟩
  | .local .tc .vmem, ⟨16, _⟩ => ⟨S1024x128, .f32⟩
  | .local .tc .vmem, ⟨17, _⟩ => ⟨S1024x128, .f32⟩
  | .local .tc .vmem, ⟨18, _⟩ => ⟨S1024x128, .f32⟩
  | .local .tc .vmem, ⟨19, _⟩ => ⟨S1024x1024, .f32⟩
  | .local .tc .vmem, ⟨20, _⟩ => ⟨S1024x1024, .f32⟩
  | .local .tc .vmem, ⟨21, _⟩ => ⟨S1024x128, .f32⟩
  | .local .tc .vmem, ⟨22, _⟩ => ⟨S1x128, .f32⟩
  | .local .tc .vmem, ⟨23, _⟩ => ⟨S1024x128, .f32⟩
  | .local .tc .vmem, ⟨24, _⟩ => ⟨S1024x128, .f32⟩
  | .local .tc .vmem, ⟨25, _⟩ => ⟨S1024x128, .f32⟩
  | .local .tc .vmem, ⟨26, _⟩ => ⟨S1024x128, .f32⟩
  | .local .tc .vmem, ⟨27, _⟩ => ⟨S1024x1024, .f32⟩
  | .local .tc .vmem, ⟨28, _⟩ => ⟨S1024x1024, .f32⟩
  | .local .tc .vmem, ⟨29, _⟩ => ⟨S1024x128, .f32⟩
  | .local .tc .vmem, ⟨30, _⟩ => ⟨S1x128, .f32⟩
  | .local .tc .vmem, ⟨31, _⟩ => ⟨S1024x128, .f32⟩
  | .local .tc .vmem, ⟨32, _⟩ => ⟨S1024x128, .f32⟩
  | .local .tc .vmem, ⟨33, _⟩ => ⟨S1024x128, .f32⟩
  | .local .tc .vmem, ⟨34, _⟩ => ⟨S1024x128, .f32⟩
  | .local .scVector .vmem, ⟨0, _⟩ => ⟨S32x200, .i32⟩
  | .local .scVector .vmem, ⟨1, _⟩ => ⟨S32x200, .i32⟩
  | .local .scVector .vmem, ⟨2, _⟩ => ⟨S32x1024, .f32⟩
  | .local .scVector .vmem, ⟨3, _⟩ => ⟨S32x1024, .f32⟩
  | .local .scVector .vmem, ⟨4, _⟩ => ⟨S32x200, .i32⟩
  | .local .scVector .vmem, ⟨5, _⟩ => ⟨S32x200, .i32⟩
  | .local .scVector .vmem, ⟨6, _⟩ => ⟨S32x1024, .f32⟩
  | .local .scVector .vmem, ⟨7, _⟩ => ⟨S32x1024, .f32⟩
  | .local .scVector .vmem, ⟨8, _⟩ => ⟨S32x200, .i32⟩
  | .local .scVector .vmem, ⟨9, _⟩ => ⟨S32x200, .i32⟩
  | .local .scVector .vmem, ⟨10, _⟩ => ⟨S32x1024, .f32⟩
  | .local .scVector .vmem, ⟨11, _⟩ => ⟨S32x1024, .f32⟩
  | .local .scVector .vmem, ⟨12, _⟩ => ⟨S32x200, .i32⟩
  | .local .scVector .vmem, ⟨13, _⟩ => ⟨S32x200, .i32⟩
  | .local .scVector .vmem, ⟨14, _⟩ => ⟨S32x1024, .f32⟩
  | .local .scVector .vmem, ⟨15, _⟩ => ⟨S32x1024, .f32⟩
  | _, _ => ⟨S16384x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 59 → Bool
  | ⟨0, _⟩ => true
  | ⟨1, _⟩ => true
  | ⟨2, _⟩ => true
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => false
  | ⟨18, _⟩ => false
  | ⟨19, _⟩ => false
  | ⟨20, _⟩ => false
  | ⟨21, _⟩ => false
  | ⟨22, _⟩ => false
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => false
  | ⟨32, _⟩ => false
  | ⟨33, _⟩ => false
  | ⟨34, _⟩ => false
  | ⟨35, _⟩ => false
  | ⟨36, _⟩ => false
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => false
  | ⟨46, _⟩ => false
  | ⟨47, _⟩ => false
  | ⟨48, _⟩ => false
  | ⟨49, _⟩ => false
  | ⟨50, _⟩ => false
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTables nBuf rfl bufTy 4 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_arg0_scv : Ref sig .scVector := ⟨.hbm, 0, rfl⟩
abbrev main_v4_scv : Ref sig .scVector := ⟨.hbm, 11, rfl⟩
abbrev main_v6_scv : Ref sig .scVector := ⟨.hbm, 13, rfl⟩
abbrev main_v8_scv : Ref sig .scVector := ⟨.hbm, 15, rfl⟩
abbrev main_v10_scv : Ref sig .scVector := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc2_stg0_0 : Ref sig .tc := ⟨.vmem, 3, rfl⟩
abbrev cc2_stg0_1 : Ref sig .tc := ⟨.vmem, 4, rfl⟩
abbrev cc2_stg1_0 : Ref sig .tc := ⟨.vmem, 5, rfl⟩
abbrev cc2_stg2_0 : Ref sig .tc := ⟨.vmem, 6, rfl⟩
abbrev cc2_stg3_0 : Ref sig .tc := ⟨.vmem, 7, rfl⟩
abbrev cc2_stg3_1 : Ref sig .tc := ⟨.vmem, 8, rfl⟩
abbrev cc2_stg4_0 : Ref sig .tc := ⟨.vmem, 9, rfl⟩
abbrev cc2_stg4_1 : Ref sig .tc := ⟨.vmem, 10, rfl⟩
abbrev cc4_stg0_0 : Ref sig .tc := ⟨.vmem, 11, rfl⟩
abbrev cc4_stg0_1 : Ref sig .tc := ⟨.vmem, 12, rfl⟩
abbrev cc4_stg1_0 : Ref sig .tc := ⟨.vmem, 13, rfl⟩
abbrev cc4_stg2_0 : Ref sig .tc := ⟨.vmem, 14, rfl⟩
abbrev cc4_stg3_0 : Ref sig .tc := ⟨.vmem, 15, rfl⟩
abbrev cc4_stg3_1 : Ref sig .tc := ⟨.vmem, 16, rfl⟩
abbrev cc4_stg4_0 : Ref sig .tc := ⟨.vmem, 17, rfl⟩
abbrev cc4_stg4_1 : Ref sig .tc := ⟨.vmem, 18, rfl⟩
abbrev cc6_stg0_0 : Ref sig .tc := ⟨.vmem, 19, rfl⟩
abbrev cc6_stg0_1 : Ref sig .tc := ⟨.vmem, 20, rfl⟩
abbrev cc6_stg1_0 : Ref sig .tc := ⟨.vmem, 21, rfl⟩
abbrev cc6_stg2_0 : Ref sig .tc := ⟨.vmem, 22, rfl⟩
abbrev cc6_stg3_0 : Ref sig .tc := ⟨.vmem, 23, rfl⟩
abbrev cc6_stg3_1 : Ref sig .tc := ⟨.vmem, 24, rfl⟩
abbrev cc6_stg4_0 : Ref sig .tc := ⟨.vmem, 25, rfl⟩
abbrev cc6_stg4_1 : Ref sig .tc := ⟨.vmem, 26, rfl⟩
abbrev cc8_stg0_0 : Ref sig .tc := ⟨.vmem, 27, rfl⟩
abbrev cc8_stg0_1 : Ref sig .tc := ⟨.vmem, 28, rfl⟩
abbrev cc8_stg1_0 : Ref sig .tc := ⟨.vmem, 29, rfl⟩
abbrev cc8_stg2_0 : Ref sig .tc := ⟨.vmem, 30, rfl⟩
abbrev cc8_stg3_0 : Ref sig .tc := ⟨.vmem, 31, rfl⟩
abbrev cc8_stg3_1 : Ref sig .tc := ⟨.vmem, 32, rfl⟩
abbrev cc8_stg4_0 : Ref sig .tc := ⟨.vmem, 33, rfl⟩
abbrev cc8_stg4_1 : Ref sig .tc := ⟨.vmem, 34, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc3_scratch0 : Ref sig .scVector := ⟨.vmem, 4, rfl⟩
abbrev cc3_scratch1 : Ref sig .scVector := ⟨.vmem, 5, rfl⟩
abbrev cc3_scratch2 : Ref sig .scVector := ⟨.vmem, 6, rfl⟩
abbrev cc3_scratch3 : Ref sig .scVector := ⟨.vmem, 7, rfl⟩
abbrev cc5_scratch0 : Ref sig .scVector := ⟨.vmem, 8, rfl⟩
abbrev cc5_scratch1 : Ref sig .scVector := ⟨.vmem, 9, rfl⟩
abbrev cc5_scratch2 : Ref sig .scVector := ⟨.vmem, 10, rfl⟩
abbrev cc5_scratch3 : Ref sig .scVector := ⟨.vmem, 11, rfl⟩
abbrev cc7_scratch0 : Ref sig .scVector := ⟨.vmem, 12, rfl⟩
abbrev cc7_scratch1 : Ref sig .scVector := ⟨.vmem, 13, rfl⟩
abbrev cc7_scratch2 : Ref sig .scVector := ⟨.vmem, 14, rfl⟩
abbrev cc7_scratch3 : Ref sig .scVector := ⟨.vmem, 15, rfl⟩
abbrev cc0_sem0_0 : DmaSem sig := 0
abbrev cc0_sem1_0 : DmaSem sig := 1
abbrev cc0_sem2_0 : DmaSem sig := 2
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem3_1 : DmaSem sig := 14
abbrev cc2_sem4_0 : DmaSem sig := 15
abbrev cc2_sem4_1 : DmaSem sig := 16
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem3_1 : DmaSem sig := 28
abbrev cc4_sem4_0 : DmaSem sig := 29
abbrev cc4_sem4_1 : DmaSem sig := 30
abbrev cc6_sem0_0 : DmaSem sig := 37
abbrev cc6_sem0_1 : DmaSem sig := 38
abbrev cc6_sem1_0 : DmaSem sig := 39
abbrev cc6_sem2_0 : DmaSem sig := 40
abbrev cc6_sem3_0 : DmaSem sig := 41
abbrev cc6_sem3_1 : DmaSem sig := 42
abbrev cc6_sem4_0 : DmaSem sig := 43
abbrev cc6_sem4_1 : DmaSem sig := 44
abbrev cc8_sem0_0 : DmaSem sig := 51
abbrev cc8_sem0_1 : DmaSem sig := 52
abbrev cc8_sem1_0 : DmaSem sig := 53
abbrev cc8_sem2_0 : DmaSem sig := 54
abbrev cc8_sem3_0 : DmaSem sig := 55
abbrev cc8_sem3_1 : DmaSem sig := 56
abbrev cc8_sem4_0 : DmaSem sig := 57
abbrev cc8_sem4_1 : DmaSem sig := 58
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 16], ![false, false]⟩

@[reducible] def k1_t1_loop : Scf.Loop 32 :=
  let c0_i32_2 : BitVec 32 := 0#32
  let c32_i32 : BitVec 32 := 32#32
  let v9 : BitVec 32 := Scalar.addi c0_i32_2 c32_i32
  let c1_i32 : BitVec 32 := 1#32
  ⟨c0_i32_2, v9, c1_i32⟩
def k1_off1 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v47 : Index := Scalar.indexCast arg10
  let c0 : Index := 0#32
  ![v47.toNat, 0]
def k1_off2 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v49 : Index := Scalar.indexCast arg10
  let c16 : Index := 16#32
  ![v49.toNat, 16]
def k1_off3 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v51 : Index := Scalar.indexCast arg10
  let c32 : Index := 32#32
  ![v51.toNat, 32]
def k1_off4 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v53 : Index := Scalar.indexCast arg10
  let c48 : Index := 48#32
  ![v53.toNat, 48]
def k1_off5 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v55 : Index := Scalar.indexCast arg10
  let c64 : Index := 64#32
  ![v55.toNat, 64]
def k1_off6 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v57 : Index := Scalar.indexCast arg10
  let c80 : Index := 80#32
  ![v57.toNat, 80]
def k1_off7 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v59 : Index := Scalar.indexCast arg10
  let c96 : Index := 96#32
  ![v59.toNat, 96]
def k1_off8 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v61 : Index := Scalar.indexCast arg10
  let c112 : Index := 112#32
  ![v61.toNat, 112]
def k1_off9 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v63 : Index := Scalar.indexCast arg10
  let c128 : Index := 128#32
  ![v63.toNat, 128]
def k1_off10 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v65 : Index := Scalar.indexCast arg10
  let c144 : Index := 144#32
  ![v65.toNat, 144]
def k1_off11 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v67 : Index := Scalar.indexCast arg10
  let c160 : Index := 160#32
  ![v67.toNat, 160]
def k1_off12 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v69 : Index := Scalar.indexCast arg10
  let c176 : Index := 176#32
  ![v69.toNat, 176]
def k1_off13 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v71 : Index := Scalar.indexCast arg10
  let c192 : Index := 192#32
  ![v71.toNat, 192]
def k1_off14 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v73 : Index := Scalar.indexCast arg10
  let c208 : Index := 208#32
  ![v73.toNat, 208]
def k1_off15 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v75 : Index := Scalar.indexCast arg10
  let c224 : Index := 224#32
  ![v75.toNat, 224]
def k1_off16 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v77 : Index := Scalar.indexCast arg10
  let c240 : Index := 240#32
  ![v77.toNat, 240]
def k1_off17 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v79 : Index := Scalar.indexCast arg10
  let c256 : Index := 256#32
  ![v79.toNat, 256]
def k1_off18 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v81 : Index := Scalar.indexCast arg10
  let c272 : Index := 272#32
  ![v81.toNat, 272]
def k1_off19 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v83 : Index := Scalar.indexCast arg10
  let c288 : Index := 288#32
  ![v83.toNat, 288]
def k1_off20 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v85 : Index := Scalar.indexCast arg10
  let c304 : Index := 304#32
  ![v85.toNat, 304]
def k1_off21 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v87 : Index := Scalar.indexCast arg10
  let c320 : Index := 320#32
  ![v87.toNat, 320]
def k1_off22 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v89 : Index := Scalar.indexCast arg10
  let c336 : Index := 336#32
  ![v89.toNat, 336]
def k1_off23 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v91 : Index := Scalar.indexCast arg10
  let c352 : Index := 352#32
  ![v91.toNat, 352]
def k1_off24 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v93 : Index := Scalar.indexCast arg10
  let c368 : Index := 368#32
  ![v93.toNat, 368]
def k1_off25 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v95 : Index := Scalar.indexCast arg10
  let c384 : Index := 384#32
  ![v95.toNat, 384]
def k1_off26 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v97 : Index := Scalar.indexCast arg10
  let c400 : Index := 400#32
  ![v97.toNat, 400]
def k1_off27 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v99 : Index := Scalar.indexCast arg10
  let c416 : Index := 416#32
  ![v99.toNat, 416]
def k1_off28 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v101 : Index := Scalar.indexCast arg10
  let c432 : Index := 432#32
  ![v101.toNat, 432]
def k1_off29 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v103 : Index := Scalar.indexCast arg10
  let c448 : Index := 448#32
  ![v103.toNat, 448]
def k1_off30 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v105 : Index := Scalar.indexCast arg10
  let c464 : Index := 464#32
  ![v105.toNat, 464]
def k1_off31 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v107 : Index := Scalar.indexCast arg10
  let c480 : Index := 480#32
  ![v107.toNat, 480]
def k1_off32 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v109 : Index := Scalar.indexCast arg10
  let c496 : Index := 496#32
  ![v109.toNat, 496]
def k1_off33 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v111 : Index := Scalar.indexCast arg10
  let c512 : Index := 512#32
  ![v111.toNat, 512]
def k1_off34 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v113 : Index := Scalar.indexCast arg10
  let c528 : Index := 528#32
  ![v113.toNat, 528]
def k1_off35 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v115 : Index := Scalar.indexCast arg10
  let c544 : Index := 544#32
  ![v115.toNat, 544]
def k1_off36 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v117 : Index := Scalar.indexCast arg10
  let c560 : Index := 560#32
  ![v117.toNat, 560]
def k1_off37 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v119 : Index := Scalar.indexCast arg10
  let c576 : Index := 576#32
  ![v119.toNat, 576]
def k1_off38 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v121 : Index := Scalar.indexCast arg10
  let c592 : Index := 592#32
  ![v121.toNat, 592]
def k1_off39 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v123 : Index := Scalar.indexCast arg10
  let c608 : Index := 608#32
  ![v123.toNat, 608]
def k1_off40 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v125 : Index := Scalar.indexCast arg10
  let c624 : Index := 624#32
  ![v125.toNat, 624]
def k1_off41 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v127 : Index := Scalar.indexCast arg10
  let c640 : Index := 640#32
  ![v127.toNat, 640]
def k1_off42 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v129 : Index := Scalar.indexCast arg10
  let c656 : Index := 656#32
  ![v129.toNat, 656]
def k1_off43 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v131 : Index := Scalar.indexCast arg10
  let c672 : Index := 672#32
  ![v131.toNat, 672]
def k1_off44 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v133 : Index := Scalar.indexCast arg10
  let c688 : Index := 688#32
  ![v133.toNat, 688]
def k1_off45 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v135 : Index := Scalar.indexCast arg10
  let c704 : Index := 704#32
  ![v135.toNat, 704]
def k1_off46 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v137 : Index := Scalar.indexCast arg10
  let c720 : Index := 720#32
  ![v137.toNat, 720]
def k1_off47 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v139 : Index := Scalar.indexCast arg10
  let c736 : Index := 736#32
  ![v139.toNat, 736]
def k1_off48 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v141 : Index := Scalar.indexCast arg10
  let c752 : Index := 752#32
  ![v141.toNat, 752]
def k1_off49 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v143 : Index := Scalar.indexCast arg10
  let c768 : Index := 768#32
  ![v143.toNat, 768]
def k1_off50 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v145 : Index := Scalar.indexCast arg10
  let c784 : Index := 784#32
  ![v145.toNat, 784]
def k1_off51 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v147 : Index := Scalar.indexCast arg10
  let c800 : Index := 800#32
  ![v147.toNat, 800]
def k1_off52 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v149 : Index := Scalar.indexCast arg10
  let c816 : Index := 816#32
  ![v149.toNat, 816]
def k1_off53 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v151 : Index := Scalar.indexCast arg10
  let c832 : Index := 832#32
  ![v151.toNat, 832]
def k1_off54 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v153 : Index := Scalar.indexCast arg10
  let c848 : Index := 848#32
  ![v153.toNat, 848]
def k1_off55 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v155 : Index := Scalar.indexCast arg10
  let c864 : Index := 864#32
  ![v155.toNat, 864]
def k1_off56 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v157 : Index := Scalar.indexCast arg10
  let c880 : Index := 880#32
  ![v157.toNat, 880]
def k1_off57 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v159 : Index := Scalar.indexCast arg10
  let c896 : Index := 896#32
  ![v159.toNat, 896]
def k1_off58 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v161 : Index := Scalar.indexCast arg10
  let c912 : Index := 912#32
  ![v161.toNat, 912]
def k1_off59 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v163 : Index := Scalar.indexCast arg10
  let c928 : Index := 928#32
  ![v163.toNat, 928]
def k1_off60 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v165 : Index := Scalar.indexCast arg10
  let c944 : Index := 944#32
  ![v165.toNat, 944]
def k1_off61 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v167 : Index := Scalar.indexCast arg10
  let c960 : Index := 960#32
  ![v167.toNat, 960]
def k1_off62 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v169 : Index := Scalar.indexCast arg10
  let c976 : Index := 976#32
  ![v169.toNat, 976]
def k1_off63 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v171 : Index := Scalar.indexCast arg10
  let c992 : Index := 992#32
  ![v171.toNat, 992]
def k1_off64 (k1_t1 : Fin k1_t1_loop.trips) : Fin 2 → Nat :=
  let c0_i32_2 : BitVec 32 := 0#32
  let c1_i32 : BitVec 32 := 1#32
  let arg10 : BitVec 32 := Scf.iv c0_i32_2 c1_i32 k1_t1
  let v173 : Index := Scalar.indexCast arg10
  let c1008 : Index := 1008#32
  ![v173.toNat, 1008]
def k1_off65 (i : grid1.Coords) (c0_i32_5 : BitVec 32) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c0_i32 v2
  let v12 : BitVec 32 := Scalar.addi v3 c0_i32_5
  let c0_i32_56_r0 : BitVec 32 := 0#32
  ![v12.toNat, 0]
@[reducible] def k1_t2_loop : Scf.Loop 32 :=
  let c0_i32_7 : BitVec 32 := 0#32
  let c32_i32_8 : BitVec 32 := 32#32
  let v13 : BitVec 32 := Scalar.addi c0_i32_7 c32_i32_8
  let c1_i32_9 : BitVec 32 := 1#32
  ⟨c0_i32_7, v13, c1_i32_9⟩
def k1_off66 (k1_t2 : Fin k1_t2_loop.trips) : Fin 2 → Nat :=
  let c0_i32_7 : BitVec 32 := 0#32
  let c1_i32_9 : BitVec 32 := 1#32
  let arg10 : BitVec 32 := Scf.iv c0_i32_7 c1_i32_9 k1_t2
  let v50 : Index := Scalar.indexCast arg10
  let c0 : Index := 0#32
  ![v50.toNat, 0]

def k1_chk1 (v49 : IVec S16 32) (v51 : IVec S16 32) : Prop :=
  (∀ a x, ((![v49, v51] : Fin 2 → IVec S16 32) a x).toNat < S32x1024.size a)
theorem k1_idx1_inb : ∀ (v49 : IVec S16 32) (v51 : IVec S16 32) (k1_hw1 : k1_chk1 v49 v51), ∀ a x, ((![v49, v51] : Fin 2 → IVec S16 32) a x).toNat < S32x1024.size a := fun v49 v51 k1_hw1 => k1_hw1
def k1_off67 (k1_t2 : Fin k1_t2_loop.trips) : Fin 2 → Nat :=
  let c0_i32_7 : BitVec 32 := 0#32
  let c1_i32_9 : BitVec 32 := 1#32
  let arg10 : BitVec 32 := Scf.iv c0_i32_7 c1_i32_9 k1_t2
  let v52 : Index := Scalar.indexCast arg10
  let c16 : Index := 16#32
  ![v52.toNat, 16]

def k1_chk2 (v49 : IVec S16 32) (v53 : IVec S16 32) : Prop :=
  (∀ a x, ((![v49, v53] : Fin 2 → IVec S16 32) a x).toNat < S32x1024.size a)
theorem k1_idx2_inb : ∀ (v49 : IVec S16 32) (v53 : IVec S16 32) (k1_hw2 : k1_chk2 v49 v53), ∀ a x, ((![v49, v53] : Fin 2 → IVec S16 32) a x).toNat < S32x1024.size a := fun v49 v53 k1_hw2 => k1_hw2
def k1_off68 (k1_t2 : Fin k1_t2_loop.trips) : Fin 2 → Nat :=
  let c0_i32_7 : BitVec 32 := 0#32
  let c1_i32_9 : BitVec 32 := 1#32
  let arg10 : BitVec 32 := Scf.iv c0_i32_7 c1_i32_9 k1_t2
  let v54 : Index := Scalar.indexCast arg10
  let c32 : Index := 32#32
  ![v54.toNat, 32]

def k1_chk3 (v49 : IVec S16 32) (v55 : IVec S16 32) : Prop :=
  (∀ a x, ((![v49, v55] : Fin 2 → IVec S16 32) a x).toNat < S32x1024.size a)
theorem k1_idx3_inb : ∀ (v49 : IVec S16 32) (v55 : IVec S16 32) (k1_hw3 : k1_chk3 v49 v55), ∀ a x, ((![v49, v55] : Fin 2 → IVec S16 32) a x).toNat < S32x1024.size a := fun v49 v55 k1_hw3 => k1_hw3
def k1_off69 (k1_t2 : Fin k1_t2_loop.trips) : Fin 2 → Nat :=
  let c0_i32_7 : BitVec 32 := 0#32
  let c1_i32_9 : BitVec 32 := 1#32
  let arg10 : BitVec 32 := Scf.iv c0_i32_7 c1_i32_9 k1_t2
  let v56 : Index := Scalar.indexCast arg10
  let c48 : Index := 48#32
  ![v56.toNat, 48]

def k1_chk4 (v49 : IVec S16 32) (v57 : IVec S16 32) : Prop :=
  (∀ a x, ((![v49, v57] : Fin 2 → IVec S16 32) a x).toNat < S32x1024.size a)
theorem k1_idx4_inb : ∀ (v49 : IVec S16 32) (v57 : IVec S16 32) (k1_hw4 : k1_chk4 v49 v57), ∀ a x, ((![v49, v57] : Fin 2 → IVec S16 32) a x).toNat < S32x1024.size a := fun v49 v57 k1_hw4 => k1_hw4
def k1_off70 (k1_t2 : Fin k1_t2_loop.trips) : Fin 2 → Nat :=
  let c0_i32_7 : BitVec 32 := 0#32
  let c1_i32_9 : BitVec 32 := 1#32
  let arg10 : BitVec 32 := Scf.iv c0_i32_7 c1_i32_9 k1_t2
  let v58 : Index := Scalar.indexCast arg10
  let c64 : Index := 64#32
  ![v58.toNat, 64]

def k1_chk5 (v49 : IVec S16 32) (v59 : IVec S16 32) : Prop :=
  (∀ a x, ((![v49, v59] : Fin 2 → IVec S16 32) a x).toNat < S32x1024.size a)
theorem k1_idx5_inb : ∀ (v49 : IVec S16 32) (v59 : IVec S16 32) (k1_hw5 : k1_chk5 v49 v59), ∀ a x, ((![v49, v59] : Fin 2 → IVec S16 32) a x).toNat < S32x1024.size a := fun v49 v59 k1_hw5 => k1_hw5
def k1_off71 (k1_t2 : Fin k1_t2_loop.trips) : Fin 2 → Nat :=
  let c0_i32_7 : BitVec 32 := 0#32
  let c1_i32_9 : BitVec 32 := 1#32
  let arg10 : BitVec 32 := Scf.iv c0_i32_7 c1_i32_9 k1_t2
  let v60 : Index := Scalar.indexCast arg10
  let c80 : Index := 80#32
  ![v60.toNat, 80]

def k1_chk6 (v49 : IVec S16 32) (v61 : IVec S16 32) : Prop :=
  (∀ a x, ((![v49, v61] : Fin 2 → IVec S16 32) a x).toNat < S32x1024.size a)
theorem k1_idx6_inb : ∀ (v49 : IVec S16 32) (v61 : IVec S16 32) (k1_hw6 : k1_chk6 v49 v61), ∀ a x, ((![v49, v61] : Fin 2 → IVec S16 32) a x).toNat < S32x1024.size a := fun v49 v61 k1_hw6 => k1_hw6
def k1_off72 (k1_t2 : Fin k1_t2_loop.trips) : Fin 2 → Nat :=
  let c0_i32_7 : BitVec 32 := 0#32
  let c1_i32_9 : BitVec 32 := 1#32
  let arg10 : BitVec 32 := Scf.iv c0_i32_7 c1_i32_9 k1_t2
  let v62 : Index := Scalar.indexCast arg10
  let c96 : Index := 96#32
  ![v62.toNat, 96]

def k1_chk7 (v49 : IVec S16 32) (v63 : IVec S16 32) : Prop :=
  (∀ a x, ((![v49, v63] : Fin 2 → IVec S16 32) a x).toNat < S32x1024.size a)
theorem k1_idx7_inb : ∀ (v49 : IVec S16 32) (v63 : IVec S16 32) (k1_hw7 : k1_chk7 v49 v63), ∀ a x, ((![v49, v63] : Fin 2 → IVec S16 32) a x).toNat < S32x1024.size a := fun v49 v63 k1_hw7 => k1_hw7
def k1_off73 (k1_t2 : Fin k1_t2_loop.trips) : Fin 2 → Nat :=
  let c0_i32_7 : BitVec 32 := 0#32
  let c1_i32_9 : BitVec 32 := 1#32
  let arg10 : BitVec 32 := Scf.iv c0_i32_7 c1_i32_9 k1_t2
  let v64 : Index := Scalar.indexCast arg10
  let c112 : Index := 112#32
  ![v64.toNat, 112]

def k1_chk8 (v49 : IVec S16 32) (v65 : IVec S16 32) : Prop :=
  (∀ a x, ((![v49, v65] : Fin 2 → IVec S16 32) a x).toNat < S32x1024.size a)
theorem k1_idx8_inb : ∀ (v49 : IVec S16 32) (v65 : IVec S16 32) (k1_hw8 : k1_chk8 v49 v65), ∀ a x, ((![v49, v65] : Fin 2 → IVec S16 32) a x).toNat < S32x1024.size a := fun v49 v65 k1_hw8 => k1_hw8
def k1_off74 (k1_t2 : Fin k1_t2_loop.trips) : Fin 2 → Nat :=
  let c0_i32_7 : BitVec 32 := 0#32
  let c1_i32_9 : BitVec 32 := 1#32
  let arg10 : BitVec 32 := Scf.iv c0_i32_7 c1_i32_9 k1_t2
  let v66 : Index := Scalar.indexCast arg10
  let c128 : Index := 128#32
  ![v66.toNat, 128]

def k1_chk9 (v49 : IVec S16 32) (v67 : IVec S16 32) : Prop :=
  (∀ a x, ((![v49, v67] : Fin 2 → IVec S16 32) a x).toNat < S32x1024.size a)
theorem k1_idx9_inb : ∀ (v49 : IVec S16 32) (v67 : IVec S16 32) (k1_hw9 : k1_chk9 v49 v67), ∀ a x, ((![v49, v67] : Fin 2 → IVec S16 32) a x).toNat < S32x1024.size a := fun v49 v67 k1_hw9 => k1_hw9
def k1_off75 (k1_t2 : Fin k1_t2_loop.trips) : Fin 2 → Nat :=
  let c0_i32_7 : BitVec 32 := 0#32
  let c1_i32_9 : BitVec 32 := 1#32
  let arg10 : BitVec 32 := Scf.iv c0_i32_7 c1_i32_9 k1_t2
  let v68 : Index := Scalar.indexCast arg10
  let c144 : Index := 144#32
  ![v68.toNat, 144]

def k1_chk10 (v49 : IVec S16 32) (v69 : IVec S16 32) : Prop :=
  (∀ a x, ((![v49, v69] : Fin 2 → IVec S16 32) a x).toNat < S32x1024.size a)
theorem k1_idx10_inb : ∀ (v49 : IVec S16 32) (v69 : IVec S16 32) (k1_hw10 : k1_chk10 v49 v69), ∀ a x, ((![v49, v69] : Fin 2 → IVec S16 32) a x).toNat < S32x1024.size a := fun v49 v69 k1_hw10 => k1_hw10
def k1_off76 (k1_t2 : Fin k1_t2_loop.trips) : Fin 2 → Nat :=
  let c0_i32_7 : BitVec 32 := 0#32
  let c1_i32_9 : BitVec 32 := 1#32
  let arg10 : BitVec 32 := Scf.iv c0_i32_7 c1_i32_9 k1_t2
  let v70 : Index := Scalar.indexCast arg10
  let c160 : Index := 160#32
  ![v70.toNat, 160]

def k1_chk11 (v49 : IVec S16 32) (v71 : IVec S16 32) : Prop :=
  (∀ a x, ((![v49, v71] : Fin 2 → IVec S16 32) a x).toNat < S32x1024.size a)
theorem k1_idx11_inb : ∀ (v49 : IVec S16 32) (v71 : IVec S16 32) (k1_hw11 : k1_chk11 v49 v71), ∀ a x, ((![v49, v71] : Fin 2 → IVec S16 32) a x).toNat < S32x1024.size a := fun v49 v71 k1_hw11 => k1_hw11
def k1_off77 (k1_t2 : Fin k1_t2_loop.trips) : Fin 2 → Nat :=
  let c0_i32_7 : BitVec 32 := 0#32
  let c1_i32_9 : BitVec 32 := 1#32
  let arg10 : BitVec 32 := Scf.iv c0_i32_7 c1_i32_9 k1_t2
  let v72 : Index := Scalar.indexCast arg10
  let c176 : Index := 176#32
  ![v72.toNat, 176]

def k1_chk12 (v49 : IVec S16 32) (v73 : IVec S16 32) : Prop :=
  (∀ a x, ((![v49, v73] : Fin 2 → IVec S16 32) a x).toNat < S32x1024.size a)
theorem k1_idx12_inb : ∀ (v49 : IVec S16 32) (v73 : IVec S16 32) (k1_hw12 : k1_chk12 v49 v73), ∀ a x, ((![v49, v73] : Fin 2 → IVec S16 32) a x).toNat < S32x1024.size a := fun v49 v73 k1_hw12 => k1_hw12
def k1_off78 (k1_t2 : Fin k1_t2_loop.trips) : Fin 2 → Nat :=
  let c0_i32_7 : BitVec 32 := 0#32
  let c1_i32_9 : BitVec 32 := 1#32
  let arg10 : BitVec 32 := Scf.iv c0_i32_7 c1_i32_9 k1_t2
  let v74 : Index := Scalar.indexCast arg10
  let c184 : Index := 184#32
  ![v74.toNat, 184]

def k1_chk13 (v49 : IVec S16 32) (v75 : IVec S16 32) : Prop :=
  (∀ a x, ((![v49, v75] : Fin 2 → IVec S16 32) a x).toNat < S32x1024.size a)
theorem k1_idx13_inb : ∀ (v49 : IVec S16 32) (v75 : IVec S16 32) (k1_hw13 : k1_chk13 v49 v75), ∀ a x, ((![v49, v75] : Fin 2 → IVec S16 32) a x).toNat < S32x1024.size a := fun v49 v75 k1_hw13 => k1_hw13
def k1_off79 (i : grid1.Coords) (c0_i32_4 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v11 : BitVec 32 := Scalar.addi v2 c0_i32_4
  let c0_i32_11 : BitVec 32 := 0#32
  ![v11.toNat, 0]
@[reducible] def k1_t3_loop : Scf.Loop 32 :=
  let c0_i32_16 : BitVec 32 := 0#32
  let c32_i32_17 : BitVec 32 := 32#32
  let v19 : BitVec 32 := Scalar.addi c0_i32_16 c32_i32_17
  let c1_i32_18 : BitVec 32 := 1#32
  ⟨c0_i32_16, v19, c1_i32_18⟩
def k1_off80 (k1_t3 : Fin k1_t3_loop.trips) : Fin 2 → Nat :=
  let c0_i32_16 : BitVec 32 := 0#32
  let c1_i32_18 : BitVec 32 := 1#32
  let arg10 : BitVec 32 := Scf.iv c0_i32_16 c1_i32_18 k1_t3
  let v50 : Index := Scalar.indexCast arg10
  let c0 : Index := 0#32
  ![v50.toNat, 0]

def k1_chk14 (v49 : IVec S16 32) (v51 : IVec S16 32) : Prop :=
  (∀ a x, ((![v49, v51] : Fin 2 → IVec S16 32) a x).toNat < S32x1024.size a)
theorem k1_idx14_inb : ∀ (v49 : IVec S16 32) (v51 : IVec S16 32) (k1_hw14 : k1_chk14 v49 v51), ∀ a x, ((![v49, v51] : Fin 2 → IVec S16 32) a x).toNat < S32x1024.size a := fun v49 v51 k1_hw14 => k1_hw14
def k1_off81 (k1_t3 : Fin k1_t3_loop.trips) : Fin 2 → Nat :=
  let c0_i32_16 : BitVec 32 := 0#32
  let c1_i32_18 : BitVec 32 := 1#32
  let arg10 : BitVec 32 := Scf.iv c0_i32_16 c1_i32_18 k1_t3
  let v52 : Index := Scalar.indexCast arg10
  let c16 : Index := 16#32
  ![v52.toNat, 16]

def k1_chk15 (v49 : IVec S16 32) (v53 : IVec S16 32) : Prop :=
  (∀ a x, ((![v49, v53] : Fin 2 → IVec S16 32) a x).toNat < S32x1024.size a)
theorem k1_idx15_inb : ∀ (v49 : IVec S16 32) (v53 : IVec S16 32) (k1_hw15 : k1_chk15 v49 v53), ∀ a x, ((![v49, v53] : Fin 2 → IVec S16 32) a x).toNat < S32x1024.size a := fun v49 v53 k1_hw15 => k1_hw15
def k1_off82 (k1_t3 : Fin k1_t3_loop.trips) : Fin 2 → Nat :=
  let c0_i32_16 : BitVec 32 := 0#32
  let c1_i32_18 : BitVec 32 := 1#32
  let arg10 : BitVec 32 := Scf.iv c0_i32_16 c1_i32_18 k1_t3
  let v54 : Index := Scalar.indexCast arg10
  let c32 : Index := 32#32
  ![v54.toNat, 32]

def k1_chk16 (v49 : IVec S16 32) (v55 : IVec S16 32) : Prop :=
  (∀ a x, ((![v49, v55] : Fin 2 → IVec S16 32) a x).toNat < S32x1024.size a)
theorem k1_idx16_inb : ∀ (v49 : IVec S16 32) (v55 : IVec S16 32) (k1_hw16 : k1_chk16 v49 v55), ∀ a x, ((![v49, v55] : Fin 2 → IVec S16 32) a x).toNat < S32x1024.size a := fun v49 v55 k1_hw16 => k1_hw16
def k1_off83 (k1_t3 : Fin k1_t3_loop.trips) : Fin 2 → Nat :=
  let c0_i32_16 : BitVec 32 := 0#32
  let c1_i32_18 : BitVec 32 := 1#32
  let arg10 : BitVec 32 := Scf.iv c0_i32_16 c1_i32_18 k1_t3
  let v56 : Index := Scalar.indexCast arg10
  let c48 : Index := 48#32
  ![v56.toNat, 48]

def k1_chk17 (v49 : IVec S16 32) (v57 : IVec S16 32) : Prop :=
  (∀ a x, ((![v49, v57] : Fin 2 → IVec S16 32) a x).toNat < S32x1024.size a)
theorem k1_idx17_inb : ∀ (v49 : IVec S16 32) (v57 : IVec S16 32) (k1_hw17 : k1_chk17 v49 v57), ∀ a x, ((![v49, v57] : Fin 2 → IVec S16 32) a x).toNat < S32x1024.size a := fun v49 v57 k1_hw17 => k1_hw17
def k1_off84 (k1_t3 : Fin k1_t3_loop.trips) : Fin 2 → Nat :=
  let c0_i32_16 : BitVec 32 := 0#32
  let c1_i32_18 : BitVec 32 := 1#32
  let arg10 : BitVec 32 := Scf.iv c0_i32_16 c1_i32_18 k1_t3
  let v58 : Index := Scalar.indexCast arg10
  let c64 : Index := 64#32
  ![v58.toNat, 64]

def k1_chk18 (v49 : IVec S16 32) (v59 : IVec S16 32) : Prop :=
  (∀ a x, ((![v49, v59] : Fin 2 → IVec S16 32) a x).toNat < S32x1024.size a)
theorem k1_idx18_inb : ∀ (v49 : IVec S16 32) (v59 : IVec S16 32) (k1_hw18 : k1_chk18 v49 v59), ∀ a x, ((![v49, v59] : Fin 2 → IVec S16 32) a x).toNat < S32x1024.size a := fun v49 v59 k1_hw18 => k1_hw18
def k1_off85 (k1_t3 : Fin k1_t3_loop.trips) : Fin 2 → Nat :=
  let c0_i32_16 : BitVec 32 := 0#32
  let c1_i32_18 : BitVec 32 := 1#32
  let arg10 : BitVec 32 := Scf.iv c0_i32_16 c1_i32_18 k1_t3
  let v60 : Index := Scalar.indexCast arg10
  let c80 : Index := 80#32
  ![v60.toNat, 80]

def k1_chk19 (v49 : IVec S16 32) (v61 : IVec S16 32) : Prop :=
  (∀ a x, ((![v49, v61] : Fin 2 → IVec S16 32) a x).toNat < S32x1024.size a)
theorem k1_idx19_inb : ∀ (v49 : IVec S16 32) (v61 : IVec S16 32) (k1_hw19 : k1_chk19 v49 v61), ∀ a x, ((![v49, v61] : Fin 2 → IVec S16 32) a x).toNat < S32x1024.size a := fun v49 v61 k1_hw19 => k1_hw19
def k1_off86 (k1_t3 : Fin k1_t3_loop.trips) : Fin 2 → Nat :=
  let c0_i32_16 : BitVec 32 := 0#32
  let c1_i32_18 : BitVec 32 := 1#32
  let arg10 : BitVec 32 := Scf.iv c0_i32_16 c1_i32_18 k1_t3
  let v62 : Index := Scalar.indexCast arg10
  let c96 : Index := 96#32
  ![v62.toNat, 96]

def k1_chk20 (v49 : IVec S16 32) (v63 : IVec S16 32) : Prop :=
  (∀ a x, ((![v49, v63] : Fin 2 → IVec S16 32) a x).toNat < S32x1024.size a)
theorem k1_idx20_inb : ∀ (v49 : IVec S16 32) (v63 : IVec S16 32) (k1_hw20 : k1_chk20 v49 v63), ∀ a x, ((![v49, v63] : Fin 2 → IVec S16 32) a x).toNat < S32x1024.size a := fun v49 v63 k1_hw20 => k1_hw20
def k1_off87 (k1_t3 : Fin k1_t3_loop.trips) : Fin 2 → Nat :=
  let c0_i32_16 : BitVec 32 := 0#32
  let c1_i32_18 : BitVec 32 := 1#32
  let arg10 : BitVec 32 := Scf.iv c0_i32_16 c1_i32_18 k1_t3
  let v64 : Index := Scalar.indexCast arg10
  let c112 : Index := 112#32
  ![v64.toNat, 112]

def k1_chk21 (v49 : IVec S16 32) (v65 : IVec S16 32) : Prop :=
  (∀ a x, ((![v49, v65] : Fin 2 → IVec S16 32) a x).toNat < S32x1024.size a)
theorem k1_idx21_inb : ∀ (v49 : IVec S16 32) (v65 : IVec S16 32) (k1_hw21 : k1_chk21 v49 v65), ∀ a x, ((![v49, v65] : Fin 2 → IVec S16 32) a x).toNat < S32x1024.size a := fun v49 v65 k1_hw21 => k1_hw21
def k1_off88 (k1_t3 : Fin k1_t3_loop.trips) : Fin 2 → Nat :=
  let c0_i32_16 : BitVec 32 := 0#32
  let c1_i32_18 : BitVec 32 := 1#32
  let arg10 : BitVec 32 := Scf.iv c0_i32_16 c1_i32_18 k1_t3
  let v66 : Index := Scalar.indexCast arg10
  let c128 : Index := 128#32
  ![v66.toNat, 128]

def k1_chk22 (v49 : IVec S16 32) (v67 : IVec S16 32) : Prop :=
  (∀ a x, ((![v49, v67] : Fin 2 → IVec S16 32) a x).toNat < S32x1024.size a)
theorem k1_idx22_inb : ∀ (v49 : IVec S16 32) (v67 : IVec S16 32) (k1_hw22 : k1_chk22 v49 v67), ∀ a x, ((![v49, v67] : Fin 2 → IVec S16 32) a x).toNat < S32x1024.size a := fun v49 v67 k1_hw22 => k1_hw22
def k1_off89 (k1_t3 : Fin k1_t3_loop.trips) : Fin 2 → Nat :=
  let c0_i32_16 : BitVec 32 := 0#32
  let c1_i32_18 : BitVec 32 := 1#32
  let arg10 : BitVec 32 := Scf.iv c0_i32_16 c1_i32_18 k1_t3
  let v68 : Index := Scalar.indexCast arg10
  let c144 : Index := 144#32
  ![v68.toNat, 144]

def k1_chk23 (v49 : IVec S16 32) (v69 : IVec S16 32) : Prop :=
  (∀ a x, ((![v49, v69] : Fin 2 → IVec S16 32) a x).toNat < S32x1024.size a)
theorem k1_idx23_inb : ∀ (v49 : IVec S16 32) (v69 : IVec S16 32) (k1_hw23 : k1_chk23 v49 v69), ∀ a x, ((![v49, v69] : Fin 2 → IVec S16 32) a x).toNat < S32x1024.size a := fun v49 v69 k1_hw23 => k1_hw23
def k1_off90 (k1_t3 : Fin k1_t3_loop.trips) : Fin 2 → Nat :=
  let c0_i32_16 : BitVec 32 := 0#32
  let c1_i32_18 : BitVec 32 := 1#32
  let arg10 : BitVec 32 := Scf.iv c0_i32_16 c1_i32_18 k1_t3
  let v70 : Index := Scalar.indexCast arg10
  let c160 : Index := 160#32
  ![v70.toNat, 160]

def k1_chk24 (v49 : IVec S16 32) (v71 : IVec S16 32) : Prop :=
  (∀ a x, ((![v49, v71] : Fin 2 → IVec S16 32) a x).toNat < S32x1024.size a)
theorem k1_idx24_inb : ∀ (v49 : IVec S16 32) (v71 : IVec S16 32) (k1_hw24 : k1_chk24 v49 v71), ∀ a x, ((![v49, v71] : Fin 2 → IVec S16 32) a x).toNat < S32x1024.size a := fun v49 v71 k1_hw24 => k1_hw24
def k1_off91 (k1_t3 : Fin k1_t3_loop.trips) : Fin 2 → Nat :=
  let c0_i32_16 : BitVec 32 := 0#32
  let c1_i32_18 : BitVec 32 := 1#32
  let arg10 : BitVec 32 := Scf.iv c0_i32_16 c1_i32_18 k1_t3
  let v72 : Index := Scalar.indexCast arg10
  let c176 : Index := 176#32
  ![v72.toNat, 176]

def k1_chk25 (v49 : IVec S16 32) (v73 : IVec S16 32) : Prop :=
  (∀ a x, ((![v49, v73] : Fin 2 → IVec S16 32) a x).toNat < S32x1024.size a)
theorem k1_idx25_inb : ∀ (v49 : IVec S16 32) (v73 : IVec S16 32) (k1_hw25 : k1_chk25 v49 v73), ∀ a x, ((![v49, v73] : Fin 2 → IVec S16 32) a x).toNat < S32x1024.size a := fun v49 v73 k1_hw25 => k1_hw25
def k1_off92 (k1_t3 : Fin k1_t3_loop.trips) : Fin 2 → Nat :=
  let c0_i32_16 : BitVec 32 := 0#32
  let c1_i32_18 : BitVec 32 := 1#32
  let arg10 : BitVec 32 := Scf.iv c0_i32_16 c1_i32_18 k1_t3
  let v74 : Index := Scalar.indexCast arg10
  let c184 : Index := 184#32
  ![v74.toNat, 184]

def k1_chk26 (v49 : IVec S16 32) (v75 : IVec S16 32) : Prop :=
  (∀ a x, ((![v49, v75] : Fin 2 → IVec S16 32) a x).toNat < S32x1024.size a)
theorem k1_idx26_inb : ∀ (v49 : IVec S16 32) (v75 : IVec S16 32) (k1_hw26 : k1_chk26 v49 v75), ∀ a x, ((![v49, v75] : Fin 2 → IVec S16 32) a x).toNat < S32x1024.size a := fun v49 v75 k1_hw26 => k1_hw26
@[reducible] def k1_t4_loop : Scf.Loop 32 :=
  let c0_i32_26 : BitVec 32 := 0#32
  let c32_i32_27 : BitVec 32 := 32#32
  let v27 : BitVec 32 := Scalar.addi c0_i32_26 c32_i32_27
  let c1_i32_28 : BitVec 32 := 1#32
  ⟨c0_i32_26, v27, c1_i32_28⟩
def k1_off93 (k1_t4 : Fin k1_t4_loop.trips) : Fin 2 → Nat :=
  let c0_i32_26 : BitVec 32 := 0#32
  let c1_i32_28 : BitVec 32 := 1#32
  let arg10 : BitVec 32 := Scf.iv c0_i32_26 c1_i32_28 k1_t4
  let v50 : Index := Scalar.indexCast arg10
  let c0 : Index := 0#32
  ![v50.toNat, 0]

def k1_chk27 (v49 : IVec S16 32) (v51 : IVec S16 32) : Prop :=
  (∀ a x, ((![v49, v51] : Fin 2 → IVec S16 32) a x).toNat < S32x1024.size a)
theorem k1_idx27_inb : ∀ (v49 : IVec S16 32) (v51 : IVec S16 32) (k1_hw27 : k1_chk27 v49 v51), ∀ a x, ((![v49, v51] : Fin 2 → IVec S16 32) a x).toNat < S32x1024.size a := fun v49 v51 k1_hw27 => k1_hw27
def k1_off94 (k1_t4 : Fin k1_t4_loop.trips) : Fin 2 → Nat :=
  let c0_i32_26 : BitVec 32 := 0#32
  let c1_i32_28 : BitVec 32 := 1#32
  let arg10 : BitVec 32 := Scf.iv c0_i32_26 c1_i32_28 k1_t4
  let v52 : Index := Scalar.indexCast arg10
  let c16 : Index := 16#32
  ![v52.toNat, 16]

def k1_chk28 (v49 : IVec S16 32) (v53 : IVec S16 32) : Prop :=
  (∀ a x, ((![v49, v53] : Fin 2 → IVec S16 32) a x).toNat < S32x1024.size a)
theorem k1_idx28_inb : ∀ (v49 : IVec S16 32) (v53 : IVec S16 32) (k1_hw28 : k1_chk28 v49 v53), ∀ a x, ((![v49, v53] : Fin 2 → IVec S16 32) a x).toNat < S32x1024.size a := fun v49 v53 k1_hw28 => k1_hw28
def k1_off95 (k1_t4 : Fin k1_t4_loop.trips) : Fin 2 → Nat :=
  let c0_i32_26 : BitVec 32 := 0#32
  let c1_i32_28 : BitVec 32 := 1#32
  let arg10 : BitVec 32 := Scf.iv c0_i32_26 c1_i32_28 k1_t4
  let v54 : Index := Scalar.indexCast arg10
  let c32 : Index := 32#32
  ![v54.toNat, 32]

def k1_chk29 (v49 : IVec S16 32) (v55 : IVec S16 32) : Prop :=
  (∀ a x, ((![v49, v55] : Fin 2 → IVec S16 32) a x).toNat < S32x1024.size a)
theorem k1_idx29_inb : ∀ (v49 : IVec S16 32) (v55 : IVec S16 32) (k1_hw29 : k1_chk29 v49 v55), ∀ a x, ((![v49, v55] : Fin 2 → IVec S16 32) a x).toNat < S32x1024.size a := fun v49 v55 k1_hw29 => k1_hw29
def k1_off96 (k1_t4 : Fin k1_t4_loop.trips) : Fin 2 → Nat :=
  let c0_i32_26 : BitVec 32 := 0#32
  let c1_i32_28 : BitVec 32 := 1#32
  let arg10 : BitVec 32 := Scf.iv c0_i32_26 c1_i32_28 k1_t4
  let v56 : Index := Scalar.indexCast arg10
  let c48 : Index := 48#32
  ![v56.toNat, 48]

def k1_chk30 (v49 : IVec S16 32) (v57 : IVec S16 32) : Prop :=
  (∀ a x, ((![v49, v57] : Fin 2 → IVec S16 32) a x).toNat < S32x1024.size a)
theorem k1_idx30_inb : ∀ (v49 : IVec S16 32) (v57 : IVec S16 32) (k1_hw30 : k1_chk30 v49 v57), ∀ a x, ((![v49, v57] : Fin 2 → IVec S16 32) a x).toNat < S32x1024.size a := fun v49 v57 k1_hw30 => k1_hw30
def k1_off97 (k1_t4 : Fin k1_t4_loop.trips) : Fin 2 → Nat :=
  let c0_i32_26 : BitVec 32 := 0#32
  let c1_i32_28 : BitVec 32 := 1#32
  let arg10 : BitVec 32 := Scf.iv c0_i32_26 c1_i32_28 k1_t4
  let v58 : Index := Scalar.indexCast arg10
  let c64 : Index := 64#32
  ![v58.toNat, 64]

def k1_chk31 (v49 : IVec S16 32) (v59 : IVec S16 32) : Prop :=
  (∀ a x, ((![v49, v59] : Fin 2 → IVec S16 32) a x).toNat < S32x1024.size a)
theorem k1_idx31_inb : ∀ (v49 : IVec S16 32) (v59 : IVec S16 32) (k1_hw31 : k1_chk31 v49 v59), ∀ a x, ((![v49, v59] : Fin 2 → IVec S16 32) a x).toNat < S32x1024.size a := fun v49 v59 k1_hw31 => k1_hw31
def k1_off98 (k1_t4 : Fin k1_t4_loop.trips) : Fin 2 → Nat :=
  let c0_i32_26 : BitVec 32 := 0#32
  let c1_i32_28 : BitVec 32 := 1#32
  let arg10 : BitVec 32 := Scf.iv c0_i32_26 c1_i32_28 k1_t4
  let v60 : Index := Scalar.indexCast arg10
  let c80 : Index := 80#32
  ![v60.toNat, 80]

def k1_chk32 (v49 : IVec S16 32) (v61 : IVec S16 32) : Prop :=
  (∀ a x, ((![v49, v61] : Fin 2 → IVec S16 32) a x).toNat < S32x1024.size a)
theorem k1_idx32_inb : ∀ (v49 : IVec S16 32) (v61 : IVec S16 32) (k1_hw32 : k1_chk32 v49 v61), ∀ a x, ((![v49, v61] : Fin 2 → IVec S16 32) a x).toNat < S32x1024.size a := fun v49 v61 k1_hw32 => k1_hw32
def k1_off99 (k1_t4 : Fin k1_t4_loop.trips) : Fin 2 → Nat :=
  let c0_i32_26 : BitVec 32 := 0#32
  let c1_i32_28 : BitVec 32 := 1#32
  let arg10 : BitVec 32 := Scf.iv c0_i32_26 c1_i32_28 k1_t4
  let v62 : Index := Scalar.indexCast arg10
  let c96 : Index := 96#32
  ![v62.toNat, 96]

def k1_chk33 (v49 : IVec S16 32) (v63 : IVec S16 32) : Prop :=
  (∀ a x, ((![v49, v63] : Fin 2 → IVec S16 32) a x).toNat < S32x1024.size a)
theorem k1_idx33_inb : ∀ (v49 : IVec S16 32) (v63 : IVec S16 32) (k1_hw33 : k1_chk33 v49 v63), ∀ a x, ((![v49, v63] : Fin 2 → IVec S16 32) a x).toNat < S32x1024.size a := fun v49 v63 k1_hw33 => k1_hw33
def k1_off100 (k1_t4 : Fin k1_t4_loop.trips) : Fin 2 → Nat :=
  let c0_i32_26 : BitVec 32 := 0#32
  let c1_i32_28 : BitVec 32 := 1#32
  let arg10 : BitVec 32 := Scf.iv c0_i32_26 c1_i32_28 k1_t4
  let v64 : Index := Scalar.indexCast arg10
  let c112 : Index := 112#32
  ![v64.toNat, 112]

def k1_chk34 (v49 : IVec S16 32) (v65 : IVec S16 32) : Prop :=
  (∀ a x, ((![v49, v65] : Fin 2 → IVec S16 32) a x).toNat < S32x1024.size a)
theorem k1_idx34_inb : ∀ (v49 : IVec S16 32) (v65 : IVec S16 32) (k1_hw34 : k1_chk34 v49 v65), ∀ a x, ((![v49, v65] : Fin 2 → IVec S16 32) a x).toNat < S32x1024.size a := fun v49 v65 k1_hw34 => k1_hw34
def k1_off101 (k1_t4 : Fin k1_t4_loop.trips) : Fin 2 → Nat :=
  let c0_i32_26 : BitVec 32 := 0#32
  let c1_i32_28 : BitVec 32 := 1#32
  let arg10 : BitVec 32 := Scf.iv c0_i32_26 c1_i32_28 k1_t4
  let v66 : Index := Scalar.indexCast arg10
  let c128 : Index := 128#32
  ![v66.toNat, 128]

def k1_chk35 (v49 : IVec S16 32) (v67 : IVec S16 32) : Prop :=
  (∀ a x, ((![v49, v67] : Fin 2 → IVec S16 32) a x).toNat < S32x1024.size a)
theorem k1_idx35_inb : ∀ (v49 : IVec S16 32) (v67 : IVec S16 32) (k1_hw35 : k1_chk35 v49 v67), ∀ a x, ((![v49, v67] : Fin 2 → IVec S16 32) a x).toNat < S32x1024.size a := fun v49 v67 k1_hw35 => k1_hw35
def k1_off102 (k1_t4 : Fin k1_t4_loop.trips) : Fin 2 → Nat :=
  let c0_i32_26 : BitVec 32 := 0#32
  let c1_i32_28 : BitVec 32 := 1#32
  let arg10 : BitVec 32 := Scf.iv c0_i32_26 c1_i32_28 k1_t4
  let v68 : Index := Scalar.indexCast arg10
  let c144 : Index := 144#32
  ![v68.toNat, 144]

def k1_chk36 (v49 : IVec S16 32) (v69 : IVec S16 32) : Prop :=
  (∀ a x, ((![v49, v69] : Fin 2 → IVec S16 32) a x).toNat < S32x1024.size a)
theorem k1_idx36_inb : ∀ (v49 : IVec S16 32) (v69 : IVec S16 32) (k1_hw36 : k1_chk36 v49 v69), ∀ a x, ((![v49, v69] : Fin 2 → IVec S16 32) a x).toNat < S32x1024.size a := fun v49 v69 k1_hw36 => k1_hw36
def k1_off103 (k1_t4 : Fin k1_t4_loop.trips) : Fin 2 → Nat :=
  let c0_i32_26 : BitVec 32 := 0#32
  let c1_i32_28 : BitVec 32 := 1#32
  let arg10 : BitVec 32 := Scf.iv c0_i32_26 c1_i32_28 k1_t4
  let v70 : Index := Scalar.indexCast arg10
  let c160 : Index := 160#32
  ![v70.toNat, 160]

def k1_chk37 (v49 : IVec S16 32) (v71 : IVec S16 32) : Prop :=
  (∀ a x, ((![v49, v71] : Fin 2 → IVec S16 32) a x).toNat < S32x1024.size a)
theorem k1_idx37_inb : ∀ (v49 : IVec S16 32) (v71 : IVec S16 32) (k1_hw37 : k1_chk37 v49 v71), ∀ a x, ((![v49, v71] : Fin 2 → IVec S16 32) a x).toNat < S32x1024.size a := fun v49 v71 k1_hw37 => k1_hw37
def k1_off104 (k1_t4 : Fin k1_t4_loop.trips) : Fin 2 → Nat :=
  let c0_i32_26 : BitVec 32 := 0#32
  let c1_i32_28 : BitVec 32 := 1#32
  let arg10 : BitVec 32 := Scf.iv c0_i32_26 c1_i32_28 k1_t4
  let v72 : Index := Scalar.indexCast arg10
  let c176 : Index := 176#32
  ![v72.toNat, 176]

def k1_chk38 (v49 : IVec S16 32) (v73 : IVec S16 32) : Prop :=
  (∀ a x, ((![v49, v73] : Fin 2 → IVec S16 32) a x).toNat < S32x1024.size a)
theorem k1_idx38_inb : ∀ (v49 : IVec S16 32) (v73 : IVec S16 32) (k1_hw38 : k1_chk38 v49 v73), ∀ a x, ((![v49, v73] : Fin 2 → IVec S16 32) a x).toNat < S32x1024.size a := fun v49 v73 k1_hw38 => k1_hw38
def k1_off105 (k1_t4 : Fin k1_t4_loop.trips) : Fin 2 → Nat :=
  let c0_i32_26 : BitVec 32 := 0#32
  let c1_i32_28 : BitVec 32 := 1#32
  let arg10 : BitVec 32 := Scf.iv c0_i32_26 c1_i32_28 k1_t4
  let v74 : Index := Scalar.indexCast arg10
  let c184 : Index := 184#32
  ![v74.toNat, 184]

def k1_chk39 (v49 : IVec S16 32) (v75 : IVec S16 32) : Prop :=
  (∀ a x, ((![v49, v75] : Fin 2 → IVec S16 32) a x).toNat < S32x1024.size a)
theorem k1_idx39_inb : ∀ (v49 : IVec S16 32) (v75 : IVec S16 32) (k1_hw39 : k1_chk39 v49 v75), ∀ a x, ((![v49, v75] : Fin 2 → IVec S16 32) a x).toNat < S32x1024.size a := fun v49 v75 k1_hw39 => k1_hw39
@[reducible] def k1_t5_loop : Scf.Loop 32 :=
  let c0_i32_31 : BitVec 32 := 0#32
  let c32_i32_32 : BitVec 32 := 32#32
  let v29 : BitVec 32 := Scalar.addi c0_i32_31 c32_i32_32
  let c1_i32_33 : BitVec 32 := 1#32
  ⟨c0_i32_31, v29, c1_i32_33⟩
def k1_off106 (k1_t5 : Fin k1_t5_loop.trips) : Fin 2 → Nat :=
  let c0_i32_31 : BitVec 32 := 0#32
  let c1_i32_33 : BitVec 32 := 1#32
  let arg10 : BitVec 32 := Scf.iv c0_i32_31 c1_i32_33 k1_t5
  let v50 : Index := Scalar.indexCast arg10
  let c0 : Index := 0#32
  ![v50.toNat, 0]

def k1_chk40 (v49 : IVec S16 32) (v51 : IVec S16 32) : Prop :=
  (∀ a x, ((![v49, v51] : Fin 2 → IVec S16 32) a x).toNat < S32x1024.size a)
theorem k1_idx40_inb : ∀ (v49 : IVec S16 32) (v51 : IVec S16 32) (k1_hw40 : k1_chk40 v49 v51), ∀ a x, ((![v49, v51] : Fin 2 → IVec S16 32) a x).toNat < S32x1024.size a := fun v49 v51 k1_hw40 => k1_hw40
def k1_off107 (k1_t5 : Fin k1_t5_loop.trips) : Fin 2 → Nat :=
  let c0_i32_31 : BitVec 32 := 0#32
  let c1_i32_33 : BitVec 32 := 1#32
  let arg10 : BitVec 32 := Scf.iv c0_i32_31 c1_i32_33 k1_t5
  let v52 : Index := Scalar.indexCast arg10
  let c16 : Index := 16#32
  ![v52.toNat, 16]

def k1_chk41 (v49 : IVec S16 32) (v53 : IVec S16 32) : Prop :=
  (∀ a x, ((![v49, v53] : Fin 2 → IVec S16 32) a x).toNat < S32x1024.size a)
theorem k1_idx41_inb : ∀ (v49 : IVec S16 32) (v53 : IVec S16 32) (k1_hw41 : k1_chk41 v49 v53), ∀ a x, ((![v49, v53] : Fin 2 → IVec S16 32) a x).toNat < S32x1024.size a := fun v49 v53 k1_hw41 => k1_hw41
def k1_off108 (k1_t5 : Fin k1_t5_loop.trips) : Fin 2 → Nat :=
  let c0_i32_31 : BitVec 32 := 0#32
  let c1_i32_33 : BitVec 32 := 1#32
  let arg10 : BitVec 32 := Scf.iv c0_i32_31 c1_i32_33 k1_t5
  let v54 : Index := Scalar.indexCast arg10
  let c32 : Index := 32#32
  ![v54.toNat, 32]

def k1_chk42 (v49 : IVec S16 32) (v55 : IVec S16 32) : Prop :=
  (∀ a x, ((![v49, v55] : Fin 2 → IVec S16 32) a x).toNat < S32x1024.size a)
theorem k1_idx42_inb : ∀ (v49 : IVec S16 32) (v55 : IVec S16 32) (k1_hw42 : k1_chk42 v49 v55), ∀ a x, ((![v49, v55] : Fin 2 → IVec S16 32) a x).toNat < S32x1024.size a := fun v49 v55 k1_hw42 => k1_hw42
def k1_off109 (k1_t5 : Fin k1_t5_loop.trips) : Fin 2 → Nat :=
  let c0_i32_31 : BitVec 32 := 0#32
  let c1_i32_33 : BitVec 32 := 1#32
  let arg10 : BitVec 32 := Scf.iv c0_i32_31 c1_i32_33 k1_t5
  let v56 : Index := Scalar.indexCast arg10
  let c48 : Index := 48#32
  ![v56.toNat, 48]

def k1_chk43 (v49 : IVec S16 32) (v57 : IVec S16 32) : Prop :=
  (∀ a x, ((![v49, v57] : Fin 2 → IVec S16 32) a x).toNat < S32x1024.size a)
theorem k1_idx43_inb : ∀ (v49 : IVec S16 32) (v57 : IVec S16 32) (k1_hw43 : k1_chk43 v49 v57), ∀ a x, ((![v49, v57] : Fin 2 → IVec S16 32) a x).toNat < S32x1024.size a := fun v49 v57 k1_hw43 => k1_hw43
def k1_off110 (k1_t5 : Fin k1_t5_loop.trips) : Fin 2 → Nat :=
  let c0_i32_31 : BitVec 32 := 0#32
  let c1_i32_33 : BitVec 32 := 1#32
  let arg10 : BitVec 32 := Scf.iv c0_i32_31 c1_i32_33 k1_t5
  let v58 : Index := Scalar.indexCast arg10
  let c64 : Index := 64#32
  ![v58.toNat, 64]

def k1_chk44 (v49 : IVec S16 32) (v59 : IVec S16 32) : Prop :=
  (∀ a x, ((![v49, v59] : Fin 2 → IVec S16 32) a x).toNat < S32x1024.size a)
theorem k1_idx44_inb : ∀ (v49 : IVec S16 32) (v59 : IVec S16 32) (k1_hw44 : k1_chk44 v49 v59), ∀ a x, ((![v49, v59] : Fin 2 → IVec S16 32) a x).toNat < S32x1024.size a := fun v49 v59 k1_hw44 => k1_hw44
def k1_off111 (k1_t5 : Fin k1_t5_loop.trips) : Fin 2 → Nat :=
  let c0_i32_31 : BitVec 32 := 0#32
  let c1_i32_33 : BitVec 32 := 1#32
  let arg10 : BitVec 32 := Scf.iv c0_i32_31 c1_i32_33 k1_t5
  let v60 : Index := Scalar.indexCast arg10
  let c80 : Index := 80#32
  ![v60.toNat, 80]

def k1_chk45 (v49 : IVec S16 32) (v61 : IVec S16 32) : Prop :=
  (∀ a x, ((![v49, v61] : Fin 2 → IVec S16 32) a x).toNat < S32x1024.size a)
theorem k1_idx45_inb : ∀ (v49 : IVec S16 32) (v61 : IVec S16 32) (k1_hw45 : k1_chk45 v49 v61), ∀ a x, ((![v49, v61] : Fin 2 → IVec S16 32) a x).toNat < S32x1024.size a := fun v49 v61 k1_hw45 => k1_hw45
def k1_off112 (k1_t5 : Fin k1_t5_loop.trips) : Fin 2 → Nat :=
  let c0_i32_31 : BitVec 32 := 0#32
  let c1_i32_33 : BitVec 32 := 1#32
  let arg10 : BitVec 32 := Scf.iv c0_i32_31 c1_i32_33 k1_t5
  let v62 : Index := Scalar.indexCast arg10
  let c96 : Index := 96#32
  ![v62.toNat, 96]

def k1_chk46 (v49 : IVec S16 32) (v63 : IVec S16 32) : Prop :=
  (∀ a x, ((![v49, v63] : Fin 2 → IVec S16 32) a x).toNat < S32x1024.size a)
theorem k1_idx46_inb : ∀ (v49 : IVec S16 32) (v63 : IVec S16 32) (k1_hw46 : k1_chk46 v49 v63), ∀ a x, ((![v49, v63] : Fin 2 → IVec S16 32) a x).toNat < S32x1024.size a := fun v49 v63 k1_hw46 => k1_hw46
def k1_off113 (k1_t5 : Fin k1_t5_loop.trips) : Fin 2 → Nat :=
  let c0_i32_31 : BitVec 32 := 0#32
  let c1_i32_33 : BitVec 32 := 1#32
  let arg10 : BitVec 32 := Scf.iv c0_i32_31 c1_i32_33 k1_t5
  let v64 : Index := Scalar.indexCast arg10
  let c112 : Index := 112#32
  ![v64.toNat, 112]

def k1_chk47 (v49 : IVec S16 32) (v65 : IVec S16 32) : Prop :=
  (∀ a x, ((![v49, v65] : Fin 2 → IVec S16 32) a x).toNat < S32x1024.size a)
theorem k1_idx47_inb : ∀ (v49 : IVec S16 32) (v65 : IVec S16 32) (k1_hw47 : k1_chk47 v49 v65), ∀ a x, ((![v49, v65] : Fin 2 → IVec S16 32) a x).toNat < S32x1024.size a := fun v49 v65 k1_hw47 => k1_hw47
def k1_off114 (k1_t5 : Fin k1_t5_loop.trips) : Fin 2 → Nat :=
  let c0_i32_31 : BitVec 32 := 0#32
  let c1_i32_33 : BitVec 32 := 1#32
  let arg10 : BitVec 32 := Scf.iv c0_i32_31 c1_i32_33 k1_t5
  let v66 : Index := Scalar.indexCast arg10
  let c128 : Index := 128#32
  ![v66.toNat, 128]

def k1_chk48 (v49 : IVec S16 32) (v67 : IVec S16 32) : Prop :=
  (∀ a x, ((![v49, v67] : Fin 2 → IVec S16 32) a x).toNat < S32x1024.size a)
theorem k1_idx48_inb : ∀ (v49 : IVec S16 32) (v67 : IVec S16 32) (k1_hw48 : k1_chk48 v49 v67), ∀ a x, ((![v49, v67] : Fin 2 → IVec S16 32) a x).toNat < S32x1024.size a := fun v49 v67 k1_hw48 => k1_hw48
def k1_off115 (k1_t5 : Fin k1_t5_loop.trips) : Fin 2 → Nat :=
  let c0_i32_31 : BitVec 32 := 0#32
  let c1_i32_33 : BitVec 32 := 1#32
  let arg10 : BitVec 32 := Scf.iv c0_i32_31 c1_i32_33 k1_t5
  let v68 : Index := Scalar.indexCast arg10
  let c144 : Index := 144#32
  ![v68.toNat, 144]

def k1_chk49 (v49 : IVec S16 32) (v69 : IVec S16 32) : Prop :=
  (∀ a x, ((![v49, v69] : Fin 2 → IVec S16 32) a x).toNat < S32x1024.size a)
theorem k1_idx49_inb : ∀ (v49 : IVec S16 32) (v69 : IVec S16 32) (k1_hw49 : k1_chk49 v49 v69), ∀ a x, ((![v49, v69] : Fin 2 → IVec S16 32) a x).toNat < S32x1024.size a := fun v49 v69 k1_hw49 => k1_hw49
def k1_off116 (k1_t5 : Fin k1_t5_loop.trips) : Fin 2 → Nat :=
  let c0_i32_31 : BitVec 32 := 0#32
  let c1_i32_33 : BitVec 32 := 1#32
  let arg10 : BitVec 32 := Scf.iv c0_i32_31 c1_i32_33 k1_t5
  let v70 : Index := Scalar.indexCast arg10
  let c160 : Index := 160#32
  ![v70.toNat, 160]

def k1_chk50 (v49 : IVec S16 32) (v71 : IVec S16 32) : Prop :=
  (∀ a x, ((![v49, v71] : Fin 2 → IVec S16 32) a x).toNat < S32x1024.size a)
theorem k1_idx50_inb : ∀ (v49 : IVec S16 32) (v71 : IVec S16 32) (k1_hw50 : k1_chk50 v49 v71), ∀ a x, ((![v49, v71] : Fin 2 → IVec S16 32) a x).toNat < S32x1024.size a := fun v49 v71 k1_hw50 => k1_hw50
def k1_off117 (k1_t5 : Fin k1_t5_loop.trips) : Fin 2 → Nat :=
  let c0_i32_31 : BitVec 32 := 0#32
  let c1_i32_33 : BitVec 32 := 1#32
  let arg10 : BitVec 32 := Scf.iv c0_i32_31 c1_i32_33 k1_t5
  let v72 : Index := Scalar.indexCast arg10
  let c176 : Index := 176#32
  ![v72.toNat, 176]

def k1_chk51 (v49 : IVec S16 32) (v73 : IVec S16 32) : Prop :=
  (∀ a x, ((![v49, v73] : Fin 2 → IVec S16 32) a x).toNat < S32x1024.size a)
theorem k1_idx51_inb : ∀ (v49 : IVec S16 32) (v73 : IVec S16 32) (k1_hw51 : k1_chk51 v49 v73), ∀ a x, ((![v49, v73] : Fin 2 → IVec S16 32) a x).toNat < S32x1024.size a := fun v49 v73 k1_hw51 => k1_hw51
def k1_off118 (k1_t5 : Fin k1_t5_loop.trips) : Fin 2 → Nat :=
  let c0_i32_31 : BitVec 32 := 0#32
  let c1_i32_33 : BitVec 32 := 1#32
  let arg10 : BitVec 32 := Scf.iv c0_i32_31 c1_i32_33 k1_t5
  let v74 : Index := Scalar.indexCast arg10
  let c184 : Index := 184#32
  ![v74.toNat, 184]

def k1_chk52 (v49 : IVec S16 32) (v75 : IVec S16 32) : Prop :=
  (∀ a x, ((![v49, v75] : Fin 2 → IVec S16 32) a x).toNat < S32x1024.size a)
theorem k1_idx52_inb : ∀ (v49 : IVec S16 32) (v75 : IVec S16 32) (k1_hw52 : k1_chk52 v49 v75), ∀ a x, ((![v49, v75] : Fin 2 → IVec S16 32) a x).toNat < S32x1024.size a := fun v49 v75 k1_hw52 => k1_hw52
@[reducible] def k1_t6_loop : Scf.Loop 32 :=
  let c0_i32_41 : BitVec 32 := 0#32
  let c32_i32_42 : BitVec 32 := 32#32
  let v37 : BitVec 32 := Scalar.addi c0_i32_41 c32_i32_42
  let c1_i32_43 : BitVec 32 := 1#32
  ⟨c0_i32_41, v37, c1_i32_43⟩
def k1_off119 (k1_t6 : Fin k1_t6_loop.trips) : Fin 2 → Nat :=
  let c0_i32_41 : BitVec 32 := 0#32
  let c1_i32_43 : BitVec 32 := 1#32
  let arg10 : BitVec 32 := Scf.iv c0_i32_41 c1_i32_43 k1_t6
  let v50 : Index := Scalar.indexCast arg10
  let c0 : Index := 0#32
  ![v50.toNat, 0]

def k1_chk53 (v49 : IVec S16 32) (v51 : IVec S16 32) : Prop :=
  (∀ a x, ((![v49, v51] : Fin 2 → IVec S16 32) a x).toNat < S32x1024.size a)
theorem k1_idx53_inb : ∀ (v49 : IVec S16 32) (v51 : IVec S16 32) (k1_hw53 : k1_chk53 v49 v51), ∀ a x, ((![v49, v51] : Fin 2 → IVec S16 32) a x).toNat < S32x1024.size a := fun v49 v51 k1_hw53 => k1_hw53
def k1_off120 (k1_t6 : Fin k1_t6_loop.trips) : Fin 2 → Nat :=
  let c0_i32_41 : BitVec 32 := 0#32
  let c1_i32_43 : BitVec 32 := 1#32
  let arg10 : BitVec 32 := Scf.iv c0_i32_41 c1_i32_43 k1_t6
  let v52 : Index := Scalar.indexCast arg10
  let c16 : Index := 16#32
  ![v52.toNat, 16]

def k1_chk54 (v49 : IVec S16 32) (v53 : IVec S16 32) : Prop :=
  (∀ a x, ((![v49, v53] : Fin 2 → IVec S16 32) a x).toNat < S32x1024.size a)
theorem k1_idx54_inb : ∀ (v49 : IVec S16 32) (v53 : IVec S16 32) (k1_hw54 : k1_chk54 v49 v53), ∀ a x, ((![v49, v53] : Fin 2 → IVec S16 32) a x).toNat < S32x1024.size a := fun v49 v53 k1_hw54 => k1_hw54
def k1_off121 (k1_t6 : Fin k1_t6_loop.trips) : Fin 2 → Nat :=
  let c0_i32_41 : BitVec 32 := 0#32
  let c1_i32_43 : BitVec 32 := 1#32
  let arg10 : BitVec 32 := Scf.iv c0_i32_41 c1_i32_43 k1_t6
  let v54 : Index := Scalar.indexCast arg10
  let c32 : Index := 32#32
  ![v54.toNat, 32]

def k1_chk55 (v49 : IVec S16 32) (v55 : IVec S16 32) : Prop :=
  (∀ a x, ((![v49, v55] : Fin 2 → IVec S16 32) a x).toNat < S32x1024.size a)
theorem k1_idx55_inb : ∀ (v49 : IVec S16 32) (v55 : IVec S16 32) (k1_hw55 : k1_chk55 v49 v55), ∀ a x, ((![v49, v55] : Fin 2 → IVec S16 32) a x).toNat < S32x1024.size a := fun v49 v55 k1_hw55 => k1_hw55
def k1_off122 (k1_t6 : Fin k1_t6_loop.trips) : Fin 2 → Nat :=
  let c0_i32_41 : BitVec 32 := 0#32
  let c1_i32_43 : BitVec 32 := 1#32
  let arg10 : BitVec 32 := Scf.iv c0_i32_41 c1_i32_43 k1_t6
  let v56 : Index := Scalar.indexCast arg10
  let c48 : Index := 48#32
  ![v56.toNat, 48]

def k1_chk56 (v49 : IVec S16 32) (v57 : IVec S16 32) : Prop :=
  (∀ a x, ((![v49, v57] : Fin 2 → IVec S16 32) a x).toNat < S32x1024.size a)
theorem k1_idx56_inb : ∀ (v49 : IVec S16 32) (v57 : IVec S16 32) (k1_hw56 : k1_chk56 v49 v57), ∀ a x, ((![v49, v57] : Fin 2 → IVec S16 32) a x).toNat < S32x1024.size a := fun v49 v57 k1_hw56 => k1_hw56
def k1_off123 (k1_t6 : Fin k1_t6_loop.trips) : Fin 2 → Nat :=
  let c0_i32_41 : BitVec 32 := 0#32
  let c1_i32_43 : BitVec 32 := 1#32
  let arg10 : BitVec 32 := Scf.iv c0_i32_41 c1_i32_43 k1_t6
  let v58 : Index := Scalar.indexCast arg10
  let c64 : Index := 64#32
  ![v58.toNat, 64]

def k1_chk57 (v49 : IVec S16 32) (v59 : IVec S16 32) : Prop :=
  (∀ a x, ((![v49, v59] : Fin 2 → IVec S16 32) a x).toNat < S32x1024.size a)
theorem k1_idx57_inb : ∀ (v49 : IVec S16 32) (v59 : IVec S16 32) (k1_hw57 : k1_chk57 v49 v59), ∀ a x, ((![v49, v59] : Fin 2 → IVec S16 32) a x).toNat < S32x1024.size a := fun v49 v59 k1_hw57 => k1_hw57
def k1_off124 (k1_t6 : Fin k1_t6_loop.trips) : Fin 2 → Nat :=
  let c0_i32_41 : BitVec 32 := 0#32
  let c1_i32_43 : BitVec 32 := 1#32
  let arg10 : BitVec 32 := Scf.iv c0_i32_41 c1_i32_43 k1_t6
  let v60 : Index := Scalar.indexCast arg10
  let c80 : Index := 80#32
  ![v60.toNat, 80]

def k1_chk58 (v49 : IVec S16 32) (v61 : IVec S16 32) : Prop :=
  (∀ a x, ((![v49, v61] : Fin 2 → IVec S16 32) a x).toNat < S32x1024.size a)
theorem k1_idx58_inb : ∀ (v49 : IVec S16 32) (v61 : IVec S16 32) (k1_hw58 : k1_chk58 v49 v61), ∀ a x, ((![v49, v61] : Fin 2 → IVec S16 32) a x).toNat < S32x1024.size a := fun v49 v61 k1_hw58 => k1_hw58
def k1_off125 (k1_t6 : Fin k1_t6_loop.trips) : Fin 2 → Nat :=
  let c0_i32_41 : BitVec 32 := 0#32
  let c1_i32_43 : BitVec 32 := 1#32
  let arg10 : BitVec 32 := Scf.iv c0_i32_41 c1_i32_43 k1_t6
  let v62 : Index := Scalar.indexCast arg10
  let c96 : Index := 96#32
  ![v62.toNat, 96]

def k1_chk59 (v49 : IVec S16 32) (v63 : IVec S16 32) : Prop :=
  (∀ a x, ((![v49, v63] : Fin 2 → IVec S16 32) a x).toNat < S32x1024.size a)
theorem k1_idx59_inb : ∀ (v49 : IVec S16 32) (v63 : IVec S16 32) (k1_hw59 : k1_chk59 v49 v63), ∀ a x, ((![v49, v63] : Fin 2 → IVec S16 32) a x).toNat < S32x1024.size a := fun v49 v63 k1_hw59 => k1_hw59
def k1_off126 (k1_t6 : Fin k1_t6_loop.trips) : Fin 2 → Nat :=
  let c0_i32_41 : BitVec 32 := 0#32
  let c1_i32_43 : BitVec 32 := 1#32
  let arg10 : BitVec 32 := Scf.iv c0_i32_41 c1_i32_43 k1_t6
  let v64 : Index := Scalar.indexCast arg10
  let c112 : Index := 112#32
  ![v64.toNat, 112]

def k1_chk60 (v49 : IVec S16 32) (v65 : IVec S16 32) : Prop :=
  (∀ a x, ((![v49, v65] : Fin 2 → IVec S16 32) a x).toNat < S32x1024.size a)
theorem k1_idx60_inb : ∀ (v49 : IVec S16 32) (v65 : IVec S16 32) (k1_hw60 : k1_chk60 v49 v65), ∀ a x, ((![v49, v65] : Fin 2 → IVec S16 32) a x).toNat < S32x1024.size a := fun v49 v65 k1_hw60 => k1_hw60
def k1_off127 (k1_t6 : Fin k1_t6_loop.trips) : Fin 2 → Nat :=
  let c0_i32_41 : BitVec 32 := 0#32
  let c1_i32_43 : BitVec 32 := 1#32
  let arg10 : BitVec 32 := Scf.iv c0_i32_41 c1_i32_43 k1_t6
  let v66 : Index := Scalar.indexCast arg10
  let c128 : Index := 128#32
  ![v66.toNat, 128]

def k1_chk61 (v49 : IVec S16 32) (v67 : IVec S16 32) : Prop :=
  (∀ a x, ((![v49, v67] : Fin 2 → IVec S16 32) a x).toNat < S32x1024.size a)
theorem k1_idx61_inb : ∀ (v49 : IVec S16 32) (v67 : IVec S16 32) (k1_hw61 : k1_chk61 v49 v67), ∀ a x, ((![v49, v67] : Fin 2 → IVec S16 32) a x).toNat < S32x1024.size a := fun v49 v67 k1_hw61 => k1_hw61
def k1_off128 (k1_t6 : Fin k1_t6_loop.trips) : Fin 2 → Nat :=
  let c0_i32_41 : BitVec 32 := 0#32
  let c1_i32_43 : BitVec 32 := 1#32
  let arg10 : BitVec 32 := Scf.iv c0_i32_41 c1_i32_43 k1_t6
  let v68 : Index := Scalar.indexCast arg10
  let c144 : Index := 144#32
  ![v68.toNat, 144]

def k1_chk62 (v49 : IVec S16 32) (v69 : IVec S16 32) : Prop :=
  (∀ a x, ((![v49, v69] : Fin 2 → IVec S16 32) a x).toNat < S32x1024.size a)
theorem k1_idx62_inb : ∀ (v49 : IVec S16 32) (v69 : IVec S16 32) (k1_hw62 : k1_chk62 v49 v69), ∀ a x, ((![v49, v69] : Fin 2 → IVec S16 32) a x).toNat < S32x1024.size a := fun v49 v69 k1_hw62 => k1_hw62
def k1_off129 (k1_t6 : Fin k1_t6_loop.trips) : Fin 2 → Nat :=
  let c0_i32_41 : BitVec 32 := 0#32
  let c1_i32_43 : BitVec 32 := 1#32
  let arg10 : BitVec 32 := Scf.iv c0_i32_41 c1_i32_43 k1_t6
  let v70 : Index := Scalar.indexCast arg10
  let c160 : Index := 160#32
  ![v70.toNat, 160]

def k1_chk63 (v49 : IVec S16 32) (v71 : IVec S16 32) : Prop :=
  (∀ a x, ((![v49, v71] : Fin 2 → IVec S16 32) a x).toNat < S32x1024.size a)
theorem k1_idx63_inb : ∀ (v49 : IVec S16 32) (v71 : IVec S16 32) (k1_hw63 : k1_chk63 v49 v71), ∀ a x, ((![v49, v71] : Fin 2 → IVec S16 32) a x).toNat < S32x1024.size a := fun v49 v71 k1_hw63 => k1_hw63
def k1_off130 (k1_t6 : Fin k1_t6_loop.trips) : Fin 2 → Nat :=
  let c0_i32_41 : BitVec 32 := 0#32
  let c1_i32_43 : BitVec 32 := 1#32
  let arg10 : BitVec 32 := Scf.iv c0_i32_41 c1_i32_43 k1_t6
  let v72 : Index := Scalar.indexCast arg10
  let c176 : Index := 176#32
  ![v72.toNat, 176]

def k1_chk64 (v49 : IVec S16 32) (v73 : IVec S16 32) : Prop :=
  (∀ a x, ((![v49, v73] : Fin 2 → IVec S16 32) a x).toNat < S32x1024.size a)
theorem k1_idx64_inb : ∀ (v49 : IVec S16 32) (v73 : IVec S16 32) (k1_hw64 : k1_chk64 v49 v73), ∀ a x, ((![v49, v73] : Fin 2 → IVec S16 32) a x).toNat < S32x1024.size a := fun v49 v73 k1_hw64 => k1_hw64
def k1_off131 (k1_t6 : Fin k1_t6_loop.trips) : Fin 2 → Nat :=
  let c0_i32_41 : BitVec 32 := 0#32
  let c1_i32_43 : BitVec 32 := 1#32
  let arg10 : BitVec 32 := Scf.iv c0_i32_41 c1_i32_43 k1_t6
  let v74 : Index := Scalar.indexCast arg10
  let c184 : Index := 184#32
  ![v74.toNat, 184]

def k1_chk65 (v49 : IVec S16 32) (v75 : IVec S16 32) : Prop :=
  (∀ a x, ((![v49, v75] : Fin 2 → IVec S16 32) a x).toNat < S32x1024.size a)
theorem k1_idx65_inb : ∀ (v49 : IVec S16 32) (v75 : IVec S16 32) (k1_hw65 : k1_chk65 v49 v75), ∀ a x, ((![v49, v75] : Fin 2 → IVec S16 32) a x).toNat < S32x1024.size a := fun v49 v75 k1_hw65 => k1_hw65
@[reducible] def k1_t7_loop : Scf.Loop 32 :=
  let c0_i32_46 : BitVec 32 := 0#32
  let c32_i32_47 : BitVec 32 := 32#32
  let v39 : BitVec 32 := Scalar.addi c0_i32_46 c32_i32_47
  let c1_i32_48 : BitVec 32 := 1#32
  ⟨c0_i32_46, v39, c1_i32_48⟩
def k1_off132 (k1_t7 : Fin k1_t7_loop.trips) : Fin 2 → Nat :=
  let c0_i32_46 : BitVec 32 := 0#32
  let c1_i32_48 : BitVec 32 := 1#32
  let arg10 : BitVec 32 := Scf.iv c0_i32_46 c1_i32_48 k1_t7
  let v50 : Index := Scalar.indexCast arg10
  let c0 : Index := 0#32
  ![v50.toNat, 0]

def k1_chk66 (v49 : IVec S16 32) (v51 : IVec S16 32) : Prop :=
  (∀ a x, ((![v49, v51] : Fin 2 → IVec S16 32) a x).toNat < S32x1024.size a)
theorem k1_idx66_inb : ∀ (v49 : IVec S16 32) (v51 : IVec S16 32) (k1_hw66 : k1_chk66 v49 v51), ∀ a x, ((![v49, v51] : Fin 2 → IVec S16 32) a x).toNat < S32x1024.size a := fun v49 v51 k1_hw66 => k1_hw66
def k1_off133 (k1_t7 : Fin k1_t7_loop.trips) : Fin 2 → Nat :=
  let c0_i32_46 : BitVec 32 := 0#32
  let c1_i32_48 : BitVec 32 := 1#32
  let arg10 : BitVec 32 := Scf.iv c0_i32_46 c1_i32_48 k1_t7
  let v52 : Index := Scalar.indexCast arg10
  let c16 : Index := 16#32
  ![v52.toNat, 16]

def k1_chk67 (v49 : IVec S16 32) (v53 : IVec S16 32) : Prop :=
  (∀ a x, ((![v49, v53] : Fin 2 → IVec S16 32) a x).toNat < S32x1024.size a)
theorem k1_idx67_inb : ∀ (v49 : IVec S16 32) (v53 : IVec S16 32) (k1_hw67 : k1_chk67 v49 v53), ∀ a x, ((![v49, v53] : Fin 2 → IVec S16 32) a x).toNat < S32x1024.size a := fun v49 v53 k1_hw67 => k1_hw67
def k1_off134 (k1_t7 : Fin k1_t7_loop.trips) : Fin 2 → Nat :=
  let c0_i32_46 : BitVec 32 := 0#32
  let c1_i32_48 : BitVec 32 := 1#32
  let arg10 : BitVec 32 := Scf.iv c0_i32_46 c1_i32_48 k1_t7
  let v54 : Index := Scalar.indexCast arg10
  let c32 : Index := 32#32
  ![v54.toNat, 32]

def k1_chk68 (v49 : IVec S16 32) (v55 : IVec S16 32) : Prop :=
  (∀ a x, ((![v49, v55] : Fin 2 → IVec S16 32) a x).toNat < S32x1024.size a)
theorem k1_idx68_inb : ∀ (v49 : IVec S16 32) (v55 : IVec S16 32) (k1_hw68 : k1_chk68 v49 v55), ∀ a x, ((![v49, v55] : Fin 2 → IVec S16 32) a x).toNat < S32x1024.size a := fun v49 v55 k1_hw68 => k1_hw68
def k1_off135 (k1_t7 : Fin k1_t7_loop.trips) : Fin 2 → Nat :=
  let c0_i32_46 : BitVec 32 := 0#32
  let c1_i32_48 : BitVec 32 := 1#32
  let arg10 : BitVec 32 := Scf.iv c0_i32_46 c1_i32_48 k1_t7
  let v56 : Index := Scalar.indexCast arg10
  let c48 : Index := 48#32
  ![v56.toNat, 48]

def k1_chk69 (v49 : IVec S16 32) (v57 : IVec S16 32) : Prop :=
  (∀ a x, ((![v49, v57] : Fin 2 → IVec S16 32) a x).toNat < S32x1024.size a)
theorem k1_idx69_inb : ∀ (v49 : IVec S16 32) (v57 : IVec S16 32) (k1_hw69 : k1_chk69 v49 v57), ∀ a x, ((![v49, v57] : Fin 2 → IVec S16 32) a x).toNat < S32x1024.size a := fun v49 v57 k1_hw69 => k1_hw69
def k1_off136 (k1_t7 : Fin k1_t7_loop.trips) : Fin 2 → Nat :=
  let c0_i32_46 : BitVec 32 := 0#32
  let c1_i32_48 : BitVec 32 := 1#32
  let arg10 : BitVec 32 := Scf.iv c0_i32_46 c1_i32_48 k1_t7
  let v58 : Index := Scalar.indexCast arg10
  let c64 : Index := 64#32
  ![v58.toNat, 64]

def k1_chk70 (v49 : IVec S16 32) (v59 : IVec S16 32) : Prop :=
  (∀ a x, ((![v49, v59] : Fin 2 → IVec S16 32) a x).toNat < S32x1024.size a)
theorem k1_idx70_inb : ∀ (v49 : IVec S16 32) (v59 : IVec S16 32) (k1_hw70 : k1_chk70 v49 v59), ∀ a x, ((![v49, v59] : Fin 2 → IVec S16 32) a x).toNat < S32x1024.size a := fun v49 v59 k1_hw70 => k1_hw70
def k1_off137 (k1_t7 : Fin k1_t7_loop.trips) : Fin 2 → Nat :=
  let c0_i32_46 : BitVec 32 := 0#32
  let c1_i32_48 : BitVec 32 := 1#32
  let arg10 : BitVec 32 := Scf.iv c0_i32_46 c1_i32_48 k1_t7
  let v60 : Index := Scalar.indexCast arg10
  let c80 : Index := 80#32
  ![v60.toNat, 80]

def k1_chk71 (v49 : IVec S16 32) (v61 : IVec S16 32) : Prop :=
  (∀ a x, ((![v49, v61] : Fin 2 → IVec S16 32) a x).toNat < S32x1024.size a)
theorem k1_idx71_inb : ∀ (v49 : IVec S16 32) (v61 : IVec S16 32) (k1_hw71 : k1_chk71 v49 v61), ∀ a x, ((![v49, v61] : Fin 2 → IVec S16 32) a x).toNat < S32x1024.size a := fun v49 v61 k1_hw71 => k1_hw71
def k1_off138 (k1_t7 : Fin k1_t7_loop.trips) : Fin 2 → Nat :=
  let c0_i32_46 : BitVec 32 := 0#32
  let c1_i32_48 : BitVec 32 := 1#32
  let arg10 : BitVec 32 := Scf.iv c0_i32_46 c1_i32_48 k1_t7
  let v62 : Index := Scalar.indexCast arg10
  let c96 : Index := 96#32
  ![v62.toNat, 96]

def k1_chk72 (v49 : IVec S16 32) (v63 : IVec S16 32) : Prop :=
  (∀ a x, ((![v49, v63] : Fin 2 → IVec S16 32) a x).toNat < S32x1024.size a)
theorem k1_idx72_inb : ∀ (v49 : IVec S16 32) (v63 : IVec S16 32) (k1_hw72 : k1_chk72 v49 v63), ∀ a x, ((![v49, v63] : Fin 2 → IVec S16 32) a x).toNat < S32x1024.size a := fun v49 v63 k1_hw72 => k1_hw72
def k1_off139 (k1_t7 : Fin k1_t7_loop.trips) : Fin 2 → Nat :=
  let c0_i32_46 : BitVec 32 := 0#32
  let c1_i32_48 : BitVec 32 := 1#32
  let arg10 : BitVec 32 := Scf.iv c0_i32_46 c1_i32_48 k1_t7
  let v64 : Index := Scalar.indexCast arg10
  let c112 : Index := 112#32
  ![v64.toNat, 112]

def k1_chk73 (v49 : IVec S16 32) (v65 : IVec S16 32) : Prop :=
  (∀ a x, ((![v49, v65] : Fin 2 → IVec S16 32) a x).toNat < S32x1024.size a)
theorem k1_idx73_inb : ∀ (v49 : IVec S16 32) (v65 : IVec S16 32) (k1_hw73 : k1_chk73 v49 v65), ∀ a x, ((![v49, v65] : Fin 2 → IVec S16 32) a x).toNat < S32x1024.size a := fun v49 v65 k1_hw73 => k1_hw73
def k1_off140 (k1_t7 : Fin k1_t7_loop.trips) : Fin 2 → Nat :=
  let c0_i32_46 : BitVec 32 := 0#32
  let c1_i32_48 : BitVec 32 := 1#32
  let arg10 : BitVec 32 := Scf.iv c0_i32_46 c1_i32_48 k1_t7
  let v66 : Index := Scalar.indexCast arg10
  let c128 : Index := 128#32
  ![v66.toNat, 128]

def k1_chk74 (v49 : IVec S16 32) (v67 : IVec S16 32) : Prop :=
  (∀ a x, ((![v49, v67] : Fin 2 → IVec S16 32) a x).toNat < S32x1024.size a)
theorem k1_idx74_inb : ∀ (v49 : IVec S16 32) (v67 : IVec S16 32) (k1_hw74 : k1_chk74 v49 v67), ∀ a x, ((![v49, v67] : Fin 2 → IVec S16 32) a x).toNat < S32x1024.size a := fun v49 v67 k1_hw74 => k1_hw74
def k1_off141 (k1_t7 : Fin k1_t7_loop.trips) : Fin 2 → Nat :=
  let c0_i32_46 : BitVec 32 := 0#32
  let c1_i32_48 : BitVec 32 := 1#32
  let arg10 : BitVec 32 := Scf.iv c0_i32_46 c1_i32_48 k1_t7
  let v68 : Index := Scalar.indexCast arg10
  let c144 : Index := 144#32
  ![v68.toNat, 144]

def k1_chk75 (v49 : IVec S16 32) (v69 : IVec S16 32) : Prop :=
  (∀ a x, ((![v49, v69] : Fin 2 → IVec S16 32) a x).toNat < S32x1024.size a)
theorem k1_idx75_inb : ∀ (v49 : IVec S16 32) (v69 : IVec S16 32) (k1_hw75 : k1_chk75 v49 v69), ∀ a x, ((![v49, v69] : Fin 2 → IVec S16 32) a x).toNat < S32x1024.size a := fun v49 v69 k1_hw75 => k1_hw75
def k1_off142 (k1_t7 : Fin k1_t7_loop.trips) : Fin 2 → Nat :=
  let c0_i32_46 : BitVec 32 := 0#32
  let c1_i32_48 : BitVec 32 := 1#32
  let arg10 : BitVec 32 := Scf.iv c0_i32_46 c1_i32_48 k1_t7
  let v70 : Index := Scalar.indexCast arg10
  let c160 : Index := 160#32
  ![v70.toNat, 160]

def k1_chk76 (v49 : IVec S16 32) (v71 : IVec S16 32) : Prop :=
  (∀ a x, ((![v49, v71] : Fin 2 → IVec S16 32) a x).toNat < S32x1024.size a)
theorem k1_idx76_inb : ∀ (v49 : IVec S16 32) (v71 : IVec S16 32) (k1_hw76 : k1_chk76 v49 v71), ∀ a x, ((![v49, v71] : Fin 2 → IVec S16 32) a x).toNat < S32x1024.size a := fun v49 v71 k1_hw76 => k1_hw76
def k1_off143 (k1_t7 : Fin k1_t7_loop.trips) : Fin 2 → Nat :=
  let c0_i32_46 : BitVec 32 := 0#32
  let c1_i32_48 : BitVec 32 := 1#32
  let arg10 : BitVec 32 := Scf.iv c0_i32_46 c1_i32_48 k1_t7
  let v72 : Index := Scalar.indexCast arg10
  let c176 : Index := 176#32
  ![v72.toNat, 176]

def k1_chk77 (v49 : IVec S16 32) (v73 : IVec S16 32) : Prop :=
  (∀ a x, ((![v49, v73] : Fin 2 → IVec S16 32) a x).toNat < S32x1024.size a)
theorem k1_idx77_inb : ∀ (v49 : IVec S16 32) (v73 : IVec S16 32) (k1_hw77 : k1_chk77 v49 v73), ∀ a x, ((![v49, v73] : Fin 2 → IVec S16 32) a x).toNat < S32x1024.size a := fun v49 v73 k1_hw77 => k1_hw77
def k1_off144 (k1_t7 : Fin k1_t7_loop.trips) : Fin 2 → Nat :=
  let c0_i32_46 : BitVec 32 := 0#32
  let c1_i32_48 : BitVec 32 := 1#32
  let arg10 : BitVec 32 := Scf.iv c0_i32_46 c1_i32_48 k1_t7
  let v74 : Index := Scalar.indexCast arg10
  let c184 : Index := 184#32
  ![v74.toNat, 184]

def k1_chk78 (v49 : IVec S16 32) (v75 : IVec S16 32) : Prop :=
  (∀ a x, ((![v49, v75] : Fin 2 → IVec S16 32) a x).toNat < S32x1024.size a)
theorem k1_idx78_inb : ∀ (v49 : IVec S16 32) (v75 : IVec S16 32) (k1_hw78 : k1_chk78 v49 v75), ∀ a x, ((![v49, v75] : Fin 2 → IVec S16 32) a x).toNat < S32x1024.size a := fun v49 v75 k1_hw78 => k1_hw78
abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc2_transform_4 (i : grid2.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1024x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨2, ![2, 16], ![false, false]⟩

@[reducible] def k3_t1_loop : Scf.Loop 32 :=
  let c0_i32_1 : BitVec 32 := 0#32
  let c32_i32 : BitVec 32 := 32#32
  let v9 : BitVec 32 := Scalar.addi c0_i32_1 c32_i32
  let c1_i32 : BitVec 32 := 1#32
  ⟨c0_i32_1, v9, c1_i32⟩
def k3_off1 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v47 : Index := Scalar.indexCast arg10
  let c0 : Index := 0#32
  ![v47.toNat, 0]
def k3_off2 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v49 : Index := Scalar.indexCast arg10
  let c16 : Index := 16#32
  ![v49.toNat, 16]
def k3_off3 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v51 : Index := Scalar.indexCast arg10
  let c32 : Index := 32#32
  ![v51.toNat, 32]
def k3_off4 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v53 : Index := Scalar.indexCast arg10
  let c48 : Index := 48#32
  ![v53.toNat, 48]
def k3_off5 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v55 : Index := Scalar.indexCast arg10
  let c64 : Index := 64#32
  ![v55.toNat, 64]
def k3_off6 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v57 : Index := Scalar.indexCast arg10
  let c80 : Index := 80#32
  ![v57.toNat, 80]
def k3_off7 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v59 : Index := Scalar.indexCast arg10
  let c96 : Index := 96#32
  ![v59.toNat, 96]
def k3_off8 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v61 : Index := Scalar.indexCast arg10
  let c112 : Index := 112#32
  ![v61.toNat, 112]
def k3_off9 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v63 : Index := Scalar.indexCast arg10
  let c128 : Index := 128#32
  ![v63.toNat, 128]
def k3_off10 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v65 : Index := Scalar.indexCast arg10
  let c144 : Index := 144#32
  ![v65.toNat, 144]
def k3_off11 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v67 : Index := Scalar.indexCast arg10
  let c160 : Index := 160#32
  ![v67.toNat, 160]
def k3_off12 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v69 : Index := Scalar.indexCast arg10
  let c176 : Index := 176#32
  ![v69.toNat, 176]
def k3_off13 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v71 : Index := Scalar.indexCast arg10
  let c192 : Index := 192#32
  ![v71.toNat, 192]
def k3_off14 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v73 : Index := Scalar.indexCast arg10
  let c208 : Index := 208#32
  ![v73.toNat, 208]
def k3_off15 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v75 : Index := Scalar.indexCast arg10
  let c224 : Index := 224#32
  ![v75.toNat, 224]
def k3_off16 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v77 : Index := Scalar.indexCast arg10
  let c240 : Index := 240#32
  ![v77.toNat, 240]
def k3_off17 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v79 : Index := Scalar.indexCast arg10
  let c256 : Index := 256#32
  ![v79.toNat, 256]
def k3_off18 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v81 : Index := Scalar.indexCast arg10
  let c272 : Index := 272#32
  ![v81.toNat, 272]
def k3_off19 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v83 : Index := Scalar.indexCast arg10
  let c288 : Index := 288#32
  ![v83.toNat, 288]
def k3_off20 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v85 : Index := Scalar.indexCast arg10
  let c304 : Index := 304#32
  ![v85.toNat, 304]
def k3_off21 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v87 : Index := Scalar.indexCast arg10
  let c320 : Index := 320#32
  ![v87.toNat, 320]
def k3_off22 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v89 : Index := Scalar.indexCast arg10
  let c336 : Index := 336#32
  ![v89.toNat, 336]
def k3_off23 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v91 : Index := Scalar.indexCast arg10
  let c352 : Index := 352#32
  ![v91.toNat, 352]
def k3_off24 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v93 : Index := Scalar.indexCast arg10
  let c368 : Index := 368#32
  ![v93.toNat, 368]
def k3_off25 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v95 : Index := Scalar.indexCast arg10
  let c384 : Index := 384#32
  ![v95.toNat, 384]
def k3_off26 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v97 : Index := Scalar.indexCast arg10
  let c400 : Index := 400#32
  ![v97.toNat, 400]
def k3_off27 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v99 : Index := Scalar.indexCast arg10
  let c416 : Index := 416#32
  ![v99.toNat, 416]
def k3_off28 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v101 : Index := Scalar.indexCast arg10
  let c432 : Index := 432#32
  ![v101.toNat, 432]
def k3_off29 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v103 : Index := Scalar.indexCast arg10
  let c448 : Index := 448#32
  ![v103.toNat, 448]
def k3_off30 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v105 : Index := Scalar.indexCast arg10
  let c464 : Index := 464#32
  ![v105.toNat, 464]
def k3_off31 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v107 : Index := Scalar.indexCast arg10
  let c480 : Index := 480#32
  ![v107.toNat, 480]
def k3_off32 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v109 : Index := Scalar.indexCast arg10
  let c496 : Index := 496#32
  ![v109.toNat, 496]
def k3_off33 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v111 : Index := Scalar.indexCast arg10
  let c512 : Index := 512#32
  ![v111.toNat, 512]
def k3_off34 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v113 : Index := Scalar.indexCast arg10
  let c528 : Index := 528#32
  ![v113.toNat, 528]
def k3_off35 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v115 : Index := Scalar.indexCast arg10
  let c544 : Index := 544#32
  ![v115.toNat, 544]
def k3_off36 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v117 : Index := Scalar.indexCast arg10
  let c560 : Index := 560#32
  ![v117.toNat, 560]
def k3_off37 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v119 : Index := Scalar.indexCast arg10
  let c576 : Index := 576#32
  ![v119.toNat, 576]
def k3_off38 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v121 : Index := Scalar.indexCast arg10
  let c592 : Index := 592#32
  ![v121.toNat, 592]
def k3_off39 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v123 : Index := Scalar.indexCast arg10
  let c608 : Index := 608#32
  ![v123.toNat, 608]
def k3_off40 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v125 : Index := Scalar.indexCast arg10
  let c624 : Index := 624#32
  ![v125.toNat, 624]
def k3_off41 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v127 : Index := Scalar.indexCast arg10
  let c640 : Index := 640#32
  ![v127.toNat, 640]
def k3_off42 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v129 : Index := Scalar.indexCast arg10
  let c656 : Index := 656#32
  ![v129.toNat, 656]
def k3_off43 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v131 : Index := Scalar.indexCast arg10
  let c672 : Index := 672#32
  ![v131.toNat, 672]
def k3_off44 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v133 : Index := Scalar.indexCast arg10
  let c688 : Index := 688#32
  ![v133.toNat, 688]
def k3_off45 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v135 : Index := Scalar.indexCast arg10
  let c704 : Index := 704#32
  ![v135.toNat, 704]
def k3_off46 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v137 : Index := Scalar.indexCast arg10
  let c720 : Index := 720#32
  ![v137.toNat, 720]
def k3_off47 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v139 : Index := Scalar.indexCast arg10
  let c736 : Index := 736#32
  ![v139.toNat, 736]
def k3_off48 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v141 : Index := Scalar.indexCast arg10
  let c752 : Index := 752#32
  ![v141.toNat, 752]
def k3_off49 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v143 : Index := Scalar.indexCast arg10
  let c768 : Index := 768#32
  ![v143.toNat, 768]
def k3_off50 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v145 : Index := Scalar.indexCast arg10
  let c784 : Index := 784#32
  ![v145.toNat, 784]
def k3_off51 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v147 : Index := Scalar.indexCast arg10
  let c800 : Index := 800#32
  ![v147.toNat, 800]
def k3_off52 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v149 : Index := Scalar.indexCast arg10
  let c816 : Index := 816#32
  ![v149.toNat, 816]
def k3_off53 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v151 : Index := Scalar.indexCast arg10
  let c832 : Index := 832#32
  ![v151.toNat, 832]
def k3_off54 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v153 : Index := Scalar.indexCast arg10
  let c848 : Index := 848#32
  ![v153.toNat, 848]
def k3_off55 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v155 : Index := Scalar.indexCast arg10
  let c864 : Index := 864#32
  ![v155.toNat, 864]
def k3_off56 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v157 : Index := Scalar.indexCast arg10
  let c880 : Index := 880#32
  ![v157.toNat, 880]
def k3_off57 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v159 : Index := Scalar.indexCast arg10
  let c896 : Index := 896#32
  ![v159.toNat, 896]
def k3_off58 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v161 : Index := Scalar.indexCast arg10
  let c912 : Index := 912#32
  ![v161.toNat, 912]
def k3_off59 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v163 : Index := Scalar.indexCast arg10
  let c928 : Index := 928#32
  ![v163.toNat, 928]
def k3_off60 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v165 : Index := Scalar.indexCast arg10
  let c944 : Index := 944#32
  ![v165.toNat, 944]
def k3_off61 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v167 : Index := Scalar.indexCast arg10
  let c960 : Index := 960#32
  ![v167.toNat, 960]
def k3_off62 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v169 : Index := Scalar.indexCast arg10
  let c976 : Index := 976#32
  ![v169.toNat, 976]
def k3_off63 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v171 : Index := Scalar.indexCast arg10
  let c992 : Index := 992#32
  ![v171.toNat, 992]
def k3_off64 (k3_t1 : Fin k3_t1_loop.trips) : Fin 2 → Nat :=
  let c0_i32_1 : BitVec 32 := 0#32
  let c1_i32 : BitVec 32 := 1#32
  let arg10 : BitVec 32 := Scf.iv c0_i32_1 c1_i32 k3_t1
  let v173 : Index := Scalar.indexCast arg10
  let c1008 : Index := 1008#32
  ![v173.toNat, 1008]
def k3_off65 (i : grid3.Coords) (c0_i32_4 : BitVec 32) : Fin 2 → Nat :=
  let c4096_i32 : BitVec 32 := 4096#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c4096_i32 v2
  let v12 : BitVec 32 := Scalar.addi v3 c0_i32_4
  let c0_i32_55_r0 : BitVec 32 := 0#32
  ![v12.toNat, 0]
@[reducible] def k3_t2_loop : Scf.Loop 32 :=
  let c0_i32_6 : BitVec 32 := 0#32
  let c32_i32_7 : BitVec 32 := 32#32
  let v13 : BitVec 32 := Scalar.addi c0_i32_6 c32_i32_7
  let c1_i32_8 : BitVec 32 := 1#32
  ⟨c0_i32_6, v13, c1_i32_8⟩
def k3_off66 (k3_t2 : Fin k3_t2_loop.trips) : Fin 2 → Nat :=
  let c0_i32_6 : BitVec 32 := 0#32
  let c1_i32_8 : BitVec 32 := 1#32
  let arg10 : BitVec 32 := Scf.iv c0_i32_6 c1_i32_8 k3_t2
  let v50 : Index := Scalar.indexCast arg10
  let c0 : Index := 0#32
  ![v50.toNat, 0]

def k3_chk1 (v49 : IVec S16 32) (v51 : IVec S16 32) : Prop :=
  (∀ a x, ((![v49, v51] : Fin 2 → IVec S16 32) a x).toNat < S32x1024.size a)
theorem k3_idx1_inb : ∀ (v49 : IVec S16 32) (v51 : IVec S16 32) (k3_hw1 : k3_chk1 v49 v51), ∀ a x, ((![v49, v51] : Fin 2 → IVec S16 32) a x).toNat < S32x1024.size a := fun v49 v51 k3_hw1 => k3_hw1
def k3_off67 (k3_t2 : Fin k3_t2_loop.trips) : Fin 2 → Nat :=
  let c0_i32_6 : BitVec 32 := 0#32
  let c1_i32_8 : BitVec 32 := 1#32
  let arg10 : BitVec 32 := Scf.iv c0_i32_6 c1_i32_8 k3_t2
  let v52 : Index := Scalar.indexCast arg10
  let c16 : Index := 16#32
  ![v52.toNat, 16]

def k3_chk2 (v49 : IVec S16 32) (v53 : IVec S16 32) : Prop :=
  (∀ a x, ((![v49, v53] : Fin 2 → IVec S16 32) a x).toNat < S32x1024.size a)
theorem k3_idx2_inb : ∀ (v49 : IVec S16 32) (v53 : IVec S16 32) (k3_hw2 : k3_chk2 v49 v53), ∀ a x, ((![v49, v53] : Fin 2 → IVec S16 32) a x).toNat < S32x1024.size a := fun v49 v53 k3_hw2 => k3_hw2
def k3_off68 (k3_t2 : Fin k3_t2_loop.trips) : Fin 2 → Nat :=
  let c0_i32_6 : BitVec 32 := 0#32
  let c1_i32_8 : BitVec 32 := 1#32
  let arg10 : BitVec 32 := Scf.iv c0_i32_6 c1_i32_8 k3_t2
  let v54 : Index := Scalar.indexCast arg10
  let c32 : Index := 32#32
  ![v54.toNat, 32]

def k3_chk3 (v49 : IVec S16 32) (v55 : IVec S16 32) : Prop :=
  (∀ a x, ((![v49, v55] : Fin 2 → IVec S16 32) a x).toNat < S32x1024.size a)
theorem k3_idx3_inb : ∀ (v49 : IVec S16 32) (v55 : IVec S16 32) (k3_hw3 : k3_chk3 v49 v55), ∀ a x, ((![v49, v55] : Fin 2 → IVec S16 32) a x).toNat < S32x1024.size a := fun v49 v55 k3_hw3 => k3_hw3
def k3_off69 (k3_t2 : Fin k3_t2_loop.trips) : Fin 2 → Nat :=
  let c0_i32_6 : BitVec 32 := 0#32
  let c1_i32_8 : BitVec 32 := 1#32
  let arg10 : BitVec 32 := Scf.iv c0_i32_6 c1_i32_8 k3_t2
  let v56 : Index := Scalar.indexCast arg10
  let c48 : Index := 48#32
  ![v56.toNat, 48]

def k3_chk4 (v49 : IVec S16 32) (v57 : IVec S16 32) : Prop :=
  (∀ a x, ((![v49, v57] : Fin 2 → IVec S16 32) a x).toNat < S32x1024.size a)
theorem k3_idx4_inb : ∀ (v49 : IVec S16 32) (v57 : IVec S16 32) (k3_hw4 : k3_chk4 v49 v57), ∀ a x, ((![v49, v57] : Fin 2 → IVec S16 32) a x).toNat < S32x1024.size a := fun v49 v57 k3_hw4 => k3_hw4
def k3_off70 (k3_t2 : Fin k3_t2_loop.trips) : Fin 2 → Nat :=
  let c0_i32_6 : BitVec 32 := 0#32
  let c1_i32_8 : BitVec 32 := 1#32
  let arg10 : BitVec 32 := Scf.iv c0_i32_6 c1_i32_8 k3_t2
  let v58 : Index := Scalar.indexCast arg10
  let c64 : Index := 64#32
  ![v58.toNat, 64]

def k3_chk5 (v49 : IVec S16 32) (v59 : IVec S16 32) : Prop :=
  (∀ a x, ((![v49, v59] : Fin 2 → IVec S16 32) a x).toNat < S32x1024.size a)
theorem k3_idx5_inb : ∀ (v49 : IVec S16 32) (v59 : IVec S16 32) (k3_hw5 : k3_chk5 v49 v59), ∀ a x, ((![v49, v59] : Fin 2 → IVec S16 32) a x).toNat < S32x1024.size a := fun v49 v59 k3_hw5 => k3_hw5
def k3_off71 (k3_t2 : Fin k3_t2_loop.trips) : Fin 2 → Nat :=
  let c0_i32_6 : BitVec 32 := 0#32
  let c1_i32_8 : BitVec 32 := 1#32
  let arg10 : BitVec 32 := Scf.iv c0_i32_6 c1_i32_8 k3_t2
  let v60 : Index := Scalar.indexCast arg10
  let c80 : Index := 80#32
  ![v60.toNat, 80]

def k3_chk6 (v49 : IVec S16 32) (v61 : IVec S16 32) : Prop :=
  (∀ a x, ((![v49, v61] : Fin 2 → IVec S16 32) a x).toNat < S32x1024.size a)
theorem k3_idx6_inb : ∀ (v49 : IVec S16 32) (v61 : IVec S16 32) (k3_hw6 : k3_chk6 v49 v61), ∀ a x, ((![v49, v61] : Fin 2 → IVec S16 32) a x).toNat < S32x1024.size a := fun v49 v61 k3_hw6 => k3_hw6
def k3_off72 (k3_t2 : Fin k3_t2_loop.trips) : Fin 2 → Nat :=
  let c0_i32_6 : BitVec 32 := 0#32
  let c1_i32_8 : BitVec 32 := 1#32
  let arg10 : BitVec 32 := Scf.iv c0_i32_6 c1_i32_8 k3_t2
  let v62 : Index := Scalar.indexCast arg10
  let c96 : Index := 96#32
  ![v62.toNat, 96]

def k3_chk7 (v49 : IVec S16 32) (v63 : IVec S16 32) : Prop :=
  (∀ a x, ((![v49, v63] : Fin 2 → IVec S16 32) a x).toNat < S32x1024.size a)
theorem k3_idx7_inb : ∀ (v49 : IVec S16 32) (v63 : IVec S16 32) (k3_hw7 : k3_chk7 v49 v63), ∀ a x, ((![v49, v63] : Fin 2 → IVec S16 32) a x).toNat < S32x1024.size a := fun v49 v63 k3_hw7 => k3_hw7
def k3_off73 (k3_t2 : Fin k3_t2_loop.trips) : Fin 2 → Nat :=
  let c0_i32_6 : BitVec 32 := 0#32
  let c1_i32_8 : BitVec 32 := 1#32
  let arg10 : BitVec 32 := Scf.iv c0_i32_6 c1_i32_8 k3_t2
  let v64 : Index := Scalar.indexCast arg10
  let c112 : Index := 112#32
  ![v64.toNat, 112]

def k3_chk8 (v49 : IVec S16 32) (v65 : IVec S16 32) : Prop :=
  (∀ a x, ((![v49, v65] : Fin 2 → IVec S16 32) a x).toNat < S32x1024.size a)
theorem k3_idx8_inb : ∀ (v49 : IVec S16 32) (v65 : IVec S16 32) (k3_hw8 : k3_chk8 v49 v65), ∀ a x, ((![v49, v65] : Fin 2 → IVec S16 32) a x).toNat < S32x1024.size a := fun v49 v65 k3_hw8 => k3_hw8
def k3_off74 (k3_t2 : Fin k3_t2_loop.trips) : Fin 2 → Nat :=
  let c0_i32_6 : BitVec 32 := 0#32
  let c1_i32_8 : BitVec 32 := 1#32
  let arg10 : BitVec 32 := Scf.iv c0_i32_6 c1_i32_8 k3_t2
  let v66 : Index := Scalar.indexCast arg10
  let c128 : Index := 128#32
  ![v66.toNat, 128]

def k3_chk9 (v49 : IVec S16 32) (v67 : IVec S16 32) : Prop :=
  (∀ a x, ((![v49, v67] : Fin 2 → IVec S16 32) a x).toNat < S32x1024.size a)
theorem k3_idx9_inb : ∀ (v49 : IVec S16 32) (v67 : IVec S16 32) (k3_hw9 : k3_chk9 v49 v67), ∀ a x, ((![v49, v67] : Fin 2 → IVec S16 32) a x).toNat < S32x1024.size a := fun v49 v67 k3_hw9 => k3_hw9
def k3_off75 (k3_t2 : Fin k3_t2_loop.trips) : Fin 2 → Nat :=
  let c0_i32_6 : BitVec 32 := 0#32
  let c1_i32_8 : BitVec 32 := 1#32
  let arg10 : BitVec 32 := Scf.iv c0_i32_6 c1_i32_8 k3_t2
  let v68 : Index := Scalar.indexCast arg10
  let c144 : Index := 144#32
  ![v68.toNat, 144]

def k3_chk10 (v49 : IVec S16 32) (v69 : IVec S16 32) : Prop :=
  (∀ a x, ((![v49, v69] : Fin 2 → IVec S16 32) a x).toNat < S32x1024.size a)
theorem k3_idx10_inb : ∀ (v49 : IVec S16 32) (v69 : IVec S16 32) (k3_hw10 : k3_chk10 v49 v69), ∀ a x, ((![v49, v69] : Fin 2 → IVec S16 32) a x).toNat < S32x1024.size a := fun v49 v69 k3_hw10 => k3_hw10
def k3_off76 (k3_t2 : Fin k3_t2_loop.trips) : Fin 2 → Nat :=
  let c0_i32_6 : BitVec 32 := 0#32
  let c1_i32_8 : BitVec 32 := 1#32
  let arg10 : BitVec 32 := Scf.iv c0_i32_6 c1_i32_8 k3_t2
  let v70 : Index := Scalar.indexCast arg10
  let c160 : Index := 160#32
  ![v70.toNat, 160]

def k3_chk11 (v49 : IVec S16 32) (v71 : IVec S16 32) : Prop :=
  (∀ a x, ((![v49, v71] : Fin 2 → IVec S16 32) a x).toNat < S32x1024.size a)
theorem k3_idx11_inb : ∀ (v49 : IVec S16 32) (v71 : IVec S16 32) (k3_hw11 : k3_chk11 v49 v71), ∀ a x, ((![v49, v71] : Fin 2 → IVec S16 32) a x).toNat < S32x1024.size a := fun v49 v71 k3_hw11 => k3_hw11
def k3_off77 (k3_t2 : Fin k3_t2_loop.trips) : Fin 2 → Nat :=
  let c0_i32_6 : BitVec 32 := 0#32
  let c1_i32_8 : BitVec 32 := 1#32
  let arg10 : BitVec 32 := Scf.iv c0_i32_6 c1_i32_8 k3_t2
  let v72 : Index := Scalar.indexCast arg10
  let c176 : Index := 176#32
  ![v72.toNat, 176]

def k3_chk12 (v49 : IVec S16 32) (v73 : IVec S16 32) : Prop :=
  (∀ a x, ((![v49, v73] : Fin 2 → IVec S16 32) a x).toNat < S32x1024.size a)
theorem k3_idx12_inb : ∀ (v49 : IVec S16 32) (v73 : IVec S16 32) (k3_hw12 : k3_chk12 v49 v73), ∀ a x, ((![v49, v73] : Fin 2 → IVec S16 32) a x).toNat < S32x1024.size a := fun v49 v73 k3_hw12 => k3_hw12
def k3_off78 (k3_t2 : Fin k3_t2_loop.trips) : Fin 2 → Nat :=
  let c0_i32_6 : BitVec 32 := 0#32
  let c1_i32_8 : BitVec 32 := 1#32
  let arg10 : BitVec 32 := Scf.iv c0_i32_6 c1_i32_8 k3_t2
  let v74 : Index := Scalar.indexCast arg10
  let c184 : Index := 184#32
  ![v74.toNat, 184]

def k3_chk13 (v49 : IVec S16 32) (v75 : IVec S16 32) : Prop :=
  (∀ a x, ((![v49, v75] : Fin 2 → IVec S16 32) a x).toNat < S32x1024.size a)
theorem k3_idx13_inb : ∀ (v49 : IVec S16 32) (v75 : IVec S16 32) (k3_hw13 : k3_chk13 v49 v75), ∀ a x, ((![v49, v75] : Fin 2 → IVec S16 32) a x).toNat < S32x1024.size a := fun v49 v75 k3_hw13 => k3_hw13
def k3_off79 (i : grid3.Coords) (c0_i32_3 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v11 : BitVec 32 := Scalar.addi v2 c0_i32_3
  let c0_i32_10 : BitVec 32 := 0#32
  ![v11.toNat, 0]
@[reducible] def k3_t3_loop : Scf.Loop 32 :=
  let c0_i32_15 : BitVec 32 := 0#32
  let c32_i32_16 : BitVec 32 := 32#32
  let v19 : BitVec 32 := Scalar.addi c0_i32_15 c32_i32_16
  let c1_i32_17 : BitVec 32 := 1#32
  ⟨c0_i32_15, v19, c1_i32_17⟩
def k3_off80 (k3_t3 : Fin k3_t3_loop.trips) : Fin 2 → Nat :=
  let c0_i32_15 : BitVec 32 := 0#32
  let c1_i32_17 : BitVec 32 := 1#32
  let arg10 : BitVec 32 := Scf.iv c0_i32_15 c1_i32_17 k3_t3
  let v50 : Index := Scalar.indexCast arg10
  let c0 : Index := 0#32
  ![v50.toNat, 0]

def k3_chk14 (v49 : IVec S16 32) (v51 : IVec S16 32) : Prop :=
  (∀ a x, ((![v49, v51] : Fin 2 → IVec S16 32) a x).toNat < S32x1024.size a)
theorem k3_idx14_inb : ∀ (v49 : IVec S16 32) (v51 : IVec S16 32) (k3_hw14 : k3_chk14 v49 v51), ∀ a x, ((![v49, v51] : Fin 2 → IVec S16 32) a x).toNat < S32x1024.size a := fun v49 v51 k3_hw14 => k3_hw14
def k3_off81 (k3_t3 : Fin k3_t3_loop.trips) : Fin 2 → Nat :=
  let c0_i32_15 : BitVec 32 := 0#32
  let c1_i32_17 : BitVec 32 := 1#32
  let arg10 : BitVec 32 := Scf.iv c0_i32_15 c1_i32_17 k3_t3
  let v52 : Index := Scalar.indexCast arg10
  let c16 : Index := 16#32
  ![v52.toNat, 16]

def k3_chk15 (v49 : IVec S16 32) (v53 : IVec S16 32) : Prop :=
  (∀ a x, ((![v49, v53] : Fin 2 → IVec S16 32) a x).toNat < S32x1024.size a)
theorem k3_idx15_inb : ∀ (v49 : IVec S16 32) (v53 : IVec S16 32) (k3_hw15 : k3_chk15 v49 v53), ∀ a x, ((![v49, v53] : Fin 2 → IVec S16 32) a x).toNat < S32x1024.size a := fun v49 v53 k3_hw15 => k3_hw15
def k3_off82 (k3_t3 : Fin k3_t3_loop.trips) : Fin 2 → Nat :=
  let c0_i32_15 : BitVec 32 := 0#32
  let c1_i32_17 : BitVec 32 := 1#32
  let arg10 : BitVec 32 := Scf.iv c0_i32_15 c1_i32_17 k3_t3
  let v54 : Index := Scalar.indexCast arg10
  let c32 : Index := 32#32
  ![v54.toNat, 32]

def k3_chk16 (v49 : IVec S16 32) (v55 : IVec S16 32) : Prop :=
  (∀ a x, ((![v49, v55] : Fin 2 → IVec S16 32) a x).toNat < S32x1024.size a)
theorem k3_idx16_inb : ∀ (v49 : IVec S16 32) (v55 : IVec S16 32) (k3_hw16 : k3_chk16 v49 v55), ∀ a x, ((![v49, v55] : Fin 2 → IVec S16 32) a x).toNat < S32x1024.size a := fun v49 v55 k3_hw16 => k3_hw16
def k3_off83 (k3_t3 : Fin k3_t3_loop.trips) : Fin 2 → Nat :=
  let c0_i32_15 : BitVec 32 := 0#32
  let c1_i32_17 : BitVec 32 := 1#32
  let arg10 : BitVec 32 := Scf.iv c0_i32_15 c1_i32_17 k3_t3
  let v56 : Index := Scalar.indexCast arg10
  let c48 : Index := 48#32
  ![v56.toNat, 48]

def k3_chk17 (v49 : IVec S16 32) (v57 : IVec S16 32) : Prop :=
  (∀ a x, ((![v49, v57] : Fin 2 → IVec S16 32) a x).toNat < S32x1024.size a)
theorem k3_idx17_inb : ∀ (v49 : IVec S16 32) (v57 : IVec S16 32) (k3_hw17 : k3_chk17 v49 v57), ∀ a x, ((![v49, v57] : Fin 2 → IVec S16 32) a x).toNat < S32x1024.size a := fun v49 v57 k3_hw17 => k3_hw17
def k3_off84 (k3_t3 : Fin k3_t3_loop.trips) : Fin 2 → Nat :=
  let c0_i32_15 : BitVec 32 := 0#32
  let c1_i32_17 : BitVec 32 := 1#32
  let arg10 : BitVec 32 := Scf.iv c0_i32_15 c1_i32_17 k3_t3
  let v58 : Index := Scalar.indexCast arg10
  let c64 : Index := 64#32
  ![v58.toNat, 64]

def k3_chk18 (v49 : IVec S16 32) (v59 : IVec S16 32) : Prop :=
  (∀ a x, ((![v49, v59] : Fin 2 → IVec S16 32) a x).toNat < S32x1024.size a)
theorem k3_idx18_inb : ∀ (v49 : IVec S16 32) (v59 : IVec S16 32) (k3_hw18 : k3_chk18 v49 v59), ∀ a x, ((![v49, v59] : Fin 2 → IVec S16 32) a x).toNat < S32x1024.size a := fun v49 v59 k3_hw18 => k3_hw18
def k3_off85 (k3_t3 : Fin k3_t3_loop.trips) : Fin 2 → Nat :=
  let c0_i32_15 : BitVec 32 := 0#32
  let c1_i32_17 : BitVec 32 := 1#32
  let arg10 : BitVec 32 := Scf.iv c0_i32_15 c1_i32_17 k3_t3
  let v60 : Index := Scalar.indexCast arg10
  let c80 : Index := 80#32
  ![v60.toNat, 80]

def k3_chk19 (v49 : IVec S16 32) (v61 : IVec S16 32) : Prop :=
  (∀ a x, ((![v49, v61] : Fin 2 → IVec S16 32) a x).toNat < S32x1024.size a)
theorem k3_idx19_inb : ∀ (v49 : IVec S16 32) (v61 : IVec S16 32) (k3_hw19 : k3_chk19 v49 v61), ∀ a x, ((![v49, v61] : Fin 2 → IVec S16 32) a x).toNat < S32x1024.size a := fun v49 v61 k3_hw19 => k3_hw19
def k3_off86 (k3_t3 : Fin k3_t3_loop.trips) : Fin 2 → Nat :=
  let c0_i32_15 : BitVec 32 := 0#32
  let c1_i32_17 : BitVec 32 := 1#32
  let arg10 : BitVec 32 := Scf.iv c0_i32_15 c1_i32_17 k3_t3
  let v62 : Index := Scalar.indexCast arg10
  let c96 : Index := 96#32
  ![v62.toNat, 96]

def k3_chk20 (v49 : IVec S16 32) (v63 : IVec S16 32) : Prop :=
  (∀ a x, ((![v49, v63] : Fin 2 → IVec S16 32) a x).toNat < S32x1024.size a)
theorem k3_idx20_inb : ∀ (v49 : IVec S16 32) (v63 : IVec S16 32) (k3_hw20 : k3_chk20 v49 v63), ∀ a x, ((![v49, v63] : Fin 2 → IVec S16 32) a x).toNat < S32x1024.size a := fun v49 v63 k3_hw20 => k3_hw20
def k3_off87 (k3_t3 : Fin k3_t3_loop.trips) : Fin 2 → Nat :=
  let c0_i32_15 : BitVec 32 := 0#32
  let c1_i32_17 : BitVec 32 := 1#32
  let arg10 : BitVec 32 := Scf.iv c0_i32_15 c1_i32_17 k3_t3
  let v64 : Index := Scalar.indexCast arg10
  let c112 : Index := 112#32
  ![v64.toNat, 112]

def k3_chk21 (v49 : IVec S16 32) (v65 : IVec S16 32) : Prop :=
  (∀ a x, ((![v49, v65] : Fin 2 → IVec S16 32) a x).toNat < S32x1024.size a)
theorem k3_idx21_inb : ∀ (v49 : IVec S16 32) (v65 : IVec S16 32) (k3_hw21 : k3_chk21 v49 v65), ∀ a x, ((![v49, v65] : Fin 2 → IVec S16 32) a x).toNat < S32x1024.size a := fun v49 v65 k3_hw21 => k3_hw21
def k3_off88 (k3_t3 : Fin k3_t3_loop.trips) : Fin 2 → Nat :=
  let c0_i32_15 : BitVec 32 := 0#32
  let c1_i32_17 : BitVec 32 := 1#32
  let arg10 : BitVec 32 := Scf.iv c0_i32_15 c1_i32_17 k3_t3
  let v66 : Index := Scalar.indexCast arg10
  let c128 : Index := 128#32
  ![v66.toNat, 128]

def k3_chk22 (v49 : IVec S16 32) (v67 : IVec S16 32) : Prop :=
  (∀ a x, ((![v49, v67] : Fin 2 → IVec S16 32) a x).toNat < S32x1024.size a)
theorem k3_idx22_inb : ∀ (v49 : IVec S16 32) (v67 : IVec S16 32) (k3_hw22 : k3_chk22 v49 v67), ∀ a x, ((![v49, v67] : Fin 2 → IVec S16 32) a x).toNat < S32x1024.size a := fun v49 v67 k3_hw22 => k3_hw22
def k3_off89 (k3_t3 : Fin k3_t3_loop.trips) : Fin 2 → Nat :=
  let c0_i32_15 : BitVec 32 := 0#32
  let c1_i32_17 : BitVec 32 := 1#32
  let arg10 : BitVec 32 := Scf.iv c0_i32_15 c1_i32_17 k3_t3
  let v68 : Index := Scalar.indexCast arg10
  let c144 : Index := 144#32
  ![v68.toNat, 144]

def k3_chk23 (v49 : IVec S16 32) (v69 : IVec S16 32) : Prop :=
  (∀ a x, ((![v49, v69] : Fin 2 → IVec S16 32) a x).toNat < S32x1024.size a)
theorem k3_idx23_inb : ∀ (v49 : IVec S16 32) (v69 : IVec S16 32) (k3_hw23 : k3_chk23 v49 v69), ∀ a x, ((![v49, v69] : Fin 2 → IVec S16 32) a x).toNat < S32x1024.size a := fun v49 v69 k3_hw23 => k3_hw23
def k3_off90 (k3_t3 : Fin k3_t3_loop.trips) : Fin 2 → Nat :=
  let c0_i32_15 : BitVec 32 := 0#32
  let c1_i32_17 : BitVec 32 := 1#32
  let arg10 : BitVec 32 := Scf.iv c0_i32_15 c1_i32_17 k3_t3
  let v70 : Index := Scalar.indexCast arg10
  let c160 : Index := 160#32
  ![v70.toNat, 160]

def k3_chk24 (v49 : IVec S16 32) (v71 : IVec S16 32) : Prop :=
  (∀ a x, ((![v49, v71] : Fin 2 → IVec S16 32) a x).toNat < S32x1024.size a)
theorem k3_idx24_inb : ∀ (v49 : IVec S16 32) (v71 : IVec S16 32) (k3_hw24 : k3_chk24 v49 v71), ∀ a x, ((![v49, v71] : Fin 2 → IVec S16 32) a x).toNat < S32x1024.size a := fun v49 v71 k3_hw24 => k3_hw24
def k3_off91 (k3_t3 : Fin k3_t3_loop.trips) : Fin 2 → Nat :=
  let c0_i32_15 : BitVec 32 := 0#32
  let c1_i32_17 : BitVec 32 := 1#32
  let arg10 : BitVec 32 := Scf.iv c0_i32_15 c1_i32_17 k3_t3
  let v72 : Index := Scalar.indexCast arg10
  let c176 : Index := 176#32
  ![v72.toNat, 176]

def k3_chk25 (v49 : IVec S16 32) (v73 : IVec S16 32) : Prop :=
  (∀ a x, ((![v49, v73] : Fin 2 → IVec S16 32) a x).toNat < S32x1024.size a)
theorem k3_idx25_inb : ∀ (v49 : IVec S16 32) (v73 : IVec S16 32) (k3_hw25 : k3_chk25 v49 v73), ∀ a x, ((![v49, v73] : Fin 2 → IVec S16 32) a x).toNat < S32x1024.size a := fun v49 v73 k3_hw25 => k3_hw25
def k3_off92 (k3_t3 : Fin k3_t3_loop.trips) : Fin 2 → Nat :=
  let c0_i32_15 : BitVec 32 := 0#32
  let c1_i32_17 : BitVec 32 := 1#32
  let arg10 : BitVec 32 := Scf.iv c0_i32_15 c1_i32_17 k3_t3
  let v74 : Index := Scalar.indexCast arg10
  let c184 : Index := 184#32
  ![v74.toNat, 184]

def k3_chk26 (v49 : IVec S16 32) (v75 : IVec S16 32) : Prop :=
  (∀ a x, ((![v49, v75] : Fin 2 → IVec S16 32) a x).toNat < S32x1024.size a)
theorem k3_idx26_inb : ∀ (v49 : IVec S16 32) (v75 : IVec S16 32) (k3_hw26 : k3_chk26 v49 v75), ∀ a x, ((![v49, v75] : Fin 2 → IVec S16 32) a x).toNat < S32x1024.size a := fun v49 v75 k3_hw26 => k3_hw26
@[reducible] def k3_t4_loop : Scf.Loop 32 :=
  let c0_i32_25 : BitVec 32 := 0#32
  let c32_i32_26 : BitVec 32 := 32#32
  let v27 : BitVec 32 := Scalar.addi c0_i32_25 c32_i32_26
  let c1_i32_27 : BitVec 32 := 1#32
  ⟨c0_i32_25, v27, c1_i32_27⟩
def k3_off93 (k3_t4 : Fin k3_t4_loop.trips) : Fin 2 → Nat :=
  let c0_i32_25 : BitVec 32 := 0#32
  let c1_i32_27 : BitVec 32 := 1#32
  let arg10 : BitVec 32 := Scf.iv c0_i32_25 c1_i32_27 k3_t4
  let v50 : Index := Scalar.indexCast arg10
  let c0 : Index := 0#32
  ![v50.toNat, 0]

def k3_chk27 (v49 : IVec S16 32) (v51 : IVec S16 32) : Prop :=
  (∀ a x, ((![v49, v51] : Fin 2 → IVec S16 32) a x).toNat < S32x1024.size a)
theorem k3_idx27_inb : ∀ (v49 : IVec S16 32) (v51 : IVec S16 32) (k3_hw27 : k3_chk27 v49 v51), ∀ a x, ((![v49, v51] : Fin 2 → IVec S16 32) a x).toNat < S32x1024.size a := fun v49 v51 k3_hw27 => k3_hw27
def k3_off94 (k3_t4 : Fin k3_t4_loop.trips) : Fin 2 → Nat :=
  let c0_i32_25 : BitVec 32 := 0#32
  let c1_i32_27 : BitVec 32 := 1#32
  let arg10 : BitVec 32 := Scf.iv c0_i32_25 c1_i32_27 k3_t4
  let v52 : Index := Scalar.indexCast arg10
  let c16 : Index := 16#32
  ![v52.toNat, 16]

def k3_chk28 (v49 : IVec S16 32) (v53 : IVec S16 32) : Prop :=
  (∀ a x, ((![v49, v53] : Fin 2 → IVec S16 32) a x).toNat < S32x1024.size a)
theorem k3_idx28_inb : ∀ (v49 : IVec S16 32) (v53 : IVec S16 32) (k3_hw28 : k3_chk28 v49 v53), ∀ a x, ((![v49, v53] : Fin 2 → IVec S16 32) a x).toNat < S32x1024.size a := fun v49 v53 k3_hw28 => k3_hw28
def k3_off95 (k3_t4 : Fin k3_t4_loop.trips) : Fin 2 → Nat :=
  let c0_i32_25 : BitVec 32 := 0#32
  let c1_i32_27 : BitVec 32 := 1#32
  let arg10 : BitVec 32 := Scf.iv c0_i32_25 c1_i32_27 k3_t4
  let v54 : Index := Scalar.indexCast arg10
  let c32 : Index := 32#32
  ![v54.toNat, 32]

def k3_chk29 (v49 : IVec S16 32) (v55 : IVec S16 32) : Prop :=
  (∀ a x, ((![v49, v55] : Fin 2 → IVec S16 32) a x).toNat < S32x1024.size a)
theorem k3_idx29_inb : ∀ (v49 : IVec S16 32) (v55 : IVec S16 32) (k3_hw29 : k3_chk29 v49 v55), ∀ a x, ((![v49, v55] : Fin 2 → IVec S16 32) a x).toNat < S32x1024.size a := fun v49 v55 k3_hw29 => k3_hw29
def k3_off96 (k3_t4 : Fin k3_t4_loop.trips) : Fin 2 → Nat :=
  let c0_i32_25 : BitVec 32 := 0#32
  let c1_i32_27 : BitVec 32 := 1#32
  let arg10 : BitVec 32 := Scf.iv c0_i32_25 c1_i32_27 k3_t4
  let v56 : Index := Scalar.indexCast arg10
  let c48 : Index := 48#32
  ![v56.toNat, 48]

def k3_chk30 (v49 : IVec S16 32) (v57 : IVec S16 32) : Prop :=
  (∀ a x, ((![v49, v57] : Fin 2 → IVec S16 32) a x).toNat < S32x1024.size a)
theorem k3_idx30_inb : ∀ (v49 : IVec S16 32) (v57 : IVec S16 32) (k3_hw30 : k3_chk30 v49 v57), ∀ a x, ((![v49, v57] : Fin 2 → IVec S16 32) a x).toNat < S32x1024.size a := fun v49 v57 k3_hw30 => k3_hw30
def k3_off97 (k3_t4 : Fin k3_t4_loop.trips) : Fin 2 → Nat :=
  let c0_i32_25 : BitVec 32 := 0#32
  let c1_i32_27 : BitVec 32 := 1#32
  let arg10 : BitVec 32 := Scf.iv c0_i32_25 c1_i32_27 k3_t4
  let v58 : Index := Scalar.indexCast arg10
  let c64 : Index := 64#32
  ![v58.toNat, 64]

def k3_chk31 (v49 : IVec S16 32) (v59 : IVec S16 32) : Prop :=
  (∀ a x, ((![v49, v59] : Fin 2 → IVec S16 32) a x).toNat < S32x1024.size a)
theorem k3_idx31_inb : ∀ (v49 : IVec S16 32) (v59 : IVec S16 32) (k3_hw31 : k3_chk31 v49 v59), ∀ a x, ((![v49, v59] : Fin 2 → IVec S16 32) a x).toNat < S32x1024.size a := fun v49 v59 k3_hw31 => k3_hw31
def k3_off98 (k3_t4 : Fin k3_t4_loop.trips) : Fin 2 → Nat :=
  let c0_i32_25 : BitVec 32 := 0#32
  let c1_i32_27 : BitVec 32 := 1#32
  let arg10 : BitVec 32 := Scf.iv c0_i32_25 c1_i32_27 k3_t4
  let v60 : Index := Scalar.indexCast arg10
  let c80 : Index := 80#32
  ![v60.toNat, 80]

def k3_chk32 (v49 : IVec S16 32) (v61 : IVec S16 32) : Prop :=
  (∀ a x, ((![v49, v61] : Fin 2 → IVec S16 32) a x).toNat < S32x1024.size a)
theorem k3_idx32_inb : ∀ (v49 : IVec S16 32) (v61 : IVec S16 32) (k3_hw32 : k3_chk32 v49 v61), ∀ a x, ((![v49, v61] : Fin 2 → IVec S16 32) a x).toNat < S32x1024.size a := fun v49 v61 k3_hw32 => k3_hw32
def k3_off99 (k3_t4 : Fin k3_t4_loop.trips) : Fin 2 → Nat :=
  let c0_i32_25 : BitVec 32 := 0#32
  let c1_i32_27 : BitVec 32 := 1#32
  let arg10 : BitVec 32 := Scf.iv c0_i32_25 c1_i32_27 k3_t4
  let v62 : Index := Scalar.indexCast arg10
  let c96 : Index := 96#32
  ![v62.toNat, 96]

def k3_chk33 (v49 : IVec S16 32) (v63 : IVec S16 32) : Prop :=
  (∀ a x, ((![v49, v63] : Fin 2 → IVec S16 32) a x).toNat < S32x1024.size a)
theorem k3_idx33_inb : ∀ (v49 : IVec S16 32) (v63 : IVec S16 32) (k3_hw33 : k3_chk33 v49 v63), ∀ a x, ((![v49, v63] : Fin 2 → IVec S16 32) a x).toNat < S32x1024.size a := fun v49 v63 k3_hw33 => k3_hw33
def k3_off100 (k3_t4 : Fin k3_t4_loop.trips) : Fin 2 → Nat :=
  let c0_i32_25 : BitVec 32 := 0#32
  let c1_i32_27 : BitVec 32 := 1#32
  let arg10 : BitVec 32 := Scf.iv c0_i32_25 c1_i32_27 k3_t4
  let v64 : Index := Scalar.indexCast arg10
  let c112 : Index := 112#32
  ![v64.toNat, 112]

def k3_chk34 (v49 : IVec S16 32) (v65 : IVec S16 32) : Prop :=
  (∀ a x, ((![v49, v65] : Fin 2 → IVec S16 32) a x).toNat < S32x1024.size a)
theorem k3_idx34_inb : ∀ (v49 : IVec S16 32) (v65 : IVec S16 32) (k3_hw34 : k3_chk34 v49 v65), ∀ a x, ((![v49, v65] : Fin 2 → IVec S16 32) a x).toNat < S32x1024.size a := fun v49 v65 k3_hw34 => k3_hw34
def k3_off101 (k3_t4 : Fin k3_t4_loop.trips) : Fin 2 → Nat :=
  let c0_i32_25 : BitVec 32 := 0#32
  let c1_i32_27 : BitVec 32 := 1#32
  let arg10 : BitVec 32 := Scf.iv c0_i32_25 c1_i32_27 k3_t4
  let v66 : Index := Scalar.indexCast arg10
  let c128 : Index := 128#32
  ![v66.toNat, 128]

def k3_chk35 (v49 : IVec S16 32) (v67 : IVec S16 32) : Prop :=
  (∀ a x, ((![v49, v67] : Fin 2 → IVec S16 32) a x).toNat < S32x1024.size a)
theorem k3_idx35_inb : ∀ (v49 : IVec S16 32) (v67 : IVec S16 32) (k3_hw35 : k3_chk35 v49 v67), ∀ a x, ((![v49, v67] : Fin 2 → IVec S16 32) a x).toNat < S32x1024.size a := fun v49 v67 k3_hw35 => k3_hw35
def k3_off102 (k3_t4 : Fin k3_t4_loop.trips) : Fin 2 → Nat :=
  let c0_i32_25 : BitVec 32 := 0#32
  let c1_i32_27 : BitVec 32 := 1#32
  let arg10 : BitVec 32 := Scf.iv c0_i32_25 c1_i32_27 k3_t4
  let v68 : Index := Scalar.indexCast arg10
  let c144 : Index := 144#32
  ![v68.toNat, 144]

def k3_chk36 (v49 : IVec S16 32) (v69 : IVec S16 32) : Prop :=
  (∀ a x, ((![v49, v69] : Fin 2 → IVec S16 32) a x).toNat < S32x1024.size a)
theorem k3_idx36_inb : ∀ (v49 : IVec S16 32) (v69 : IVec S16 32) (k3_hw36 : k3_chk36 v49 v69), ∀ a x, ((![v49, v69] : Fin 2 → IVec S16 32) a x).toNat < S32x1024.size a := fun v49 v69 k3_hw36 => k3_hw36
def k3_off103 (k3_t4 : Fin k3_t4_loop.trips) : Fin 2 → Nat :=
  let c0_i32_25 : BitVec 32 := 0#32
  let c1_i32_27 : BitVec 32 := 1#32
  let arg10 : BitVec 32 := Scf.iv c0_i32_25 c1_i32_27 k3_t4
  let v70 : Index := Scalar.indexCast arg10
  let c160 : Index := 160#32
  ![v70.toNat, 160]

def k3_chk37 (v49 : IVec S16 32) (v71 : IVec S16 32) : Prop :=
  (∀ a x, ((![v49, v71] : Fin 2 → IVec S16 32) a x).toNat < S32x1024.size a)
theorem k3_idx37_inb : ∀ (v49 : IVec S16 32) (v71 : IVec S16 32) (k3_hw37 : k3_chk37 v49 v71), ∀ a x, ((![v49, v71] : Fin 2 → IVec S16 32) a x).toNat < S32x1024.size a := fun v49 v71 k3_hw37 => k3_hw37
def k3_off104 (k3_t4 : Fin k3_t4_loop.trips) : Fin 2 → Nat :=
  let c0_i32_25 : BitVec 32 := 0#32
  let c1_i32_27 : BitVec 32 := 1#32
  let arg10 : BitVec 32 := Scf.iv c0_i32_25 c1_i32_27 k3_t4
  let v72 : Index := Scalar.indexCast arg10
  let c176 : Index := 176#32
  ![v72.toNat, 176]

def k3_chk38 (v49 : IVec S16 32) (v73 : IVec S16 32) : Prop :=
  (∀ a x, ((![v49, v73] : Fin 2 → IVec S16 32) a x).toNat < S32x1024.size a)
theorem k3_idx38_inb : ∀ (v49 : IVec S16 32) (v73 : IVec S16 32) (k3_hw38 : k3_chk38 v49 v73), ∀ a x, ((![v49, v73] : Fin 2 → IVec S16 32) a x).toNat < S32x1024.size a := fun v49 v73 k3_hw38 => k3_hw38
def k3_off105 (k3_t4 : Fin k3_t4_loop.trips) : Fin 2 → Nat :=
  let c0_i32_25 : BitVec 32 := 0#32
  let c1_i32_27 : BitVec 32 := 1#32
  let arg10 : BitVec 32 := Scf.iv c0_i32_25 c1_i32_27 k3_t4
  let v74 : Index := Scalar.indexCast arg10
  let c184 : Index := 184#32
  ![v74.toNat, 184]

def k3_chk39 (v49 : IVec S16 32) (v75 : IVec S16 32) : Prop :=
  (∀ a x, ((![v49, v75] : Fin 2 → IVec S16 32) a x).toNat < S32x1024.size a)
theorem k3_idx39_inb : ∀ (v49 : IVec S16 32) (v75 : IVec S16 32) (k3_hw39 : k3_chk39 v49 v75), ∀ a x, ((![v49, v75] : Fin 2 → IVec S16 32) a x).toNat < S32x1024.size a := fun v49 v75 k3_hw39 => k3_hw39
@[reducible] def k3_t5_loop : Scf.Loop 32 :=
  let c0_i32_30 : BitVec 32 := 0#32
  let c32_i32_31 : BitVec 32 := 32#32
  let v29 : BitVec 32 := Scalar.addi c0_i32_30 c32_i32_31
  let c1_i32_32 : BitVec 32 := 1#32
  ⟨c0_i32_30, v29, c1_i32_32⟩
def k3_off106 (k3_t5 : Fin k3_t5_loop.trips) : Fin 2 → Nat :=
  let c0_i32_30 : BitVec 32 := 0#32
  let c1_i32_32 : BitVec 32 := 1#32
  let arg10 : BitVec 32 := Scf.iv c0_i32_30 c1_i32_32 k3_t5
  let v50 : Index := Scalar.indexCast arg10
  let c0 : Index := 0#32
  ![v50.toNat, 0]

def k3_chk40 (v49 : IVec S16 32) (v51 : IVec S16 32) : Prop :=
  (∀ a x, ((![v49, v51] : Fin 2 → IVec S16 32) a x).toNat < S32x1024.size a)
theorem k3_idx40_inb : ∀ (v49 : IVec S16 32) (v51 : IVec S16 32) (k3_hw40 : k3_chk40 v49 v51), ∀ a x, ((![v49, v51] : Fin 2 → IVec S16 32) a x).toNat < S32x1024.size a := fun v49 v51 k3_hw40 => k3_hw40
def k3_off107 (k3_t5 : Fin k3_t5_loop.trips) : Fin 2 → Nat :=
  let c0_i32_30 : BitVec 32 := 0#32
  let c1_i32_32 : BitVec 32 := 1#32
  let arg10 : BitVec 32 := Scf.iv c0_i32_30 c1_i32_32 k3_t5
  let v52 : Index := Scalar.indexCast arg10
  let c16 : Index := 16#32
  ![v52.toNat, 16]

def k3_chk41 (v49 : IVec S16 32) (v53 : IVec S16 32) : Prop :=
  (∀ a x, ((![v49, v53] : Fin 2 → IVec S16 32) a x).toNat < S32x1024.size a)
theorem k3_idx41_inb : ∀ (v49 : IVec S16 32) (v53 : IVec S16 32) (k3_hw41 : k3_chk41 v49 v53), ∀ a x, ((![v49, v53] : Fin 2 → IVec S16 32) a x).toNat < S32x1024.size a := fun v49 v53 k3_hw41 => k3_hw41
def k3_off108 (k3_t5 : Fin k3_t5_loop.trips) : Fin 2 → Nat :=
  let c0_i32_30 : BitVec 32 := 0#32
  let c1_i32_32 : BitVec 32 := 1#32
  let arg10 : BitVec 32 := Scf.iv c0_i32_30 c1_i32_32 k3_t5
  let v54 : Index := Scalar.indexCast arg10
  let c32 : Index := 32#32
  ![v54.toNat, 32]

def k3_chk42 (v49 : IVec S16 32) (v55 : IVec S16 32) : Prop :=
  (∀ a x, ((![v49, v55] : Fin 2 → IVec S16 32) a x).toNat < S32x1024.size a)
theorem k3_idx42_inb : ∀ (v49 : IVec S16 32) (v55 : IVec S16 32) (k3_hw42 : k3_chk42 v49 v55), ∀ a x, ((![v49, v55] : Fin 2 → IVec S16 32) a x).toNat < S32x1024.size a := fun v49 v55 k3_hw42 => k3_hw42
def k3_off109 (k3_t5 : Fin k3_t5_loop.trips) : Fin 2 → Nat :=
  let c0_i32_30 : BitVec 32 := 0#32
  let c1_i32_32 : BitVec 32 := 1#32
  let arg10 : BitVec 32 := Scf.iv c0_i32_30 c1_i32_32 k3_t5
  let v56 : Index := Scalar.indexCast arg10
  let c48 : Index := 48#32
  ![v56.toNat, 48]

def k3_chk43 (v49 : IVec S16 32) (v57 : IVec S16 32) : Prop :=
  (∀ a x, ((![v49, v57] : Fin 2 → IVec S16 32) a x).toNat < S32x1024.size a)
theorem k3_idx43_inb : ∀ (v49 : IVec S16 32) (v57 : IVec S16 32) (k3_hw43 : k3_chk43 v49 v57), ∀ a x, ((![v49, v57] : Fin 2 → IVec S16 32) a x).toNat < S32x1024.size a := fun v49 v57 k3_hw43 => k3_hw43
def k3_off110 (k3_t5 : Fin k3_t5_loop.trips) : Fin 2 → Nat :=
  let c0_i32_30 : BitVec 32 := 0#32
  let c1_i32_32 : BitVec 32 := 1#32
  let arg10 : BitVec 32 := Scf.iv c0_i32_30 c1_i32_32 k3_t5
  let v58 : Index := Scalar.indexCast arg10
  let c64 : Index := 64#32
  ![v58.toNat, 64]

def k3_chk44 (v49 : IVec S16 32) (v59 : IVec S16 32) : Prop :=
  (∀ a x, ((![v49, v59] : Fin 2 → IVec S16 32) a x).toNat < S32x1024.size a)
theorem k3_idx44_inb : ∀ (v49 : IVec S16 32) (v59 : IVec S16 32) (k3_hw44 : k3_chk44 v49 v59), ∀ a x, ((![v49, v59] : Fin 2 → IVec S16 32) a x).toNat < S32x1024.size a := fun v49 v59 k3_hw44 => k3_hw44
def k3_off111 (k3_t5 : Fin k3_t5_loop.trips) : Fin 2 → Nat :=
  let c0_i32_30 : BitVec 32 := 0#32
  let c1_i32_32 : BitVec 32 := 1#32
  let arg10 : BitVec 32 := Scf.iv c0_i32_30 c1_i32_32 k3_t5
  let v60 : Index := Scalar.indexCast arg10
  let c80 : Index := 80#32
  ![v60.toNat, 80]

def k3_chk45 (v49 : IVec S16 32) (v61 : IVec S16 32) : Prop :=
  (∀ a x, ((![v49, v61] : Fin 2 → IVec S16 32) a x).toNat < S32x1024.size a)
theorem k3_idx45_inb : ∀ (v49 : IVec S16 32) (v61 : IVec S16 32) (k3_hw45 : k3_chk45 v49 v61), ∀ a x, ((![v49, v61] : Fin 2 → IVec S16 32) a x).toNat < S32x1024.size a := fun v49 v61 k3_hw45 => k3_hw45
def k3_off112 (k3_t5 : Fin k3_t5_loop.trips) : Fin 2 → Nat :=
  let c0_i32_30 : BitVec 32 := 0#32
  let c1_i32_32 : BitVec 32 := 1#32
  let arg10 : BitVec 32 := Scf.iv c0_i32_30 c1_i32_32 k3_t5
  let v62 : Index := Scalar.indexCast arg10
  let c96 : Index := 96#32
  ![v62.toNat, 96]

def k3_chk46 (v49 : IVec S16 32) (v63 : IVec S16 32) : Prop :=
  (∀ a x, ((![v49, v63] : Fin 2 → IVec S16 32) a x).toNat < S32x1024.size a)
theorem k3_idx46_inb : ∀ (v49 : IVec S16 32) (v63 : IVec S16 32) (k3_hw46 : k3_chk46 v49 v63), ∀ a x, ((![v49, v63] : Fin 2 → IVec S16 32) a x).toNat < S32x1024.size a := fun v49 v63 k3_hw46 => k3_hw46
def k3_off113 (k3_t5 : Fin k3_t5_loop.trips) : Fin 2 → Nat :=
  let c0_i32_30 : BitVec 32 := 0#32
  let c1_i32_32 : BitVec 32 := 1#32
  let arg10 : BitVec 32 := Scf.iv c0_i32_30 c1_i32_32 k3_t5
  let v64 : Index := Scalar.indexCast arg10
  let c112 : Index := 112#32
  ![v64.toNat, 112]

def k3_chk47 (v49 : IVec S16 32) (v65 : IVec S16 32) : Prop :=
  (∀ a x, ((![v49, v65] : Fin 2 → IVec S16 32) a x).toNat < S32x1024.size a)
theorem k3_idx47_inb : ∀ (v49 : IVec S16 32) (v65 : IVec S16 32) (k3_hw47 : k3_chk47 v49 v65), ∀ a x, ((![v49, v65] : Fin 2 → IVec S16 32) a x).toNat < S32x1024.size a := fun v49 v65 k3_hw47 => k3_hw47
def k3_off114 (k3_t5 : Fin k3_t5_loop.trips) : Fin 2 → Nat :=
  let c0_i32_30 : BitVec 32 := 0#32
  let c1_i32_32 : BitVec 32 := 1#32
  let arg10 : BitVec 32 := Scf.iv c0_i32_30 c1_i32_32 k3_t5
  let v66 : Index := Scalar.indexCast arg10
  let c128 : Index := 128#32
  ![v66.toNat, 128]

def k3_chk48 (v49 : IVec S16 32) (v67 : IVec S16 32) : Prop :=
  (∀ a x, ((![v49, v67] : Fin 2 → IVec S16 32) a x).toNat < S32x1024.size a)
theorem k3_idx48_inb : ∀ (v49 : IVec S16 32) (v67 : IVec S16 32) (k3_hw48 : k3_chk48 v49 v67), ∀ a x, ((![v49, v67] : Fin 2 → IVec S16 32) a x).toNat < S32x1024.size a := fun v49 v67 k3_hw48 => k3_hw48
def k3_off115 (k3_t5 : Fin k3_t5_loop.trips) : Fin 2 → Nat :=
  let c0_i32_30 : BitVec 32 := 0#32
  let c1_i32_32 : BitVec 32 := 1#32
  let arg10 : BitVec 32 := Scf.iv c0_i32_30 c1_i32_32 k3_t5
  let v68 : Index := Scalar.indexCast arg10
  let c144 : Index := 144#32
  ![v68.toNat, 144]

def k3_chk49 (v49 : IVec S16 32) (v69 : IVec S16 32) : Prop :=
  (∀ a x, ((![v49, v69] : Fin 2 → IVec S16 32) a x).toNat < S32x1024.size a)
theorem k3_idx49_inb : ∀ (v49 : IVec S16 32) (v69 : IVec S16 32) (k3_hw49 : k3_chk49 v49 v69), ∀ a x, ((![v49, v69] : Fin 2 → IVec S16 32) a x).toNat < S32x1024.size a := fun v49 v69 k3_hw49 => k3_hw49
def k3_off116 (k3_t5 : Fin k3_t5_loop.trips) : Fin 2 → Nat :=
  let c0_i32_30 : BitVec 32 := 0#32
  let c1_i32_32 : BitVec 32 := 1#32
  let arg10 : BitVec 32 := Scf.iv c0_i32_30 c1_i32_32 k3_t5
  let v70 : Index := Scalar.indexCast arg10
  let c160 : Index := 160#32
  ![v70.toNat, 160]

def k3_chk50 (v49 : IVec S16 32) (v71 : IVec S16 32) : Prop :=
  (∀ a x, ((![v49, v71] : Fin 2 → IVec S16 32) a x).toNat < S32x1024.size a)
theorem k3_idx50_inb : ∀ (v49 : IVec S16 32) (v71 : IVec S16 32) (k3_hw50 : k3_chk50 v49 v71), ∀ a x, ((![v49, v71] : Fin 2 → IVec S16 32) a x).toNat < S32x1024.size a := fun v49 v71 k3_hw50 => k3_hw50
def k3_off117 (k3_t5 : Fin k3_t5_loop.trips) : Fin 2 → Nat :=
  let c0_i32_30 : BitVec 32 := 0#32
  let c1_i32_32 : BitVec 32 := 1#32
  let arg10 : BitVec 32 := Scf.iv c0_i32_30 c1_i32_32 k3_t5
  let v72 : Index := Scalar.indexCast arg10
  let c176 : Index := 176#32
  ![v72.toNat, 176]

def k3_chk51 (v49 : IVec S16 32) (v73 : IVec S16 32) : Prop :=
  (∀ a x, ((![v49, v73] : Fin 2 → IVec S16 32) a x).toNat < S32x1024.size a)
theorem k3_idx51_inb : ∀ (v49 : IVec S16 32) (v73 : IVec S16 32) (k3_hw51 : k3_chk51 v49 v73), ∀ a x, ((![v49, v73] : Fin 2 → IVec S16 32) a x).toNat < S32x1024.size a := fun v49 v73 k3_hw51 => k3_hw51
def k3_off118 (k3_t5 : Fin k3_t5_loop.trips) : Fin 2 → Nat :=
  let c0_i32_30 : BitVec 32 := 0#32
  let c1_i32_32 : BitVec 32 := 1#32
  let arg10 : BitVec 32 := Scf.iv c0_i32_30 c1_i32_32 k3_t5
  let v74 : Index := Scalar.indexCast arg10
  let c184 : Index := 184#32
  ![v74.toNat, 184]

def k3_chk52 (v49 : IVec S16 32) (v75 : IVec S16 32) : Prop :=
  (∀ a x, ((![v49, v75] : Fin 2 → IVec S16 32) a x).toNat < S32x1024.size a)
theorem k3_idx52_inb : ∀ (v49 : IVec S16 32) (v75 : IVec S16 32) (k3_hw52 : k3_chk52 v49 v75), ∀ a x, ((![v49, v75] : Fin 2 → IVec S16 32) a x).toNat < S32x1024.size a := fun v49 v75 k3_hw52 => k3_hw52
@[reducible] def k3_t6_loop : Scf.Loop 32 :=
  let c0_i32_40 : BitVec 32 := 0#32
  let c32_i32_41 : BitVec 32 := 32#32
  let v37 : BitVec 32 := Scalar.addi c0_i32_40 c32_i32_41
  let c1_i32_42 : BitVec 32 := 1#32
  ⟨c0_i32_40, v37, c1_i32_42⟩
def k3_off119 (k3_t6 : Fin k3_t6_loop.trips) : Fin 2 → Nat :=
  let c0_i32_40 : BitVec 32 := 0#32
  let c1_i32_42 : BitVec 32 := 1#32
  let arg10 : BitVec 32 := Scf.iv c0_i32_40 c1_i32_42 k3_t6
  let v50 : Index := Scalar.indexCast arg10
  let c0 : Index := 0#32
  ![v50.toNat, 0]

def k3_chk53 (v49 : IVec S16 32) (v51 : IVec S16 32) : Prop :=
  (∀ a x, ((![v49, v51] : Fin 2 → IVec S16 32) a x).toNat < S32x1024.size a)
theorem k3_idx53_inb : ∀ (v49 : IVec S16 32) (v51 : IVec S16 32) (k3_hw53 : k3_chk53 v49 v51), ∀ a x, ((![v49, v51] : Fin 2 → IVec S16 32) a x).toNat < S32x1024.size a := fun v49 v51 k3_hw53 => k3_hw53
def k3_off120 (k3_t6 : Fin k3_t6_loop.trips) : Fin 2 → Nat :=
  let c0_i32_40 : BitVec 32 := 0#32
  let c1_i32_42 : BitVec 32 := 1#32
  let arg10 : BitVec 32 := Scf.iv c0_i32_40 c1_i32_42 k3_t6
  let v52 : Index := Scalar.indexCast arg10
  let c16 : Index := 16#32
  ![v52.toNat, 16]

def k3_chk54 (v49 : IVec S16 32) (v53 : IVec S16 32) : Prop :=
  (∀ a x, ((![v49, v53] : Fin 2 → IVec S16 32) a x).toNat < S32x1024.size a)
theorem k3_idx54_inb : ∀ (v49 : IVec S16 32) (v53 : IVec S16 32) (k3_hw54 : k3_chk54 v49 v53), ∀ a x, ((![v49, v53] : Fin 2 → IVec S16 32) a x).toNat < S32x1024.size a := fun v49 v53 k3_hw54 => k3_hw54
def k3_off121 (k3_t6 : Fin k3_t6_loop.trips) : Fin 2 → Nat :=
  let c0_i32_40 : BitVec 32 := 0#32
  let c1_i32_42 : BitVec 32 := 1#32
  let arg10 : BitVec 32 := Scf.iv c0_i32_40 c1_i32_42 k3_t6
  let v54 : Index := Scalar.indexCast arg10
  let c32 : Index := 32#32
  ![v54.toNat, 32]

def k3_chk55 (v49 : IVec S16 32) (v55 : IVec S16 32) : Prop :=
  (∀ a x, ((![v49, v55] : Fin 2 → IVec S16 32) a x).toNat < S32x1024.size a)
theorem k3_idx55_inb : ∀ (v49 : IVec S16 32) (v55 : IVec S16 32) (k3_hw55 : k3_chk55 v49 v55), ∀ a x, ((![v49, v55] : Fin 2 → IVec S16 32) a x).toNat < S32x1024.size a := fun v49 v55 k3_hw55 => k3_hw55
def k3_off122 (k3_t6 : Fin k3_t6_loop.trips) : Fin 2 → Nat :=
  let c0_i32_40 : BitVec 32 := 0#32
  let c1_i32_42 : BitVec 32 := 1#32
  let arg10 : BitVec 32 := Scf.iv c0_i32_40 c1_i32_42 k3_t6
  let v56 : Index := Scalar.indexCast arg10
  let c48 : Index := 48#32
  ![v56.toNat, 48]

def k3_chk56 (v49 : IVec S16 32) (v57 : IVec S16 32) : Prop :=
  (∀ a x, ((![v49, v57] : Fin 2 → IVec S16 32) a x).toNat < S32x1024.size a)
theorem k3_idx56_inb : ∀ (v49 : IVec S16 32) (v57 : IVec S16 32) (k3_hw56 : k3_chk56 v49 v57), ∀ a x, ((![v49, v57] : Fin 2 → IVec S16 32) a x).toNat < S32x1024.size a := fun v49 v57 k3_hw56 => k3_hw56
def k3_off123 (k3_t6 : Fin k3_t6_loop.trips) : Fin 2 → Nat :=
  let c0_i32_40 : BitVec 32 := 0#32
  let c1_i32_42 : BitVec 32 := 1#32
  let arg10 : BitVec 32 := Scf.iv c0_i32_40 c1_i32_42 k3_t6
  let v58 : Index := Scalar.indexCast arg10
  let c64 : Index := 64#32
  ![v58.toNat, 64]

def k3_chk57 (v49 : IVec S16 32) (v59 : IVec S16 32) : Prop :=
  (∀ a x, ((![v49, v59] : Fin 2 → IVec S16 32) a x).toNat < S32x1024.size a)
theorem k3_idx57_inb : ∀ (v49 : IVec S16 32) (v59 : IVec S16 32) (k3_hw57 : k3_chk57 v49 v59), ∀ a x, ((![v49, v59] : Fin 2 → IVec S16 32) a x).toNat < S32x1024.size a := fun v49 v59 k3_hw57 => k3_hw57
def k3_off124 (k3_t6 : Fin k3_t6_loop.trips) : Fin 2 → Nat :=
  let c0_i32_40 : BitVec 32 := 0#32
  let c1_i32_42 : BitVec 32 := 1#32
  let arg10 : BitVec 32 := Scf.iv c0_i32_40 c1_i32_42 k3_t6
  let v60 : Index := Scalar.indexCast arg10
  let c80 : Index := 80#32
  ![v60.toNat, 80]

def k3_chk58 (v49 : IVec S16 32) (v61 : IVec S16 32) : Prop :=
  (∀ a x, ((![v49, v61] : Fin 2 → IVec S16 32) a x).toNat < S32x1024.size a)
theorem k3_idx58_inb : ∀ (v49 : IVec S16 32) (v61 : IVec S16 32) (k3_hw58 : k3_chk58 v49 v61), ∀ a x, ((![v49, v61] : Fin 2 → IVec S16 32) a x).toNat < S32x1024.size a := fun v49 v61 k3_hw58 => k3_hw58
def k3_off125 (k3_t6 : Fin k3_t6_loop.trips) : Fin 2 → Nat :=
  let c0_i32_40 : BitVec 32 := 0#32
  let c1_i32_42 : BitVec 32 := 1#32
  let arg10 : BitVec 32 := Scf.iv c0_i32_40 c1_i32_42 k3_t6
  let v62 : Index := Scalar.indexCast arg10
  let c96 : Index := 96#32
  ![v62.toNat, 96]

def k3_chk59 (v49 : IVec S16 32) (v63 : IVec S16 32) : Prop :=
  (∀ a x, ((![v49, v63] : Fin 2 → IVec S16 32) a x).toNat < S32x1024.size a)
theorem k3_idx59_inb : ∀ (v49 : IVec S16 32) (v63 : IVec S16 32) (k3_hw59 : k3_chk59 v49 v63), ∀ a x, ((![v49, v63] : Fin 2 → IVec S16 32) a x).toNat < S32x1024.size a := fun v49 v63 k3_hw59 => k3_hw59
def k3_off126 (k3_t6 : Fin k3_t6_loop.trips) : Fin 2 → Nat :=
  let c0_i32_40 : BitVec 32 := 0#32
  let c1_i32_42 : BitVec 32 := 1#32
  let arg10 : BitVec 32 := Scf.iv c0_i32_40 c1_i32_42 k3_t6
  let v64 : Index := Scalar.indexCast arg10
  let c112 : Index := 112#32
  ![v64.toNat, 112]

def k3_chk60 (v49 : IVec S16 32) (v65 : IVec S16 32) : Prop :=
  (∀ a x, ((![v49, v65] : Fin 2 → IVec S16 32) a x).toNat < S32x1024.size a)
theorem k3_idx60_inb : ∀ (v49 : IVec S16 32) (v65 : IVec S16 32) (k3_hw60 : k3_chk60 v49 v65), ∀ a x, ((![v49, v65] : Fin 2 → IVec S16 32) a x).toNat < S32x1024.size a := fun v49 v65 k3_hw60 => k3_hw60
def k3_off127 (k3_t6 : Fin k3_t6_loop.trips) : Fin 2 → Nat :=
  let c0_i32_40 : BitVec 32 := 0#32
  let c1_i32_42 : BitVec 32 := 1#32
  let arg10 : BitVec 32 := Scf.iv c0_i32_40 c1_i32_42 k3_t6
  let v66 : Index := Scalar.indexCast arg10
  let c128 : Index := 128#32
  ![v66.toNat, 128]

def k3_chk61 (v49 : IVec S16 32) (v67 : IVec S16 32) : Prop :=
  (∀ a x, ((![v49, v67] : Fin 2 → IVec S16 32) a x).toNat < S32x1024.size a)
theorem k3_idx61_inb : ∀ (v49 : IVec S16 32) (v67 : IVec S16 32) (k3_hw61 : k3_chk61 v49 v67), ∀ a x, ((![v49, v67] : Fin 2 → IVec S16 32) a x).toNat < S32x1024.size a := fun v49 v67 k3_hw61 => k3_hw61
def k3_off128 (k3_t6 : Fin k3_t6_loop.trips) : Fin 2 → Nat :=
  let c0_i32_40 : BitVec 32 := 0#32
  let c1_i32_42 : BitVec 32 := 1#32
  let arg10 : BitVec 32 := Scf.iv c0_i32_40 c1_i32_42 k3_t6
  let v68 : Index := Scalar.indexCast arg10
  let c144 : Index := 144#32
  ![v68.toNat, 144]

def k3_chk62 (v49 : IVec S16 32) (v69 : IVec S16 32) : Prop :=
  (∀ a x, ((![v49, v69] : Fin 2 → IVec S16 32) a x).toNat < S32x1024.size a)
theorem k3_idx62_inb : ∀ (v49 : IVec S16 32) (v69 : IVec S16 32) (k3_hw62 : k3_chk62 v49 v69), ∀ a x, ((![v49, v69] : Fin 2 → IVec S16 32) a x).toNat < S32x1024.size a := fun v49 v69 k3_hw62 => k3_hw62
def k3_off129 (k3_t6 : Fin k3_t6_loop.trips) : Fin 2 → Nat :=
  let c0_i32_40 : BitVec 32 := 0#32
  let c1_i32_42 : BitVec 32 := 1#32
  let arg10 : BitVec 32 := Scf.iv c0_i32_40 c1_i32_42 k3_t6
  let v70 : Index := Scalar.indexCast arg10
  let c160 : Index := 160#32
  ![v70.toNat, 160]

def k3_chk63 (v49 : IVec S16 32) (v71 : IVec S16 32) : Prop :=
  (∀ a x, ((![v49, v71] : Fin 2 → IVec S16 32) a x).toNat < S32x1024.size a)
theorem k3_idx63_inb : ∀ (v49 : IVec S16 32) (v71 : IVec S16 32) (k3_hw63 : k3_chk63 v49 v71), ∀ a x, ((![v49, v71] : Fin 2 → IVec S16 32) a x).toNat < S32x1024.size a := fun v49 v71 k3_hw63 => k3_hw63
def k3_off130 (k3_t6 : Fin k3_t6_loop.trips) : Fin 2 → Nat :=
  let c0_i32_40 : BitVec 32 := 0#32
  let c1_i32_42 : BitVec 32 := 1#32
  let arg10 : BitVec 32 := Scf.iv c0_i32_40 c1_i32_42 k3_t6
  let v72 : Index := Scalar.indexCast arg10
  let c176 : Index := 176#32
  ![v72.toNat, 176]

def k3_chk64 (v49 : IVec S16 32) (v73 : IVec S16 32) : Prop :=
  (∀ a x, ((![v49, v73] : Fin 2 → IVec S16 32) a x).toNat < S32x1024.size a)
theorem k3_idx64_inb : ∀ (v49 : IVec S16 32) (v73 : IVec S16 32) (k3_hw64 : k3_chk64 v49 v73), ∀ a x, ((![v49, v73] : Fin 2 → IVec S16 32) a x).toNat < S32x1024.size a := fun v49 v73 k3_hw64 => k3_hw64
def k3_off131 (k3_t6 : Fin k3_t6_loop.trips) : Fin 2 → Nat :=
  let c0_i32_40 : BitVec 32 := 0#32
  let c1_i32_42 : BitVec 32 := 1#32
  let arg10 : BitVec 32 := Scf.iv c0_i32_40 c1_i32_42 k3_t6
  let v74 : Index := Scalar.indexCast arg10
  let c184 : Index := 184#32
  ![v74.toNat, 184]

def k3_chk65 (v49 : IVec S16 32) (v75 : IVec S16 32) : Prop :=
  (∀ a x, ((![v49, v75] : Fin 2 → IVec S16 32) a x).toNat < S32x1024.size a)
theorem k3_idx65_inb : ∀ (v49 : IVec S16 32) (v75 : IVec S16 32) (k3_hw65 : k3_chk65 v49 v75), ∀ a x, ((![v49, v75] : Fin 2 → IVec S16 32) a x).toNat < S32x1024.size a := fun v49 v75 k3_hw65 => k3_hw65
@[reducible] def k3_t7_loop : Scf.Loop 32 :=
  let c0_i32_45 : BitVec 32 := 0#32
  let c32_i32_46 : BitVec 32 := 32#32
  let v39 : BitVec 32 := Scalar.addi c0_i32_45 c32_i32_46
  let c1_i32_47 : BitVec 32 := 1#32
  ⟨c0_i32_45, v39, c1_i32_47⟩
def k3_off132 (k3_t7 : Fin k3_t7_loop.trips) : Fin 2 → Nat :=
  let c0_i32_45 : BitVec 32 := 0#32
  let c1_i32_47 : BitVec 32 := 1#32
  let arg10 : BitVec 32 := Scf.iv c0_i32_45 c1_i32_47 k3_t7
  let v50 : Index := Scalar.indexCast arg10
  let c0 : Index := 0#32
  ![v50.toNat, 0]

def k3_chk66 (v49 : IVec S16 32) (v51 : IVec S16 32) : Prop :=
  (∀ a x, ((![v49, v51] : Fin 2 → IVec S16 32) a x).toNat < S32x1024.size a)
theorem k3_idx66_inb : ∀ (v49 : IVec S16 32) (v51 : IVec S16 32) (k3_hw66 : k3_chk66 v49 v51), ∀ a x, ((![v49, v51] : Fin 2 → IVec S16 32) a x).toNat < S32x1024.size a := fun v49 v51 k3_hw66 => k3_hw66
def k3_off133 (k3_t7 : Fin k3_t7_loop.trips) : Fin 2 → Nat :=
  let c0_i32_45 : BitVec 32 := 0#32
  let c1_i32_47 : BitVec 32 := 1#32
  let arg10 : BitVec 32 := Scf.iv c0_i32_45 c1_i32_47 k3_t7
  let v52 : Index := Scalar.indexCast arg10
  let c16 : Index := 16#32
  ![v52.toNat, 16]

def k3_chk67 (v49 : IVec S16 32) (v53 : IVec S16 32) : Prop :=
  (∀ a x, ((![v49, v53] : Fin 2 → IVec S16 32) a x).toNat < S32x1024.size a)
theorem k3_idx67_inb : ∀ (v49 : IVec S16 32) (v53 : IVec S16 32) (k3_hw67 : k3_chk67 v49 v53), ∀ a x, ((![v49, v53] : Fin 2 → IVec S16 32) a x).toNat < S32x1024.size a := fun v49 v53 k3_hw67 => k3_hw67
def k3_off134 (k3_t7 : Fin k3_t7_loop.trips) : Fin 2 → Nat :=
  let c0_i32_45 : BitVec 32 := 0#32
  let c1_i32_47 : BitVec 32 := 1#32
  let arg10 : BitVec 32 := Scf.iv c0_i32_45 c1_i32_47 k3_t7
  let v54 : Index := Scalar.indexCast arg10
  let c32 : Index := 32#32
  ![v54.toNat, 32]

def k3_chk68 (v49 : IVec S16 32) (v55 : IVec S16 32) : Prop :=
  (∀ a x, ((![v49, v55] : Fin 2 → IVec S16 32) a x).toNat < S32x1024.size a)
theorem k3_idx68_inb : ∀ (v49 : IVec S16 32) (v55 : IVec S16 32) (k3_hw68 : k3_chk68 v49 v55), ∀ a x, ((![v49, v55] : Fin 2 → IVec S16 32) a x).toNat < S32x1024.size a := fun v49 v55 k3_hw68 => k3_hw68
def k3_off135 (k3_t7 : Fin k3_t7_loop.trips) : Fin 2 → Nat :=
  let c0_i32_45 : BitVec 32 := 0#32
  let c1_i32_47 : BitVec 32 := 1#32
  let arg10 : BitVec 32 := Scf.iv c0_i32_45 c1_i32_47 k3_t7
  let v56 : Index := Scalar.indexCast arg10
  let c48 : Index := 48#32
  ![v56.toNat, 48]

def k3_chk69 (v49 : IVec S16 32) (v57 : IVec S16 32) : Prop :=
  (∀ a x, ((![v49, v57] : Fin 2 → IVec S16 32) a x).toNat < S32x1024.size a)
theorem k3_idx69_inb : ∀ (v49 : IVec S16 32) (v57 : IVec S16 32) (k3_hw69 : k3_chk69 v49 v57), ∀ a x, ((![v49, v57] : Fin 2 → IVec S16 32) a x).toNat < S32x1024.size a := fun v49 v57 k3_hw69 => k3_hw69
def k3_off136 (k3_t7 : Fin k3_t7_loop.trips) : Fin 2 → Nat :=
  let c0_i32_45 : BitVec 32 := 0#32
  let c1_i32_47 : BitVec 32 := 1#32
  let arg10 : BitVec 32 := Scf.iv c0_i32_45 c1_i32_47 k3_t7
  let v58 : Index := Scalar.indexCast arg10
  let c64 : Index := 64#32
  ![v58.toNat, 64]

def k3_chk70 (v49 : IVec S16 32) (v59 : IVec S16 32) : Prop :=
  (∀ a x, ((![v49, v59] : Fin 2 → IVec S16 32) a x).toNat < S32x1024.size a)
theorem k3_idx70_inb : ∀ (v49 : IVec S16 32) (v59 : IVec S16 32) (k3_hw70 : k3_chk70 v49 v59), ∀ a x, ((![v49, v59] : Fin 2 → IVec S16 32) a x).toNat < S32x1024.size a := fun v49 v59 k3_hw70 => k3_hw70
def k3_off137 (k3_t7 : Fin k3_t7_loop.trips) : Fin 2 → Nat :=
  let c0_i32_45 : BitVec 32 := 0#32
  let c1_i32_47 : BitVec 32 := 1#32
  let arg10 : BitVec 32 := Scf.iv c0_i32_45 c1_i32_47 k3_t7
  let v60 : Index := Scalar.indexCast arg10
  let c80 : Index := 80#32
  ![v60.toNat, 80]

def k3_chk71 (v49 : IVec S16 32) (v61 : IVec S16 32) : Prop :=
  (∀ a x, ((![v49, v61] : Fin 2 → IVec S16 32) a x).toNat < S32x1024.size a)
theorem k3_idx71_inb : ∀ (v49 : IVec S16 32) (v61 : IVec S16 32) (k3_hw71 : k3_chk71 v49 v61), ∀ a x, ((![v49, v61] : Fin 2 → IVec S16 32) a x).toNat < S32x1024.size a := fun v49 v61 k3_hw71 => k3_hw71
def k3_off138 (k3_t7 : Fin k3_t7_loop.trips) : Fin 2 → Nat :=
  let c0_i32_45 : BitVec 32 := 0#32
  let c1_i32_47 : BitVec 32 := 1#32
  let arg10 : BitVec 32 := Scf.iv c0_i32_45 c1_i32_47 k3_t7
  let v62 : Index := Scalar.indexCast arg10
  let c96 : Index := 96#32
  ![v62.toNat, 96]

def k3_chk72 (v49 : IVec S16 32) (v63 : IVec S16 32) : Prop :=
  (∀ a x, ((![v49, v63] : Fin 2 → IVec S16 32) a x).toNat < S32x1024.size a)
theorem k3_idx72_inb : ∀ (v49 : IVec S16 32) (v63 : IVec S16 32) (k3_hw72 : k3_chk72 v49 v63), ∀ a x, ((![v49, v63] : Fin 2 → IVec S16 32) a x).toNat < S32x1024.size a := fun v49 v63 k3_hw72 => k3_hw72
def k3_off139 (k3_t7 : Fin k3_t7_loop.trips) : Fin 2 → Nat :=
  let c0_i32_45 : BitVec 32 := 0#32
  let c1_i32_47 : BitVec 32 := 1#32
  let arg10 : BitVec 32 := Scf.iv c0_i32_45 c1_i32_47 k3_t7
  let v64 : Index := Scalar.indexCast arg10
  let c112 : Index := 112#32
  ![v64.toNat, 112]

def k3_chk73 (v49 : IVec S16 32) (v65 : IVec S16 32) : Prop :=
  (∀ a x, ((![v49, v65] : Fin 2 → IVec S16 32) a x).toNat < S32x1024.size a)
theorem k3_idx73_inb : ∀ (v49 : IVec S16 32) (v65 : IVec S16 32) (k3_hw73 : k3_chk73 v49 v65), ∀ a x, ((![v49, v65] : Fin 2 → IVec S16 32) a x).toNat < S32x1024.size a := fun v49 v65 k3_hw73 => k3_hw73
def k3_off140 (k3_t7 : Fin k3_t7_loop.trips) : Fin 2 → Nat :=
  let c0_i32_45 : BitVec 32 := 0#32
  let c1_i32_47 : BitVec 32 := 1#32
  let arg10 : BitVec 32 := Scf.iv c0_i32_45 c1_i32_47 k3_t7
  let v66 : Index := Scalar.indexCast arg10
  let c128 : Index := 128#32
  ![v66.toNat, 128]

def k3_chk74 (v49 : IVec S16 32) (v67 : IVec S16 32) : Prop :=
  (∀ a x, ((![v49, v67] : Fin 2 → IVec S16 32) a x).toNat < S32x1024.size a)
theorem k3_idx74_inb : ∀ (v49 : IVec S16 32) (v67 : IVec S16 32) (k3_hw74 : k3_chk74 v49 v67), ∀ a x, ((![v49, v67] : Fin 2 → IVec S16 32) a x).toNat < S32x1024.size a := fun v49 v67 k3_hw74 => k3_hw74
def k3_off141 (k3_t7 : Fin k3_t7_loop.trips) : Fin 2 → Nat :=
  let c0_i32_45 : BitVec 32 := 0#32
  let c1_i32_47 : BitVec 32 := 1#32
  let arg10 : BitVec 32 := Scf.iv c0_i32_45 c1_i32_47 k3_t7
  let v68 : Index := Scalar.indexCast arg10
  let c144 : Index := 144#32
  ![v68.toNat, 144]

def k3_chk75 (v49 : IVec S16 32) (v69 : IVec S16 32) : Prop :=
  (∀ a x, ((![v49, v69] : Fin 2 → IVec S16 32) a x).toNat < S32x1024.size a)
theorem k3_idx75_inb : ∀ (v49 : IVec S16 32) (v69 : IVec S16 32) (k3_hw75 : k3_chk75 v49 v69), ∀ a x, ((![v49, v69] : Fin 2 → IVec S16 32) a x).toNat < S32x1024.size a := fun v49 v69 k3_hw75 => k3_hw75
def k3_off142 (k3_t7 : Fin k3_t7_loop.trips) : Fin 2 → Nat :=
  let c0_i32_45 : BitVec 32 := 0#32
  let c1_i32_47 : BitVec 32 := 1#32
  let arg10 : BitVec 32 := Scf.iv c0_i32_45 c1_i32_47 k3_t7
  let v70 : Index := Scalar.indexCast arg10
  let c160 : Index := 160#32
  ![v70.toNat, 160]

def k3_chk76 (v49 : IVec S16 32) (v71 : IVec S16 32) : Prop :=
  (∀ a x, ((![v49, v71] : Fin 2 → IVec S16 32) a x).toNat < S32x1024.size a)
theorem k3_idx76_inb : ∀ (v49 : IVec S16 32) (v71 : IVec S16 32) (k3_hw76 : k3_chk76 v49 v71), ∀ a x, ((![v49, v71] : Fin 2 → IVec S16 32) a x).toNat < S32x1024.size a := fun v49 v71 k3_hw76 => k3_hw76
def k3_off143 (k3_t7 : Fin k3_t7_loop.trips) : Fin 2 → Nat :=
  let c0_i32_45 : BitVec 32 := 0#32
  let c1_i32_47 : BitVec 32 := 1#32
  let arg10 : BitVec 32 := Scf.iv c0_i32_45 c1_i32_47 k3_t7
  let v72 : Index := Scalar.indexCast arg10
  let c176 : Index := 176#32
  ![v72.toNat, 176]

def k3_chk77 (v49 : IVec S16 32) (v73 : IVec S16 32) : Prop :=
  (∀ a x, ((![v49, v73] : Fin 2 → IVec S16 32) a x).toNat < S32x1024.size a)
theorem k3_idx77_inb : ∀ (v49 : IVec S16 32) (v73 : IVec S16 32) (k3_hw77 : k3_chk77 v49 v73), ∀ a x, ((![v49, v73] : Fin 2 → IVec S16 32) a x).toNat < S32x1024.size a := fun v49 v73 k3_hw77 => k3_hw77
def k3_off144 (k3_t7 : Fin k3_t7_loop.trips) : Fin 2 → Nat :=
  let c0_i32_45 : BitVec 32 := 0#32
  let c1_i32_47 : BitVec 32 := 1#32
  let arg10 : BitVec 32 := Scf.iv c0_i32_45 c1_i32_47 k3_t7
  let v74 : Index := Scalar.indexCast arg10
  let c184 : Index := 184#32
  ![v74.toNat, 184]

def k3_chk78 (v49 : IVec S16 32) (v75 : IVec S16 32) : Prop :=
  (∀ a x, ((![v49, v75] : Fin 2 → IVec S16 32) a x).toNat < S32x1024.size a)
theorem k3_idx78_inb : ∀ (v49 : IVec S16 32) (v75 : IVec S16 32) (k3_hw78 : k3_chk78 v49 v75), ∀ a x, ((![v49, v75] : Fin 2 → IVec S16 32) a x).toNat < S32x1024.size a := fun v49 v75 k3_hw78 => k3_hw78
abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc4_transform_4 (i : grid4.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

abbrev stage4_0 : Fin 2 → Memref sig .tc .vmem S1024x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S1024x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨2, ![2, 16], ![false, false]⟩

@[reducible] def k5_t1_loop : Scf.Loop 32 :=
  let c0_i32_1 : BitVec 32 := 0#32
  let c32_i32 : BitVec 32 := 32#32
  let v9 : BitVec 32 := Scalar.addi c0_i32_1 c32_i32
  let c1_i32 : BitVec 32 := 1#32
  ⟨c0_i32_1, v9, c1_i32⟩
def k5_off1 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v47 : Index := Scalar.indexCast arg10
  let c0 : Index := 0#32
  ![v47.toNat, 0]
def k5_off2 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v49 : Index := Scalar.indexCast arg10
  let c16 : Index := 16#32
  ![v49.toNat, 16]
def k5_off3 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v51 : Index := Scalar.indexCast arg10
  let c32 : Index := 32#32
  ![v51.toNat, 32]
def k5_off4 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v53 : Index := Scalar.indexCast arg10
  let c48 : Index := 48#32
  ![v53.toNat, 48]
def k5_off5 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v55 : Index := Scalar.indexCast arg10
  let c64 : Index := 64#32
  ![v55.toNat, 64]
def k5_off6 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v57 : Index := Scalar.indexCast arg10
  let c80 : Index := 80#32
  ![v57.toNat, 80]
def k5_off7 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v59 : Index := Scalar.indexCast arg10
  let c96 : Index := 96#32
  ![v59.toNat, 96]
def k5_off8 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v61 : Index := Scalar.indexCast arg10
  let c112 : Index := 112#32
  ![v61.toNat, 112]
def k5_off9 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v63 : Index := Scalar.indexCast arg10
  let c128 : Index := 128#32
  ![v63.toNat, 128]
def k5_off10 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v65 : Index := Scalar.indexCast arg10
  let c144 : Index := 144#32
  ![v65.toNat, 144]
def k5_off11 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v67 : Index := Scalar.indexCast arg10
  let c160 : Index := 160#32
  ![v67.toNat, 160]
def k5_off12 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v69 : Index := Scalar.indexCast arg10
  let c176 : Index := 176#32
  ![v69.toNat, 176]
def k5_off13 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v71 : Index := Scalar.indexCast arg10
  let c192 : Index := 192#32
  ![v71.toNat, 192]
def k5_off14 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v73 : Index := Scalar.indexCast arg10
  let c208 : Index := 208#32
  ![v73.toNat, 208]
def k5_off15 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v75 : Index := Scalar.indexCast arg10
  let c224 : Index := 224#32
  ![v75.toNat, 224]
def k5_off16 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v77 : Index := Scalar.indexCast arg10
  let c240 : Index := 240#32
  ![v77.toNat, 240]
def k5_off17 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v79 : Index := Scalar.indexCast arg10
  let c256 : Index := 256#32
  ![v79.toNat, 256]
def k5_off18 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v81 : Index := Scalar.indexCast arg10
  let c272 : Index := 272#32
  ![v81.toNat, 272]
def k5_off19 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v83 : Index := Scalar.indexCast arg10
  let c288 : Index := 288#32
  ![v83.toNat, 288]
def k5_off20 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v85 : Index := Scalar.indexCast arg10
  let c304 : Index := 304#32
  ![v85.toNat, 304]
def k5_off21 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v87 : Index := Scalar.indexCast arg10
  let c320 : Index := 320#32
  ![v87.toNat, 320]
def k5_off22 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v89 : Index := Scalar.indexCast arg10
  let c336 : Index := 336#32
  ![v89.toNat, 336]
def k5_off23 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v91 : Index := Scalar.indexCast arg10
  let c352 : Index := 352#32
  ![v91.toNat, 352]
def k5_off24 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v93 : Index := Scalar.indexCast arg10
  let c368 : Index := 368#32
  ![v93.toNat, 368]
def k5_off25 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v95 : Index := Scalar.indexCast arg10
  let c384 : Index := 384#32
  ![v95.toNat, 384]
def k5_off26 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v97 : Index := Scalar.indexCast arg10
  let c400 : Index := 400#32
  ![v97.toNat, 400]
def k5_off27 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v99 : Index := Scalar.indexCast arg10
  let c416 : Index := 416#32
  ![v99.toNat, 416]
def k5_off28 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v101 : Index := Scalar.indexCast arg10
  let c432 : Index := 432#32
  ![v101.toNat, 432]
def k5_off29 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v103 : Index := Scalar.indexCast arg10
  let c448 : Index := 448#32
  ![v103.toNat, 448]
def k5_off30 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v105 : Index := Scalar.indexCast arg10
  let c464 : Index := 464#32
  ![v105.toNat, 464]
def k5_off31 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v107 : Index := Scalar.indexCast arg10
  let c480 : Index := 480#32
  ![v107.toNat, 480]
def k5_off32 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v109 : Index := Scalar.indexCast arg10
  let c496 : Index := 496#32
  ![v109.toNat, 496]
def k5_off33 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v111 : Index := Scalar.indexCast arg10
  let c512 : Index := 512#32
  ![v111.toNat, 512]
def k5_off34 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v113 : Index := Scalar.indexCast arg10
  let c528 : Index := 528#32
  ![v113.toNat, 528]
def k5_off35 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v115 : Index := Scalar.indexCast arg10
  let c544 : Index := 544#32
  ![v115.toNat, 544]
def k5_off36 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v117 : Index := Scalar.indexCast arg10
  let c560 : Index := 560#32
  ![v117.toNat, 560]
def k5_off37 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v119 : Index := Scalar.indexCast arg10
  let c576 : Index := 576#32
  ![v119.toNat, 576]
def k5_off38 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v121 : Index := Scalar.indexCast arg10
  let c592 : Index := 592#32
  ![v121.toNat, 592]
def k5_off39 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v123 : Index := Scalar.indexCast arg10
  let c608 : Index := 608#32
  ![v123.toNat, 608]
def k5_off40 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v125 : Index := Scalar.indexCast arg10
  let c624 : Index := 624#32
  ![v125.toNat, 624]
def k5_off41 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v127 : Index := Scalar.indexCast arg10
  let c640 : Index := 640#32
  ![v127.toNat, 640]
def k5_off42 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v129 : Index := Scalar.indexCast arg10
  let c656 : Index := 656#32
  ![v129.toNat, 656]
def k5_off43 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v131 : Index := Scalar.indexCast arg10
  let c672 : Index := 672#32
  ![v131.toNat, 672]
def k5_off44 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v133 : Index := Scalar.indexCast arg10
  let c688 : Index := 688#32
  ![v133.toNat, 688]
def k5_off45 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v135 : Index := Scalar.indexCast arg10
  let c704 : Index := 704#32
  ![v135.toNat, 704]
def k5_off46 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v137 : Index := Scalar.indexCast arg10
  let c720 : Index := 720#32
  ![v137.toNat, 720]
def k5_off47 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v139 : Index := Scalar.indexCast arg10
  let c736 : Index := 736#32
  ![v139.toNat, 736]
def k5_off48 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v141 : Index := Scalar.indexCast arg10
  let c752 : Index := 752#32
  ![v141.toNat, 752]
def k5_off49 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v143 : Index := Scalar.indexCast arg10
  let c768 : Index := 768#32
  ![v143.toNat, 768]
def k5_off50 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v145 : Index := Scalar.indexCast arg10
  let c784 : Index := 784#32
  ![v145.toNat, 784]
def k5_off51 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v147 : Index := Scalar.indexCast arg10
  let c800 : Index := 800#32
  ![v147.toNat, 800]
def k5_off52 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v149 : Index := Scalar.indexCast arg10
  let c816 : Index := 816#32
  ![v149.toNat, 816]
def k5_off53 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v151 : Index := Scalar.indexCast arg10
  let c832 : Index := 832#32
  ![v151.toNat, 832]
def k5_off54 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v153 : Index := Scalar.indexCast arg10
  let c848 : Index := 848#32
  ![v153.toNat, 848]
def k5_off55 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v155 : Index := Scalar.indexCast arg10
  let c864 : Index := 864#32
  ![v155.toNat, 864]
def k5_off56 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v157 : Index := Scalar.indexCast arg10
  let c880 : Index := 880#32
  ![v157.toNat, 880]
def k5_off57 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v159 : Index := Scalar.indexCast arg10
  let c896 : Index := 896#32
  ![v159.toNat, 896]
def k5_off58 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v161 : Index := Scalar.indexCast arg10
  let c912 : Index := 912#32
  ![v161.toNat, 912]
def k5_off59 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v163 : Index := Scalar.indexCast arg10
  let c928 : Index := 928#32
  ![v163.toNat, 928]
def k5_off60 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v165 : Index := Scalar.indexCast arg10
  let c944 : Index := 944#32
  ![v165.toNat, 944]
def k5_off61 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v167 : Index := Scalar.indexCast arg10
  let c960 : Index := 960#32
  ![v167.toNat, 960]
def k5_off62 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v169 : Index := Scalar.indexCast arg10
  let c976 : Index := 976#32
  ![v169.toNat, 976]
def k5_off63 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v171 : Index := Scalar.indexCast arg10
  let c992 : Index := 992#32
  ![v171.toNat, 992]
def k5_off64 (k5_t1 : Fin k5_t1_loop.trips) : Fin 2 → Nat :=
  let c0_i32_1 : BitVec 32 := 0#32
  let c1_i32 : BitVec 32 := 1#32
  let arg10 : BitVec 32 := Scf.iv c0_i32_1 c1_i32 k5_t1
  let v173 : Index := Scalar.indexCast arg10
  let c1008 : Index := 1008#32
  ![v173.toNat, 1008]
def k5_off65 (i : grid5.Coords) (c0_i32_4 : BitVec 32) : Fin 2 → Nat :=
  let c8192_i32 : BitVec 32 := 8192#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c8192_i32 v2
  let v12 : BitVec 32 := Scalar.addi v3 c0_i32_4
  let c0_i32_55_r0 : BitVec 32 := 0#32
  ![v12.toNat, 0]
@[reducible] def k5_t2_loop : Scf.Loop 32 :=
  let c0_i32_6 : BitVec 32 := 0#32
  let c32_i32_7 : BitVec 32 := 32#32
  let v13 : BitVec 32 := Scalar.addi c0_i32_6 c32_i32_7
  let c1_i32_8 : BitVec 32 := 1#32
  ⟨c0_i32_6, v13, c1_i32_8⟩
def k5_off66 (k5_t2 : Fin k5_t2_loop.trips) : Fin 2 → Nat :=
  let c0_i32_6 : BitVec 32 := 0#32
  let c1_i32_8 : BitVec 32 := 1#32
  let arg10 : BitVec 32 := Scf.iv c0_i32_6 c1_i32_8 k5_t2
  let v50 : Index := Scalar.indexCast arg10
  let c0 : Index := 0#32
  ![v50.toNat, 0]

def k5_chk1 (v49 : IVec S16 32) (v51 : IVec S16 32) : Prop :=
  (∀ a x, ((![v49, v51] : Fin 2 → IVec S16 32) a x).toNat < S32x1024.size a)
theorem k5_idx1_inb : ∀ (v49 : IVec S16 32) (v51 : IVec S16 32) (k5_hw1 : k5_chk1 v49 v51), ∀ a x, ((![v49, v51] : Fin 2 → IVec S16 32) a x).toNat < S32x1024.size a := fun v49 v51 k5_hw1 => k5_hw1
def k5_off67 (k5_t2 : Fin k5_t2_loop.trips) : Fin 2 → Nat :=
  let c0_i32_6 : BitVec 32 := 0#32
  let c1_i32_8 : BitVec 32 := 1#32
  let arg10 : BitVec 32 := Scf.iv c0_i32_6 c1_i32_8 k5_t2
  let v52 : Index := Scalar.indexCast arg10
  let c16 : Index := 16#32
  ![v52.toNat, 16]

def k5_chk2 (v49 : IVec S16 32) (v53 : IVec S16 32) : Prop :=
  (∀ a x, ((![v49, v53] : Fin 2 → IVec S16 32) a x).toNat < S32x1024.size a)
theorem k5_idx2_inb : ∀ (v49 : IVec S16 32) (v53 : IVec S16 32) (k5_hw2 : k5_chk2 v49 v53), ∀ a x, ((![v49, v53] : Fin 2 → IVec S16 32) a x).toNat < S32x1024.size a := fun v49 v53 k5_hw2 => k5_hw2
def k5_off68 (k5_t2 : Fin k5_t2_loop.trips) : Fin 2 → Nat :=
  let c0_i32_6 : BitVec 32 := 0#32
  let c1_i32_8 : BitVec 32 := 1#32
  let arg10 : BitVec 32 := Scf.iv c0_i32_6 c1_i32_8 k5_t2
  let v54 : Index := Scalar.indexCast arg10
  let c32 : Index := 32#32
  ![v54.toNat, 32]

def k5_chk3 (v49 : IVec S16 32) (v55 : IVec S16 32) : Prop :=
  (∀ a x, ((![v49, v55] : Fin 2 → IVec S16 32) a x).toNat < S32x1024.size a)
theorem k5_idx3_inb : ∀ (v49 : IVec S16 32) (v55 : IVec S16 32) (k5_hw3 : k5_chk3 v49 v55), ∀ a x, ((![v49, v55] : Fin 2 → IVec S16 32) a x).toNat < S32x1024.size a := fun v49 v55 k5_hw3 => k5_hw3
def k5_off69 (k5_t2 : Fin k5_t2_loop.trips) : Fin 2 → Nat :=
  let c0_i32_6 : BitVec 32 := 0#32
  let c1_i32_8 : BitVec 32 := 1#32
  let arg10 : BitVec 32 := Scf.iv c0_i32_6 c1_i32_8 k5_t2
  let v56 : Index := Scalar.indexCast arg10
  let c48 : Index := 48#32
  ![v56.toNat, 48]

def k5_chk4 (v49 : IVec S16 32) (v57 : IVec S16 32) : Prop :=
  (∀ a x, ((![v49, v57] : Fin 2 → IVec S16 32) a x).toNat < S32x1024.size a)
theorem k5_idx4_inb : ∀ (v49 : IVec S16 32) (v57 : IVec S16 32) (k5_hw4 : k5_chk4 v49 v57), ∀ a x, ((![v49, v57] : Fin 2 → IVec S16 32) a x).toNat < S32x1024.size a := fun v49 v57 k5_hw4 => k5_hw4
def k5_off70 (k5_t2 : Fin k5_t2_loop.trips) : Fin 2 → Nat :=
  let c0_i32_6 : BitVec 32 := 0#32
  let c1_i32_8 : BitVec 32 := 1#32
  let arg10 : BitVec 32 := Scf.iv c0_i32_6 c1_i32_8 k5_t2
  let v58 : Index := Scalar.indexCast arg10
  let c64 : Index := 64#32
  ![v58.toNat, 64]

def k5_chk5 (v49 : IVec S16 32) (v59 : IVec S16 32) : Prop :=
  (∀ a x, ((![v49, v59] : Fin 2 → IVec S16 32) a x).toNat < S32x1024.size a)
theorem k5_idx5_inb : ∀ (v49 : IVec S16 32) (v59 : IVec S16 32) (k5_hw5 : k5_chk5 v49 v59), ∀ a x, ((![v49, v59] : Fin 2 → IVec S16 32) a x).toNat < S32x1024.size a := fun v49 v59 k5_hw5 => k5_hw5
def k5_off71 (k5_t2 : Fin k5_t2_loop.trips) : Fin 2 → Nat :=
  let c0_i32_6 : BitVec 32 := 0#32
  let c1_i32_8 : BitVec 32 := 1#32
  let arg10 : BitVec 32 := Scf.iv c0_i32_6 c1_i32_8 k5_t2
  let v60 : Index := Scalar.indexCast arg10
  let c80 : Index := 80#32
  ![v60.toNat, 80]

def k5_chk6 (v49 : IVec S16 32) (v61 : IVec S16 32) : Prop :=
  (∀ a x, ((![v49, v61] : Fin 2 → IVec S16 32) a x).toNat < S32x1024.size a)
theorem k5_idx6_inb : ∀ (v49 : IVec S16 32) (v61 : IVec S16 32) (k5_hw6 : k5_chk6 v49 v61), ∀ a x, ((![v49, v61] : Fin 2 → IVec S16 32) a x).toNat < S32x1024.size a := fun v49 v61 k5_hw6 => k5_hw6
def k5_off72 (k5_t2 : Fin k5_t2_loop.trips) : Fin 2 → Nat :=
  let c0_i32_6 : BitVec 32 := 0#32
  let c1_i32_8 : BitVec 32 := 1#32
  let arg10 : BitVec 32 := Scf.iv c0_i32_6 c1_i32_8 k5_t2
  let v62 : Index := Scalar.indexCast arg10
  let c96 : Index := 96#32
  ![v62.toNat, 96]

def k5_chk7 (v49 : IVec S16 32) (v63 : IVec S16 32) : Prop :=
  (∀ a x, ((![v49, v63] : Fin 2 → IVec S16 32) a x).toNat < S32x1024.size a)
theorem k5_idx7_inb : ∀ (v49 : IVec S16 32) (v63 : IVec S16 32) (k5_hw7 : k5_chk7 v49 v63), ∀ a x, ((![v49, v63] : Fin 2 → IVec S16 32) a x).toNat < S32x1024.size a := fun v49 v63 k5_hw7 => k5_hw7
def k5_off73 (k5_t2 : Fin k5_t2_loop.trips) : Fin 2 → Nat :=
  let c0_i32_6 : BitVec 32 := 0#32
  let c1_i32_8 : BitVec 32 := 1#32
  let arg10 : BitVec 32 := Scf.iv c0_i32_6 c1_i32_8 k5_t2
  let v64 : Index := Scalar.indexCast arg10
  let c112 : Index := 112#32
  ![v64.toNat, 112]

def k5_chk8 (v49 : IVec S16 32) (v65 : IVec S16 32) : Prop :=
  (∀ a x, ((![v49, v65] : Fin 2 → IVec S16 32) a x).toNat < S32x1024.size a)
theorem k5_idx8_inb : ∀ (v49 : IVec S16 32) (v65 : IVec S16 32) (k5_hw8 : k5_chk8 v49 v65), ∀ a x, ((![v49, v65] : Fin 2 → IVec S16 32) a x).toNat < S32x1024.size a := fun v49 v65 k5_hw8 => k5_hw8
def k5_off74 (k5_t2 : Fin k5_t2_loop.trips) : Fin 2 → Nat :=
  let c0_i32_6 : BitVec 32 := 0#32
  let c1_i32_8 : BitVec 32 := 1#32
  let arg10 : BitVec 32 := Scf.iv c0_i32_6 c1_i32_8 k5_t2
  let v66 : Index := Scalar.indexCast arg10
  let c128 : Index := 128#32
  ![v66.toNat, 128]

def k5_chk9 (v49 : IVec S16 32) (v67 : IVec S16 32) : Prop :=
  (∀ a x, ((![v49, v67] : Fin 2 → IVec S16 32) a x).toNat < S32x1024.size a)
theorem k5_idx9_inb : ∀ (v49 : IVec S16 32) (v67 : IVec S16 32) (k5_hw9 : k5_chk9 v49 v67), ∀ a x, ((![v49, v67] : Fin 2 → IVec S16 32) a x).toNat < S32x1024.size a := fun v49 v67 k5_hw9 => k5_hw9
def k5_off75 (k5_t2 : Fin k5_t2_loop.trips) : Fin 2 → Nat :=
  let c0_i32_6 : BitVec 32 := 0#32
  let c1_i32_8 : BitVec 32 := 1#32
  let arg10 : BitVec 32 := Scf.iv c0_i32_6 c1_i32_8 k5_t2
  let v68 : Index := Scalar.indexCast arg10
  let c144 : Index := 144#32
  ![v68.toNat, 144]

def k5_chk10 (v49 : IVec S16 32) (v69 : IVec S16 32) : Prop :=
  (∀ a x, ((![v49, v69] : Fin 2 → IVec S16 32) a x).toNat < S32x1024.size a)
theorem k5_idx10_inb : ∀ (v49 : IVec S16 32) (v69 : IVec S16 32) (k5_hw10 : k5_chk10 v49 v69), ∀ a x, ((![v49, v69] : Fin 2 → IVec S16 32) a x).toNat < S32x1024.size a := fun v49 v69 k5_hw10 => k5_hw10
def k5_off76 (k5_t2 : Fin k5_t2_loop.trips) : Fin 2 → Nat :=
  let c0_i32_6 : BitVec 32 := 0#32
  let c1_i32_8 : BitVec 32 := 1#32
  let arg10 : BitVec 32 := Scf.iv c0_i32_6 c1_i32_8 k5_t2
  let v70 : Index := Scalar.indexCast arg10
  let c160 : Index := 160#32
  ![v70.toNat, 160]

def k5_chk11 (v49 : IVec S16 32) (v71 : IVec S16 32) : Prop :=
  (∀ a x, ((![v49, v71] : Fin 2 → IVec S16 32) a x).toNat < S32x1024.size a)
theorem k5_idx11_inb : ∀ (v49 : IVec S16 32) (v71 : IVec S16 32) (k5_hw11 : k5_chk11 v49 v71), ∀ a x, ((![v49, v71] : Fin 2 → IVec S16 32) a x).toNat < S32x1024.size a := fun v49 v71 k5_hw11 => k5_hw11
def k5_off77 (k5_t2 : Fin k5_t2_loop.trips) : Fin 2 → Nat :=
  let c0_i32_6 : BitVec 32 := 0#32
  let c1_i32_8 : BitVec 32 := 1#32
  let arg10 : BitVec 32 := Scf.iv c0_i32_6 c1_i32_8 k5_t2
  let v72 : Index := Scalar.indexCast arg10
  let c176 : Index := 176#32
  ![v72.toNat, 176]

def k5_chk12 (v49 : IVec S16 32) (v73 : IVec S16 32) : Prop :=
  (∀ a x, ((![v49, v73] : Fin 2 → IVec S16 32) a x).toNat < S32x1024.size a)
theorem k5_idx12_inb : ∀ (v49 : IVec S16 32) (v73 : IVec S16 32) (k5_hw12 : k5_chk12 v49 v73), ∀ a x, ((![v49, v73] : Fin 2 → IVec S16 32) a x).toNat < S32x1024.size a := fun v49 v73 k5_hw12 => k5_hw12
def k5_off78 (k5_t2 : Fin k5_t2_loop.trips) : Fin 2 → Nat :=
  let c0_i32_6 : BitVec 32 := 0#32
  let c1_i32_8 : BitVec 32 := 1#32
  let arg10 : BitVec 32 := Scf.iv c0_i32_6 c1_i32_8 k5_t2
  let v74 : Index := Scalar.indexCast arg10
  let c184 : Index := 184#32
  ![v74.toNat, 184]

def k5_chk13 (v49 : IVec S16 32) (v75 : IVec S16 32) : Prop :=
  (∀ a x, ((![v49, v75] : Fin 2 → IVec S16 32) a x).toNat < S32x1024.size a)
theorem k5_idx13_inb : ∀ (v49 : IVec S16 32) (v75 : IVec S16 32) (k5_hw13 : k5_chk13 v49 v75), ∀ a x, ((![v49, v75] : Fin 2 → IVec S16 32) a x).toNat < S32x1024.size a := fun v49 v75 k5_hw13 => k5_hw13
def k5_off79 (i : grid5.Coords) (c0_i32_3 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v11 : BitVec 32 := Scalar.addi v2 c0_i32_3
  let c0_i32_10 : BitVec 32 := 0#32
  ![v11.toNat, 0]
@[reducible] def k5_t3_loop : Scf.Loop 32 :=
  let c0_i32_15 : BitVec 32 := 0#32
  let c32_i32_16 : BitVec 32 := 32#32
  let v19 : BitVec 32 := Scalar.addi c0_i32_15 c32_i32_16
  let c1_i32_17 : BitVec 32 := 1#32
  ⟨c0_i32_15, v19, c1_i32_17⟩
def k5_off80 (k5_t3 : Fin k5_t3_loop.trips) : Fin 2 → Nat :=
  let c0_i32_15 : BitVec 32 := 0#32
  let c1_i32_17 : BitVec 32 := 1#32
  let arg10 : BitVec 32 := Scf.iv c0_i32_15 c1_i32_17 k5_t3
  let v50 : Index := Scalar.indexCast arg10
  let c0 : Index := 0#32
  ![v50.toNat, 0]

def k5_chk14 (v49 : IVec S16 32) (v51 : IVec S16 32) : Prop :=
  (∀ a x, ((![v49, v51] : Fin 2 → IVec S16 32) a x).toNat < S32x1024.size a)
theorem k5_idx14_inb : ∀ (v49 : IVec S16 32) (v51 : IVec S16 32) (k5_hw14 : k5_chk14 v49 v51), ∀ a x, ((![v49, v51] : Fin 2 → IVec S16 32) a x).toNat < S32x1024.size a := fun v49 v51 k5_hw14 => k5_hw14
def k5_off81 (k5_t3 : Fin k5_t3_loop.trips) : Fin 2 → Nat :=
  let c0_i32_15 : BitVec 32 := 0#32
  let c1_i32_17 : BitVec 32 := 1#32
  let arg10 : BitVec 32 := Scf.iv c0_i32_15 c1_i32_17 k5_t3
  let v52 : Index := Scalar.indexCast arg10
  let c16 : Index := 16#32
  ![v52.toNat, 16]

def k5_chk15 (v49 : IVec S16 32) (v53 : IVec S16 32) : Prop :=
  (∀ a x, ((![v49, v53] : Fin 2 → IVec S16 32) a x).toNat < S32x1024.size a)
theorem k5_idx15_inb : ∀ (v49 : IVec S16 32) (v53 : IVec S16 32) (k5_hw15 : k5_chk15 v49 v53), ∀ a x, ((![v49, v53] : Fin 2 → IVec S16 32) a x).toNat < S32x1024.size a := fun v49 v53 k5_hw15 => k5_hw15
def k5_off82 (k5_t3 : Fin k5_t3_loop.trips) : Fin 2 → Nat :=
  let c0_i32_15 : BitVec 32 := 0#32
  let c1_i32_17 : BitVec 32 := 1#32
  let arg10 : BitVec 32 := Scf.iv c0_i32_15 c1_i32_17 k5_t3
  let v54 : Index := Scalar.indexCast arg10
  let c32 : Index := 32#32
  ![v54.toNat, 32]

def k5_chk16 (v49 : IVec S16 32) (v55 : IVec S16 32) : Prop :=
  (∀ a x, ((![v49, v55] : Fin 2 → IVec S16 32) a x).toNat < S32x1024.size a)
theorem k5_idx16_inb : ∀ (v49 : IVec S16 32) (v55 : IVec S16 32) (k5_hw16 : k5_chk16 v49 v55), ∀ a x, ((![v49, v55] : Fin 2 → IVec S16 32) a x).toNat < S32x1024.size a := fun v49 v55 k5_hw16 => k5_hw16
def k5_off83 (k5_t3 : Fin k5_t3_loop.trips) : Fin 2 → Nat :=
  let c0_i32_15 : BitVec 32 := 0#32
  let c1_i32_17 : BitVec 32 := 1#32
  let arg10 : BitVec 32 := Scf.iv c0_i32_15 c1_i32_17 k5_t3
  let v56 : Index := Scalar.indexCast arg10
  let c48 : Index := 48#32
  ![v56.toNat, 48]

def k5_chk17 (v49 : IVec S16 32) (v57 : IVec S16 32) : Prop :=
  (∀ a x, ((![v49, v57] : Fin 2 → IVec S16 32) a x).toNat < S32x1024.size a)
theorem k5_idx17_inb : ∀ (v49 : IVec S16 32) (v57 : IVec S16 32) (k5_hw17 : k5_chk17 v49 v57), ∀ a x, ((![v49, v57] : Fin 2 → IVec S16 32) a x).toNat < S32x1024.size a := fun v49 v57 k5_hw17 => k5_hw17
def k5_off84 (k5_t3 : Fin k5_t3_loop.trips) : Fin 2 → Nat :=
  let c0_i32_15 : BitVec 32 := 0#32
  let c1_i32_17 : BitVec 32 := 1#32
  let arg10 : BitVec 32 := Scf.iv c0_i32_15 c1_i32_17 k5_t3
  let v58 : Index := Scalar.indexCast arg10
  let c64 : Index := 64#32
  ![v58.toNat, 64]

def k5_chk18 (v49 : IVec S16 32) (v59 : IVec S16 32) : Prop :=
  (∀ a x, ((![v49, v59] : Fin 2 → IVec S16 32) a x).toNat < S32x1024.size a)
theorem k5_idx18_inb : ∀ (v49 : IVec S16 32) (v59 : IVec S16 32) (k5_hw18 : k5_chk18 v49 v59), ∀ a x, ((![v49, v59] : Fin 2 → IVec S16 32) a x).toNat < S32x1024.size a := fun v49 v59 k5_hw18 => k5_hw18
def k5_off85 (k5_t3 : Fin k5_t3_loop.trips) : Fin 2 → Nat :=
  let c0_i32_15 : BitVec 32 := 0#32
  let c1_i32_17 : BitVec 32 := 1#32
  let arg10 : BitVec 32 := Scf.iv c0_i32_15 c1_i32_17 k5_t3
  let v60 : Index := Scalar.indexCast arg10
  let c80 : Index := 80#32
  ![v60.toNat, 80]

def k5_chk19 (v49 : IVec S16 32) (v61 : IVec S16 32) : Prop :=
  (∀ a x, ((![v49, v61] : Fin 2 → IVec S16 32) a x).toNat < S32x1024.size a)
theorem k5_idx19_inb : ∀ (v49 : IVec S16 32) (v61 : IVec S16 32) (k5_hw19 : k5_chk19 v49 v61), ∀ a x, ((![v49, v61] : Fin 2 → IVec S16 32) a x).toNat < S32x1024.size a := fun v49 v61 k5_hw19 => k5_hw19
def k5_off86 (k5_t3 : Fin k5_t3_loop.trips) : Fin 2 → Nat :=
  let c0_i32_15 : BitVec 32 := 0#32
  let c1_i32_17 : BitVec 32 := 1#32
  let arg10 : BitVec 32 := Scf.iv c0_i32_15 c1_i32_17 k5_t3
  let v62 : Index := Scalar.indexCast arg10
  let c96 : Index := 96#32
  ![v62.toNat, 96]

def k5_chk20 (v49 : IVec S16 32) (v63 : IVec S16 32) : Prop :=
  (∀ a x, ((![v49, v63] : Fin 2 → IVec S16 32) a x).toNat < S32x1024.size a)
theorem k5_idx20_inb : ∀ (v49 : IVec S16 32) (v63 : IVec S16 32) (k5_hw20 : k5_chk20 v49 v63), ∀ a x, ((![v49, v63] : Fin 2 → IVec S16 32) a x).toNat < S32x1024.size a := fun v49 v63 k5_hw20 => k5_hw20
def k5_off87 (k5_t3 : Fin k5_t3_loop.trips) : Fin 2 → Nat :=
  let c0_i32_15 : BitVec 32 := 0#32
  let c1_i32_17 : BitVec 32 := 1#32
  let arg10 : BitVec 32 := Scf.iv c0_i32_15 c1_i32_17 k5_t3
  let v64 : Index := Scalar.indexCast arg10
  let c112 : Index := 112#32
  ![v64.toNat, 112]

def k5_chk21 (v49 : IVec S16 32) (v65 : IVec S16 32) : Prop :=
  (∀ a x, ((![v49, v65] : Fin 2 → IVec S16 32) a x).toNat < S32x1024.size a)
theorem k5_idx21_inb : ∀ (v49 : IVec S16 32) (v65 : IVec S16 32) (k5_hw21 : k5_chk21 v49 v65), ∀ a x, ((![v49, v65] : Fin 2 → IVec S16 32) a x).toNat < S32x1024.size a := fun v49 v65 k5_hw21 => k5_hw21
def k5_off88 (k5_t3 : Fin k5_t3_loop.trips) : Fin 2 → Nat :=
  let c0_i32_15 : BitVec 32 := 0#32
  let c1_i32_17 : BitVec 32 := 1#32
  let arg10 : BitVec 32 := Scf.iv c0_i32_15 c1_i32_17 k5_t3
  let v66 : Index := Scalar.indexCast arg10
  let c128 : Index := 128#32
  ![v66.toNat, 128]

def k5_chk22 (v49 : IVec S16 32) (v67 : IVec S16 32) : Prop :=
  (∀ a x, ((![v49, v67] : Fin 2 → IVec S16 32) a x).toNat < S32x1024.size a)
theorem k5_idx22_inb : ∀ (v49 : IVec S16 32) (v67 : IVec S16 32) (k5_hw22 : k5_chk22 v49 v67), ∀ a x, ((![v49, v67] : Fin 2 → IVec S16 32) a x).toNat < S32x1024.size a := fun v49 v67 k5_hw22 => k5_hw22
def k5_off89 (k5_t3 : Fin k5_t3_loop.trips) : Fin 2 → Nat :=
  let c0_i32_15 : BitVec 32 := 0#32
  let c1_i32_17 : BitVec 32 := 1#32
  let arg10 : BitVec 32 := Scf.iv c0_i32_15 c1_i32_17 k5_t3
  let v68 : Index := Scalar.indexCast arg10
  let c144 : Index := 144#32
  ![v68.toNat, 144]

def k5_chk23 (v49 : IVec S16 32) (v69 : IVec S16 32) : Prop :=
  (∀ a x, ((![v49, v69] : Fin 2 → IVec S16 32) a x).toNat < S32x1024.size a)
theorem k5_idx23_inb : ∀ (v49 : IVec S16 32) (v69 : IVec S16 32) (k5_hw23 : k5_chk23 v49 v69), ∀ a x, ((![v49, v69] : Fin 2 → IVec S16 32) a x).toNat < S32x1024.size a := fun v49 v69 k5_hw23 => k5_hw23
def k5_off90 (k5_t3 : Fin k5_t3_loop.trips) : Fin 2 → Nat :=
  let c0_i32_15 : BitVec 32 := 0#32
  let c1_i32_17 : BitVec 32 := 1#32
  let arg10 : BitVec 32 := Scf.iv c0_i32_15 c1_i32_17 k5_t3
  let v70 : Index := Scalar.indexCast arg10
  let c160 : Index := 160#32
  ![v70.toNat, 160]

def k5_chk24 (v49 : IVec S16 32) (v71 : IVec S16 32) : Prop :=
  (∀ a x, ((![v49, v71] : Fin 2 → IVec S16 32) a x).toNat < S32x1024.size a)
theorem k5_idx24_inb : ∀ (v49 : IVec S16 32) (v71 : IVec S16 32) (k5_hw24 : k5_chk24 v49 v71), ∀ a x, ((![v49, v71] : Fin 2 → IVec S16 32) a x).toNat < S32x1024.size a := fun v49 v71 k5_hw24 => k5_hw24
def k5_off91 (k5_t3 : Fin k5_t3_loop.trips) : Fin 2 → Nat :=
  let c0_i32_15 : BitVec 32 := 0#32
  let c1_i32_17 : BitVec 32 := 1#32
  let arg10 : BitVec 32 := Scf.iv c0_i32_15 c1_i32_17 k5_t3
  let v72 : Index := Scalar.indexCast arg10
  let c176 : Index := 176#32
  ![v72.toNat, 176]

def k5_chk25 (v49 : IVec S16 32) (v73 : IVec S16 32) : Prop :=
  (∀ a x, ((![v49, v73] : Fin 2 → IVec S16 32) a x).toNat < S32x1024.size a)
theorem k5_idx25_inb : ∀ (v49 : IVec S16 32) (v73 : IVec S16 32) (k5_hw25 : k5_chk25 v49 v73), ∀ a x, ((![v49, v73] : Fin 2 → IVec S16 32) a x).toNat < S32x1024.size a := fun v49 v73 k5_hw25 => k5_hw25
def k5_off92 (k5_t3 : Fin k5_t3_loop.trips) : Fin 2 → Nat :=
  let c0_i32_15 : BitVec 32 := 0#32
  let c1_i32_17 : BitVec 32 := 1#32
  let arg10 : BitVec 32 := Scf.iv c0_i32_15 c1_i32_17 k5_t3
  let v74 : Index := Scalar.indexCast arg10
  let c184 : Index := 184#32
  ![v74.toNat, 184]

def k5_chk26 (v49 : IVec S16 32) (v75 : IVec S16 32) : Prop :=
  (∀ a x, ((![v49, v75] : Fin 2 → IVec S16 32) a x).toNat < S32x1024.size a)
theorem k5_idx26_inb : ∀ (v49 : IVec S16 32) (v75 : IVec S16 32) (k5_hw26 : k5_chk26 v49 v75), ∀ a x, ((![v49, v75] : Fin 2 → IVec S16 32) a x).toNat < S32x1024.size a := fun v49 v75 k5_hw26 => k5_hw26
@[reducible] def k5_t4_loop : Scf.Loop 32 :=
  let c0_i32_25 : BitVec 32 := 0#32
  let c32_i32_26 : BitVec 32 := 32#32
  let v27 : BitVec 32 := Scalar.addi c0_i32_25 c32_i32_26
  let c1_i32_27 : BitVec 32 := 1#32
  ⟨c0_i32_25, v27, c1_i32_27⟩
def k5_off93 (k5_t4 : Fin k5_t4_loop.trips) : Fin 2 → Nat :=
  let c0_i32_25 : BitVec 32 := 0#32
  let c1_i32_27 : BitVec 32 := 1#32
  let arg10 : BitVec 32 := Scf.iv c0_i32_25 c1_i32_27 k5_t4
  let v50 : Index := Scalar.indexCast arg10
  let c0 : Index := 0#32
  ![v50.toNat, 0]

def k5_chk27 (v49 : IVec S16 32) (v51 : IVec S16 32) : Prop :=
  (∀ a x, ((![v49, v51] : Fin 2 → IVec S16 32) a x).toNat < S32x1024.size a)
theorem k5_idx27_inb : ∀ (v49 : IVec S16 32) (v51 : IVec S16 32) (k5_hw27 : k5_chk27 v49 v51), ∀ a x, ((![v49, v51] : Fin 2 → IVec S16 32) a x).toNat < S32x1024.size a := fun v49 v51 k5_hw27 => k5_hw27
def k5_off94 (k5_t4 : Fin k5_t4_loop.trips) : Fin 2 → Nat :=
  let c0_i32_25 : BitVec 32 := 0#32
  let c1_i32_27 : BitVec 32 := 1#32
  let arg10 : BitVec 32 := Scf.iv c0_i32_25 c1_i32_27 k5_t4
  let v52 : Index := Scalar.indexCast arg10
  let c16 : Index := 16#32
  ![v52.toNat, 16]

def k5_chk28 (v49 : IVec S16 32) (v53 : IVec S16 32) : Prop :=
  (∀ a x, ((![v49, v53] : Fin 2 → IVec S16 32) a x).toNat < S32x1024.size a)
theorem k5_idx28_inb : ∀ (v49 : IVec S16 32) (v53 : IVec S16 32) (k5_hw28 : k5_chk28 v49 v53), ∀ a x, ((![v49, v53] : Fin 2 → IVec S16 32) a x).toNat < S32x1024.size a := fun v49 v53 k5_hw28 => k5_hw28
def k5_off95 (k5_t4 : Fin k5_t4_loop.trips) : Fin 2 → Nat :=
  let c0_i32_25 : BitVec 32 := 0#32
  let c1_i32_27 : BitVec 32 := 1#32
  let arg10 : BitVec 32 := Scf.iv c0_i32_25 c1_i32_27 k5_t4
  let v54 : Index := Scalar.indexCast arg10
  let c32 : Index := 32#32
  ![v54.toNat, 32]

def k5_chk29 (v49 : IVec S16 32) (v55 : IVec S16 32) : Prop :=
  (∀ a x, ((![v49, v55] : Fin 2 → IVec S16 32) a x).toNat < S32x1024.size a)
theorem k5_idx29_inb : ∀ (v49 : IVec S16 32) (v55 : IVec S16 32) (k5_hw29 : k5_chk29 v49 v55), ∀ a x, ((![v49, v55] : Fin 2 → IVec S16 32) a x).toNat < S32x1024.size a := fun v49 v55 k5_hw29 => k5_hw29
def k5_off96 (k5_t4 : Fin k5_t4_loop.trips) : Fin 2 → Nat :=
  let c0_i32_25 : BitVec 32 := 0#32
  let c1_i32_27 : BitVec 32 := 1#32
  let arg10 : BitVec 32 := Scf.iv c0_i32_25 c1_i32_27 k5_t4
  let v56 : Index := Scalar.indexCast arg10
  let c48 : Index := 48#32
  ![v56.toNat, 48]

def k5_chk30 (v49 : IVec S16 32) (v57 : IVec S16 32) : Prop :=
  (∀ a x, ((![v49, v57] : Fin 2 → IVec S16 32) a x).toNat < S32x1024.size a)
theorem k5_idx30_inb : ∀ (v49 : IVec S16 32) (v57 : IVec S16 32) (k5_hw30 : k5_chk30 v49 v57), ∀ a x, ((![v49, v57] : Fin 2 → IVec S16 32) a x).toNat < S32x1024.size a := fun v49 v57 k5_hw30 => k5_hw30
def k5_off97 (k5_t4 : Fin k5_t4_loop.trips) : Fin 2 → Nat :=
  let c0_i32_25 : BitVec 32 := 0#32
  let c1_i32_27 : BitVec 32 := 1#32
  let arg10 : BitVec 32 := Scf.iv c0_i32_25 c1_i32_27 k5_t4
  let v58 : Index := Scalar.indexCast arg10
  let c64 : Index := 64#32
  ![v58.toNat, 64]

def k5_chk31 (v49 : IVec S16 32) (v59 : IVec S16 32) : Prop :=
  (∀ a x, ((![v49, v59] : Fin 2 → IVec S16 32) a x).toNat < S32x1024.size a)
theorem k5_idx31_inb : ∀ (v49 : IVec S16 32) (v59 : IVec S16 32) (k5_hw31 : k5_chk31 v49 v59), ∀ a x, ((![v49, v59] : Fin 2 → IVec S16 32) a x).toNat < S32x1024.size a := fun v49 v59 k5_hw31 => k5_hw31
def k5_off98 (k5_t4 : Fin k5_t4_loop.trips) : Fin 2 → Nat :=
  let c0_i32_25 : BitVec 32 := 0#32
  let c1_i32_27 : BitVec 32 := 1#32
  let arg10 : BitVec 32 := Scf.iv c0_i32_25 c1_i32_27 k5_t4
  let v60 : Index := Scalar.indexCast arg10
  let c80 : Index := 80#32
  ![v60.toNat, 80]

def k5_chk32 (v49 : IVec S16 32) (v61 : IVec S16 32) : Prop :=
  (∀ a x, ((![v49, v61] : Fin 2 → IVec S16 32) a x).toNat < S32x1024.size a)
theorem k5_idx32_inb : ∀ (v49 : IVec S16 32) (v61 : IVec S16 32) (k5_hw32 : k5_chk32 v49 v61), ∀ a x, ((![v49, v61] : Fin 2 → IVec S16 32) a x).toNat < S32x1024.size a := fun v49 v61 k5_hw32 => k5_hw32
def k5_off99 (k5_t4 : Fin k5_t4_loop.trips) : Fin 2 → Nat :=
  let c0_i32_25 : BitVec 32 := 0#32
  let c1_i32_27 : BitVec 32 := 1#32
  let arg10 : BitVec 32 := Scf.iv c0_i32_25 c1_i32_27 k5_t4
  let v62 : Index := Scalar.indexCast arg10
  let c96 : Index := 96#32
  ![v62.toNat, 96]

def k5_chk33 (v49 : IVec S16 32) (v63 : IVec S16 32) : Prop :=
  (∀ a x, ((![v49, v63] : Fin 2 → IVec S16 32) a x).toNat < S32x1024.size a)
theorem k5_idx33_inb : ∀ (v49 : IVec S16 32) (v63 : IVec S16 32) (k5_hw33 : k5_chk33 v49 v63), ∀ a x, ((![v49, v63] : Fin 2 → IVec S16 32) a x).toNat < S32x1024.size a := fun v49 v63 k5_hw33 => k5_hw33
def k5_off100 (k5_t4 : Fin k5_t4_loop.trips) : Fin 2 → Nat :=
  let c0_i32_25 : BitVec 32 := 0#32
  let c1_i32_27 : BitVec 32 := 1#32
  let arg10 : BitVec 32 := Scf.iv c0_i32_25 c1_i32_27 k5_t4
  let v64 : Index := Scalar.indexCast arg10
  let c112 : Index := 112#32
  ![v64.toNat, 112]

def k5_chk34 (v49 : IVec S16 32) (v65 : IVec S16 32) : Prop :=
  (∀ a x, ((![v49, v65] : Fin 2 → IVec S16 32) a x).toNat < S32x1024.size a)
theorem k5_idx34_inb : ∀ (v49 : IVec S16 32) (v65 : IVec S16 32) (k5_hw34 : k5_chk34 v49 v65), ∀ a x, ((![v49, v65] : Fin 2 → IVec S16 32) a x).toNat < S32x1024.size a := fun v49 v65 k5_hw34 => k5_hw34
def k5_off101 (k5_t4 : Fin k5_t4_loop.trips) : Fin 2 → Nat :=
  let c0_i32_25 : BitVec 32 := 0#32
  let c1_i32_27 : BitVec 32 := 1#32
  let arg10 : BitVec 32 := Scf.iv c0_i32_25 c1_i32_27 k5_t4
  let v66 : Index := Scalar.indexCast arg10
  let c128 : Index := 128#32
  ![v66.toNat, 128]

def k5_chk35 (v49 : IVec S16 32) (v67 : IVec S16 32) : Prop :=
  (∀ a x, ((![v49, v67] : Fin 2 → IVec S16 32) a x).toNat < S32x1024.size a)
theorem k5_idx35_inb : ∀ (v49 : IVec S16 32) (v67 : IVec S16 32) (k5_hw35 : k5_chk35 v49 v67), ∀ a x, ((![v49, v67] : Fin 2 → IVec S16 32) a x).toNat < S32x1024.size a := fun v49 v67 k5_hw35 => k5_hw35
def k5_off102 (k5_t4 : Fin k5_t4_loop.trips) : Fin 2 → Nat :=
  let c0_i32_25 : BitVec 32 := 0#32
  let c1_i32_27 : BitVec 32 := 1#32
  let arg10 : BitVec 32 := Scf.iv c0_i32_25 c1_i32_27 k5_t4
  let v68 : Index := Scalar.indexCast arg10
  let c144 : Index := 144#32
  ![v68.toNat, 144]

def k5_chk36 (v49 : IVec S16 32) (v69 : IVec S16 32) : Prop :=
  (∀ a x, ((![v49, v69] : Fin 2 → IVec S16 32) a x).toNat < S32x1024.size a)
theorem k5_idx36_inb : ∀ (v49 : IVec S16 32) (v69 : IVec S16 32) (k5_hw36 : k5_chk36 v49 v69), ∀ a x, ((![v49, v69] : Fin 2 → IVec S16 32) a x).toNat < S32x1024.size a := fun v49 v69 k5_hw36 => k5_hw36
def k5_off103 (k5_t4 : Fin k5_t4_loop.trips) : Fin 2 → Nat :=
  let c0_i32_25 : BitVec 32 := 0#32
  let c1_i32_27 : BitVec 32 := 1#32
  let arg10 : BitVec 32 := Scf.iv c0_i32_25 c1_i32_27 k5_t4
  let v70 : Index := Scalar.indexCast arg10
  let c160 : Index := 160#32
  ![v70.toNat, 160]

def k5_chk37 (v49 : IVec S16 32) (v71 : IVec S16 32) : Prop :=
  (∀ a x, ((![v49, v71] : Fin 2 → IVec S16 32) a x).toNat < S32x1024.size a)
theorem k5_idx37_inb : ∀ (v49 : IVec S16 32) (v71 : IVec S16 32) (k5_hw37 : k5_chk37 v49 v71), ∀ a x, ((![v49, v71] : Fin 2 → IVec S16 32) a x).toNat < S32x1024.size a := fun v49 v71 k5_hw37 => k5_hw37
def k5_off104 (k5_t4 : Fin k5_t4_loop.trips) : Fin 2 → Nat :=
  let c0_i32_25 : BitVec 32 := 0#32
  let c1_i32_27 : BitVec 32 := 1#32
  let arg10 : BitVec 32 := Scf.iv c0_i32_25 c1_i32_27 k5_t4
  let v72 : Index := Scalar.indexCast arg10
  let c176 : Index := 176#32
  ![v72.toNat, 176]

def k5_chk38 (v49 : IVec S16 32) (v73 : IVec S16 32) : Prop :=
  (∀ a x, ((![v49, v73] : Fin 2 → IVec S16 32) a x).toNat < S32x1024.size a)
theorem k5_idx38_inb : ∀ (v49 : IVec S16 32) (v73 : IVec S16 32) (k5_hw38 : k5_chk38 v49 v73), ∀ a x, ((![v49, v73] : Fin 2 → IVec S16 32) a x).toNat < S32x1024.size a := fun v49 v73 k5_hw38 => k5_hw38
def k5_off105 (k5_t4 : Fin k5_t4_loop.trips) : Fin 2 → Nat :=
  let c0_i32_25 : BitVec 32 := 0#32
  let c1_i32_27 : BitVec 32 := 1#32
  let arg10 : BitVec 32 := Scf.iv c0_i32_25 c1_i32_27 k5_t4
  let v74 : Index := Scalar.indexCast arg10
  let c184 : Index := 184#32
  ![v74.toNat, 184]

def k5_chk39 (v49 : IVec S16 32) (v75 : IVec S16 32) : Prop :=
  (∀ a x, ((![v49, v75] : Fin 2 → IVec S16 32) a x).toNat < S32x1024.size a)
theorem k5_idx39_inb : ∀ (v49 : IVec S16 32) (v75 : IVec S16 32) (k5_hw39 : k5_chk39 v49 v75), ∀ a x, ((![v49, v75] : Fin 2 → IVec S16 32) a x).toNat < S32x1024.size a := fun v49 v75 k5_hw39 => k5_hw39
@[reducible] def k5_t5_loop : Scf.Loop 32 :=
  let c0_i32_30 : BitVec 32 := 0#32
  let c32_i32_31 : BitVec 32 := 32#32
  let v29 : BitVec 32 := Scalar.addi c0_i32_30 c32_i32_31
  let c1_i32_32 : BitVec 32 := 1#32
  ⟨c0_i32_30, v29, c1_i32_32⟩
def k5_off106 (k5_t5 : Fin k5_t5_loop.trips) : Fin 2 → Nat :=
  let c0_i32_30 : BitVec 32 := 0#32
  let c1_i32_32 : BitVec 32 := 1#32
  let arg10 : BitVec 32 := Scf.iv c0_i32_30 c1_i32_32 k5_t5
  let v50 : Index := Scalar.indexCast arg10
  let c0 : Index := 0#32
  ![v50.toNat, 0]

def k5_chk40 (v49 : IVec S16 32) (v51 : IVec S16 32) : Prop :=
  (∀ a x, ((![v49, v51] : Fin 2 → IVec S16 32) a x).toNat < S32x1024.size a)
theorem k5_idx40_inb : ∀ (v49 : IVec S16 32) (v51 : IVec S16 32) (k5_hw40 : k5_chk40 v49 v51), ∀ a x, ((![v49, v51] : Fin 2 → IVec S16 32) a x).toNat < S32x1024.size a := fun v49 v51 k5_hw40 => k5_hw40
def k5_off107 (k5_t5 : Fin k5_t5_loop.trips) : Fin 2 → Nat :=
  let c0_i32_30 : BitVec 32 := 0#32
  let c1_i32_32 : BitVec 32 := 1#32
  let arg10 : BitVec 32 := Scf.iv c0_i32_30 c1_i32_32 k5_t5
  let v52 : Index := Scalar.indexCast arg10
  let c16 : Index := 16#32
  ![v52.toNat, 16]

def k5_chk41 (v49 : IVec S16 32) (v53 : IVec S16 32) : Prop :=
  (∀ a x, ((![v49, v53] : Fin 2 → IVec S16 32) a x).toNat < S32x1024.size a)
theorem k5_idx41_inb : ∀ (v49 : IVec S16 32) (v53 : IVec S16 32) (k5_hw41 : k5_chk41 v49 v53), ∀ a x, ((![v49, v53] : Fin 2 → IVec S16 32) a x).toNat < S32x1024.size a := fun v49 v53 k5_hw41 => k5_hw41
def k5_off108 (k5_t5 : Fin k5_t5_loop.trips) : Fin 2 → Nat :=
  let c0_i32_30 : BitVec 32 := 0#32
  let c1_i32_32 : BitVec 32 := 1#32
  let arg10 : BitVec 32 := Scf.iv c0_i32_30 c1_i32_32 k5_t5
  let v54 : Index := Scalar.indexCast arg10
  let c32 : Index := 32#32
  ![v54.toNat, 32]

def k5_chk42 (v49 : IVec S16 32) (v55 : IVec S16 32) : Prop :=
  (∀ a x, ((![v49, v55] : Fin 2 → IVec S16 32) a x).toNat < S32x1024.size a)
theorem k5_idx42_inb : ∀ (v49 : IVec S16 32) (v55 : IVec S16 32) (k5_hw42 : k5_chk42 v49 v55), ∀ a x, ((![v49, v55] : Fin 2 → IVec S16 32) a x).toNat < S32x1024.size a := fun v49 v55 k5_hw42 => k5_hw42
def k5_off109 (k5_t5 : Fin k5_t5_loop.trips) : Fin 2 → Nat :=
  let c0_i32_30 : BitVec 32 := 0#32
  let c1_i32_32 : BitVec 32 := 1#32
  let arg10 : BitVec 32 := Scf.iv c0_i32_30 c1_i32_32 k5_t5
  let v56 : Index := Scalar.indexCast arg10
  let c48 : Index := 48#32
  ![v56.toNat, 48]

def k5_chk43 (v49 : IVec S16 32) (v57 : IVec S16 32) : Prop :=
  (∀ a x, ((![v49, v57] : Fin 2 → IVec S16 32) a x).toNat < S32x1024.size a)
theorem k5_idx43_inb : ∀ (v49 : IVec S16 32) (v57 : IVec S16 32) (k5_hw43 : k5_chk43 v49 v57), ∀ a x, ((![v49, v57] : Fin 2 → IVec S16 32) a x).toNat < S32x1024.size a := fun v49 v57 k5_hw43 => k5_hw43
def k5_off110 (k5_t5 : Fin k5_t5_loop.trips) : Fin 2 → Nat :=
  let c0_i32_30 : BitVec 32 := 0#32
  let c1_i32_32 : BitVec 32 := 1#32
  let arg10 : BitVec 32 := Scf.iv c0_i32_30 c1_i32_32 k5_t5
  let v58 : Index := Scalar.indexCast arg10
  let c64 : Index := 64#32
  ![v58.toNat, 64]

def k5_chk44 (v49 : IVec S16 32) (v59 : IVec S16 32) : Prop :=
  (∀ a x, ((![v49, v59] : Fin 2 → IVec S16 32) a x).toNat < S32x1024.size a)
theorem k5_idx44_inb : ∀ (v49 : IVec S16 32) (v59 : IVec S16 32) (k5_hw44 : k5_chk44 v49 v59), ∀ a x, ((![v49, v59] : Fin 2 → IVec S16 32) a x).toNat < S32x1024.size a := fun v49 v59 k5_hw44 => k5_hw44
def k5_off111 (k5_t5 : Fin k5_t5_loop.trips) : Fin 2 → Nat :=
  let c0_i32_30 : BitVec 32 := 0#32
  let c1_i32_32 : BitVec 32 := 1#32
  let arg10 : BitVec 32 := Scf.iv c0_i32_30 c1_i32_32 k5_t5
  let v60 : Index := Scalar.indexCast arg10
  let c80 : Index := 80#32
  ![v60.toNat, 80]

def k5_chk45 (v49 : IVec S16 32) (v61 : IVec S16 32) : Prop :=
  (∀ a x, ((![v49, v61] : Fin 2 → IVec S16 32) a x).toNat < S32x1024.size a)
theorem k5_idx45_inb : ∀ (v49 : IVec S16 32) (v61 : IVec S16 32) (k5_hw45 : k5_chk45 v49 v61), ∀ a x, ((![v49, v61] : Fin 2 → IVec S16 32) a x).toNat < S32x1024.size a := fun v49 v61 k5_hw45 => k5_hw45
def k5_off112 (k5_t5 : Fin k5_t5_loop.trips) : Fin 2 → Nat :=
  let c0_i32_30 : BitVec 32 := 0#32
  let c1_i32_32 : BitVec 32 := 1#32
  let arg10 : BitVec 32 := Scf.iv c0_i32_30 c1_i32_32 k5_t5
  let v62 : Index := Scalar.indexCast arg10
  let c96 : Index := 96#32
  ![v62.toNat, 96]

def k5_chk46 (v49 : IVec S16 32) (v63 : IVec S16 32) : Prop :=
  (∀ a x, ((![v49, v63] : Fin 2 → IVec S16 32) a x).toNat < S32x1024.size a)
theorem k5_idx46_inb : ∀ (v49 : IVec S16 32) (v63 : IVec S16 32) (k5_hw46 : k5_chk46 v49 v63), ∀ a x, ((![v49, v63] : Fin 2 → IVec S16 32) a x).toNat < S32x1024.size a := fun v49 v63 k5_hw46 => k5_hw46
def k5_off113 (k5_t5 : Fin k5_t5_loop.trips) : Fin 2 → Nat :=
  let c0_i32_30 : BitVec 32 := 0#32
  let c1_i32_32 : BitVec 32 := 1#32
  let arg10 : BitVec 32 := Scf.iv c0_i32_30 c1_i32_32 k5_t5
  let v64 : Index := Scalar.indexCast arg10
  let c112 : Index := 112#32
  ![v64.toNat, 112]

def k5_chk47 (v49 : IVec S16 32) (v65 : IVec S16 32) : Prop :=
  (∀ a x, ((![v49, v65] : Fin 2 → IVec S16 32) a x).toNat < S32x1024.size a)
theorem k5_idx47_inb : ∀ (v49 : IVec S16 32) (v65 : IVec S16 32) (k5_hw47 : k5_chk47 v49 v65), ∀ a x, ((![v49, v65] : Fin 2 → IVec S16 32) a x).toNat < S32x1024.size a := fun v49 v65 k5_hw47 => k5_hw47
def k5_off114 (k5_t5 : Fin k5_t5_loop.trips) : Fin 2 → Nat :=
  let c0_i32_30 : BitVec 32 := 0#32
  let c1_i32_32 : BitVec 32 := 1#32
  let arg10 : BitVec 32 := Scf.iv c0_i32_30 c1_i32_32 k5_t5
  let v66 : Index := Scalar.indexCast arg10
  let c128 : Index := 128#32
  ![v66.toNat, 128]

def k5_chk48 (v49 : IVec S16 32) (v67 : IVec S16 32) : Prop :=
  (∀ a x, ((![v49, v67] : Fin 2 → IVec S16 32) a x).toNat < S32x1024.size a)
theorem k5_idx48_inb : ∀ (v49 : IVec S16 32) (v67 : IVec S16 32) (k5_hw48 : k5_chk48 v49 v67), ∀ a x, ((![v49, v67] : Fin 2 → IVec S16 32) a x).toNat < S32x1024.size a := fun v49 v67 k5_hw48 => k5_hw48
def k5_off115 (k5_t5 : Fin k5_t5_loop.trips) : Fin 2 → Nat :=
  let c0_i32_30 : BitVec 32 := 0#32
  let c1_i32_32 : BitVec 32 := 1#32
  let arg10 : BitVec 32 := Scf.iv c0_i32_30 c1_i32_32 k5_t5
  let v68 : Index := Scalar.indexCast arg10
  let c144 : Index := 144#32
  ![v68.toNat, 144]

def k5_chk49 (v49 : IVec S16 32) (v69 : IVec S16 32) : Prop :=
  (∀ a x, ((![v49, v69] : Fin 2 → IVec S16 32) a x).toNat < S32x1024.size a)
theorem k5_idx49_inb : ∀ (v49 : IVec S16 32) (v69 : IVec S16 32) (k5_hw49 : k5_chk49 v49 v69), ∀ a x, ((![v49, v69] : Fin 2 → IVec S16 32) a x).toNat < S32x1024.size a := fun v49 v69 k5_hw49 => k5_hw49
def k5_off116 (k5_t5 : Fin k5_t5_loop.trips) : Fin 2 → Nat :=
  let c0_i32_30 : BitVec 32 := 0#32
  let c1_i32_32 : BitVec 32 := 1#32
  let arg10 : BitVec 32 := Scf.iv c0_i32_30 c1_i32_32 k5_t5
  let v70 : Index := Scalar.indexCast arg10
  let c160 : Index := 160#32
  ![v70.toNat, 160]

def k5_chk50 (v49 : IVec S16 32) (v71 : IVec S16 32) : Prop :=
  (∀ a x, ((![v49, v71] : Fin 2 → IVec S16 32) a x).toNat < S32x1024.size a)
theorem k5_idx50_inb : ∀ (v49 : IVec S16 32) (v71 : IVec S16 32) (k5_hw50 : k5_chk50 v49 v71), ∀ a x, ((![v49, v71] : Fin 2 → IVec S16 32) a x).toNat < S32x1024.size a := fun v49 v71 k5_hw50 => k5_hw50
def k5_off117 (k5_t5 : Fin k5_t5_loop.trips) : Fin 2 → Nat :=
  let c0_i32_30 : BitVec 32 := 0#32
  let c1_i32_32 : BitVec 32 := 1#32
  let arg10 : BitVec 32 := Scf.iv c0_i32_30 c1_i32_32 k5_t5
  let v72 : Index := Scalar.indexCast arg10
  let c176 : Index := 176#32
  ![v72.toNat, 176]

def k5_chk51 (v49 : IVec S16 32) (v73 : IVec S16 32) : Prop :=
  (∀ a x, ((![v49, v73] : Fin 2 → IVec S16 32) a x).toNat < S32x1024.size a)
theorem k5_idx51_inb : ∀ (v49 : IVec S16 32) (v73 : IVec S16 32) (k5_hw51 : k5_chk51 v49 v73), ∀ a x, ((![v49, v73] : Fin 2 → IVec S16 32) a x).toNat < S32x1024.size a := fun v49 v73 k5_hw51 => k5_hw51
def k5_off118 (k5_t5 : Fin k5_t5_loop.trips) : Fin 2 → Nat :=
  let c0_i32_30 : BitVec 32 := 0#32
  let c1_i32_32 : BitVec 32 := 1#32
  let arg10 : BitVec 32 := Scf.iv c0_i32_30 c1_i32_32 k5_t5
  let v74 : Index := Scalar.indexCast arg10
  let c184 : Index := 184#32
  ![v74.toNat, 184]

def k5_chk52 (v49 : IVec S16 32) (v75 : IVec S16 32) : Prop :=
  (∀ a x, ((![v49, v75] : Fin 2 → IVec S16 32) a x).toNat < S32x1024.size a)
theorem k5_idx52_inb : ∀ (v49 : IVec S16 32) (v75 : IVec S16 32) (k5_hw52 : k5_chk52 v49 v75), ∀ a x, ((![v49, v75] : Fin 2 → IVec S16 32) a x).toNat < S32x1024.size a := fun v49 v75 k5_hw52 => k5_hw52
@[reducible] def k5_t6_loop : Scf.Loop 32 :=
  let c0_i32_40 : BitVec 32 := 0#32
  let c32_i32_41 : BitVec 32 := 32#32
  let v37 : BitVec 32 := Scalar.addi c0_i32_40 c32_i32_41
  let c1_i32_42 : BitVec 32 := 1#32
  ⟨c0_i32_40, v37, c1_i32_42⟩
def k5_off119 (k5_t6 : Fin k5_t6_loop.trips) : Fin 2 → Nat :=
  let c0_i32_40 : BitVec 32 := 0#32
  let c1_i32_42 : BitVec 32 := 1#32
  let arg10 : BitVec 32 := Scf.iv c0_i32_40 c1_i32_42 k5_t6
  let v50 : Index := Scalar.indexCast arg10
  let c0 : Index := 0#32
  ![v50.toNat, 0]

def k5_chk53 (v49 : IVec S16 32) (v51 : IVec S16 32) : Prop :=
  (∀ a x, ((![v49, v51] : Fin 2 → IVec S16 32) a x).toNat < S32x1024.size a)
theorem k5_idx53_inb : ∀ (v49 : IVec S16 32) (v51 : IVec S16 32) (k5_hw53 : k5_chk53 v49 v51), ∀ a x, ((![v49, v51] : Fin 2 → IVec S16 32) a x).toNat < S32x1024.size a := fun v49 v51 k5_hw53 => k5_hw53
def k5_off120 (k5_t6 : Fin k5_t6_loop.trips) : Fin 2 → Nat :=
  let c0_i32_40 : BitVec 32 := 0#32
  let c1_i32_42 : BitVec 32 := 1#32
  let arg10 : BitVec 32 := Scf.iv c0_i32_40 c1_i32_42 k5_t6
  let v52 : Index := Scalar.indexCast arg10
  let c16 : Index := 16#32
  ![v52.toNat, 16]

def k5_chk54 (v49 : IVec S16 32) (v53 : IVec S16 32) : Prop :=
  (∀ a x, ((![v49, v53] : Fin 2 → IVec S16 32) a x).toNat < S32x1024.size a)
theorem k5_idx54_inb : ∀ (v49 : IVec S16 32) (v53 : IVec S16 32) (k5_hw54 : k5_chk54 v49 v53), ∀ a x, ((![v49, v53] : Fin 2 → IVec S16 32) a x).toNat < S32x1024.size a := fun v49 v53 k5_hw54 => k5_hw54
def k5_off121 (k5_t6 : Fin k5_t6_loop.trips) : Fin 2 → Nat :=
  let c0_i32_40 : BitVec 32 := 0#32
  let c1_i32_42 : BitVec 32 := 1#32
  let arg10 : BitVec 32 := Scf.iv c0_i32_40 c1_i32_42 k5_t6
  let v54 : Index := Scalar.indexCast arg10
  let c32 : Index := 32#32
  ![v54.toNat, 32]

def k5_chk55 (v49 : IVec S16 32) (v55 : IVec S16 32) : Prop :=
  (∀ a x, ((![v49, v55] : Fin 2 → IVec S16 32) a x).toNat < S32x1024.size a)
theorem k5_idx55_inb : ∀ (v49 : IVec S16 32) (v55 : IVec S16 32) (k5_hw55 : k5_chk55 v49 v55), ∀ a x, ((![v49, v55] : Fin 2 → IVec S16 32) a x).toNat < S32x1024.size a := fun v49 v55 k5_hw55 => k5_hw55
def k5_off122 (k5_t6 : Fin k5_t6_loop.trips) : Fin 2 → Nat :=
  let c0_i32_40 : BitVec 32 := 0#32
  let c1_i32_42 : BitVec 32 := 1#32
  let arg10 : BitVec 32 := Scf.iv c0_i32_40 c1_i32_42 k5_t6
  let v56 : Index := Scalar.indexCast arg10
  let c48 : Index := 48#32
  ![v56.toNat, 48]

def k5_chk56 (v49 : IVec S16 32) (v57 : IVec S16 32) : Prop :=
  (∀ a x, ((![v49, v57] : Fin 2 → IVec S16 32) a x).toNat < S32x1024.size a)
theorem k5_idx56_inb : ∀ (v49 : IVec S16 32) (v57 : IVec S16 32) (k5_hw56 : k5_chk56 v49 v57), ∀ a x, ((![v49, v57] : Fin 2 → IVec S16 32) a x).toNat < S32x1024.size a := fun v49 v57 k5_hw56 => k5_hw56
def k5_off123 (k5_t6 : Fin k5_t6_loop.trips) : Fin 2 → Nat :=
  let c0_i32_40 : BitVec 32 := 0#32
  let c1_i32_42 : BitVec 32 := 1#32
  let arg10 : BitVec 32 := Scf.iv c0_i32_40 c1_i32_42 k5_t6
  let v58 : Index := Scalar.indexCast arg10
  let c64 : Index := 64#32
  ![v58.toNat, 64]

def k5_chk57 (v49 : IVec S16 32) (v59 : IVec S16 32) : Prop :=
  (∀ a x, ((![v49, v59] : Fin 2 → IVec S16 32) a x).toNat < S32x1024.size a)
theorem k5_idx57_inb : ∀ (v49 : IVec S16 32) (v59 : IVec S16 32) (k5_hw57 : k5_chk57 v49 v59), ∀ a x, ((![v49, v59] : Fin 2 → IVec S16 32) a x).toNat < S32x1024.size a := fun v49 v59 k5_hw57 => k5_hw57
def k5_off124 (k5_t6 : Fin k5_t6_loop.trips) : Fin 2 → Nat :=
  let c0_i32_40 : BitVec 32 := 0#32
  let c1_i32_42 : BitVec 32 := 1#32
  let arg10 : BitVec 32 := Scf.iv c0_i32_40 c1_i32_42 k5_t6
  let v60 : Index := Scalar.indexCast arg10
  let c80 : Index := 80#32
  ![v60.toNat, 80]

def k5_chk58 (v49 : IVec S16 32) (v61 : IVec S16 32) : Prop :=
  (∀ a x, ((![v49, v61] : Fin 2 → IVec S16 32) a x).toNat < S32x1024.size a)
theorem k5_idx58_inb : ∀ (v49 : IVec S16 32) (v61 : IVec S16 32) (k5_hw58 : k5_chk58 v49 v61), ∀ a x, ((![v49, v61] : Fin 2 → IVec S16 32) a x).toNat < S32x1024.size a := fun v49 v61 k5_hw58 => k5_hw58
def k5_off125 (k5_t6 : Fin k5_t6_loop.trips) : Fin 2 → Nat :=
  let c0_i32_40 : BitVec 32 := 0#32
  let c1_i32_42 : BitVec 32 := 1#32
  let arg10 : BitVec 32 := Scf.iv c0_i32_40 c1_i32_42 k5_t6
  let v62 : Index := Scalar.indexCast arg10
  let c96 : Index := 96#32
  ![v62.toNat, 96]

def k5_chk59 (v49 : IVec S16 32) (v63 : IVec S16 32) : Prop :=
  (∀ a x, ((![v49, v63] : Fin 2 → IVec S16 32) a x).toNat < S32x1024.size a)
theorem k5_idx59_inb : ∀ (v49 : IVec S16 32) (v63 : IVec S16 32) (k5_hw59 : k5_chk59 v49 v63), ∀ a x, ((![v49, v63] : Fin 2 → IVec S16 32) a x).toNat < S32x1024.size a := fun v49 v63 k5_hw59 => k5_hw59
def k5_off126 (k5_t6 : Fin k5_t6_loop.trips) : Fin 2 → Nat :=
  let c0_i32_40 : BitVec 32 := 0#32
  let c1_i32_42 : BitVec 32 := 1#32
  let arg10 : BitVec 32 := Scf.iv c0_i32_40 c1_i32_42 k5_t6
  let v64 : Index := Scalar.indexCast arg10
  let c112 : Index := 112#32
  ![v64.toNat, 112]

def k5_chk60 (v49 : IVec S16 32) (v65 : IVec S16 32) : Prop :=
  (∀ a x, ((![v49, v65] : Fin 2 → IVec S16 32) a x).toNat < S32x1024.size a)
theorem k5_idx60_inb : ∀ (v49 : IVec S16 32) (v65 : IVec S16 32) (k5_hw60 : k5_chk60 v49 v65), ∀ a x, ((![v49, v65] : Fin 2 → IVec S16 32) a x).toNat < S32x1024.size a := fun v49 v65 k5_hw60 => k5_hw60
def k5_off127 (k5_t6 : Fin k5_t6_loop.trips) : Fin 2 → Nat :=
  let c0_i32_40 : BitVec 32 := 0#32
  let c1_i32_42 : BitVec 32 := 1#32
  let arg10 : BitVec 32 := Scf.iv c0_i32_40 c1_i32_42 k5_t6
  let v66 : Index := Scalar.indexCast arg10
  let c128 : Index := 128#32
  ![v66.toNat, 128]

def k5_chk61 (v49 : IVec S16 32) (v67 : IVec S16 32) : Prop :=
  (∀ a x, ((![v49, v67] : Fin 2 → IVec S16 32) a x).toNat < S32x1024.size a)
theorem k5_idx61_inb : ∀ (v49 : IVec S16 32) (v67 : IVec S16 32) (k5_hw61 : k5_chk61 v49 v67), ∀ a x, ((![v49, v67] : Fin 2 → IVec S16 32) a x).toNat < S32x1024.size a := fun v49 v67 k5_hw61 => k5_hw61
def k5_off128 (k5_t6 : Fin k5_t6_loop.trips) : Fin 2 → Nat :=
  let c0_i32_40 : BitVec 32 := 0#32
  let c1_i32_42 : BitVec 32 := 1#32
  let arg10 : BitVec 32 := Scf.iv c0_i32_40 c1_i32_42 k5_t6
  let v68 : Index := Scalar.indexCast arg10
  let c144 : Index := 144#32
  ![v68.toNat, 144]

def k5_chk62 (v49 : IVec S16 32) (v69 : IVec S16 32) : Prop :=
  (∀ a x, ((![v49, v69] : Fin 2 → IVec S16 32) a x).toNat < S32x1024.size a)
theorem k5_idx62_inb : ∀ (v49 : IVec S16 32) (v69 : IVec S16 32) (k5_hw62 : k5_chk62 v49 v69), ∀ a x, ((![v49, v69] : Fin 2 → IVec S16 32) a x).toNat < S32x1024.size a := fun v49 v69 k5_hw62 => k5_hw62
def k5_off129 (k5_t6 : Fin k5_t6_loop.trips) : Fin 2 → Nat :=
  let c0_i32_40 : BitVec 32 := 0#32
  let c1_i32_42 : BitVec 32 := 1#32
  let arg10 : BitVec 32 := Scf.iv c0_i32_40 c1_i32_42 k5_t6
  let v70 : Index := Scalar.indexCast arg10
  let c160 : Index := 160#32
  ![v70.toNat, 160]

def k5_chk63 (v49 : IVec S16 32) (v71 : IVec S16 32) : Prop :=
  (∀ a x, ((![v49, v71] : Fin 2 → IVec S16 32) a x).toNat < S32x1024.size a)
theorem k5_idx63_inb : ∀ (v49 : IVec S16 32) (v71 : IVec S16 32) (k5_hw63 : k5_chk63 v49 v71), ∀ a x, ((![v49, v71] : Fin 2 → IVec S16 32) a x).toNat < S32x1024.size a := fun v49 v71 k5_hw63 => k5_hw63
def k5_off130 (k5_t6 : Fin k5_t6_loop.trips) : Fin 2 → Nat :=
  let c0_i32_40 : BitVec 32 := 0#32
  let c1_i32_42 : BitVec 32 := 1#32
  let arg10 : BitVec 32 := Scf.iv c0_i32_40 c1_i32_42 k5_t6
  let v72 : Index := Scalar.indexCast arg10
  let c176 : Index := 176#32
  ![v72.toNat, 176]

def k5_chk64 (v49 : IVec S16 32) (v73 : IVec S16 32) : Prop :=
  (∀ a x, ((![v49, v73] : Fin 2 → IVec S16 32) a x).toNat < S32x1024.size a)
theorem k5_idx64_inb : ∀ (v49 : IVec S16 32) (v73 : IVec S16 32) (k5_hw64 : k5_chk64 v49 v73), ∀ a x, ((![v49, v73] : Fin 2 → IVec S16 32) a x).toNat < S32x1024.size a := fun v49 v73 k5_hw64 => k5_hw64
def k5_off131 (k5_t6 : Fin k5_t6_loop.trips) : Fin 2 → Nat :=
  let c0_i32_40 : BitVec 32 := 0#32
  let c1_i32_42 : BitVec 32 := 1#32
  let arg10 : BitVec 32 := Scf.iv c0_i32_40 c1_i32_42 k5_t6
  let v74 : Index := Scalar.indexCast arg10
  let c184 : Index := 184#32
  ![v74.toNat, 184]

def k5_chk65 (v49 : IVec S16 32) (v75 : IVec S16 32) : Prop :=
  (∀ a x, ((![v49, v75] : Fin 2 → IVec S16 32) a x).toNat < S32x1024.size a)
theorem k5_idx65_inb : ∀ (v49 : IVec S16 32) (v75 : IVec S16 32) (k5_hw65 : k5_chk65 v49 v75), ∀ a x, ((![v49, v75] : Fin 2 → IVec S16 32) a x).toNat < S32x1024.size a := fun v49 v75 k5_hw65 => k5_hw65
@[reducible] def k5_t7_loop : Scf.Loop 32 :=
  let c0_i32_45 : BitVec 32 := 0#32
  let c32_i32_46 : BitVec 32 := 32#32
  let v39 : BitVec 32 := Scalar.addi c0_i32_45 c32_i32_46
  let c1_i32_47 : BitVec 32 := 1#32
  ⟨c0_i32_45, v39, c1_i32_47⟩
def k5_off132 (k5_t7 : Fin k5_t7_loop.trips) : Fin 2 → Nat :=
  let c0_i32_45 : BitVec 32 := 0#32
  let c1_i32_47 : BitVec 32 := 1#32
  let arg10 : BitVec 32 := Scf.iv c0_i32_45 c1_i32_47 k5_t7
  let v50 : Index := Scalar.indexCast arg10
  let c0 : Index := 0#32
  ![v50.toNat, 0]

def k5_chk66 (v49 : IVec S16 32) (v51 : IVec S16 32) : Prop :=
  (∀ a x, ((![v49, v51] : Fin 2 → IVec S16 32) a x).toNat < S32x1024.size a)
theorem k5_idx66_inb : ∀ (v49 : IVec S16 32) (v51 : IVec S16 32) (k5_hw66 : k5_chk66 v49 v51), ∀ a x, ((![v49, v51] : Fin 2 → IVec S16 32) a x).toNat < S32x1024.size a := fun v49 v51 k5_hw66 => k5_hw66
def k5_off133 (k5_t7 : Fin k5_t7_loop.trips) : Fin 2 → Nat :=
  let c0_i32_45 : BitVec 32 := 0#32
  let c1_i32_47 : BitVec 32 := 1#32
  let arg10 : BitVec 32 := Scf.iv c0_i32_45 c1_i32_47 k5_t7
  let v52 : Index := Scalar.indexCast arg10
  let c16 : Index := 16#32
  ![v52.toNat, 16]

def k5_chk67 (v49 : IVec S16 32) (v53 : IVec S16 32) : Prop :=
  (∀ a x, ((![v49, v53] : Fin 2 → IVec S16 32) a x).toNat < S32x1024.size a)
theorem k5_idx67_inb : ∀ (v49 : IVec S16 32) (v53 : IVec S16 32) (k5_hw67 : k5_chk67 v49 v53), ∀ a x, ((![v49, v53] : Fin 2 → IVec S16 32) a x).toNat < S32x1024.size a := fun v49 v53 k5_hw67 => k5_hw67
def k5_off134 (k5_t7 : Fin k5_t7_loop.trips) : Fin 2 → Nat :=
  let c0_i32_45 : BitVec 32 := 0#32
  let c1_i32_47 : BitVec 32 := 1#32
  let arg10 : BitVec 32 := Scf.iv c0_i32_45 c1_i32_47 k5_t7
  let v54 : Index := Scalar.indexCast arg10
  let c32 : Index := 32#32
  ![v54.toNat, 32]

def k5_chk68 (v49 : IVec S16 32) (v55 : IVec S16 32) : Prop :=
  (∀ a x, ((![v49, v55] : Fin 2 → IVec S16 32) a x).toNat < S32x1024.size a)
theorem k5_idx68_inb : ∀ (v49 : IVec S16 32) (v55 : IVec S16 32) (k5_hw68 : k5_chk68 v49 v55), ∀ a x, ((![v49, v55] : Fin 2 → IVec S16 32) a x).toNat < S32x1024.size a := fun v49 v55 k5_hw68 => k5_hw68
def k5_off135 (k5_t7 : Fin k5_t7_loop.trips) : Fin 2 → Nat :=
  let c0_i32_45 : BitVec 32 := 0#32
  let c1_i32_47 : BitVec 32 := 1#32
  let arg10 : BitVec 32 := Scf.iv c0_i32_45 c1_i32_47 k5_t7
  let v56 : Index := Scalar.indexCast arg10
  let c48 : Index := 48#32
  ![v56.toNat, 48]

def k5_chk69 (v49 : IVec S16 32) (v57 : IVec S16 32) : Prop :=
  (∀ a x, ((![v49, v57] : Fin 2 → IVec S16 32) a x).toNat < S32x1024.size a)
theorem k5_idx69_inb : ∀ (v49 : IVec S16 32) (v57 : IVec S16 32) (k5_hw69 : k5_chk69 v49 v57), ∀ a x, ((![v49, v57] : Fin 2 → IVec S16 32) a x).toNat < S32x1024.size a := fun v49 v57 k5_hw69 => k5_hw69
def k5_off136 (k5_t7 : Fin k5_t7_loop.trips) : Fin 2 → Nat :=
  let c0_i32_45 : BitVec 32 := 0#32
  let c1_i32_47 : BitVec 32 := 1#32
  let arg10 : BitVec 32 := Scf.iv c0_i32_45 c1_i32_47 k5_t7
  let v58 : Index := Scalar.indexCast arg10
  let c64 : Index := 64#32
  ![v58.toNat, 64]

def k5_chk70 (v49 : IVec S16 32) (v59 : IVec S16 32) : Prop :=
  (∀ a x, ((![v49, v59] : Fin 2 → IVec S16 32) a x).toNat < S32x1024.size a)
theorem k5_idx70_inb : ∀ (v49 : IVec S16 32) (v59 : IVec S16 32) (k5_hw70 : k5_chk70 v49 v59), ∀ a x, ((![v49, v59] : Fin 2 → IVec S16 32) a x).toNat < S32x1024.size a := fun v49 v59 k5_hw70 => k5_hw70
def k5_off137 (k5_t7 : Fin k5_t7_loop.trips) : Fin 2 → Nat :=
  let c0_i32_45 : BitVec 32 := 0#32
  let c1_i32_47 : BitVec 32 := 1#32
  let arg10 : BitVec 32 := Scf.iv c0_i32_45 c1_i32_47 k5_t7
  let v60 : Index := Scalar.indexCast arg10
  let c80 : Index := 80#32
  ![v60.toNat, 80]

def k5_chk71 (v49 : IVec S16 32) (v61 : IVec S16 32) : Prop :=
  (∀ a x, ((![v49, v61] : Fin 2 → IVec S16 32) a x).toNat < S32x1024.size a)
theorem k5_idx71_inb : ∀ (v49 : IVec S16 32) (v61 : IVec S16 32) (k5_hw71 : k5_chk71 v49 v61), ∀ a x, ((![v49, v61] : Fin 2 → IVec S16 32) a x).toNat < S32x1024.size a := fun v49 v61 k5_hw71 => k5_hw71
def k5_off138 (k5_t7 : Fin k5_t7_loop.trips) : Fin 2 → Nat :=
  let c0_i32_45 : BitVec 32 := 0#32
  let c1_i32_47 : BitVec 32 := 1#32
  let arg10 : BitVec 32 := Scf.iv c0_i32_45 c1_i32_47 k5_t7
  let v62 : Index := Scalar.indexCast arg10
  let c96 : Index := 96#32
  ![v62.toNat, 96]

def k5_chk72 (v49 : IVec S16 32) (v63 : IVec S16 32) : Prop :=
  (∀ a x, ((![v49, v63] : Fin 2 → IVec S16 32) a x).toNat < S32x1024.size a)
theorem k5_idx72_inb : ∀ (v49 : IVec S16 32) (v63 : IVec S16 32) (k5_hw72 : k5_chk72 v49 v63), ∀ a x, ((![v49, v63] : Fin 2 → IVec S16 32) a x).toNat < S32x1024.size a := fun v49 v63 k5_hw72 => k5_hw72
def k5_off139 (k5_t7 : Fin k5_t7_loop.trips) : Fin 2 → Nat :=
  let c0_i32_45 : BitVec 32 := 0#32
  let c1_i32_47 : BitVec 32 := 1#32
  let arg10 : BitVec 32 := Scf.iv c0_i32_45 c1_i32_47 k5_t7
  let v64 : Index := Scalar.indexCast arg10
  let c112 : Index := 112#32
  ![v64.toNat, 112]

def k5_chk73 (v49 : IVec S16 32) (v65 : IVec S16 32) : Prop :=
  (∀ a x, ((![v49, v65] : Fin 2 → IVec S16 32) a x).toNat < S32x1024.size a)
theorem k5_idx73_inb : ∀ (v49 : IVec S16 32) (v65 : IVec S16 32) (k5_hw73 : k5_chk73 v49 v65), ∀ a x, ((![v49, v65] : Fin 2 → IVec S16 32) a x).toNat < S32x1024.size a := fun v49 v65 k5_hw73 => k5_hw73
def k5_off140 (k5_t7 : Fin k5_t7_loop.trips) : Fin 2 → Nat :=
  let c0_i32_45 : BitVec 32 := 0#32
  let c1_i32_47 : BitVec 32 := 1#32
  let arg10 : BitVec 32 := Scf.iv c0_i32_45 c1_i32_47 k5_t7
  let v66 : Index := Scalar.indexCast arg10
  let c128 : Index := 128#32
  ![v66.toNat, 128]

def k5_chk74 (v49 : IVec S16 32) (v67 : IVec S16 32) : Prop :=
  (∀ a x, ((![v49, v67] : Fin 2 → IVec S16 32) a x).toNat < S32x1024.size a)
theorem k5_idx74_inb : ∀ (v49 : IVec S16 32) (v67 : IVec S16 32) (k5_hw74 : k5_chk74 v49 v67), ∀ a x, ((![v49, v67] : Fin 2 → IVec S16 32) a x).toNat < S32x1024.size a := fun v49 v67 k5_hw74 => k5_hw74
def k5_off141 (k5_t7 : Fin k5_t7_loop.trips) : Fin 2 → Nat :=
  let c0_i32_45 : BitVec 32 := 0#32
  let c1_i32_47 : BitVec 32 := 1#32
  let arg10 : BitVec 32 := Scf.iv c0_i32_45 c1_i32_47 k5_t7
  let v68 : Index := Scalar.indexCast arg10
  let c144 : Index := 144#32
  ![v68.toNat, 144]

def k5_chk75 (v49 : IVec S16 32) (v69 : IVec S16 32) : Prop :=
  (∀ a x, ((![v49, v69] : Fin 2 → IVec S16 32) a x).toNat < S32x1024.size a)
theorem k5_idx75_inb : ∀ (v49 : IVec S16 32) (v69 : IVec S16 32) (k5_hw75 : k5_chk75 v49 v69), ∀ a x, ((![v49, v69] : Fin 2 → IVec S16 32) a x).toNat < S32x1024.size a := fun v49 v69 k5_hw75 => k5_hw75
def k5_off142 (k5_t7 : Fin k5_t7_loop.trips) : Fin 2 → Nat :=
  let c0_i32_45 : BitVec 32 := 0#32
  let c1_i32_47 : BitVec 32 := 1#32
  let arg10 : BitVec 32 := Scf.iv c0_i32_45 c1_i32_47 k5_t7
  let v70 : Index := Scalar.indexCast arg10
  let c160 : Index := 160#32
  ![v70.toNat, 160]

def k5_chk76 (v49 : IVec S16 32) (v71 : IVec S16 32) : Prop :=
  (∀ a x, ((![v49, v71] : Fin 2 → IVec S16 32) a x).toNat < S32x1024.size a)
theorem k5_idx76_inb : ∀ (v49 : IVec S16 32) (v71 : IVec S16 32) (k5_hw76 : k5_chk76 v49 v71), ∀ a x, ((![v49, v71] : Fin 2 → IVec S16 32) a x).toNat < S32x1024.size a := fun v49 v71 k5_hw76 => k5_hw76
def k5_off143 (k5_t7 : Fin k5_t7_loop.trips) : Fin 2 → Nat :=
  let c0_i32_45 : BitVec 32 := 0#32
  let c1_i32_47 : BitVec 32 := 1#32
  let arg10 : BitVec 32 := Scf.iv c0_i32_45 c1_i32_47 k5_t7
  let v72 : Index := Scalar.indexCast arg10
  let c176 : Index := 176#32
  ![v72.toNat, 176]

def k5_chk77 (v49 : IVec S16 32) (v73 : IVec S16 32) : Prop :=
  (∀ a x, ((![v49, v73] : Fin 2 → IVec S16 32) a x).toNat < S32x1024.size a)
theorem k5_idx77_inb : ∀ (v49 : IVec S16 32) (v73 : IVec S16 32) (k5_hw77 : k5_chk77 v49 v73), ∀ a x, ((![v49, v73] : Fin 2 → IVec S16 32) a x).toNat < S32x1024.size a := fun v49 v73 k5_hw77 => k5_hw77
def k5_off144 (k5_t7 : Fin k5_t7_loop.trips) : Fin 2 → Nat :=
  let c0_i32_45 : BitVec 32 := 0#32
  let c1_i32_47 : BitVec 32 := 1#32
  let arg10 : BitVec 32 := Scf.iv c0_i32_45 c1_i32_47 k5_t7
  let v74 : Index := Scalar.indexCast arg10
  let c184 : Index := 184#32
  ![v74.toNat, 184]

def k5_chk78 (v49 : IVec S16 32) (v75 : IVec S16 32) : Prop :=
  (∀ a x, ((![v49, v75] : Fin 2 → IVec S16 32) a x).toNat < S32x1024.size a)
theorem k5_idx78_inb : ∀ (v49 : IVec S16 32) (v75 : IVec S16 32) (k5_hw78 : k5_chk78 v49 v75), ∀ a x, ((![v49, v75] : Fin 2 → IVec S16 32) a x).toNat < S32x1024.size a := fun v49 v75 k5_hw78 => k5_hw78
abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc6_transform_4 (i : grid6.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

abbrev stage6_0 : Fin 2 → Memref sig .tc .vmem S1024x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1024x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1024x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S1024x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨2, ![2, 16], ![false, false]⟩

@[reducible] def k7_t1_loop : Scf.Loop 32 :=
  let c0_i32_1 : BitVec 32 := 0#32
  let c32_i32 : BitVec 32 := 32#32
  let v9 : BitVec 32 := Scalar.addi c0_i32_1 c32_i32
  let c1_i32 : BitVec 32 := 1#32
  ⟨c0_i32_1, v9, c1_i32⟩
def k7_off1 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v47 : Index := Scalar.indexCast arg10
  let c0 : Index := 0#32
  ![v47.toNat, 0]
def k7_off2 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v49 : Index := Scalar.indexCast arg10
  let c16 : Index := 16#32
  ![v49.toNat, 16]
def k7_off3 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v51 : Index := Scalar.indexCast arg10
  let c32 : Index := 32#32
  ![v51.toNat, 32]
def k7_off4 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v53 : Index := Scalar.indexCast arg10
  let c48 : Index := 48#32
  ![v53.toNat, 48]
def k7_off5 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v55 : Index := Scalar.indexCast arg10
  let c64 : Index := 64#32
  ![v55.toNat, 64]
def k7_off6 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v57 : Index := Scalar.indexCast arg10
  let c80 : Index := 80#32
  ![v57.toNat, 80]
def k7_off7 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v59 : Index := Scalar.indexCast arg10
  let c96 : Index := 96#32
  ![v59.toNat, 96]
def k7_off8 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v61 : Index := Scalar.indexCast arg10
  let c112 : Index := 112#32
  ![v61.toNat, 112]
def k7_off9 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v63 : Index := Scalar.indexCast arg10
  let c128 : Index := 128#32
  ![v63.toNat, 128]
def k7_off10 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v65 : Index := Scalar.indexCast arg10
  let c144 : Index := 144#32
  ![v65.toNat, 144]
def k7_off11 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v67 : Index := Scalar.indexCast arg10
  let c160 : Index := 160#32
  ![v67.toNat, 160]
def k7_off12 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v69 : Index := Scalar.indexCast arg10
  let c176 : Index := 176#32
  ![v69.toNat, 176]
def k7_off13 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v71 : Index := Scalar.indexCast arg10
  let c192 : Index := 192#32
  ![v71.toNat, 192]
def k7_off14 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v73 : Index := Scalar.indexCast arg10
  let c208 : Index := 208#32
  ![v73.toNat, 208]
def k7_off15 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v75 : Index := Scalar.indexCast arg10
  let c224 : Index := 224#32
  ![v75.toNat, 224]
def k7_off16 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v77 : Index := Scalar.indexCast arg10
  let c240 : Index := 240#32
  ![v77.toNat, 240]
def k7_off17 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v79 : Index := Scalar.indexCast arg10
  let c256 : Index := 256#32
  ![v79.toNat, 256]
def k7_off18 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v81 : Index := Scalar.indexCast arg10
  let c272 : Index := 272#32
  ![v81.toNat, 272]
def k7_off19 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v83 : Index := Scalar.indexCast arg10
  let c288 : Index := 288#32
  ![v83.toNat, 288]
def k7_off20 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v85 : Index := Scalar.indexCast arg10
  let c304 : Index := 304#32
  ![v85.toNat, 304]
def k7_off21 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v87 : Index := Scalar.indexCast arg10
  let c320 : Index := 320#32
  ![v87.toNat, 320]
def k7_off22 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v89 : Index := Scalar.indexCast arg10
  let c336 : Index := 336#32
  ![v89.toNat, 336]
def k7_off23 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v91 : Index := Scalar.indexCast arg10
  let c352 : Index := 352#32
  ![v91.toNat, 352]
def k7_off24 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v93 : Index := Scalar.indexCast arg10
  let c368 : Index := 368#32
  ![v93.toNat, 368]
def k7_off25 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v95 : Index := Scalar.indexCast arg10
  let c384 : Index := 384#32
  ![v95.toNat, 384]
def k7_off26 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v97 : Index := Scalar.indexCast arg10
  let c400 : Index := 400#32
  ![v97.toNat, 400]
def k7_off27 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v99 : Index := Scalar.indexCast arg10
  let c416 : Index := 416#32
  ![v99.toNat, 416]
def k7_off28 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v101 : Index := Scalar.indexCast arg10
  let c432 : Index := 432#32
  ![v101.toNat, 432]
def k7_off29 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v103 : Index := Scalar.indexCast arg10
  let c448 : Index := 448#32
  ![v103.toNat, 448]
def k7_off30 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v105 : Index := Scalar.indexCast arg10
  let c464 : Index := 464#32
  ![v105.toNat, 464]
def k7_off31 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v107 : Index := Scalar.indexCast arg10
  let c480 : Index := 480#32
  ![v107.toNat, 480]
def k7_off32 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v109 : Index := Scalar.indexCast arg10
  let c496 : Index := 496#32
  ![v109.toNat, 496]
def k7_off33 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v111 : Index := Scalar.indexCast arg10
  let c512 : Index := 512#32
  ![v111.toNat, 512]
def k7_off34 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v113 : Index := Scalar.indexCast arg10
  let c528 : Index := 528#32
  ![v113.toNat, 528]
def k7_off35 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v115 : Index := Scalar.indexCast arg10
  let c544 : Index := 544#32
  ![v115.toNat, 544]
def k7_off36 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v117 : Index := Scalar.indexCast arg10
  let c560 : Index := 560#32
  ![v117.toNat, 560]
def k7_off37 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v119 : Index := Scalar.indexCast arg10
  let c576 : Index := 576#32
  ![v119.toNat, 576]
def k7_off38 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v121 : Index := Scalar.indexCast arg10
  let c592 : Index := 592#32
  ![v121.toNat, 592]
def k7_off39 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v123 : Index := Scalar.indexCast arg10
  let c608 : Index := 608#32
  ![v123.toNat, 608]
def k7_off40 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v125 : Index := Scalar.indexCast arg10
  let c624 : Index := 624#32
  ![v125.toNat, 624]
def k7_off41 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v127 : Index := Scalar.indexCast arg10
  let c640 : Index := 640#32
  ![v127.toNat, 640]
def k7_off42 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v129 : Index := Scalar.indexCast arg10
  let c656 : Index := 656#32
  ![v129.toNat, 656]
def k7_off43 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v131 : Index := Scalar.indexCast arg10
  let c672 : Index := 672#32
  ![v131.toNat, 672]
def k7_off44 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v133 : Index := Scalar.indexCast arg10
  let c688 : Index := 688#32
  ![v133.toNat, 688]
def k7_off45 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v135 : Index := Scalar.indexCast arg10
  let c704 : Index := 704#32
  ![v135.toNat, 704]
def k7_off46 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v137 : Index := Scalar.indexCast arg10
  let c720 : Index := 720#32
  ![v137.toNat, 720]
def k7_off47 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v139 : Index := Scalar.indexCast arg10
  let c736 : Index := 736#32
  ![v139.toNat, 736]
def k7_off48 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v141 : Index := Scalar.indexCast arg10
  let c752 : Index := 752#32
  ![v141.toNat, 752]
def k7_off49 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v143 : Index := Scalar.indexCast arg10
  let c768 : Index := 768#32
  ![v143.toNat, 768]
def k7_off50 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v145 : Index := Scalar.indexCast arg10
  let c784 : Index := 784#32
  ![v145.toNat, 784]
def k7_off51 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v147 : Index := Scalar.indexCast arg10
  let c800 : Index := 800#32
  ![v147.toNat, 800]
def k7_off52 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v149 : Index := Scalar.indexCast arg10
  let c816 : Index := 816#32
  ![v149.toNat, 816]
def k7_off53 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v151 : Index := Scalar.indexCast arg10
  let c832 : Index := 832#32
  ![v151.toNat, 832]
def k7_off54 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v153 : Index := Scalar.indexCast arg10
  let c848 : Index := 848#32
  ![v153.toNat, 848]
def k7_off55 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v155 : Index := Scalar.indexCast arg10
  let c864 : Index := 864#32
  ![v155.toNat, 864]
def k7_off56 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v157 : Index := Scalar.indexCast arg10
  let c880 : Index := 880#32
  ![v157.toNat, 880]
def k7_off57 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v159 : Index := Scalar.indexCast arg10
  let c896 : Index := 896#32
  ![v159.toNat, 896]
def k7_off58 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v161 : Index := Scalar.indexCast arg10
  let c912 : Index := 912#32
  ![v161.toNat, 912]
def k7_off59 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v163 : Index := Scalar.indexCast arg10
  let c928 : Index := 928#32
  ![v163.toNat, 928]
def k7_off60 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v165 : Index := Scalar.indexCast arg10
  let c944 : Index := 944#32
  ![v165.toNat, 944]
def k7_off61 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v167 : Index := Scalar.indexCast arg10
  let c960 : Index := 960#32
  ![v167.toNat, 960]
def k7_off62 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v169 : Index := Scalar.indexCast arg10
  let c976 : Index := 976#32
  ![v169.toNat, 976]
def k7_off63 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v171 : Index := Scalar.indexCast arg10
  let c992 : Index := 992#32
  ![v171.toNat, 992]
def k7_off64 (k7_t1 : Fin k7_t1_loop.trips) : Fin 2 → Nat :=
  let c0_i32_1 : BitVec 32 := 0#32
  let c1_i32 : BitVec 32 := 1#32
  let arg10 : BitVec 32 := Scf.iv c0_i32_1 c1_i32 k7_t1
  let v173 : Index := Scalar.indexCast arg10
  let c1008 : Index := 1008#32
  ![v173.toNat, 1008]
def k7_off65 (i : grid7.Coords) (c0_i32_4 : BitVec 32) : Fin 2 → Nat :=
  let c12288_i32 : BitVec 32 := 12288#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c12288_i32 v2
  let v12 : BitVec 32 := Scalar.addi v3 c0_i32_4
  let c0_i32_55_r0 : BitVec 32 := 0#32
  ![v12.toNat, 0]
@[reducible] def k7_t2_loop : Scf.Loop 32 :=
  let c0_i32_6 : BitVec 32 := 0#32
  let c32_i32_7 : BitVec 32 := 32#32
  let v13 : BitVec 32 := Scalar.addi c0_i32_6 c32_i32_7
  let c1_i32_8 : BitVec 32 := 1#32
  ⟨c0_i32_6, v13, c1_i32_8⟩
def k7_off66 (k7_t2 : Fin k7_t2_loop.trips) : Fin 2 → Nat :=
  let c0_i32_6 : BitVec 32 := 0#32
  let c1_i32_8 : BitVec 32 := 1#32
  let arg10 : BitVec 32 := Scf.iv c0_i32_6 c1_i32_8 k7_t2
  let v50 : Index := Scalar.indexCast arg10
  let c0 : Index := 0#32
  ![v50.toNat, 0]

def k7_chk1 (v49 : IVec S16 32) (v51 : IVec S16 32) : Prop :=
  (∀ a x, ((![v49, v51] : Fin 2 → IVec S16 32) a x).toNat < S32x1024.size a)
theorem k7_idx1_inb : ∀ (v49 : IVec S16 32) (v51 : IVec S16 32) (k7_hw1 : k7_chk1 v49 v51), ∀ a x, ((![v49, v51] : Fin 2 → IVec S16 32) a x).toNat < S32x1024.size a := fun v49 v51 k7_hw1 => k7_hw1
def k7_off67 (k7_t2 : Fin k7_t2_loop.trips) : Fin 2 → Nat :=
  let c0_i32_6 : BitVec 32 := 0#32
  let c1_i32_8 : BitVec 32 := 1#32
  let arg10 : BitVec 32 := Scf.iv c0_i32_6 c1_i32_8 k7_t2
  let v52 : Index := Scalar.indexCast arg10
  let c16 : Index := 16#32
  ![v52.toNat, 16]

def k7_chk2 (v49 : IVec S16 32) (v53 : IVec S16 32) : Prop :=
  (∀ a x, ((![v49, v53] : Fin 2 → IVec S16 32) a x).toNat < S32x1024.size a)
theorem k7_idx2_inb : ∀ (v49 : IVec S16 32) (v53 : IVec S16 32) (k7_hw2 : k7_chk2 v49 v53), ∀ a x, ((![v49, v53] : Fin 2 → IVec S16 32) a x).toNat < S32x1024.size a := fun v49 v53 k7_hw2 => k7_hw2
def k7_off68 (k7_t2 : Fin k7_t2_loop.trips) : Fin 2 → Nat :=
  let c0_i32_6 : BitVec 32 := 0#32
  let c1_i32_8 : BitVec 32 := 1#32
  let arg10 : BitVec 32 := Scf.iv c0_i32_6 c1_i32_8 k7_t2
  let v54 : Index := Scalar.indexCast arg10
  let c32 : Index := 32#32
  ![v54.toNat, 32]

def k7_chk3 (v49 : IVec S16 32) (v55 : IVec S16 32) : Prop :=
  (∀ a x, ((![v49, v55] : Fin 2 → IVec S16 32) a x).toNat < S32x1024.size a)
theorem k7_idx3_inb : ∀ (v49 : IVec S16 32) (v55 : IVec S16 32) (k7_hw3 : k7_chk3 v49 v55), ∀ a x, ((![v49, v55] : Fin 2 → IVec S16 32) a x).toNat < S32x1024.size a := fun v49 v55 k7_hw3 => k7_hw3
def k7_off69 (k7_t2 : Fin k7_t2_loop.trips) : Fin 2 → Nat :=
  let c0_i32_6 : BitVec 32 := 0#32
  let c1_i32_8 : BitVec 32 := 1#32
  let arg10 : BitVec 32 := Scf.iv c0_i32_6 c1_i32_8 k7_t2
  let v56 : Index := Scalar.indexCast arg10
  let c48 : Index := 48#32
  ![v56.toNat, 48]

def k7_chk4 (v49 : IVec S16 32) (v57 : IVec S16 32) : Prop :=
  (∀ a x, ((![v49, v57] : Fin 2 → IVec S16 32) a x).toNat < S32x1024.size a)
theorem k7_idx4_inb : ∀ (v49 : IVec S16 32) (v57 : IVec S16 32) (k7_hw4 : k7_chk4 v49 v57), ∀ a x, ((![v49, v57] : Fin 2 → IVec S16 32) a x).toNat < S32x1024.size a := fun v49 v57 k7_hw4 => k7_hw4
def k7_off70 (k7_t2 : Fin k7_t2_loop.trips) : Fin 2 → Nat :=
  let c0_i32_6 : BitVec 32 := 0#32
  let c1_i32_8 : BitVec 32 := 1#32
  let arg10 : BitVec 32 := Scf.iv c0_i32_6 c1_i32_8 k7_t2
  let v58 : Index := Scalar.indexCast arg10
  let c64 : Index := 64#32
  ![v58.toNat, 64]

def k7_chk5 (v49 : IVec S16 32) (v59 : IVec S16 32) : Prop :=
  (∀ a x, ((![v49, v59] : Fin 2 → IVec S16 32) a x).toNat < S32x1024.size a)
theorem k7_idx5_inb : ∀ (v49 : IVec S16 32) (v59 : IVec S16 32) (k7_hw5 : k7_chk5 v49 v59), ∀ a x, ((![v49, v59] : Fin 2 → IVec S16 32) a x).toNat < S32x1024.size a := fun v49 v59 k7_hw5 => k7_hw5
def k7_off71 (k7_t2 : Fin k7_t2_loop.trips) : Fin 2 → Nat :=
  let c0_i32_6 : BitVec 32 := 0#32
  let c1_i32_8 : BitVec 32 := 1#32
  let arg10 : BitVec 32 := Scf.iv c0_i32_6 c1_i32_8 k7_t2
  let v60 : Index := Scalar.indexCast arg10
  let c80 : Index := 80#32
  ![v60.toNat, 80]

def k7_chk6 (v49 : IVec S16 32) (v61 : IVec S16 32) : Prop :=
  (∀ a x, ((![v49, v61] : Fin 2 → IVec S16 32) a x).toNat < S32x1024.size a)
theorem k7_idx6_inb : ∀ (v49 : IVec S16 32) (v61 : IVec S16 32) (k7_hw6 : k7_chk6 v49 v61), ∀ a x, ((![v49, v61] : Fin 2 → IVec S16 32) a x).toNat < S32x1024.size a := fun v49 v61 k7_hw6 => k7_hw6
def k7_off72 (k7_t2 : Fin k7_t2_loop.trips) : Fin 2 → Nat :=
  let c0_i32_6 : BitVec 32 := 0#32
  let c1_i32_8 : BitVec 32 := 1#32
  let arg10 : BitVec 32 := Scf.iv c0_i32_6 c1_i32_8 k7_t2
  let v62 : Index := Scalar.indexCast arg10
  let c96 : Index := 96#32
  ![v62.toNat, 96]

def k7_chk7 (v49 : IVec S16 32) (v63 : IVec S16 32) : Prop :=
  (∀ a x, ((![v49, v63] : Fin 2 → IVec S16 32) a x).toNat < S32x1024.size a)
theorem k7_idx7_inb : ∀ (v49 : IVec S16 32) (v63 : IVec S16 32) (k7_hw7 : k7_chk7 v49 v63), ∀ a x, ((![v49, v63] : Fin 2 → IVec S16 32) a x).toNat < S32x1024.size a := fun v49 v63 k7_hw7 => k7_hw7
def k7_off73 (k7_t2 : Fin k7_t2_loop.trips) : Fin 2 → Nat :=
  let c0_i32_6 : BitVec 32 := 0#32
  let c1_i32_8 : BitVec 32 := 1#32
  let arg10 : BitVec 32 := Scf.iv c0_i32_6 c1_i32_8 k7_t2
  let v64 : Index := Scalar.indexCast arg10
  let c112 : Index := 112#32
  ![v64.toNat, 112]

def k7_chk8 (v49 : IVec S16 32) (v65 : IVec S16 32) : Prop :=
  (∀ a x, ((![v49, v65] : Fin 2 → IVec S16 32) a x).toNat < S32x1024.size a)
theorem k7_idx8_inb : ∀ (v49 : IVec S16 32) (v65 : IVec S16 32) (k7_hw8 : k7_chk8 v49 v65), ∀ a x, ((![v49, v65] : Fin 2 → IVec S16 32) a x).toNat < S32x1024.size a := fun v49 v65 k7_hw8 => k7_hw8
def k7_off74 (k7_t2 : Fin k7_t2_loop.trips) : Fin 2 → Nat :=
  let c0_i32_6 : BitVec 32 := 0#32
  let c1_i32_8 : BitVec 32 := 1#32
  let arg10 : BitVec 32 := Scf.iv c0_i32_6 c1_i32_8 k7_t2
  let v66 : Index := Scalar.indexCast arg10
  let c128 : Index := 128#32
  ![v66.toNat, 128]

def k7_chk9 (v49 : IVec S16 32) (v67 : IVec S16 32) : Prop :=
  (∀ a x, ((![v49, v67] : Fin 2 → IVec S16 32) a x).toNat < S32x1024.size a)
theorem k7_idx9_inb : ∀ (v49 : IVec S16 32) (v67 : IVec S16 32) (k7_hw9 : k7_chk9 v49 v67), ∀ a x, ((![v49, v67] : Fin 2 → IVec S16 32) a x).toNat < S32x1024.size a := fun v49 v67 k7_hw9 => k7_hw9
def k7_off75 (k7_t2 : Fin k7_t2_loop.trips) : Fin 2 → Nat :=
  let c0_i32_6 : BitVec 32 := 0#32
  let c1_i32_8 : BitVec 32 := 1#32
  let arg10 : BitVec 32 := Scf.iv c0_i32_6 c1_i32_8 k7_t2
  let v68 : Index := Scalar.indexCast arg10
  let c144 : Index := 144#32
  ![v68.toNat, 144]

def k7_chk10 (v49 : IVec S16 32) (v69 : IVec S16 32) : Prop :=
  (∀ a x, ((![v49, v69] : Fin 2 → IVec S16 32) a x).toNat < S32x1024.size a)
theorem k7_idx10_inb : ∀ (v49 : IVec S16 32) (v69 : IVec S16 32) (k7_hw10 : k7_chk10 v49 v69), ∀ a x, ((![v49, v69] : Fin 2 → IVec S16 32) a x).toNat < S32x1024.size a := fun v49 v69 k7_hw10 => k7_hw10
def k7_off76 (k7_t2 : Fin k7_t2_loop.trips) : Fin 2 → Nat :=
  let c0_i32_6 : BitVec 32 := 0#32
  let c1_i32_8 : BitVec 32 := 1#32
  let arg10 : BitVec 32 := Scf.iv c0_i32_6 c1_i32_8 k7_t2
  let v70 : Index := Scalar.indexCast arg10
  let c160 : Index := 160#32
  ![v70.toNat, 160]

def k7_chk11 (v49 : IVec S16 32) (v71 : IVec S16 32) : Prop :=
  (∀ a x, ((![v49, v71] : Fin 2 → IVec S16 32) a x).toNat < S32x1024.size a)
theorem k7_idx11_inb : ∀ (v49 : IVec S16 32) (v71 : IVec S16 32) (k7_hw11 : k7_chk11 v49 v71), ∀ a x, ((![v49, v71] : Fin 2 → IVec S16 32) a x).toNat < S32x1024.size a := fun v49 v71 k7_hw11 => k7_hw11
def k7_off77 (k7_t2 : Fin k7_t2_loop.trips) : Fin 2 → Nat :=
  let c0_i32_6 : BitVec 32 := 0#32
  let c1_i32_8 : BitVec 32 := 1#32
  let arg10 : BitVec 32 := Scf.iv c0_i32_6 c1_i32_8 k7_t2
  let v72 : Index := Scalar.indexCast arg10
  let c176 : Index := 176#32
  ![v72.toNat, 176]

def k7_chk12 (v49 : IVec S16 32) (v73 : IVec S16 32) : Prop :=
  (∀ a x, ((![v49, v73] : Fin 2 → IVec S16 32) a x).toNat < S32x1024.size a)
theorem k7_idx12_inb : ∀ (v49 : IVec S16 32) (v73 : IVec S16 32) (k7_hw12 : k7_chk12 v49 v73), ∀ a x, ((![v49, v73] : Fin 2 → IVec S16 32) a x).toNat < S32x1024.size a := fun v49 v73 k7_hw12 => k7_hw12
def k7_off78 (k7_t2 : Fin k7_t2_loop.trips) : Fin 2 → Nat :=
  let c0_i32_6 : BitVec 32 := 0#32
  let c1_i32_8 : BitVec 32 := 1#32
  let arg10 : BitVec 32 := Scf.iv c0_i32_6 c1_i32_8 k7_t2
  let v74 : Index := Scalar.indexCast arg10
  let c184 : Index := 184#32
  ![v74.toNat, 184]

def k7_chk13 (v49 : IVec S16 32) (v75 : IVec S16 32) : Prop :=
  (∀ a x, ((![v49, v75] : Fin 2 → IVec S16 32) a x).toNat < S32x1024.size a)
theorem k7_idx13_inb : ∀ (v49 : IVec S16 32) (v75 : IVec S16 32) (k7_hw13 : k7_chk13 v49 v75), ∀ a x, ((![v49, v75] : Fin 2 → IVec S16 32) a x).toNat < S32x1024.size a := fun v49 v75 k7_hw13 => k7_hw13
def k7_off79 (i : grid7.Coords) (c0_i32_3 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v11 : BitVec 32 := Scalar.addi v2 c0_i32_3
  let c0_i32_10 : BitVec 32 := 0#32
  ![v11.toNat, 0]
@[reducible] def k7_t3_loop : Scf.Loop 32 :=
  let c0_i32_15 : BitVec 32 := 0#32
  let c32_i32_16 : BitVec 32 := 32#32
  let v19 : BitVec 32 := Scalar.addi c0_i32_15 c32_i32_16
  let c1_i32_17 : BitVec 32 := 1#32
  ⟨c0_i32_15, v19, c1_i32_17⟩
def k7_off80 (k7_t3 : Fin k7_t3_loop.trips) : Fin 2 → Nat :=
  let c0_i32_15 : BitVec 32 := 0#32
  let c1_i32_17 : BitVec 32 := 1#32
  let arg10 : BitVec 32 := Scf.iv c0_i32_15 c1_i32_17 k7_t3
  let v50 : Index := Scalar.indexCast arg10
  let c0 : Index := 0#32
  ![v50.toNat, 0]

def k7_chk14 (v49 : IVec S16 32) (v51 : IVec S16 32) : Prop :=
  (∀ a x, ((![v49, v51] : Fin 2 → IVec S16 32) a x).toNat < S32x1024.size a)
theorem k7_idx14_inb : ∀ (v49 : IVec S16 32) (v51 : IVec S16 32) (k7_hw14 : k7_chk14 v49 v51), ∀ a x, ((![v49, v51] : Fin 2 → IVec S16 32) a x).toNat < S32x1024.size a := fun v49 v51 k7_hw14 => k7_hw14
def k7_off81 (k7_t3 : Fin k7_t3_loop.trips) : Fin 2 → Nat :=
  let c0_i32_15 : BitVec 32 := 0#32
  let c1_i32_17 : BitVec 32 := 1#32
  let arg10 : BitVec 32 := Scf.iv c0_i32_15 c1_i32_17 k7_t3
  let v52 : Index := Scalar.indexCast arg10
  let c16 : Index := 16#32
  ![v52.toNat, 16]

def k7_chk15 (v49 : IVec S16 32) (v53 : IVec S16 32) : Prop :=
  (∀ a x, ((![v49, v53] : Fin 2 → IVec S16 32) a x).toNat < S32x1024.size a)
theorem k7_idx15_inb : ∀ (v49 : IVec S16 32) (v53 : IVec S16 32) (k7_hw15 : k7_chk15 v49 v53), ∀ a x, ((![v49, v53] : Fin 2 → IVec S16 32) a x).toNat < S32x1024.size a := fun v49 v53 k7_hw15 => k7_hw15
def k7_off82 (k7_t3 : Fin k7_t3_loop.trips) : Fin 2 → Nat :=
  let c0_i32_15 : BitVec 32 := 0#32
  let c1_i32_17 : BitVec 32 := 1#32
  let arg10 : BitVec 32 := Scf.iv c0_i32_15 c1_i32_17 k7_t3
  let v54 : Index := Scalar.indexCast arg10
  let c32 : Index := 32#32
  ![v54.toNat, 32]

def k7_chk16 (v49 : IVec S16 32) (v55 : IVec S16 32) : Prop :=
  (∀ a x, ((![v49, v55] : Fin 2 → IVec S16 32) a x).toNat < S32x1024.size a)
theorem k7_idx16_inb : ∀ (v49 : IVec S16 32) (v55 : IVec S16 32) (k7_hw16 : k7_chk16 v49 v55), ∀ a x, ((![v49, v55] : Fin 2 → IVec S16 32) a x).toNat < S32x1024.size a := fun v49 v55 k7_hw16 => k7_hw16
def k7_off83 (k7_t3 : Fin k7_t3_loop.trips) : Fin 2 → Nat :=
  let c0_i32_15 : BitVec 32 := 0#32
  let c1_i32_17 : BitVec 32 := 1#32
  let arg10 : BitVec 32 := Scf.iv c0_i32_15 c1_i32_17 k7_t3
  let v56 : Index := Scalar.indexCast arg10
  let c48 : Index := 48#32
  ![v56.toNat, 48]

def k7_chk17 (v49 : IVec S16 32) (v57 : IVec S16 32) : Prop :=
  (∀ a x, ((![v49, v57] : Fin 2 → IVec S16 32) a x).toNat < S32x1024.size a)
theorem k7_idx17_inb : ∀ (v49 : IVec S16 32) (v57 : IVec S16 32) (k7_hw17 : k7_chk17 v49 v57), ∀ a x, ((![v49, v57] : Fin 2 → IVec S16 32) a x).toNat < S32x1024.size a := fun v49 v57 k7_hw17 => k7_hw17
def k7_off84 (k7_t3 : Fin k7_t3_loop.trips) : Fin 2 → Nat :=
  let c0_i32_15 : BitVec 32 := 0#32
  let c1_i32_17 : BitVec 32 := 1#32
  let arg10 : BitVec 32 := Scf.iv c0_i32_15 c1_i32_17 k7_t3
  let v58 : Index := Scalar.indexCast arg10
  let c64 : Index := 64#32
  ![v58.toNat, 64]

def k7_chk18 (v49 : IVec S16 32) (v59 : IVec S16 32) : Prop :=
  (∀ a x, ((![v49, v59] : Fin 2 → IVec S16 32) a x).toNat < S32x1024.size a)
theorem k7_idx18_inb : ∀ (v49 : IVec S16 32) (v59 : IVec S16 32) (k7_hw18 : k7_chk18 v49 v59), ∀ a x, ((![v49, v59] : Fin 2 → IVec S16 32) a x).toNat < S32x1024.size a := fun v49 v59 k7_hw18 => k7_hw18
def k7_off85 (k7_t3 : Fin k7_t3_loop.trips) : Fin 2 → Nat :=
  let c0_i32_15 : BitVec 32 := 0#32
  let c1_i32_17 : BitVec 32 := 1#32
  let arg10 : BitVec 32 := Scf.iv c0_i32_15 c1_i32_17 k7_t3
  let v60 : Index := Scalar.indexCast arg10
  let c80 : Index := 80#32
  ![v60.toNat, 80]

def k7_chk19 (v49 : IVec S16 32) (v61 : IVec S16 32) : Prop :=
  (∀ a x, ((![v49, v61] : Fin 2 → IVec S16 32) a x).toNat < S32x1024.size a)
theorem k7_idx19_inb : ∀ (v49 : IVec S16 32) (v61 : IVec S16 32) (k7_hw19 : k7_chk19 v49 v61), ∀ a x, ((![v49, v61] : Fin 2 → IVec S16 32) a x).toNat < S32x1024.size a := fun v49 v61 k7_hw19 => k7_hw19
def k7_off86 (k7_t3 : Fin k7_t3_loop.trips) : Fin 2 → Nat :=
  let c0_i32_15 : BitVec 32 := 0#32
  let c1_i32_17 : BitVec 32 := 1#32
  let arg10 : BitVec 32 := Scf.iv c0_i32_15 c1_i32_17 k7_t3
  let v62 : Index := Scalar.indexCast arg10
  let c96 : Index := 96#32
  ![v62.toNat, 96]

def k7_chk20 (v49 : IVec S16 32) (v63 : IVec S16 32) : Prop :=
  (∀ a x, ((![v49, v63] : Fin 2 → IVec S16 32) a x).toNat < S32x1024.size a)
theorem k7_idx20_inb : ∀ (v49 : IVec S16 32) (v63 : IVec S16 32) (k7_hw20 : k7_chk20 v49 v63), ∀ a x, ((![v49, v63] : Fin 2 → IVec S16 32) a x).toNat < S32x1024.size a := fun v49 v63 k7_hw20 => k7_hw20
def k7_off87 (k7_t3 : Fin k7_t3_loop.trips) : Fin 2 → Nat :=
  let c0_i32_15 : BitVec 32 := 0#32
  let c1_i32_17 : BitVec 32 := 1#32
  let arg10 : BitVec 32 := Scf.iv c0_i32_15 c1_i32_17 k7_t3
  let v64 : Index := Scalar.indexCast arg10
  let c112 : Index := 112#32
  ![v64.toNat, 112]

def k7_chk21 (v49 : IVec S16 32) (v65 : IVec S16 32) : Prop :=
  (∀ a x, ((![v49, v65] : Fin 2 → IVec S16 32) a x).toNat < S32x1024.size a)
theorem k7_idx21_inb : ∀ (v49 : IVec S16 32) (v65 : IVec S16 32) (k7_hw21 : k7_chk21 v49 v65), ∀ a x, ((![v49, v65] : Fin 2 → IVec S16 32) a x).toNat < S32x1024.size a := fun v49 v65 k7_hw21 => k7_hw21
def k7_off88 (k7_t3 : Fin k7_t3_loop.trips) : Fin 2 → Nat :=
  let c0_i32_15 : BitVec 32 := 0#32
  let c1_i32_17 : BitVec 32 := 1#32
  let arg10 : BitVec 32 := Scf.iv c0_i32_15 c1_i32_17 k7_t3
  let v66 : Index := Scalar.indexCast arg10
  let c128 : Index := 128#32
  ![v66.toNat, 128]

def k7_chk22 (v49 : IVec S16 32) (v67 : IVec S16 32) : Prop :=
  (∀ a x, ((![v49, v67] : Fin 2 → IVec S16 32) a x).toNat < S32x1024.size a)
theorem k7_idx22_inb : ∀ (v49 : IVec S16 32) (v67 : IVec S16 32) (k7_hw22 : k7_chk22 v49 v67), ∀ a x, ((![v49, v67] : Fin 2 → IVec S16 32) a x).toNat < S32x1024.size a := fun v49 v67 k7_hw22 => k7_hw22
def k7_off89 (k7_t3 : Fin k7_t3_loop.trips) : Fin 2 → Nat :=
  let c0_i32_15 : BitVec 32 := 0#32
  let c1_i32_17 : BitVec 32 := 1#32
  let arg10 : BitVec 32 := Scf.iv c0_i32_15 c1_i32_17 k7_t3
  let v68 : Index := Scalar.indexCast arg10
  let c144 : Index := 144#32
  ![v68.toNat, 144]

def k7_chk23 (v49 : IVec S16 32) (v69 : IVec S16 32) : Prop :=
  (∀ a x, ((![v49, v69] : Fin 2 → IVec S16 32) a x).toNat < S32x1024.size a)
theorem k7_idx23_inb : ∀ (v49 : IVec S16 32) (v69 : IVec S16 32) (k7_hw23 : k7_chk23 v49 v69), ∀ a x, ((![v49, v69] : Fin 2 → IVec S16 32) a x).toNat < S32x1024.size a := fun v49 v69 k7_hw23 => k7_hw23
def k7_off90 (k7_t3 : Fin k7_t3_loop.trips) : Fin 2 → Nat :=
  let c0_i32_15 : BitVec 32 := 0#32
  let c1_i32_17 : BitVec 32 := 1#32
  let arg10 : BitVec 32 := Scf.iv c0_i32_15 c1_i32_17 k7_t3
  let v70 : Index := Scalar.indexCast arg10
  let c160 : Index := 160#32
  ![v70.toNat, 160]

def k7_chk24 (v49 : IVec S16 32) (v71 : IVec S16 32) : Prop :=
  (∀ a x, ((![v49, v71] : Fin 2 → IVec S16 32) a x).toNat < S32x1024.size a)
theorem k7_idx24_inb : ∀ (v49 : IVec S16 32) (v71 : IVec S16 32) (k7_hw24 : k7_chk24 v49 v71), ∀ a x, ((![v49, v71] : Fin 2 → IVec S16 32) a x).toNat < S32x1024.size a := fun v49 v71 k7_hw24 => k7_hw24
def k7_off91 (k7_t3 : Fin k7_t3_loop.trips) : Fin 2 → Nat :=
  let c0_i32_15 : BitVec 32 := 0#32
  let c1_i32_17 : BitVec 32 := 1#32
  let arg10 : BitVec 32 := Scf.iv c0_i32_15 c1_i32_17 k7_t3
  let v72 : Index := Scalar.indexCast arg10
  let c176 : Index := 176#32
  ![v72.toNat, 176]

def k7_chk25 (v49 : IVec S16 32) (v73 : IVec S16 32) : Prop :=
  (∀ a x, ((![v49, v73] : Fin 2 → IVec S16 32) a x).toNat < S32x1024.size a)
theorem k7_idx25_inb : ∀ (v49 : IVec S16 32) (v73 : IVec S16 32) (k7_hw25 : k7_chk25 v49 v73), ∀ a x, ((![v49, v73] : Fin 2 → IVec S16 32) a x).toNat < S32x1024.size a := fun v49 v73 k7_hw25 => k7_hw25
def k7_off92 (k7_t3 : Fin k7_t3_loop.trips) : Fin 2 → Nat :=
  let c0_i32_15 : BitVec 32 := 0#32
  let c1_i32_17 : BitVec 32 := 1#32
  let arg10 : BitVec 32 := Scf.iv c0_i32_15 c1_i32_17 k7_t3
  let v74 : Index := Scalar.indexCast arg10
  let c184 : Index := 184#32
  ![v74.toNat, 184]

def k7_chk26 (v49 : IVec S16 32) (v75 : IVec S16 32) : Prop :=
  (∀ a x, ((![v49, v75] : Fin 2 → IVec S16 32) a x).toNat < S32x1024.size a)
theorem k7_idx26_inb : ∀ (v49 : IVec S16 32) (v75 : IVec S16 32) (k7_hw26 : k7_chk26 v49 v75), ∀ a x, ((![v49, v75] : Fin 2 → IVec S16 32) a x).toNat < S32x1024.size a := fun v49 v75 k7_hw26 => k7_hw26
@[reducible] def k7_t4_loop : Scf.Loop 32 :=
  let c0_i32_25 : BitVec 32 := 0#32
  let c32_i32_26 : BitVec 32 := 32#32
  let v27 : BitVec 32 := Scalar.addi c0_i32_25 c32_i32_26
  let c1_i32_27 : BitVec 32 := 1#32
  ⟨c0_i32_25, v27, c1_i32_27⟩
def k7_off93 (k7_t4 : Fin k7_t4_loop.trips) : Fin 2 → Nat :=
  let c0_i32_25 : BitVec 32 := 0#32
  let c1_i32_27 : BitVec 32 := 1#32
  let arg10 : BitVec 32 := Scf.iv c0_i32_25 c1_i32_27 k7_t4
  let v50 : Index := Scalar.indexCast arg10
  let c0 : Index := 0#32
  ![v50.toNat, 0]

def k7_chk27 (v49 : IVec S16 32) (v51 : IVec S16 32) : Prop :=
  (∀ a x, ((![v49, v51] : Fin 2 → IVec S16 32) a x).toNat < S32x1024.size a)
theorem k7_idx27_inb : ∀ (v49 : IVec S16 32) (v51 : IVec S16 32) (k7_hw27 : k7_chk27 v49 v51), ∀ a x, ((![v49, v51] : Fin 2 → IVec S16 32) a x).toNat < S32x1024.size a := fun v49 v51 k7_hw27 => k7_hw27
def k7_off94 (k7_t4 : Fin k7_t4_loop.trips) : Fin 2 → Nat :=
  let c0_i32_25 : BitVec 32 := 0#32
  let c1_i32_27 : BitVec 32 := 1#32
  let arg10 : BitVec 32 := Scf.iv c0_i32_25 c1_i32_27 k7_t4
  let v52 : Index := Scalar.indexCast arg10
  let c16 : Index := 16#32
  ![v52.toNat, 16]

def k7_chk28 (v49 : IVec S16 32) (v53 : IVec S16 32) : Prop :=
  (∀ a x, ((![v49, v53] : Fin 2 → IVec S16 32) a x).toNat < S32x1024.size a)
theorem k7_idx28_inb : ∀ (v49 : IVec S16 32) (v53 : IVec S16 32) (k7_hw28 : k7_chk28 v49 v53), ∀ a x, ((![v49, v53] : Fin 2 → IVec S16 32) a x).toNat < S32x1024.size a := fun v49 v53 k7_hw28 => k7_hw28
def k7_off95 (k7_t4 : Fin k7_t4_loop.trips) : Fin 2 → Nat :=
  let c0_i32_25 : BitVec 32 := 0#32
  let c1_i32_27 : BitVec 32 := 1#32
  let arg10 : BitVec 32 := Scf.iv c0_i32_25 c1_i32_27 k7_t4
  let v54 : Index := Scalar.indexCast arg10
  let c32 : Index := 32#32
  ![v54.toNat, 32]

def k7_chk29 (v49 : IVec S16 32) (v55 : IVec S16 32) : Prop :=
  (∀ a x, ((![v49, v55] : Fin 2 → IVec S16 32) a x).toNat < S32x1024.size a)
theorem k7_idx29_inb : ∀ (v49 : IVec S16 32) (v55 : IVec S16 32) (k7_hw29 : k7_chk29 v49 v55), ∀ a x, ((![v49, v55] : Fin 2 → IVec S16 32) a x).toNat < S32x1024.size a := fun v49 v55 k7_hw29 => k7_hw29
def k7_off96 (k7_t4 : Fin k7_t4_loop.trips) : Fin 2 → Nat :=
  let c0_i32_25 : BitVec 32 := 0#32
  let c1_i32_27 : BitVec 32 := 1#32
  let arg10 : BitVec 32 := Scf.iv c0_i32_25 c1_i32_27 k7_t4
  let v56 : Index := Scalar.indexCast arg10
  let c48 : Index := 48#32
  ![v56.toNat, 48]

def k7_chk30 (v49 : IVec S16 32) (v57 : IVec S16 32) : Prop :=
  (∀ a x, ((![v49, v57] : Fin 2 → IVec S16 32) a x).toNat < S32x1024.size a)
theorem k7_idx30_inb : ∀ (v49 : IVec S16 32) (v57 : IVec S16 32) (k7_hw30 : k7_chk30 v49 v57), ∀ a x, ((![v49, v57] : Fin 2 → IVec S16 32) a x).toNat < S32x1024.size a := fun v49 v57 k7_hw30 => k7_hw30
def k7_off97 (k7_t4 : Fin k7_t4_loop.trips) : Fin 2 → Nat :=
  let c0_i32_25 : BitVec 32 := 0#32
  let c1_i32_27 : BitVec 32 := 1#32
  let arg10 : BitVec 32 := Scf.iv c0_i32_25 c1_i32_27 k7_t4
  let v58 : Index := Scalar.indexCast arg10
  let c64 : Index := 64#32
  ![v58.toNat, 64]

def k7_chk31 (v49 : IVec S16 32) (v59 : IVec S16 32) : Prop :=
  (∀ a x, ((![v49, v59] : Fin 2 → IVec S16 32) a x).toNat < S32x1024.size a)
theorem k7_idx31_inb : ∀ (v49 : IVec S16 32) (v59 : IVec S16 32) (k7_hw31 : k7_chk31 v49 v59), ∀ a x, ((![v49, v59] : Fin 2 → IVec S16 32) a x).toNat < S32x1024.size a := fun v49 v59 k7_hw31 => k7_hw31
def k7_off98 (k7_t4 : Fin k7_t4_loop.trips) : Fin 2 → Nat :=
  let c0_i32_25 : BitVec 32 := 0#32
  let c1_i32_27 : BitVec 32 := 1#32
  let arg10 : BitVec 32 := Scf.iv c0_i32_25 c1_i32_27 k7_t4
  let v60 : Index := Scalar.indexCast arg10
  let c80 : Index := 80#32
  ![v60.toNat, 80]

def k7_chk32 (v49 : IVec S16 32) (v61 : IVec S16 32) : Prop :=
  (∀ a x, ((![v49, v61] : Fin 2 → IVec S16 32) a x).toNat < S32x1024.size a)
theorem k7_idx32_inb : ∀ (v49 : IVec S16 32) (v61 : IVec S16 32) (k7_hw32 : k7_chk32 v49 v61), ∀ a x, ((![v49, v61] : Fin 2 → IVec S16 32) a x).toNat < S32x1024.size a := fun v49 v61 k7_hw32 => k7_hw32
def k7_off99 (k7_t4 : Fin k7_t4_loop.trips) : Fin 2 → Nat :=
  let c0_i32_25 : BitVec 32 := 0#32
  let c1_i32_27 : BitVec 32 := 1#32
  let arg10 : BitVec 32 := Scf.iv c0_i32_25 c1_i32_27 k7_t4
  let v62 : Index := Scalar.indexCast arg10
  let c96 : Index := 96#32
  ![v62.toNat, 96]

def k7_chk33 (v49 : IVec S16 32) (v63 : IVec S16 32) : Prop :=
  (∀ a x, ((![v49, v63] : Fin 2 → IVec S16 32) a x).toNat < S32x1024.size a)
theorem k7_idx33_inb : ∀ (v49 : IVec S16 32) (v63 : IVec S16 32) (k7_hw33 : k7_chk33 v49 v63), ∀ a x, ((![v49, v63] : Fin 2 → IVec S16 32) a x).toNat < S32x1024.size a := fun v49 v63 k7_hw33 => k7_hw33
def k7_off100 (k7_t4 : Fin k7_t4_loop.trips) : Fin 2 → Nat :=
  let c0_i32_25 : BitVec 32 := 0#32
  let c1_i32_27 : BitVec 32 := 1#32
  let arg10 : BitVec 32 := Scf.iv c0_i32_25 c1_i32_27 k7_t4
  let v64 : Index := Scalar.indexCast arg10
  let c112 : Index := 112#32
  ![v64.toNat, 112]

def k7_chk34 (v49 : IVec S16 32) (v65 : IVec S16 32) : Prop :=
  (∀ a x, ((![v49, v65] : Fin 2 → IVec S16 32) a x).toNat < S32x1024.size a)
theorem k7_idx34_inb : ∀ (v49 : IVec S16 32) (v65 : IVec S16 32) (k7_hw34 : k7_chk34 v49 v65), ∀ a x, ((![v49, v65] : Fin 2 → IVec S16 32) a x).toNat < S32x1024.size a := fun v49 v65 k7_hw34 => k7_hw34
def k7_off101 (k7_t4 : Fin k7_t4_loop.trips) : Fin 2 → Nat :=
  let c0_i32_25 : BitVec 32 := 0#32
  let c1_i32_27 : BitVec 32 := 1#32
  let arg10 : BitVec 32 := Scf.iv c0_i32_25 c1_i32_27 k7_t4
  let v66 : Index := Scalar.indexCast arg10
  let c128 : Index := 128#32
  ![v66.toNat, 128]

def k7_chk35 (v49 : IVec S16 32) (v67 : IVec S16 32) : Prop :=
  (∀ a x, ((![v49, v67] : Fin 2 → IVec S16 32) a x).toNat < S32x1024.size a)
theorem k7_idx35_inb : ∀ (v49 : IVec S16 32) (v67 : IVec S16 32) (k7_hw35 : k7_chk35 v49 v67), ∀ a x, ((![v49, v67] : Fin 2 → IVec S16 32) a x).toNat < S32x1024.size a := fun v49 v67 k7_hw35 => k7_hw35
def k7_off102 (k7_t4 : Fin k7_t4_loop.trips) : Fin 2 → Nat :=
  let c0_i32_25 : BitVec 32 := 0#32
  let c1_i32_27 : BitVec 32 := 1#32
  let arg10 : BitVec 32 := Scf.iv c0_i32_25 c1_i32_27 k7_t4
  let v68 : Index := Scalar.indexCast arg10
  let c144 : Index := 144#32
  ![v68.toNat, 144]

def k7_chk36 (v49 : IVec S16 32) (v69 : IVec S16 32) : Prop :=
  (∀ a x, ((![v49, v69] : Fin 2 → IVec S16 32) a x).toNat < S32x1024.size a)
theorem k7_idx36_inb : ∀ (v49 : IVec S16 32) (v69 : IVec S16 32) (k7_hw36 : k7_chk36 v49 v69), ∀ a x, ((![v49, v69] : Fin 2 → IVec S16 32) a x).toNat < S32x1024.size a := fun v49 v69 k7_hw36 => k7_hw36
def k7_off103 (k7_t4 : Fin k7_t4_loop.trips) : Fin 2 → Nat :=
  let c0_i32_25 : BitVec 32 := 0#32
  let c1_i32_27 : BitVec 32 := 1#32
  let arg10 : BitVec 32 := Scf.iv c0_i32_25 c1_i32_27 k7_t4
  let v70 : Index := Scalar.indexCast arg10
  let c160 : Index := 160#32
  ![v70.toNat, 160]

def k7_chk37 (v49 : IVec S16 32) (v71 : IVec S16 32) : Prop :=
  (∀ a x, ((![v49, v71] : Fin 2 → IVec S16 32) a x).toNat < S32x1024.size a)
theorem k7_idx37_inb : ∀ (v49 : IVec S16 32) (v71 : IVec S16 32) (k7_hw37 : k7_chk37 v49 v71), ∀ a x, ((![v49, v71] : Fin 2 → IVec S16 32) a x).toNat < S32x1024.size a := fun v49 v71 k7_hw37 => k7_hw37
def k7_off104 (k7_t4 : Fin k7_t4_loop.trips) : Fin 2 → Nat :=
  let c0_i32_25 : BitVec 32 := 0#32
  let c1_i32_27 : BitVec 32 := 1#32
  let arg10 : BitVec 32 := Scf.iv c0_i32_25 c1_i32_27 k7_t4
  let v72 : Index := Scalar.indexCast arg10
  let c176 : Index := 176#32
  ![v72.toNat, 176]

def k7_chk38 (v49 : IVec S16 32) (v73 : IVec S16 32) : Prop :=
  (∀ a x, ((![v49, v73] : Fin 2 → IVec S16 32) a x).toNat < S32x1024.size a)
theorem k7_idx38_inb : ∀ (v49 : IVec S16 32) (v73 : IVec S16 32) (k7_hw38 : k7_chk38 v49 v73), ∀ a x, ((![v49, v73] : Fin 2 → IVec S16 32) a x).toNat < S32x1024.size a := fun v49 v73 k7_hw38 => k7_hw38
def k7_off105 (k7_t4 : Fin k7_t4_loop.trips) : Fin 2 → Nat :=
  let c0_i32_25 : BitVec 32 := 0#32
  let c1_i32_27 : BitVec 32 := 1#32
  let arg10 : BitVec 32 := Scf.iv c0_i32_25 c1_i32_27 k7_t4
  let v74 : Index := Scalar.indexCast arg10
  let c184 : Index := 184#32
  ![v74.toNat, 184]

def k7_chk39 (v49 : IVec S16 32) (v75 : IVec S16 32) : Prop :=
  (∀ a x, ((![v49, v75] : Fin 2 → IVec S16 32) a x).toNat < S32x1024.size a)
theorem k7_idx39_inb : ∀ (v49 : IVec S16 32) (v75 : IVec S16 32) (k7_hw39 : k7_chk39 v49 v75), ∀ a x, ((![v49, v75] : Fin 2 → IVec S16 32) a x).toNat < S32x1024.size a := fun v49 v75 k7_hw39 => k7_hw39
@[reducible] def k7_t5_loop : Scf.Loop 32 :=
  let c0_i32_30 : BitVec 32 := 0#32
  let c32_i32_31 : BitVec 32 := 32#32
  let v29 : BitVec 32 := Scalar.addi c0_i32_30 c32_i32_31
  let c1_i32_32 : BitVec 32 := 1#32
  ⟨c0_i32_30, v29, c1_i32_32⟩
def k7_off106 (k7_t5 : Fin k7_t5_loop.trips) : Fin 2 → Nat :=
  let c0_i32_30 : BitVec 32 := 0#32
  let c1_i32_32 : BitVec 32 := 1#32
  let arg10 : BitVec 32 := Scf.iv c0_i32_30 c1_i32_32 k7_t5
  let v50 : Index := Scalar.indexCast arg10
  let c0 : Index := 0#32
  ![v50.toNat, 0]

def k7_chk40 (v49 : IVec S16 32) (v51 : IVec S16 32) : Prop :=
  (∀ a x, ((![v49, v51] : Fin 2 → IVec S16 32) a x).toNat < S32x1024.size a)
theorem k7_idx40_inb : ∀ (v49 : IVec S16 32) (v51 : IVec S16 32) (k7_hw40 : k7_chk40 v49 v51), ∀ a x, ((![v49, v51] : Fin 2 → IVec S16 32) a x).toNat < S32x1024.size a := fun v49 v51 k7_hw40 => k7_hw40
def k7_off107 (k7_t5 : Fin k7_t5_loop.trips) : Fin 2 → Nat :=
  let c0_i32_30 : BitVec 32 := 0#32
  let c1_i32_32 : BitVec 32 := 1#32
  let arg10 : BitVec 32 := Scf.iv c0_i32_30 c1_i32_32 k7_t5
  let v52 : Index := Scalar.indexCast arg10
  let c16 : Index := 16#32
  ![v52.toNat, 16]

def k7_chk41 (v49 : IVec S16 32) (v53 : IVec S16 32) : Prop :=
  (∀ a x, ((![v49, v53] : Fin 2 → IVec S16 32) a x).toNat < S32x1024.size a)
theorem k7_idx41_inb : ∀ (v49 : IVec S16 32) (v53 : IVec S16 32) (k7_hw41 : k7_chk41 v49 v53), ∀ a x, ((![v49, v53] : Fin 2 → IVec S16 32) a x).toNat < S32x1024.size a := fun v49 v53 k7_hw41 => k7_hw41
def k7_off108 (k7_t5 : Fin k7_t5_loop.trips) : Fin 2 → Nat :=
  let c0_i32_30 : BitVec 32 := 0#32
  let c1_i32_32 : BitVec 32 := 1#32
  let arg10 : BitVec 32 := Scf.iv c0_i32_30 c1_i32_32 k7_t5
  let v54 : Index := Scalar.indexCast arg10
  let c32 : Index := 32#32
  ![v54.toNat, 32]

def k7_chk42 (v49 : IVec S16 32) (v55 : IVec S16 32) : Prop :=
  (∀ a x, ((![v49, v55] : Fin 2 → IVec S16 32) a x).toNat < S32x1024.size a)
theorem k7_idx42_inb : ∀ (v49 : IVec S16 32) (v55 : IVec S16 32) (k7_hw42 : k7_chk42 v49 v55), ∀ a x, ((![v49, v55] : Fin 2 → IVec S16 32) a x).toNat < S32x1024.size a := fun v49 v55 k7_hw42 => k7_hw42
def k7_off109 (k7_t5 : Fin k7_t5_loop.trips) : Fin 2 → Nat :=
  let c0_i32_30 : BitVec 32 := 0#32
  let c1_i32_32 : BitVec 32 := 1#32
  let arg10 : BitVec 32 := Scf.iv c0_i32_30 c1_i32_32 k7_t5
  let v56 : Index := Scalar.indexCast arg10
  let c48 : Index := 48#32
  ![v56.toNat, 48]

def k7_chk43 (v49 : IVec S16 32) (v57 : IVec S16 32) : Prop :=
  (∀ a x, ((![v49, v57] : Fin 2 → IVec S16 32) a x).toNat < S32x1024.size a)
theorem k7_idx43_inb : ∀ (v49 : IVec S16 32) (v57 : IVec S16 32) (k7_hw43 : k7_chk43 v49 v57), ∀ a x, ((![v49, v57] : Fin 2 → IVec S16 32) a x).toNat < S32x1024.size a := fun v49 v57 k7_hw43 => k7_hw43
def k7_off110 (k7_t5 : Fin k7_t5_loop.trips) : Fin 2 → Nat :=
  let c0_i32_30 : BitVec 32 := 0#32
  let c1_i32_32 : BitVec 32 := 1#32
  let arg10 : BitVec 32 := Scf.iv c0_i32_30 c1_i32_32 k7_t5
  let v58 : Index := Scalar.indexCast arg10
  let c64 : Index := 64#32
  ![v58.toNat, 64]

def k7_chk44 (v49 : IVec S16 32) (v59 : IVec S16 32) : Prop :=
  (∀ a x, ((![v49, v59] : Fin 2 → IVec S16 32) a x).toNat < S32x1024.size a)
theorem k7_idx44_inb : ∀ (v49 : IVec S16 32) (v59 : IVec S16 32) (k7_hw44 : k7_chk44 v49 v59), ∀ a x, ((![v49, v59] : Fin 2 → IVec S16 32) a x).toNat < S32x1024.size a := fun v49 v59 k7_hw44 => k7_hw44
def k7_off111 (k7_t5 : Fin k7_t5_loop.trips) : Fin 2 → Nat :=
  let c0_i32_30 : BitVec 32 := 0#32
  let c1_i32_32 : BitVec 32 := 1#32
  let arg10 : BitVec 32 := Scf.iv c0_i32_30 c1_i32_32 k7_t5
  let v60 : Index := Scalar.indexCast arg10
  let c80 : Index := 80#32
  ![v60.toNat, 80]

def k7_chk45 (v49 : IVec S16 32) (v61 : IVec S16 32) : Prop :=
  (∀ a x, ((![v49, v61] : Fin 2 → IVec S16 32) a x).toNat < S32x1024.size a)
theorem k7_idx45_inb : ∀ (v49 : IVec S16 32) (v61 : IVec S16 32) (k7_hw45 : k7_chk45 v49 v61), ∀ a x, ((![v49, v61] : Fin 2 → IVec S16 32) a x).toNat < S32x1024.size a := fun v49 v61 k7_hw45 => k7_hw45
def k7_off112 (k7_t5 : Fin k7_t5_loop.trips) : Fin 2 → Nat :=
  let c0_i32_30 : BitVec 32 := 0#32
  let c1_i32_32 : BitVec 32 := 1#32
  let arg10 : BitVec 32 := Scf.iv c0_i32_30 c1_i32_32 k7_t5
  let v62 : Index := Scalar.indexCast arg10
  let c96 : Index := 96#32
  ![v62.toNat, 96]

def k7_chk46 (v49 : IVec S16 32) (v63 : IVec S16 32) : Prop :=
  (∀ a x, ((![v49, v63] : Fin 2 → IVec S16 32) a x).toNat < S32x1024.size a)
theorem k7_idx46_inb : ∀ (v49 : IVec S16 32) (v63 : IVec S16 32) (k7_hw46 : k7_chk46 v49 v63), ∀ a x, ((![v49, v63] : Fin 2 → IVec S16 32) a x).toNat < S32x1024.size a := fun v49 v63 k7_hw46 => k7_hw46
def k7_off113 (k7_t5 : Fin k7_t5_loop.trips) : Fin 2 → Nat :=
  let c0_i32_30 : BitVec 32 := 0#32
  let c1_i32_32 : BitVec 32 := 1#32
  let arg10 : BitVec 32 := Scf.iv c0_i32_30 c1_i32_32 k7_t5
  let v64 : Index := Scalar.indexCast arg10
  let c112 : Index := 112#32
  ![v64.toNat, 112]

def k7_chk47 (v49 : IVec S16 32) (v65 : IVec S16 32) : Prop :=
  (∀ a x, ((![v49, v65] : Fin 2 → IVec S16 32) a x).toNat < S32x1024.size a)
theorem k7_idx47_inb : ∀ (v49 : IVec S16 32) (v65 : IVec S16 32) (k7_hw47 : k7_chk47 v49 v65), ∀ a x, ((![v49, v65] : Fin 2 → IVec S16 32) a x).toNat < S32x1024.size a := fun v49 v65 k7_hw47 => k7_hw47
def k7_off114 (k7_t5 : Fin k7_t5_loop.trips) : Fin 2 → Nat :=
  let c0_i32_30 : BitVec 32 := 0#32
  let c1_i32_32 : BitVec 32 := 1#32
  let arg10 : BitVec 32 := Scf.iv c0_i32_30 c1_i32_32 k7_t5
  let v66 : Index := Scalar.indexCast arg10
  let c128 : Index := 128#32
  ![v66.toNat, 128]

def k7_chk48 (v49 : IVec S16 32) (v67 : IVec S16 32) : Prop :=
  (∀ a x, ((![v49, v67] : Fin 2 → IVec S16 32) a x).toNat < S32x1024.size a)
theorem k7_idx48_inb : ∀ (v49 : IVec S16 32) (v67 : IVec S16 32) (k7_hw48 : k7_chk48 v49 v67), ∀ a x, ((![v49, v67] : Fin 2 → IVec S16 32) a x).toNat < S32x1024.size a := fun v49 v67 k7_hw48 => k7_hw48
def k7_off115 (k7_t5 : Fin k7_t5_loop.trips) : Fin 2 → Nat :=
  let c0_i32_30 : BitVec 32 := 0#32
  let c1_i32_32 : BitVec 32 := 1#32
  let arg10 : BitVec 32 := Scf.iv c0_i32_30 c1_i32_32 k7_t5
  let v68 : Index := Scalar.indexCast arg10
  let c144 : Index := 144#32
  ![v68.toNat, 144]

def k7_chk49 (v49 : IVec S16 32) (v69 : IVec S16 32) : Prop :=
  (∀ a x, ((![v49, v69] : Fin 2 → IVec S16 32) a x).toNat < S32x1024.size a)
theorem k7_idx49_inb : ∀ (v49 : IVec S16 32) (v69 : IVec S16 32) (k7_hw49 : k7_chk49 v49 v69), ∀ a x, ((![v49, v69] : Fin 2 → IVec S16 32) a x).toNat < S32x1024.size a := fun v49 v69 k7_hw49 => k7_hw49
def k7_off116 (k7_t5 : Fin k7_t5_loop.trips) : Fin 2 → Nat :=
  let c0_i32_30 : BitVec 32 := 0#32
  let c1_i32_32 : BitVec 32 := 1#32
  let arg10 : BitVec 32 := Scf.iv c0_i32_30 c1_i32_32 k7_t5
  let v70 : Index := Scalar.indexCast arg10
  let c160 : Index := 160#32
  ![v70.toNat, 160]

def k7_chk50 (v49 : IVec S16 32) (v71 : IVec S16 32) : Prop :=
  (∀ a x, ((![v49, v71] : Fin 2 → IVec S16 32) a x).toNat < S32x1024.size a)
theorem k7_idx50_inb : ∀ (v49 : IVec S16 32) (v71 : IVec S16 32) (k7_hw50 : k7_chk50 v49 v71), ∀ a x, ((![v49, v71] : Fin 2 → IVec S16 32) a x).toNat < S32x1024.size a := fun v49 v71 k7_hw50 => k7_hw50
def k7_off117 (k7_t5 : Fin k7_t5_loop.trips) : Fin 2 → Nat :=
  let c0_i32_30 : BitVec 32 := 0#32
  let c1_i32_32 : BitVec 32 := 1#32
  let arg10 : BitVec 32 := Scf.iv c0_i32_30 c1_i32_32 k7_t5
  let v72 : Index := Scalar.indexCast arg10
  let c176 : Index := 176#32
  ![v72.toNat, 176]

def k7_chk51 (v49 : IVec S16 32) (v73 : IVec S16 32) : Prop :=
  (∀ a x, ((![v49, v73] : Fin 2 → IVec S16 32) a x).toNat < S32x1024.size a)
theorem k7_idx51_inb : ∀ (v49 : IVec S16 32) (v73 : IVec S16 32) (k7_hw51 : k7_chk51 v49 v73), ∀ a x, ((![v49, v73] : Fin 2 → IVec S16 32) a x).toNat < S32x1024.size a := fun v49 v73 k7_hw51 => k7_hw51
def k7_off118 (k7_t5 : Fin k7_t5_loop.trips) : Fin 2 → Nat :=
  let c0_i32_30 : BitVec 32 := 0#32
  let c1_i32_32 : BitVec 32 := 1#32
  let arg10 : BitVec 32 := Scf.iv c0_i32_30 c1_i32_32 k7_t5
  let v74 : Index := Scalar.indexCast arg10
  let c184 : Index := 184#32
  ![v74.toNat, 184]

def k7_chk52 (v49 : IVec S16 32) (v75 : IVec S16 32) : Prop :=
  (∀ a x, ((![v49, v75] : Fin 2 → IVec S16 32) a x).toNat < S32x1024.size a)
theorem k7_idx52_inb : ∀ (v49 : IVec S16 32) (v75 : IVec S16 32) (k7_hw52 : k7_chk52 v49 v75), ∀ a x, ((![v49, v75] : Fin 2 → IVec S16 32) a x).toNat < S32x1024.size a := fun v49 v75 k7_hw52 => k7_hw52
@[reducible] def k7_t6_loop : Scf.Loop 32 :=
  let c0_i32_40 : BitVec 32 := 0#32
  let c32_i32_41 : BitVec 32 := 32#32
  let v37 : BitVec 32 := Scalar.addi c0_i32_40 c32_i32_41
  let c1_i32_42 : BitVec 32 := 1#32
  ⟨c0_i32_40, v37, c1_i32_42⟩
def k7_off119 (k7_t6 : Fin k7_t6_loop.trips) : Fin 2 → Nat :=
  let c0_i32_40 : BitVec 32 := 0#32
  let c1_i32_42 : BitVec 32 := 1#32
  let arg10 : BitVec 32 := Scf.iv c0_i32_40 c1_i32_42 k7_t6
  let v50 : Index := Scalar.indexCast arg10
  let c0 : Index := 0#32
  ![v50.toNat, 0]

def k7_chk53 (v49 : IVec S16 32) (v51 : IVec S16 32) : Prop :=
  (∀ a x, ((![v49, v51] : Fin 2 → IVec S16 32) a x).toNat < S32x1024.size a)
theorem k7_idx53_inb : ∀ (v49 : IVec S16 32) (v51 : IVec S16 32) (k7_hw53 : k7_chk53 v49 v51), ∀ a x, ((![v49, v51] : Fin 2 → IVec S16 32) a x).toNat < S32x1024.size a := fun v49 v51 k7_hw53 => k7_hw53
def k7_off120 (k7_t6 : Fin k7_t6_loop.trips) : Fin 2 → Nat :=
  let c0_i32_40 : BitVec 32 := 0#32
  let c1_i32_42 : BitVec 32 := 1#32
  let arg10 : BitVec 32 := Scf.iv c0_i32_40 c1_i32_42 k7_t6
  let v52 : Index := Scalar.indexCast arg10
  let c16 : Index := 16#32
  ![v52.toNat, 16]

def k7_chk54 (v49 : IVec S16 32) (v53 : IVec S16 32) : Prop :=
  (∀ a x, ((![v49, v53] : Fin 2 → IVec S16 32) a x).toNat < S32x1024.size a)
theorem k7_idx54_inb : ∀ (v49 : IVec S16 32) (v53 : IVec S16 32) (k7_hw54 : k7_chk54 v49 v53), ∀ a x, ((![v49, v53] : Fin 2 → IVec S16 32) a x).toNat < S32x1024.size a := fun v49 v53 k7_hw54 => k7_hw54
def k7_off121 (k7_t6 : Fin k7_t6_loop.trips) : Fin 2 → Nat :=
  let c0_i32_40 : BitVec 32 := 0#32
  let c1_i32_42 : BitVec 32 := 1#32
  let arg10 : BitVec 32 := Scf.iv c0_i32_40 c1_i32_42 k7_t6
  let v54 : Index := Scalar.indexCast arg10
  let c32 : Index := 32#32
  ![v54.toNat, 32]

def k7_chk55 (v49 : IVec S16 32) (v55 : IVec S16 32) : Prop :=
  (∀ a x, ((![v49, v55] : Fin 2 → IVec S16 32) a x).toNat < S32x1024.size a)
theorem k7_idx55_inb : ∀ (v49 : IVec S16 32) (v55 : IVec S16 32) (k7_hw55 : k7_chk55 v49 v55), ∀ a x, ((![v49, v55] : Fin 2 → IVec S16 32) a x).toNat < S32x1024.size a := fun v49 v55 k7_hw55 => k7_hw55
def k7_off122 (k7_t6 : Fin k7_t6_loop.trips) : Fin 2 → Nat :=
  let c0_i32_40 : BitVec 32 := 0#32
  let c1_i32_42 : BitVec 32 := 1#32
  let arg10 : BitVec 32 := Scf.iv c0_i32_40 c1_i32_42 k7_t6
  let v56 : Index := Scalar.indexCast arg10
  let c48 : Index := 48#32
  ![v56.toNat, 48]

def k7_chk56 (v49 : IVec S16 32) (v57 : IVec S16 32) : Prop :=
  (∀ a x, ((![v49, v57] : Fin 2 → IVec S16 32) a x).toNat < S32x1024.size a)
theorem k7_idx56_inb : ∀ (v49 : IVec S16 32) (v57 : IVec S16 32) (k7_hw56 : k7_chk56 v49 v57), ∀ a x, ((![v49, v57] : Fin 2 → IVec S16 32) a x).toNat < S32x1024.size a := fun v49 v57 k7_hw56 => k7_hw56
def k7_off123 (k7_t6 : Fin k7_t6_loop.trips) : Fin 2 → Nat :=
  let c0_i32_40 : BitVec 32 := 0#32
  let c1_i32_42 : BitVec 32 := 1#32
  let arg10 : BitVec 32 := Scf.iv c0_i32_40 c1_i32_42 k7_t6
  let v58 : Index := Scalar.indexCast arg10
  let c64 : Index := 64#32
  ![v58.toNat, 64]

def k7_chk57 (v49 : IVec S16 32) (v59 : IVec S16 32) : Prop :=
  (∀ a x, ((![v49, v59] : Fin 2 → IVec S16 32) a x).toNat < S32x1024.size a)
theorem k7_idx57_inb : ∀ (v49 : IVec S16 32) (v59 : IVec S16 32) (k7_hw57 : k7_chk57 v49 v59), ∀ a x, ((![v49, v59] : Fin 2 → IVec S16 32) a x).toNat < S32x1024.size a := fun v49 v59 k7_hw57 => k7_hw57
def k7_off124 (k7_t6 : Fin k7_t6_loop.trips) : Fin 2 → Nat :=
  let c0_i32_40 : BitVec 32 := 0#32
  let c1_i32_42 : BitVec 32 := 1#32
  let arg10 : BitVec 32 := Scf.iv c0_i32_40 c1_i32_42 k7_t6
  let v60 : Index := Scalar.indexCast arg10
  let c80 : Index := 80#32
  ![v60.toNat, 80]

def k7_chk58 (v49 : IVec S16 32) (v61 : IVec S16 32) : Prop :=
  (∀ a x, ((![v49, v61] : Fin 2 → IVec S16 32) a x).toNat < S32x1024.size a)
theorem k7_idx58_inb : ∀ (v49 : IVec S16 32) (v61 : IVec S16 32) (k7_hw58 : k7_chk58 v49 v61), ∀ a x, ((![v49, v61] : Fin 2 → IVec S16 32) a x).toNat < S32x1024.size a := fun v49 v61 k7_hw58 => k7_hw58
def k7_off125 (k7_t6 : Fin k7_t6_loop.trips) : Fin 2 → Nat :=
  let c0_i32_40 : BitVec 32 := 0#32
  let c1_i32_42 : BitVec 32 := 1#32
  let arg10 : BitVec 32 := Scf.iv c0_i32_40 c1_i32_42 k7_t6
  let v62 : Index := Scalar.indexCast arg10
  let c96 : Index := 96#32
  ![v62.toNat, 96]

def k7_chk59 (v49 : IVec S16 32) (v63 : IVec S16 32) : Prop :=
  (∀ a x, ((![v49, v63] : Fin 2 → IVec S16 32) a x).toNat < S32x1024.size a)
theorem k7_idx59_inb : ∀ (v49 : IVec S16 32) (v63 : IVec S16 32) (k7_hw59 : k7_chk59 v49 v63), ∀ a x, ((![v49, v63] : Fin 2 → IVec S16 32) a x).toNat < S32x1024.size a := fun v49 v63 k7_hw59 => k7_hw59
def k7_off126 (k7_t6 : Fin k7_t6_loop.trips) : Fin 2 → Nat :=
  let c0_i32_40 : BitVec 32 := 0#32
  let c1_i32_42 : BitVec 32 := 1#32
  let arg10 : BitVec 32 := Scf.iv c0_i32_40 c1_i32_42 k7_t6
  let v64 : Index := Scalar.indexCast arg10
  let c112 : Index := 112#32
  ![v64.toNat, 112]

def k7_chk60 (v49 : IVec S16 32) (v65 : IVec S16 32) : Prop :=
  (∀ a x, ((![v49, v65] : Fin 2 → IVec S16 32) a x).toNat < S32x1024.size a)
theorem k7_idx60_inb : ∀ (v49 : IVec S16 32) (v65 : IVec S16 32) (k7_hw60 : k7_chk60 v49 v65), ∀ a x, ((![v49, v65] : Fin 2 → IVec S16 32) a x).toNat < S32x1024.size a := fun v49 v65 k7_hw60 => k7_hw60
def k7_off127 (k7_t6 : Fin k7_t6_loop.trips) : Fin 2 → Nat :=
  let c0_i32_40 : BitVec 32 := 0#32
  let c1_i32_42 : BitVec 32 := 1#32
  let arg10 : BitVec 32 := Scf.iv c0_i32_40 c1_i32_42 k7_t6
  let v66 : Index := Scalar.indexCast arg10
  let c128 : Index := 128#32
  ![v66.toNat, 128]

def k7_chk61 (v49 : IVec S16 32) (v67 : IVec S16 32) : Prop :=
  (∀ a x, ((![v49, v67] : Fin 2 → IVec S16 32) a x).toNat < S32x1024.size a)
theorem k7_idx61_inb : ∀ (v49 : IVec S16 32) (v67 : IVec S16 32) (k7_hw61 : k7_chk61 v49 v67), ∀ a x, ((![v49, v67] : Fin 2 → IVec S16 32) a x).toNat < S32x1024.size a := fun v49 v67 k7_hw61 => k7_hw61
def k7_off128 (k7_t6 : Fin k7_t6_loop.trips) : Fin 2 → Nat :=
  let c0_i32_40 : BitVec 32 := 0#32
  let c1_i32_42 : BitVec 32 := 1#32
  let arg10 : BitVec 32 := Scf.iv c0_i32_40 c1_i32_42 k7_t6
  let v68 : Index := Scalar.indexCast arg10
  let c144 : Index := 144#32
  ![v68.toNat, 144]

def k7_chk62 (v49 : IVec S16 32) (v69 : IVec S16 32) : Prop :=
  (∀ a x, ((![v49, v69] : Fin 2 → IVec S16 32) a x).toNat < S32x1024.size a)
theorem k7_idx62_inb : ∀ (v49 : IVec S16 32) (v69 : IVec S16 32) (k7_hw62 : k7_chk62 v49 v69), ∀ a x, ((![v49, v69] : Fin 2 → IVec S16 32) a x).toNat < S32x1024.size a := fun v49 v69 k7_hw62 => k7_hw62
def k7_off129 (k7_t6 : Fin k7_t6_loop.trips) : Fin 2 → Nat :=
  let c0_i32_40 : BitVec 32 := 0#32
  let c1_i32_42 : BitVec 32 := 1#32
  let arg10 : BitVec 32 := Scf.iv c0_i32_40 c1_i32_42 k7_t6
  let v70 : Index := Scalar.indexCast arg10
  let c160 : Index := 160#32
  ![v70.toNat, 160]

def k7_chk63 (v49 : IVec S16 32) (v71 : IVec S16 32) : Prop :=
  (∀ a x, ((![v49, v71] : Fin 2 → IVec S16 32) a x).toNat < S32x1024.size a)
theorem k7_idx63_inb : ∀ (v49 : IVec S16 32) (v71 : IVec S16 32) (k7_hw63 : k7_chk63 v49 v71), ∀ a x, ((![v49, v71] : Fin 2 → IVec S16 32) a x).toNat < S32x1024.size a := fun v49 v71 k7_hw63 => k7_hw63
def k7_off130 (k7_t6 : Fin k7_t6_loop.trips) : Fin 2 → Nat :=
  let c0_i32_40 : BitVec 32 := 0#32
  let c1_i32_42 : BitVec 32 := 1#32
  let arg10 : BitVec 32 := Scf.iv c0_i32_40 c1_i32_42 k7_t6
  let v72 : Index := Scalar.indexCast arg10
  let c176 : Index := 176#32
  ![v72.toNat, 176]

def k7_chk64 (v49 : IVec S16 32) (v73 : IVec S16 32) : Prop :=
  (∀ a x, ((![v49, v73] : Fin 2 → IVec S16 32) a x).toNat < S32x1024.size a)
theorem k7_idx64_inb : ∀ (v49 : IVec S16 32) (v73 : IVec S16 32) (k7_hw64 : k7_chk64 v49 v73), ∀ a x, ((![v49, v73] : Fin 2 → IVec S16 32) a x).toNat < S32x1024.size a := fun v49 v73 k7_hw64 => k7_hw64
def k7_off131 (k7_t6 : Fin k7_t6_loop.trips) : Fin 2 → Nat :=
  let c0_i32_40 : BitVec 32 := 0#32
  let c1_i32_42 : BitVec 32 := 1#32
  let arg10 : BitVec 32 := Scf.iv c0_i32_40 c1_i32_42 k7_t6
  let v74 : Index := Scalar.indexCast arg10
  let c184 : Index := 184#32
  ![v74.toNat, 184]

def k7_chk65 (v49 : IVec S16 32) (v75 : IVec S16 32) : Prop :=
  (∀ a x, ((![v49, v75] : Fin 2 → IVec S16 32) a x).toNat < S32x1024.size a)
theorem k7_idx65_inb : ∀ (v49 : IVec S16 32) (v75 : IVec S16 32) (k7_hw65 : k7_chk65 v49 v75), ∀ a x, ((![v49, v75] : Fin 2 → IVec S16 32) a x).toNat < S32x1024.size a := fun v49 v75 k7_hw65 => k7_hw65
@[reducible] def k7_t7_loop : Scf.Loop 32 :=
  let c0_i32_45 : BitVec 32 := 0#32
  let c32_i32_46 : BitVec 32 := 32#32
  let v39 : BitVec 32 := Scalar.addi c0_i32_45 c32_i32_46
  let c1_i32_47 : BitVec 32 := 1#32
  ⟨c0_i32_45, v39, c1_i32_47⟩
def k7_off132 (k7_t7 : Fin k7_t7_loop.trips) : Fin 2 → Nat :=
  let c0_i32_45 : BitVec 32 := 0#32
  let c1_i32_47 : BitVec 32 := 1#32
  let arg10 : BitVec 32 := Scf.iv c0_i32_45 c1_i32_47 k7_t7
  let v50 : Index := Scalar.indexCast arg10
  let c0 : Index := 0#32
  ![v50.toNat, 0]

def k7_chk66 (v49 : IVec S16 32) (v51 : IVec S16 32) : Prop :=
  (∀ a x, ((![v49, v51] : Fin 2 → IVec S16 32) a x).toNat < S32x1024.size a)
theorem k7_idx66_inb : ∀ (v49 : IVec S16 32) (v51 : IVec S16 32) (k7_hw66 : k7_chk66 v49 v51), ∀ a x, ((![v49, v51] : Fin 2 → IVec S16 32) a x).toNat < S32x1024.size a := fun v49 v51 k7_hw66 => k7_hw66
def k7_off133 (k7_t7 : Fin k7_t7_loop.trips) : Fin 2 → Nat :=
  let c0_i32_45 : BitVec 32 := 0#32
  let c1_i32_47 : BitVec 32 := 1#32
  let arg10 : BitVec 32 := Scf.iv c0_i32_45 c1_i32_47 k7_t7
  let v52 : Index := Scalar.indexCast arg10
  let c16 : Index := 16#32
  ![v52.toNat, 16]

def k7_chk67 (v49 : IVec S16 32) (v53 : IVec S16 32) : Prop :=
  (∀ a x, ((![v49, v53] : Fin 2 → IVec S16 32) a x).toNat < S32x1024.size a)
theorem k7_idx67_inb : ∀ (v49 : IVec S16 32) (v53 : IVec S16 32) (k7_hw67 : k7_chk67 v49 v53), ∀ a x, ((![v49, v53] : Fin 2 → IVec S16 32) a x).toNat < S32x1024.size a := fun v49 v53 k7_hw67 => k7_hw67
def k7_off134 (k7_t7 : Fin k7_t7_loop.trips) : Fin 2 → Nat :=
  let c0_i32_45 : BitVec 32 := 0#32
  let c1_i32_47 : BitVec 32 := 1#32
  let arg10 : BitVec 32 := Scf.iv c0_i32_45 c1_i32_47 k7_t7
  let v54 : Index := Scalar.indexCast arg10
  let c32 : Index := 32#32
  ![v54.toNat, 32]

def k7_chk68 (v49 : IVec S16 32) (v55 : IVec S16 32) : Prop :=
  (∀ a x, ((![v49, v55] : Fin 2 → IVec S16 32) a x).toNat < S32x1024.size a)
theorem k7_idx68_inb : ∀ (v49 : IVec S16 32) (v55 : IVec S16 32) (k7_hw68 : k7_chk68 v49 v55), ∀ a x, ((![v49, v55] : Fin 2 → IVec S16 32) a x).toNat < S32x1024.size a := fun v49 v55 k7_hw68 => k7_hw68
def k7_off135 (k7_t7 : Fin k7_t7_loop.trips) : Fin 2 → Nat :=
  let c0_i32_45 : BitVec 32 := 0#32
  let c1_i32_47 : BitVec 32 := 1#32
  let arg10 : BitVec 32 := Scf.iv c0_i32_45 c1_i32_47 k7_t7
  let v56 : Index := Scalar.indexCast arg10
  let c48 : Index := 48#32
  ![v56.toNat, 48]

def k7_chk69 (v49 : IVec S16 32) (v57 : IVec S16 32) : Prop :=
  (∀ a x, ((![v49, v57] : Fin 2 → IVec S16 32) a x).toNat < S32x1024.size a)
theorem k7_idx69_inb : ∀ (v49 : IVec S16 32) (v57 : IVec S16 32) (k7_hw69 : k7_chk69 v49 v57), ∀ a x, ((![v49, v57] : Fin 2 → IVec S16 32) a x).toNat < S32x1024.size a := fun v49 v57 k7_hw69 => k7_hw69
def k7_off136 (k7_t7 : Fin k7_t7_loop.trips) : Fin 2 → Nat :=
  let c0_i32_45 : BitVec 32 := 0#32
  let c1_i32_47 : BitVec 32 := 1#32
  let arg10 : BitVec 32 := Scf.iv c0_i32_45 c1_i32_47 k7_t7
  let v58 : Index := Scalar.indexCast arg10
  let c64 : Index := 64#32
  ![v58.toNat, 64]

def k7_chk70 (v49 : IVec S16 32) (v59 : IVec S16 32) : Prop :=
  (∀ a x, ((![v49, v59] : Fin 2 → IVec S16 32) a x).toNat < S32x1024.size a)
theorem k7_idx70_inb : ∀ (v49 : IVec S16 32) (v59 : IVec S16 32) (k7_hw70 : k7_chk70 v49 v59), ∀ a x, ((![v49, v59] : Fin 2 → IVec S16 32) a x).toNat < S32x1024.size a := fun v49 v59 k7_hw70 => k7_hw70
def k7_off137 (k7_t7 : Fin k7_t7_loop.trips) : Fin 2 → Nat :=
  let c0_i32_45 : BitVec 32 := 0#32
  let c1_i32_47 : BitVec 32 := 1#32
  let arg10 : BitVec 32 := Scf.iv c0_i32_45 c1_i32_47 k7_t7
  let v60 : Index := Scalar.indexCast arg10
  let c80 : Index := 80#32
  ![v60.toNat, 80]

def k7_chk71 (v49 : IVec S16 32) (v61 : IVec S16 32) : Prop :=
  (∀ a x, ((![v49, v61] : Fin 2 → IVec S16 32) a x).toNat < S32x1024.size a)
theorem k7_idx71_inb : ∀ (v49 : IVec S16 32) (v61 : IVec S16 32) (k7_hw71 : k7_chk71 v49 v61), ∀ a x, ((![v49, v61] : Fin 2 → IVec S16 32) a x).toNat < S32x1024.size a := fun v49 v61 k7_hw71 => k7_hw71
def k7_off138 (k7_t7 : Fin k7_t7_loop.trips) : Fin 2 → Nat :=
  let c0_i32_45 : BitVec 32 := 0#32
  let c1_i32_47 : BitVec 32 := 1#32
  let arg10 : BitVec 32 := Scf.iv c0_i32_45 c1_i32_47 k7_t7
  let v62 : Index := Scalar.indexCast arg10
  let c96 : Index := 96#32
  ![v62.toNat, 96]

def k7_chk72 (v49 : IVec S16 32) (v63 : IVec S16 32) : Prop :=
  (∀ a x, ((![v49, v63] : Fin 2 → IVec S16 32) a x).toNat < S32x1024.size a)
theorem k7_idx72_inb : ∀ (v49 : IVec S16 32) (v63 : IVec S16 32) (k7_hw72 : k7_chk72 v49 v63), ∀ a x, ((![v49, v63] : Fin 2 → IVec S16 32) a x).toNat < S32x1024.size a := fun v49 v63 k7_hw72 => k7_hw72
def k7_off139 (k7_t7 : Fin k7_t7_loop.trips) : Fin 2 → Nat :=
  let c0_i32_45 : BitVec 32 := 0#32
  let c1_i32_47 : BitVec 32 := 1#32
  let arg10 : BitVec 32 := Scf.iv c0_i32_45 c1_i32_47 k7_t7
  let v64 : Index := Scalar.indexCast arg10
  let c112 : Index := 112#32
  ![v64.toNat, 112]

def k7_chk73 (v49 : IVec S16 32) (v65 : IVec S16 32) : Prop :=
  (∀ a x, ((![v49, v65] : Fin 2 → IVec S16 32) a x).toNat < S32x1024.size a)
theorem k7_idx73_inb : ∀ (v49 : IVec S16 32) (v65 : IVec S16 32) (k7_hw73 : k7_chk73 v49 v65), ∀ a x, ((![v49, v65] : Fin 2 → IVec S16 32) a x).toNat < S32x1024.size a := fun v49 v65 k7_hw73 => k7_hw73
def k7_off140 (k7_t7 : Fin k7_t7_loop.trips) : Fin 2 → Nat :=
  let c0_i32_45 : BitVec 32 := 0#32
  let c1_i32_47 : BitVec 32 := 1#32
  let arg10 : BitVec 32 := Scf.iv c0_i32_45 c1_i32_47 k7_t7
  let v66 : Index := Scalar.indexCast arg10
  let c128 : Index := 128#32
  ![v66.toNat, 128]

def k7_chk74 (v49 : IVec S16 32) (v67 : IVec S16 32) : Prop :=
  (∀ a x, ((![v49, v67] : Fin 2 → IVec S16 32) a x).toNat < S32x1024.size a)
theorem k7_idx74_inb : ∀ (v49 : IVec S16 32) (v67 : IVec S16 32) (k7_hw74 : k7_chk74 v49 v67), ∀ a x, ((![v49, v67] : Fin 2 → IVec S16 32) a x).toNat < S32x1024.size a := fun v49 v67 k7_hw74 => k7_hw74
def k7_off141 (k7_t7 : Fin k7_t7_loop.trips) : Fin 2 → Nat :=
  let c0_i32_45 : BitVec 32 := 0#32
  let c1_i32_47 : BitVec 32 := 1#32
  let arg10 : BitVec 32 := Scf.iv c0_i32_45 c1_i32_47 k7_t7
  let v68 : Index := Scalar.indexCast arg10
  let c144 : Index := 144#32
  ![v68.toNat, 144]

def k7_chk75 (v49 : IVec S16 32) (v69 : IVec S16 32) : Prop :=
  (∀ a x, ((![v49, v69] : Fin 2 → IVec S16 32) a x).toNat < S32x1024.size a)
theorem k7_idx75_inb : ∀ (v49 : IVec S16 32) (v69 : IVec S16 32) (k7_hw75 : k7_chk75 v49 v69), ∀ a x, ((![v49, v69] : Fin 2 → IVec S16 32) a x).toNat < S32x1024.size a := fun v49 v69 k7_hw75 => k7_hw75
def k7_off142 (k7_t7 : Fin k7_t7_loop.trips) : Fin 2 → Nat :=
  let c0_i32_45 : BitVec 32 := 0#32
  let c1_i32_47 : BitVec 32 := 1#32
  let arg10 : BitVec 32 := Scf.iv c0_i32_45 c1_i32_47 k7_t7
  let v70 : Index := Scalar.indexCast arg10
  let c160 : Index := 160#32
  ![v70.toNat, 160]

def k7_chk76 (v49 : IVec S16 32) (v71 : IVec S16 32) : Prop :=
  (∀ a x, ((![v49, v71] : Fin 2 → IVec S16 32) a x).toNat < S32x1024.size a)
theorem k7_idx76_inb : ∀ (v49 : IVec S16 32) (v71 : IVec S16 32) (k7_hw76 : k7_chk76 v49 v71), ∀ a x, ((![v49, v71] : Fin 2 → IVec S16 32) a x).toNat < S32x1024.size a := fun v49 v71 k7_hw76 => k7_hw76
def k7_off143 (k7_t7 : Fin k7_t7_loop.trips) : Fin 2 → Nat :=
  let c0_i32_45 : BitVec 32 := 0#32
  let c1_i32_47 : BitVec 32 := 1#32
  let arg10 : BitVec 32 := Scf.iv c0_i32_45 c1_i32_47 k7_t7
  let v72 : Index := Scalar.indexCast arg10
  let c176 : Index := 176#32
  ![v72.toNat, 176]

def k7_chk77 (v49 : IVec S16 32) (v73 : IVec S16 32) : Prop :=
  (∀ a x, ((![v49, v73] : Fin 2 → IVec S16 32) a x).toNat < S32x1024.size a)
theorem k7_idx77_inb : ∀ (v49 : IVec S16 32) (v73 : IVec S16 32) (k7_hw77 : k7_chk77 v49 v73), ∀ a x, ((![v49, v73] : Fin 2 → IVec S16 32) a x).toNat < S32x1024.size a := fun v49 v73 k7_hw77 => k7_hw77
def k7_off144 (k7_t7 : Fin k7_t7_loop.trips) : Fin 2 → Nat :=
  let c0_i32_45 : BitVec 32 := 0#32
  let c1_i32_47 : BitVec 32 := 1#32
  let arg10 : BitVec 32 := Scf.iv c0_i32_45 c1_i32_47 k7_t7
  let v74 : Index := Scalar.indexCast arg10
  let c184 : Index := 184#32
  ![v74.toNat, 184]

def k7_chk78 (v49 : IVec S16 32) (v75 : IVec S16 32) : Prop :=
  (∀ a x, ((![v49, v75] : Fin 2 → IVec S16 32) a x).toNat < S32x1024.size a)
theorem k7_idx78_inb : ∀ (v49 : IVec S16 32) (v75 : IVec S16 32) (k7_hw78 : k7_chk78 v49 v75), ∀ a x, ((![v49, v75] : Fin 2 → IVec S16 32) a x).toNat < S32x1024.size a := fun v49 v75 k7_hw78 => k7_hw78
abbrev grid8 : Pipeline.Grid := ⟨1, ![4], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

def cc8_transform_4 (i : grid8.Coords) : Fin 2 → Nat :=
  let arg0 : BitVec 32 := BitVec.ofNat 32 (i 0).val
  let c12_i32 : BitVec 32 := 12#32
  let v0 : BitVec 32 := Scalar.addi c12_i32 arg0
  let c0_i32 : BitVec 32 := 0#32
  let c0_i32_0 : BitVec 32 := 0#32
  ![v0.toNat, c0_i32.toNat]

abbrev stage8_0 : Fin 2 → Memref sig .tc .vmem S1024x1024 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1024x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S1024x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S1024x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))
-- ==== KernelIdeal.lean ====
variable {F : FTy → Type} [FloatOps F] [Named F]
def κ : String → Option EReal := fun
  | "inv_L" => some ((200⁻¹ : ℝ) : EReal)
  | _ => none
-- ==== ReferenceIdeal.lean ====
abbrev S16384x200 : Shape := ⟨2, ![16384, 200]⟩
abbrev S1000x128 : Shape := ⟨2, ![1000, 128]⟩
abbrev S128x128 : Shape := ⟨2, ![128, 128]⟩
abbrev S128 : Shape := ⟨1, ![128]⟩
abbrev S_ : Shape := ⟨0, ![]⟩
abbrev S16384x200x1 : Shape := ⟨3, ![16384, 200, 1]⟩
abbrev S1 : Shape := ⟨1, ![1]⟩
abbrev S1x1x1 : Shape := ⟨3, ![1, 1, 1]⟩
abbrev S16384x200x128 : Shape := ⟨3, ![16384, 200, 128]⟩
abbrev S16384x128 : Shape := ⟨2, ![16384, 128]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S1000x128, .f32⟩
  | .hbm, ⟨2, _⟩ => ⟨S128x128, .f32⟩
  | .hbm, ⟨3, _⟩ => ⟨S128, .f32⟩
  | .hbm, ⟨4, _⟩ => ⟨S_, .i32⟩
  | .hbm, ⟨5, _⟩ => ⟨S16384x200, .i32⟩
  | .hbm, ⟨6, _⟩ => ⟨S16384x200, .i1⟩
  | .hbm, ⟨7, _⟩ => ⟨S_, .i32⟩
  | .hbm, ⟨8, _⟩ => ⟨S16384x200, .i32⟩
  | .hbm, ⟨9, _⟩ => ⟨S16384x200, .i32⟩
  | .hbm, ⟨10, _⟩ => ⟨S16384x200, .i32⟩
  | .hbm, ⟨11, _⟩ => ⟨S16384x200x1, .i32⟩
  | .hbm, ⟨12, _⟩ => ⟨S1, .i32⟩
  | .hbm, ⟨13, _⟩ => ⟨S_, .i32⟩
  | .hbm, ⟨14, _⟩ => ⟨S16384x200x1, .i32⟩
  | .hbm, ⟨15, _⟩ => ⟨S16384x200x1, .i1⟩
  | .hbm, ⟨16, _⟩ => ⟨S1x1x1, .i32⟩
  | .hbm, ⟨17, _⟩ => ⟨S16384x200x1, .i32⟩
  | .hbm, ⟨18, _⟩ => ⟨S16384x200x1, .i1⟩
  | .hbm, ⟨19, _⟩ => ⟨S16384x200x1, .i1⟩
  | .hbm, ⟨20, _⟩ => ⟨S_, .i1⟩
  | .hbm, ⟨21, _⟩ => ⟨S16384x200, .i1⟩
  | .hbm, ⟨22, _⟩ => ⟨S16384x200x128, .f32⟩
  | .hbm, ⟨23, _⟩ => ⟨S16384x200x128, .i1⟩
  | .hbm, ⟨24, _⟩ => ⟨S_, .f32⟩
  | .hbm, ⟨25, _⟩ => ⟨S16384x200x128, .f32⟩
  | .hbm, ⟨26, _⟩ => ⟨S16384x200x128, .f32⟩
  | .hbm, ⟨27, _⟩ => ⟨S_, .f32⟩
  | .hbm, ⟨28, _⟩ => ⟨S16384x128, .f32⟩
  | .hbm, ⟨29, _⟩ => ⟨S_, .f32⟩
  | .hbm, ⟨30, _⟩ => ⟨S16384x128, .f32⟩
  | .hbm, ⟨31, _⟩ => ⟨S16384x128, .f32⟩
  | .hbm, ⟨32, _⟩ => ⟨S128x128, .f32⟩
  | .hbm, ⟨33, _⟩ => ⟨S16384x128, .f32⟩
  | .hbm, ⟨34, _⟩ => ⟨S1x128, .f32⟩
  | .hbm, ⟨35, _⟩ => ⟨S16384x128, .f32⟩
  | .hbm, ⟨36, _⟩ => ⟨S16384x128, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_cst_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩

abbrev nD : Nat := 1
abbrev τ : Topo := Topo.v7x

variable {F : FTy → Type} [FloatOps F]
-- ==== Proof.Task.lean ====
/-
  The four SparseCore kernels of the program are one text at four offsets into `x`. This file writes that text
  once, over any two buffers and any slice offsets: the step of sixteen tokens, the row of thirteen steps, the
  clearing of a row, and a tile's whole task. `Bodies.lean` identifies the four printed kernels with it.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Proof.Hist

open Cert.KernelIdeal Cert.KernelIdeal.Gen

open Idealize.ShloMosaic
open Idealize.SL Idealize.SL.Sem

variable {F : FTy → Type} [FloatOps F] [Named F]

/-- The loop over the thirty-two rows of a chunk. -/
@[reducible] def rows : Scf.Loop 32 := ⟨0#32, Scalar.addi 0#32 32#32, 1#32⟩

theorem rows_ok : rows.OK := k1_t1_ok

/-- The row a trip of the loop works on, as the programs compute it. -/
@[reducible] def rowIx (t : Fin rows.trips) : ℕ := (Scalar.indexCast (Scf.iv 0#32 1#32 t)).toNat

/-- Where sixteen lanes of row `t` at column `o` begin. -/
def laneOff (t : Fin rows.trips) (o : ℕ) : Fin 2 → ℕ := ![(Scalar.indexCast (Scf.iv 0#32 1#32 t)).toNat, o]

theorem rowIx_lt (t : Fin rows.trips) : rowIx t < 32 := by
  have h := k1_off66_inb t 0
  exact Nat.lt_of_succ_le (show rowIx t + 1 ≤ 32 from h)

theorem laneOff_inb {n : ℕ} (t : Fin rows.trips) (o : ℕ) (ho : o + 16 ≤ n) :
    ∀ a, laneOff t o a + S1x16.size a ≤ (⟨2, ![32, n]⟩ : Shape).size a := by
  intro a
  have h := rowIx_lt t
  fin_cases a
  · exact h
  · exact ho

variable {c : Fin τ.nSC} {s : Fin τ.nSub}

/-- A tile's programs. -/
abbrev TileP (F : FTy → Type) (c : Fin τ.nSC) (s : Fin τ.nSub) (α : Type) := Prog (TpuEff nD τ sig (Elt F) Λ₀ (.scVector c s)) α

/-- One step: sixteen tokens of row `t` of `xb` from column `o`, and the store at them into row `t` of `cb`. -/
def step (xb : Memref sig .scVector .vmem S32x200 .i32) (cb : Memref sig .scVector .vmem S32x1024 .f32)
    (val : FVec F S16 .f32) (add : Bool) (mask : IVec S16 1) (t : Fin rows.trips) (o : ℕ) (ho : o + 16 ≤ 200) : TileP F c s PUnit := do
  have row : IVec S16 32 := addi (broadcast S16 0#32) (broadcast S16 (Scf.iv 0#32 1#32 t))
  let ld : Vec F S1x16 .i32 ← Prog.lift (.load xb (Rect.unit (s := S32x200) (laneOff t o) S1x16.size (laneOff_inb t o ho)).toLoadRect
    (View.loadsAt_vmem h_S1x16))
  have tok : Vec F S16 .i32 := shapeCast S16 ld shapeCasts_S1x16_S16
  have hw : k1_chk1 row tok := (← Prog.lift (TpuEff.assume (k1_chk1 row tok) (k1_chk1.dec row tok))).down
  SparseCore.vectorStoreIdx cb ![row, tok] val mask add (k1_idx1_inb row tok hw) (View.stores_vmem_bits_univ h_S32x1024 rfl)

/-- `n` steps of all lanes, from column `o` on. -/
def steps (xb : Memref sig .scVector .vmem S32x200 .i32) (cb : Memref sig .scVector .vmem S32x1024 .f32)
    (val : FVec F S16 .f32) (add : Bool) (t : Fin rows.trips) : (n o : ℕ) → o + 16 * n ≤ 200 → TileP F c s PUnit
  | 0, _, _ => pure ⟨⟩
  | n + 1, o, h => do
      step xb cb val add (fun _ => 1#1) t o (by omega)
      steps xb cb val add t n (o + 16) (by omega)

/-- The lanes of the last step that no earlier step has read: the upper eight. -/
def tail : IVec S16 1 := cmpi .sge (iota .scVector S16 32 [0] iota_S16_d0_w32_scVector) (broadcast S16 8#32)

/-- A row: its two hundred tokens, twelve steps of sixteen and the last eight of a thirteenth. -/
def rowP (xb : Memref sig .scVector .vmem S32x200 .i32) (cb : Memref sig .scVector .vmem S32x1024 .f32)
    (val : FVec F S16 .f32) (add : Bool) (m : IVec S16 1) (t : Fin rows.trips) : TileP F c s PUnit := do
  steps xb cb val add t 12 0 (by omega)
  step xb cb val add m t 184 (by omega)

/-- A chunk of thirty-two rows. -/
def chunk (xb : Memref sig .scVector .vmem S32x200 .i32) (cb : Memref sig .scVector .vmem S32x1024 .f32)
    (val : FVec F S16 .f32) (add : Bool) (m : IVec S16 1) : TileP F c s (BitVec 32) :=
  Scf.Loop.for rows rows_ok 0#32 fun t _ => do
    rowP xb cb val add m t
    pure 0#32

/-- Sixteen zeros stored into row `t` of `cb` at each of `n` columns from `o` on (each store after a load of the words it
    overwrites, whose value nothing reads), and then `k`. -/
def zeros (cb : Memref sig .scVector .vmem S32x1024 .f32) (val : FVec F S16 .f32) (t : Fin rows.trips) (k : TileP F c s (BitVec 32)) :
    (n o : ℕ) → o + 16 * n ≤ 1024 → TileP F c s (BitVec 32)
  | 0, _, _ => k
  | n + 1, o, h =>
      .op (.load cb (Rect.unit (s := S32x1024) (laneOff t o) S1x16.size (laneOff_inb t o (by omega))).toLoadRect
        (View.loadsAt_vmem h_S1x16)) fun _ =>
      .op (.store cb (Rect.unit (s := S32x1024) (laneOff t o) S1x16.size (laneOff_inb t o (by omega)))
        (shapeCast S1x16 val shapeCasts_S16_S1x16) Finset.univ (View.stores_vmem_bits_univ h_S1x16 rfl) (.inl rfl)) fun _ =>
      zeros cb val t k n (o + 16) (by omega)

/-- Both buffers of counts cleared. -/
def clear (c0 c1 : Memref sig .scVector .vmem S32x1024 .f32) (val : FVec F S16 .f32) : TileP F c s (BitVec 32) :=
  Scf.Loop.for rows rows_ok 0#32 fun t _ =>
    zeros c0 val t (zeros c1 val t (pure 0#32) 64 0 (by omega)) 64 0 (by omega)

/-- A chunk of `x` copied in, and the copy awaited. -/
def fetch (x : Memref sig .scVector .hbm S16384x200 .i32) (o : Fin 2 → ℕ) (ho : ∀ a, o a + S32x200.size a ≤ S16384x200.size a)
    (xb : Memref sig .scVector .vmem S32x200 .i32) (hxb : xb.IsWhole) (sem : DmaSems sig S_) : TileP F c s PUnit := do
  Prog.lift (.enqueueDma (x.slice (Rect.unit (s := S16384x200) o S32x200.size ho) (fun _ => rfl)) (.here xb) (.dma sem.sem)
    (View.wordExact_bits rfl) hxb.wordExact ⟨Or.inl rfl, trivial⟩)
  Prog.lift (.waitDma2 sem.sem (x.slice (Rect.unit (s := S16384x200) o S32x200.size ho) (fun _ => rfl)) xb (View.wordExact_bits rfl) hxb.wordExact)

/-- A chunk of counts on its way out. -/
def send (y : Memref sig .scVector .hbm S4096x1024 .f32) (o : Fin 2 → ℕ) (ho : ∀ a, o a + S32x1024.size a ≤ S4096x1024.size a)
    (cb : Memref sig .scVector .vmem S32x1024 .f32) (hcb : cb.IsWhole) (sem : DmaSems sig S_) : TileP F c s PUnit :=
  Prog.lift (.enqueueDma cb (.here (y.slice (Rect.unit (s := S4096x1024) o S32x1024.size ho) (fun _ => rfl))) (.dma sem.sem)
    hcb.wordExact (View.wordExact_bits rfl) ⟨Or.inl rfl, trivial⟩)

/-- The wait for it. -/
def drain (y : Memref sig .scVector .hbm S4096x1024 .f32) (o : Fin 2 → ℕ) (ho : ∀ a, o a + S32x1024.size a ≤ S4096x1024.size a)
    (cb : Memref sig .scVector .vmem S32x1024 .f32) (hcb : cb.IsWhole) (sem : DmaSems sig S_) : TileP F c s PUnit :=
  Prog.lift (.waitDma2 sem.sem cb (y.slice (Rect.unit (s := S4096x1024) o S32x1024.size ho) (fun _ => rfl)) hcb.wordExact (View.wordExact_bits rfl))

/-- Sixteen zeros, sixteen ones. -/
def v0s : FVec F S16 .f32 := broadcast S16 (Scalar.ofBits .f32 0x00000000#32)
def v1s : FVec F S16 .f32 := broadcast S16 (Scalar.ofBits .f32 0x3F800000#32)

section Task

variable (xo yo : BitVec 32 → Fin 2 → ℕ)
    (hxo : ∀ (r : Fin 4) a, xo (BitVec.ofNat 32 (32 * r.val)) a + S32x200.size a ≤ S16384x200.size a)
    (hyo : ∀ (r : Fin 4) a, yo (BitVec.ofNat 32 (32 * r.val)) a + S32x1024.size a ≤ S4096x1024.size a)
    (x : Memref sig .scVector .hbm S16384x200 .i32) (y : Memref sig .scVector .hbm S4096x1024 .f32)
    (x0 : Memref sig .scVector .vmem S32x200 .i32) (hx0 : x0.IsWhole) (x1 : Memref sig .scVector .vmem S32x200 .i32) (hx1 : x1.IsWhole)
    (c0 : Memref sig .scVector .vmem S32x1024 .f32) (hc0 : c0.IsWhole) (c1 : Memref sig .scVector .vmem S32x1024 .f32) (hc1 : c1.IsWhole)
    (s0 s1 r0 r1 r2 r3 : DmaSems sig S_)

/-- The first stretch of a tile's task, as the printed text is cut: the buffers cleared, the first chunk counted and on its
    way out, the second chunk of tokens on its way in. -/
def part1 (w2 w3 : BitVec 32) :
    TileP F c s (Σ' (_ : BitVec 32) (_ : BitVec 32) (_ : FVec F S16 .f32) (_ : FVec F S16 .f32), IVec S16 1) := do
  let _ ← clear c0 c1 v0s
  fetch x (xo 0#32) (hxo 0) x0 hx0 r0
  let _ ← chunk x0 c0 v1s true tail
  send y (yo 0#32) (hyo 0) c0 hc0 s0
  Prog.lift (.enqueueDma (x.slice (Rect.unit (s := S16384x200) (xo 32#32) S32x200.size (hxo 1)) (fun _ => rfl)) (.here x1) (.dma r1.sem)
    (View.wordExact_bits rfl) hx1.wordExact ⟨Or.inl rfl, trivial⟩)
  pure ⟨w2, w3, v0s, v1s, tail⟩

/-- The second stretch: the second chunk counted and on its way out, the first buffers cleared and counted again. -/
def part2 (v0 v1 : FVec F S16 .f32) (m : IVec S16 1) : TileP F c s PUnit := do
  Prog.lift (.waitDma2 r1.sem (x.slice (Rect.unit (s := S16384x200) (xo 32#32) S32x200.size (hxo 1)) (fun _ => rfl)) x1
    (View.wordExact_bits rfl) hx1.wordExact)
  let _ ← chunk x1 c1 v1 true m
  send y (yo 32#32) (hyo 1) c1 hc1 s1
  drain y (yo 0#32) (hyo 0) c0 hc0 s0
  let _ ← chunk x0 c0 v0 false m
  fetch x (xo 64#32) (hxo 2) x0 hx0 r2
  let _ ← chunk x0 c0 v1 true m
  send y (yo 64#32) (hyo 2) c0 hc0 s0

/-- A tile's task: four chunks through two pairs of buffers. -/
def task (w2 w3 : BitVec 32) : TileP F c s PUnit := do
  let ⟨_, _, v0, v1, m⟩ ← part1 xo yo hxo hyo x y x0 hx0 x1 hx1 c0 hc0 c1 s0 r0 r1 w2 w3
  part2 xo yo hxo hyo x y x0 hx0 x1 hx1 c0 hc0 c1 hc1 s0 s1 r1 r2 v0 v1 m
  drain y (yo 32#32) (hyo 1) c1 hc1 s1
  let _ ← chunk x1 c1 v0 false m
  fetch x (xo 96#32) (hxo 3) x1 hx1 r3
  let _ ← chunk x1 c1 v1 true m
  send y (yo 96#32) (hyo 3) c1 hc1 s1
  drain y (yo 64#32) (hyo 2) c0 hc0 s0
  drain y (yo 96#32) (hyo 3) c1 hc1 s1
  pure ⟨⟩

end Task

end Cert.Proof.Hist
-- ==== Proof.Count.lean ====
/-
  What a chunk of the tile's task computes, as plain functions: a cell of the counts is folded over the tokens of its
  row, in order, each token that names the cell applying one operation to it.
-/
module

public import proofs.«01_k».proof.Proof.Task

@[expose] public section

noncomputable section

namespace Cert.Proof.Hist

open Cert.KernelIdeal Cert.KernelIdeal.Gen
open Idealize.ShloMosaic

/-- An index of two coordinates. -/
def ix2 {n m : ℕ} (r : Fin n) (l : Fin m) : (⟨2, ![n, m]⟩ : Shape).Idx
  | 0 => r
  | 1 => l

theorem ix2_eta {n m : ℕ} (j : (⟨2, ![n, m]⟩ : Shape).Idx) : ix2 (n := n) (m := m) (j 0) (j 1) = j := by
  funext a; fin_cases a <;> rfl

/-- One cell through the positions `o … o+n-1`: each that satisfies `q` applies `op`. -/
def run {α : Type} (op : α → α) (q : ℕ → Prop) [DecidablePred q] (o n : ℕ) (x : α) : α :=
  (List.range' o n).foldl (fun g l => if q l then op g else g) x

section Run

variable {α : Type} (op : α → α) (q : ℕ → Prop) [DecidablePred q]

theorem run_zero (o : ℕ) (x : α) : run op q o 0 x = x := rfl

theorem run_add (o a b : ℕ) (x : α) : run op q o (a + b) x = run op q (o + a) b (run op q o a x) := by
  unfold run
  rw [← List.range'_append_1, List.foldl_append]

theorem run_congr {q q' : ℕ → Prop} [DecidablePred q] [DecidablePred q'] (o n : ℕ) (h : ∀ l, o ≤ l → l < o + n → (q l ↔ q' l)) (x : α) :
    run op q o n x = run op q' o n x := by
  unfold run
  refine List.foldl_ext _ _ _ fun g l hl => ?_
  rw [List.mem_range'_1] at hl
  exact if_congr (h l hl.1 hl.2) rfl rfl

theorem run_not {q : ℕ → Prop} [DecidablePred q] (o n : ℕ) (h : ∀ l, o ≤ l → l < o + n → ¬ q l) (x : α) : run op q o n x = x := by
  induction n generalizing x with
  | zero => rfl
  | succ n ih =>
    rw [run_add, ih (fun l h1 h2 => h l h1 (by omega))]
    exact if_neg (h _ (by omega) (by omega))

/-- A constant operation leaves the constant where the fold meets one position at least. -/
theorem run_const (z : α) {q : ℕ → Prop} [DecidablePred q] (o n : ℕ) (h : ∃ l, o ≤ l ∧ l < o + n ∧ q l) (x : α) :
    run (fun _ => z) q o n x = z := by
  induction n generalizing x with
  | zero => obtain ⟨l, h1, h2, _⟩ := h; omega
  | succ n ih =>
    rw [run_add]
    show (if q (o + n) then z else _) = z
    split_ifs with hq
    · rfl
    · obtain ⟨l, h1, h2, h3⟩ := h
      have hl : l ≠ o + n := fun e => hq (e ▸ h3)
      exact ih ⟨l, h1, by omega, h3⟩ x

/-- Clearing undoes counting: from a cell at `z`, any operation at the positions that satisfy `q` and then `z` at each. -/
theorem run_clear (z : α) (o n : ℕ) : run (fun _ => z) q o n (run op q o n z) = z := by
  by_cases h : ∃ l, o ≤ l ∧ l < o + n ∧ q l
  · exact run_const z o n h _
  · have h' : ∀ l, o ≤ l → l < o + n → ¬ q l := fun l h1 h2 h3 => h ⟨l, h1, h2, h3⟩
    rw [run_not _ _ _ h', run_not _ _ _ h']

end Run

section Store

variable {F : FTy → Type} [FloatOps F]

/-- A masked store at index vectors, at one cell: the lanes that name it, in order. -/
theorem storeIdx_apply {s : Shape} {e : EltTy} {d : Fin 1 → ℕ} (f : Vec F s e) (idxs : Fin s.rank → IVec ⟨1, d⟩ 32) (v : Vec F ⟨1, d⟩ e)
    (mask : IVec ⟨1, d⟩ 1) (add : Bool) (h : ∀ a x, (idxs a x).toNat < s.size a) (j : s.Idx) :
    storeIdx f idxs v mask add h j = (List.finRange (d 0)).foldl (fun g k =>
      if mask (Shape.ofLane k) = 1 ∧ ∀ a, (j a).val = (idxs a (Shape.ofLane k)).toNat then
        (if add then Elt.idxAdd e g (v (Shape.ofLane k)) else v (Shape.ofLane k)) else g) (f j) := by
  unfold storeIdx
  generalize List.finRange (d 0) = L
  induction L generalizing f with
  | nil => rfl
  | cons k L ih =>
    rw [List.foldl_cons, List.foldl_cons, ih]
    congr 1
    by_cases hm : mask (Shape.ofLane k) = 1
    · simp only [hm, if_true, true_and]
      by_cases hj : ∀ a, (j a).val = (idxs a (Shape.ofLane k)).toNat
      · have hi : idxAt idxs h (Shape.ofLane k) = j := funext fun a => Fin.ext (hj a).symm
        rw [if_pos (show ∀ a, (j a).val = (idxAt idxs h (Shape.ofLane k) a).val from hj), if_pos hj, hi]
      · rw [if_neg (show ¬ ∀ a, (j a).val = (idxAt idxs h (Shape.ofLane k) a).val from hj), if_neg hj]
    · simp only [hm, if_false, false_and]

theorem foldl_finRange {α : Type} (n o : ℕ) (g : α → ℕ → α) (x : α) :
    (List.finRange n).foldl (fun a k => g a (o + k.val)) x = (List.range' o n).foldl g x := by
  rw [List.range'_eq_map_range, ← List.map_coe_finRange_eq_range, List.map_map, List.foldl_map]
  rfl

/-- What one token that names a cell does to it. -/
def hit (z : Elt F .f32) (add : Bool) (g : Elt F .f32) : Elt F .f32 := if add then Elt.idxAdd .f32 g z else z

/-- Position `l` of row `r` of a chunk of tokens names column `v`. -/
def Names (A : Vec F S32x200 .i32) (r : Fin 32) (v : ℕ) (l : ℕ) : Prop := ∃ h : l < 200, v = (A (ix2 r ⟨l, h⟩)).toNat

instance (A : Vec F S32x200 .i32) (r : Fin 32) (v : ℕ) : DecidablePred (Names A r v) := fun l =>
  if h : l < 200 then
    if h' : v = (A (ix2 r ⟨l, h⟩)).toNat then isTrue ⟨h, h'⟩ else isFalse fun ⟨_, e⟩ => h' e
  else isFalse fun ⟨e, _⟩ => h e

theorem rowIx_eq (t : Fin rows.trips) : rowIx t = t.val := congrFun (k1_off66_eq t) 0

theorem row_toNat (t : Fin rows.trips) (x : S16.Idx) :
    ((addi (broadcast S16 0#32) (broadcast S16 (Scf.iv 0#32 1#32 t)) : IVec S16 32) x).toNat = t.val := by
  have h : (addi (broadcast S16 0#32) (broadcast S16 (Scf.iv 0#32 1#32 t)) : IVec S16 32) x = Scf.iv 0#32 1#32 t := by
    show 0#32 + Scf.iv 0#32 1#32 t = _
    simp
  rw [h]; exact rowIx_eq t

/-- A step's store at one cell: the cells of row `t` are folded over the positions `o … o+15` whose lane the mask takes. -/
theorem store_step (A : Vec F S32x200 .i32) (M : Vec F S32x1024 .f32) (t : Fin rows.trips) (o : ℕ) (ho : o + 16 ≤ 200)
    (tok : IVec S16 32) (htok : ∀ k : Fin 16, tok (Shape.ofLane k) = A (ix2 ⟨t.val, (rowIx_eq t) ▸ rowIx_lt t⟩ ⟨o + k.val, by omega⟩))
    (z : Elt F .f32) (val : FVec F S16 .f32) (hval : ∀ x, val x = z) (add : Bool) (mask : IVec S16 1) (p : ℕ → Prop) [DecidablePred p]
    (hp : ∀ k : Fin 16, mask (Shape.ofLane k) = 1 ↔ p (o + k.val))
    (h : ∀ a x, ((![addi (broadcast S16 0#32) (broadcast S16 (Scf.iv 0#32 1#32 t)), tok] : Fin 2 → IVec S16 32) a x).toNat < S32x1024.size a)
    (r : Fin 32) (v : Fin 1024) :
    storeIdx (e := .f32) M ![addi (broadcast S16 0#32) (broadcast S16 (Scf.iv 0#32 1#32 t)), tok] val mask add h (ix2 r v)
      = if r.val = t.val then run (hit z add) (fun l => p l ∧ Names A r v.val l) o 16 (M (ix2 r v)) else M (ix2 r v) := by
  rw [storeIdx_apply]
  have key : ∀ k : Fin 16, (mask (Shape.ofLane k) = 1 ∧ ∀ a, (ix2 r v a).val
      = ((![addi (broadcast S16 0#32) (broadcast S16 (Scf.iv 0#32 1#32 t)), tok] : Fin 2 → IVec S16 32) a (Shape.ofLane k)).toNat)
      ↔ (r.val = t.val ∧ (p (o + k.val) ∧ Names A r v.val (o + k.val))) := by
    intro k
    rw [hp k]
    constructor
    · rintro ⟨h1, h2⟩
      have h0 : r.val = t.val := (h2 0).trans (row_toNat t _)
      have hr : r = ⟨t.val, (rowIx_eq t) ▸ rowIx_lt t⟩ := Fin.ext h0
      exact ⟨h0, h1, by omega, (h2 1).trans (by subst hr; exact congrArg BitVec.toNat (htok k))⟩
    · rintro ⟨h0, h1, h2, h3⟩
      have hr : r = ⟨t.val, (rowIx_eq t) ▸ rowIx_lt t⟩ := Fin.ext h0
      refine ⟨h1, fun a => ?_⟩
      fin_cases a
      · exact h0.trans (row_toNat t _).symm
      · exact h3.trans (by subst hr; exact congrArg BitVec.toNat (htok k).symm)
  have e : ∀ (g : Elt F .f32) (k : Fin 16), (if mask (Shape.ofLane k) = 1 ∧ ∀ a, (ix2 r v a).val
      = ((![addi (broadcast S16 0#32) (broadcast S16 (Scf.iv 0#32 1#32 t)), tok] : Fin 2 → IVec S16 32) a (Shape.ofLane k)).toNat
      then (if add then Elt.idxAdd .f32 g (val (Shape.ofLane k)) else val (Shape.ofLane k)) else g)
      = if r.val = t.val ∧ (p (o + k.val) ∧ Names A r v.val (o + k.val)) then hit z add g else g := by
    intro g k
    rw [hval]
    exact if_congr (key k) rfl rfl
  refine (List.foldl_ext _ _ _ fun g k _ => e g k).trans ?_
  split_ifs with ht
  · simp only [ht, true_and]
    exact foldl_finRange 16 o (fun g l => if p l ∧ Names A r v.val l then hit z add g else g) _
  · simp only [ht, false_and, if_false]
    generalize List.finRange _ = L
    induction L with
    | nil => rfl
    | cons k L ih => exact ih

theorem tail_iff (k : Fin 16) : tail (Shape.ofLane k) = 1 ↔ 192 ≤ 184 + k.val := by
  revert k; decide +kernel

/-- A chunk's cell after the tokens of its row. -/
def fold (z : Elt F .f32) (add : Bool) (A : Vec F S32x200 .i32) (M : Vec F S32x1024 .f32) (r : Fin 32) (v : Fin 1024) : Elt F .f32 :=
  run (hit z add) (Names A r v.val) 0 200 (M (ix2 r v))

/-- The chunk when row `t` has been through its first `n` positions. -/
def upto (z : Elt F .f32) (add : Bool) (A : Vec F S32x200 .i32) (M : Vec F S32x1024 .f32) (t n : ℕ) (r : Fin 32) (v : Fin 1024) : Elt F .f32 :=
  if r.val = t then run (hit z add) (Names A r v.val) 0 n (M (ix2 r v)) else M (ix2 r v)

/-- A function of row and column as the contents of a chunk of counts. -/
def mat (f : Fin 32 → Fin 1024 → Elt F .f32) : Vec F S32x1024 .f32 := fun j => f (j 0) (j 1)

theorem mat_ix2 (f : Fin 32 → Fin 1024 → Elt F .f32) (r : Fin 32) (v : Fin 1024) : mat f (ix2 r v) = f r v := rfl

theorem eq_mat {M : Vec F S32x1024 .f32} {f : Fin 32 → Fin 1024 → Elt F .f32} (h : ∀ r v, M (ix2 r v) = f r v) : M = mat f := by
  funext j
  exact (congrArg M (ix2_eta (n := 32) (m := 1024) j).symm).trans (h _ _)

/-- The chunk when its first `k` rows are through. -/
def through (z : Elt F .f32) (add : Bool) (A : Vec F S32x200 .i32) (M : Vec F S32x1024 .f32) (k : ℕ) (r : Fin 32) (v : Fin 1024) : Elt F .f32 :=
  if r.val < k then fold z add A M r v else M (ix2 r v)

theorem upto_zero (z : Elt F .f32) (add : Bool) (A : Vec F S32x200 .i32) (M : Vec F S32x1024 .f32) (t : ℕ) :
    mat (upto z add A M t 0) = M := by
  refine (eq_mat fun r v => ?_).symm
  unfold upto
  split_ifs <;> rfl

theorem through_zero (z : Elt F .f32) (add : Bool) (A : Vec F S32x200 .i32) (M : Vec F S32x1024 .f32) :
    mat (through z add A M 0) = M :=
  (eq_mat fun r v => (if_neg (Nat.not_lt_zero _)).symm).symm

theorem through_all (z : Elt F .f32) (add : Bool) (A : Vec F S32x200 .i32) (M : Vec F S32x1024 .f32) :
    mat (through z add A M 32) = mat (fold z add A M) :=
  eq_mat fun r v => if_pos r.isLt

theorem through_succ (z : Elt F .f32) (add : Bool) (A : Vec F S32x200 .i32) (M : Vec F S32x1024 .f32) (t : ℕ) :
    mat (upto z add A (mat (through z add A M t)) t 200) = mat (through z add A M (t + 1)) := by
  refine eq_mat fun r v => ?_
  rw [mat_ix2]
  unfold upto
  rw [mat_ix2]
  unfold through
  by_cases h : r.val = t
  · rw [if_pos h, if_neg (by omega), if_pos (by omega)]; rfl
  · rw [if_neg h]
    exact if_congr (by omega) rfl rfl

section Steps

variable (A : Vec F S32x200 .i32) (M : Vec F S32x1024 .f32) (t : Fin rows.trips) (z : Elt F .f32) (val : FVec F S16 .f32) (add : Bool)
    (tok : IVec S16 32)

/-- A step of all sixteen lanes. -/
theorem store_all (hval : ∀ x, val x = z) (o : ℕ) (ho : o + 16 ≤ 200)
    (htok : ∀ k : Fin 16, tok (Shape.ofLane k) = A (ix2 ⟨t.val, (rowIx_eq t) ▸ rowIx_lt t⟩ ⟨o + k.val, by omega⟩))
    (h : ∀ a x, ((![addi (broadcast S16 0#32) (broadcast S16 (Scf.iv 0#32 1#32 t)), tok] : Fin 2 → IVec S16 32) a x).toNat < S32x1024.size a) :
    storeIdx (e := .f32) (mat (upto z add A M t o)) ![addi (broadcast S16 0#32) (broadcast S16 (Scf.iv 0#32 1#32 t)), tok] val (fun _ => 1#1) add h
      = mat (upto z add A M t (o + 16)) := by
  refine eq_mat fun r v => ?_
  rw [store_step A _ t o ho tok htok z val hval add (fun _ => 1#1) (fun _ => True) (fun _ => ⟨fun _ => trivial, fun _ => rfl⟩) h r v, mat_ix2]
  unfold upto
  split_ifs with ht
  · rw [run_add _ _ 0 o 16, Nat.zero_add]
    exact run_congr _ _ _ (fun l _ _ => by simp) _
  · rfl

/-- The last step of a row, its upper eight lanes. -/
theorem store_tail (hval : ∀ x, val x = z)
    (htok : ∀ k : Fin 16, tok (Shape.ofLane k) = A (ix2 ⟨t.val, (rowIx_eq t) ▸ rowIx_lt t⟩ ⟨184 + k.val, by omega⟩))
    (h : ∀ a x, ((![addi (broadcast S16 0#32) (broadcast S16 (Scf.iv 0#32 1#32 t)), tok] : Fin 2 → IVec S16 32) a x).toNat < S32x1024.size a) :
    storeIdx (e := .f32) (mat (upto z add A M t 192)) ![addi (broadcast S16 0#32) (broadcast S16 (Scf.iv 0#32 1#32 t)), tok] val tail add h
      = mat (upto z add A M t 200) := by
  refine eq_mat fun r v => ?_
  rw [store_step A _ t 184 (by omega) tok htok z val hval add tail (fun l => 192 ≤ l) tail_iff h r v, mat_ix2]
  unfold upto
  split_ifs with ht
  · rw [run_add _ _ 184 8 8, run_not _ 184 8 (fun l _ h2 h3 => by omega), run_add _ _ 0 192 8]
    exact run_congr _ _ _ (fun l h1 _ => ⟨fun h => h.2, fun h => ⟨h1, h⟩⟩) _
  · rfl

end Steps

/-- Clearing a counted chunk gives back the constant it was counted from. -/
theorem fold_clear (z one : Elt F .f32) (A : Vec F S32x200 .i32) :
    mat (fold z false A (mat (fold one true A (mat fun _ _ => z)))) = mat fun _ _ => z := by
  refine eq_mat fun r v => ?_
  exact run_clear (hit one true) (Names A r v.val) z 0 200

end Store

end Cert.Proof.Hist
-- ==== Proof.Setup.lean ====
/-
  The program as the launch theorem sees it: its SparseCore configuration, the resource algebra of the handshakes and of
  the local transfers, and the assertion that a memref of a tile holds given contents.
-/
module

public import proofs.«01_k».proof.Proof.Count
public import Idealize.ShloMosaic.Lib.SparseCore.Ops
public import Idealize.ShloMosaic.Lib.SparseCore.FromWhole

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev ΛP : Labels := Pipeline.Sig Λ₀ (Fin 5) fun p => (pcfgs (F := F) p).Adm
abbrev K : SparseCore.Cfg τ sig (ΛP (F := F)) 4 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

omit [FloatOps F] [Named F] in
theorem facts [FloatOps F] [Named F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UK : Type := URounds (GSem nD τ sig) Unit
abbrev UU : Type := UH × (UK × Counters)

/-- The machine's resources. -/
abbrev MM (F : FTy → Type) : Type := MT nD τ sig (HIx 4) (Elt F) ℕ UU ℕ

local notation "𝕄" => MM F

abbrev EC : UEmb Counters (MM F) := countersEmb

/-- Where the handshakes of the SparseCore calls live, and the windows of the TensorCore calls. -/
abbrev EH : Emb UH (MM F) := embL
def EP : Emb UK (MM F) := ((Emb.inl : Emb UK (UK × Counters)).trans (Emb.inr : Emb (UK × Counters) UU)).trans (uEmb (nD := nD) (τ := τ) (sig := sig) (Ix := HIx 4) (Val := Elt F) (Name := ℕ) (U := UU) (Lvl := ℕ)).toEmb
instance : (EP (F := F)).LandsIn (upEmb : UEmb _ (MM F)) := by
  unfold EP
  infer_instance

section Holds

/-- A memref's elements, held outright, read `A`. -/
def holds (thr : Thread nD τ) {sp : Space} {s : Shape} {e : EltTy} (m : Memref sig thr.2.kind sp s e) (A : Vec F s e) : sProp 𝕄 :=
  iprop(∃ f, ⌜m.view.read (Elt F) f = A⌝ ∗ (m.view.loc thr ↦[m.view.set]{fullShare} f))

variable (thr : Thread nD τ) {s : Shape} {e : EltTy} {α : Type} {Q : α → sProp (MM F)} {bd : Option 𝒱₀.V} {E : Set ℕ}

theorem holds_intro {sp : Space} (m : Memref sig thr.2.kind sp s e) (f : Buf (Elt F) (m.view.loc thr)) :
    (m.view.loc thr ↦[m.view.set]{fullShare} f) ⊢ (holds thr m (m.view.read (Elt F) f) : sProp 𝕄) := by
  unfold holds
  iintro H
  iexists f
  isplitr
  · ipureintro; rfl
  · iexact H

omit [FloatOps F] [Named F] in
theorem eq_of_read {sp : Space} {v : View sig thr.2.kind sp s e} {f g : v.ty.Contents (Elt F)} (h : v.read (Elt F) f = v.read (Elt F) g) :
    ∀ i ∈ v.set, f i = g i := by
  intro i hi
  obtain ⟨x, -, rfl⟩ := Finset.mem_map.mp hi
  have hx := congrFun h x
  rw [View.read_apply, View.read_apply] at hx
  have hc : ∀ {X Y : Type} (h : X = Y) (a b : X), cast h a = cast h b → a = b := by
    intro X Y h a b e; subst h; exact e
  exact hc _ _ _ hx

/-- A load from a held memref. -/
theorem holds_load {sp : CoreSpace} (m : Memref sig thr.2.kind sp s e) (A : Vec F s e) (r : LoadRect s) (hl : m.view.LoadsAt r)
    (k : (r.shape.Idx → Elt F e) → Prog (TpuEff nD τ sig (Elt F) Λ₀ thr.2) α) :
    (holds thr m A : sProp 𝕄) ⊢ iprop((holds thr m A -∗ wp frame (wpE (defs₀ (F := F)) 𝒱₀ thr bd) E (k fun x => A (r.idx x)) Q)
      -∗ wp frame (wpE (defs₀ (F := F)) 𝒱₀ thr bd) E (.op (.load m r hl) k) Q) := by
  unfold holds
  iintro ⟨%f, %hf, H⟩ Hk
  subst hf
  iapply (wp_load 𝒱₀ thr bd E (m := m) (S := m.view.set) (View.setOn_subset_set _ _)) $$ H
  iintro H
  iapply Hk
  iexists f
  isplitr
  · ipureintro; rfl
  · iexact H

/-- A store into a held memref. -/
theorem holds_store {sp : CoreSpace} (m : Memref sig thr.2.kind sp s e) (A A' : Vec F s e) (r : Rect s) (w : r.shape.Idx → Elt F e)
    (hx : (m.access r).Stores Finset.univ) (hm : (Finset.univ : Finset r.shape.Idx) = Finset.univ ∨ ∀ a, r.stride a = 1)
    (k : PUnit → Prog (TpuEff nD τ sig (Elt F) Λ₀ thr.2) α)
    (hin : ∀ x, A' (r.emb x) = w x) (hout : ∀ y, y ∉ r.set → A' y = A y) :
    (holds thr m A : sProp 𝕄) ⊢ iprop((holds thr m A' -∗ wp frame (wpE (defs₀ (F := F)) 𝒱₀ thr bd) E (k ⟨⟩) Q)
      -∗ wp frame (wpE (defs₀ (F := F)) 𝒱₀ thr bd) E (.op (.store m r w Finset.univ hx hm) k) Q) := by
  unfold holds
  iintro ⟨%f, %hf, H⟩ Hk
  subst hf
  iapply (wp_store 𝒱₀ thr bd E (m := m) (r := r) (Mk := Finset.univ) (S := m.view.set) (f := f) (View.set_slice_subset _ _)) $$ H
  iintro H
  iapply Hk
  iexists _
  isplitr
  · ipureintro
    show m.view.read (Elt F) ((m.view.slice r).write (Elt F) f w Finset.univ) = A'
    funext y
    by_cases hy : y ∈ r.set
    · rw [← Rect.map_emb_univ] at hy
      obtain ⟨x, -, rfl⟩ := Finset.mem_map.mp hy
      rw [hin, View.read_slice_write_emb _ _ _ (Finset.mem_univ _)]
    · rw [hout y hy, View.read_slice_write_of_not_mem]
      rwa [Rect.map_emb_univ]
  · iexact H

/-- A scatter into a held memref. -/
theorem holds_scatter {d : Fin 1 → ℕ} (m : Memref sig thr.2.kind .vmem s e) (A : Vec F s e) (idxs : Fin s.rank → IVec ⟨1, d⟩ 32)
    (v : Vec F ⟨1, d⟩ e) (mask : IVec ⟨1, d⟩ 1) (add : Bool) (h : ∀ a x, (idxs a x).toNat < s.size a)
    (hs : (m.access (.whole s)).Stores Finset.univ) (k : PUnit → Prog (TpuEff nD τ sig (Elt F) Λ₀ thr.2) α) :
    (holds thr m A : sProp 𝕄) ⊢ iprop((holds thr m (storeIdx A idxs v mask add h) -∗ wp frame (wpE (defs₀ (F := F)) 𝒱₀ thr bd) E (k ⟨⟩) Q)
      -∗ wp frame (wpE (defs₀ (F := F)) 𝒱₀ thr bd) E (SparseCore.vectorStoreIdx m idxs v mask add h hs >>= k) Q) := by
  have hset : (m.access (.whole s)).set = m.view.set := by
    show (m.view.slice (.whole s)).set = _
    rw [View.set_slice, Rect.set_whole]; rfl
  have hread : ∀ f : m.view.ty.Contents (Elt F), (m.access (.whole s)).read (Elt F) f = m.view.read (Elt F) f := by
    intro f; funext x
    show m.view.read (Elt F) f ((Rect.whole s).emb x) = _
    rw [Rect.emb_whole_apply]
  unfold holds
  iintro ⟨%f, %hf, H⟩ Hk
  subst hf
  rw [← hset]
  iapply (SparseCore.wp_vectorStoreIdx 𝒱₀ thr bd E (base := m) (f := f)) $$ H
  iintro H
  iapply Hk
  iexists _
  isplitr
  swap
  · iexact H
  · ipureintro
    rw [← hread, View.read_write_univ, hread]

end Holds

end Cert.Proof.Hist
-- ==== Proof.Row.lean ====
/-
  A tile's compute stretches over held buffers: a step, a row, a chunk, the clearing of both buffers, each with the
  contents it leaves.
-/
module

public import proofs.«01_k».proof.Proof.Setup
public import Idealize.ShloMosaic.Lib.Pipeline.Value
public import Idealize.ShloMosaic.Lib.Pipeline.ValueKit.Geometry

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- What running a tile's program gives. -/
abbrev WP (d : Dev nD) (c : Fin τ.nSC) (s : Fin τ.nSub) {α : Type} (p : TileP F c s α) (Q : α → sProp (MM F)) : sProp (MM F) :=
  wp frame (wpE (defs₀ (F := F)) 𝒱₀ (V d c s) none) Set.univ p Q

variable (d : Dev nD) (c : Fin τ.nSC) (s : Fin τ.nSub)

theorem WP_ret {α : Type} (a : α) (Q : α → sProp (MM F)) : Q a ⊢ WP d c s (pure a) Q :=
  le_wp_ret _ _ _ a Q

/-- A tile's memref holds. -/
abbrev hold {sp : Space} {sh : Shape} {e : EltTy} (m : Memref sig .scVector sp sh e) (A : Vec F sh e) : sProp (MM F) :=
  holds (V d c s) m A

variable (xb : Memref sig .scVector .vmem S32x200 .i32) (cb : Memref sig .scVector .vmem S32x1024 .f32)
    (A : Vec F S32x200 .i32) (M : Vec F S32x1024 .f32) (z : Elt F .f32) (val : FVec F S16 .f32) (hval : ∀ x, val x = z) (add : Bool)

theorem lane_val (k : Fin 16) : ((Shape.ofLane k : S16.Idx) 0).val = k.val := rfl

/-- The sixteen tokens a step loads. -/
theorem tok_eq (t : Fin rows.trips) (o : ℕ) (ho : o + 16 ≤ 200) (k : Fin 16) :
    (shapeCast S16 (fun x => A ((Rect.unit (s := S32x200) (laneOff t o) S1x16.size (laneOff_inb t o ho)).toLoadRect.idx x)) shapeCasts_S1x16_S16
      : Vec F S16 .i32) (Shape.ofLane k) = A (ix2 ⟨t.val, (rowIx_eq t) ▸ rowIx_lt t⟩ ⟨o + k.val, by omega⟩) := by
  refine (shapeCast_dropUnit_apply ![16] _ shapeCasts_S1x16_S16 (Shape.ofLane k)).trans (congrArg A ?_)
  funext a
  refine Fin.ext ?_
  refine (ValueKit.rect_emb_unit_val (s := S32x200) (laneOff t o) S1x16.size (laneOff_inb t o ho) _ a).trans ?_
  fin_cases a
  · exact rowIx_eq t
  · rfl

include hval in
/-- A step: from contents `M`, what the store leaves. -/
theorem step_wp (hA : ∀ j, (A j : BitVec 32).toNat < 1024) (mask : IVec S16 1) (t : Fin rows.trips) (o : ℕ) (ho : o + 16 ≤ 200) (M' : Vec F S32x1024 .f32)
    (hM : ∀ (tok : IVec S16 32) (h : ∀ a x, ((![addi (broadcast S16 0#32) (broadcast S16 (Scf.iv 0#32 1#32 t)), tok] : Fin 2 → IVec S16 32) a x).toNat < S32x1024.size a),
      (∀ k : Fin 16, tok (Shape.ofLane k) = A (ix2 ⟨t.val, (rowIx_eq t) ▸ rowIx_lt t⟩ ⟨o + k.val, by omega⟩)) →
      storeIdx (e := .f32) M ![addi (broadcast S16 0#32) (broadcast S16 (Scf.iv 0#32 1#32 t)), tok] val mask add h = M')
    {α : Type} (k : PUnit → TileP F c s α) (Q : α → sProp (MM F)) :
    iprop(hold d c s xb A ∗ hold d c s cb M) ⊢ iprop((iprop(hold d c s xb A ∗ hold d c s cb M') -∗ WP d c s (k ⟨⟩) Q)
      -∗ WP d c s (step xb cb val add mask t o ho >>= k) Q) := by
  unfold step
  simp only [Prog.lift, Prog.bind_op, Prog.bind_ret, Prog.pure_eq_ret]
  iintro ⟨Hx, Hc⟩ Hk
  iapply (holds_load (V d c s) xb A) $$ Hx
  iintro Hx
  have hchk : k1_chk1 (addi (broadcast S16 0#32) (broadcast S16 (Scf.iv 0#32 1#32 t)))
      (shapeCast S16 (fun x => A ((Rect.unit (s := S32x200) (laneOff t o) S1x16.size (laneOff_inb t o ho)).toLoadRect.idx x)) shapeCasts_S1x16_S16) := by
    intro a x
    fin_cases a
    · refine lt_of_eq_of_lt (row_toNat t x) ?_
      exact (rowIx_eq t) ▸ rowIx_lt t
    · exact hA _
  rw [wp_assume_of _ _ _ _ hchk]
  iapply (holds_scatter (V d c s) cb M) $$ Hc
  iintro Hc
  iapply Hk
  isplitl [Hx]
  · iexact Hx
  · rw [hM _ _ (tok_eq A t o ho)]
    iexact Hc

include hval in
/-- Twelve steps, or fewer. -/
theorem steps_wp (hA : ∀ j, (A j : BitVec 32).toNat < 1024) (t : Fin rows.trips) (n o : ℕ) (h : o + 16 * n ≤ 200)
    {α : Type} (k : PUnit → TileP F c s α) (Q : α → sProp (MM F)) :
    iprop(hold d c s xb A ∗ hold d c s cb (mat (upto z add A M t o)))
      ⊢ iprop((iprop(hold d c s xb A ∗ hold d c s cb (mat (upto z add A M t (o + 16 * n)))) -∗ WP d c s (k ⟨⟩) Q)
        -∗ WP d c s (steps xb cb val add t n o h >>= k) Q) := by
  induction n generalizing o with
  | zero =>
    unfold steps
    iintro H Hk
    iapply Hk
    iexact H
  | succ n ih =>
    unfold steps
    rw [Prog.bind_assoc]
    iintro H Hk
    iapply (step_wp d c s xb cb A _ z val hval add hA _ t o _ (mat (upto z add A M t (o + 16)))
      (fun tok h htok => store_all A M t z val add tok hval o (by omega) htok h)) $$ H
    iintro H
    iapply (ih (o + 16) _) $$ H
    rw [show o + 16 + 16 * n = o + 16 * (n + 1) by omega]
    iexact Hk

theorem rows_trips : Scf.trips rows.lb rows.ub rows.st = 32 := by decide +kernel

include hval in
/-- A chunk of thirty-two rows. -/
theorem chunk_wp (hA : ∀ j, (A j : BitVec 32).toNat < 1024) {α : Type} (k : BitVec 32 → TileP F c s α) (Q : α → sProp (MM F)) :
    iprop(hold d c s xb A ∗ hold d c s cb M)
      ⊢ iprop((∀ w, iprop(hold d c s xb A ∗ hold d c s cb (mat (fold z add A M))) -∗ WP d c s (k w) Q)
        -∗ WP d c s (chunk xb cb val add tail >>= k) Q) := by
  unfold chunk
  iintro H Hk
  iapply (Scf.wp_for_bind frame (wpE (defs₀ (F := F)) 𝒱₀ (V d c s) none) Set.univ rows.lb rows.ub rows.st rows_ok 0#32 _
    (fun j _ => iprop(hold d c s xb A ∗ hold d c s cb (mat (through z add A M j)))) ?body) $$ [H]
  case body =>
    intro t acc
    unfold rowP
    simp only [Prog.bind_assoc]
    iintro ⟨Hx, Hc⟩
    rw [← upto_zero z add A (mat (through z add A M t.val)) t.val]
    iapply (steps_wp d c s xb cb A (mat (through z add A M t.val)) z val hval add hA t 12 0 _) $$ [Hx Hc]
    · isplitl [Hx]
      · iexact Hx
      · iexact Hc
    iintro H
    iapply (step_wp d c s xb cb A _ z val hval add hA _ t 184 _ (mat (upto z add A (mat (through z add A M t.val)) t 200))
      (fun tok h htok => store_tail A _ t z val add tok hval htok h)) $$ H
    iintro H
    rw [through_succ]
    iapply (WP_ret d c s)
    iexact H
  · rw [through_zero]
    iexact H
  · rw [rows_trips, through_all]
    iexact Hk

/-- Rows below `t` at `z`, and row `t` as far as column `o`. -/
def cleared (t o : ℕ) (r : Fin 32) (v : Fin 1024) : Elt F .f32 :=
  if r.val < t ∨ (r.val = t ∧ v.val < o) then z else M (ix2 r v)

include hval in
theorem zeros_wp (t : Fin rows.trips) (k : TileP F c s (BitVec 32)) (n o : ℕ) (h : o + 16 * n ≤ 1024) (Q : BitVec 32 → sProp (MM F)) :
    hold d c s cb (mat (cleared M z t o))
      ⊢ iprop((hold d c s cb (mat (cleared M z t (o + 16 * n))) -∗ WP d c s k Q) -∗ WP d c s (zeros cb val t k n o h) Q) := by
  induction n generalizing o with
  | zero =>
    unfold zeros
    iintro H Hk
    iapply Hk
    iexact H
  | succ n ih =>
    unfold zeros
    iintro H Hk
    iapply (holds_load (V d c s) cb _) $$ H
    iintro H
    have hmem : ∀ y : S32x1024.Idx, y ∈ (Rect.unit (s := S32x1024) (laneOff t o) S1x16.size (laneOff_inb t o (by omega))).set
        ↔ ((y 0).val = t.val ∧ o ≤ (y 1).val ∧ (y 1).val < o + 16) := by
      intro y
      rw [Rect.mem_set_unit]
      constructor
      · intro hy
        have h0 : rowIx t ≤ (y 0).val ∧ (y 0).val < rowIx t + 1 := hy 0
        have h1 : o ≤ (y 1).val ∧ (y 1).val < o + 16 := hy 1
        rw [rowIx_eq] at h0
        exact ⟨by omega, h1⟩
      · rintro ⟨h0, h1⟩ a
        fin_cases a
        · show rowIx t ≤ (y 0).val ∧ (y 0).val < rowIx t + 1
          rw [rowIx_eq]; omega
        · exact h1
    iapply (holds_store (V d c s) cb _ (mat (cleared M z t (o + 16))) _ _ _ _ _ ?hin ?hout) $$ H
    case hin =>
      intro x
      have hx := (hmem _).mp (show (Rect.unit (s := S32x1024) (laneOff t o) S1x16.size (laneOff_inb t o (by omega))).emb x ∈ _ by
        rw [← Rect.map_emb_univ]; exact Finset.mem_map_of_mem _ (Finset.mem_univ x))
      show cleared M z t (o + 16) _ _ = val _
      rw [hval]
      exact if_pos (Or.inr ⟨hx.1, hx.2.2⟩)
    case hout =>
      intro y hy
      rw [hmem] at hy
      show (if _ then z else _) = (if _ then z else _)
      exact if_congr (by omega) rfl rfl
    iintro H
    iapply (ih (o + 16) _) $$ H
    rw [show o + 16 + 16 * n = o + 16 * (n + 1) by omega]
    iexact Hk

theorem cleared_next (t : ℕ) : mat (cleared M z t 1024) = mat (cleared M z (t + 1) 0) := by
  refine eq_mat fun r v => ?_
  show (if _ then z else _) = (if _ then z else _)
  have h : ∀ a b : ℕ, b < 1024 → ((a < t ∨ (a = t ∧ b < 1024)) ↔ (a < t + 1 ∨ (a = t + 1 ∧ b < 0))) := by omega
  exact if_congr (h r.val v.val v.isLt) rfl rfl

include hval in
/-- Both buffers cleared. -/
theorem clear_wp (c0 c1 : Memref sig .scVector .vmem S32x1024 .f32) (M0 M1 : Vec F S32x1024 .f32) {α : Type} (k : BitVec 32 → TileP F c s α) (Q : α → sProp (MM F)) :
    iprop(hold d c s c0 M0 ∗ hold d c s c1 M1)
      ⊢ iprop((∀ w, iprop(hold d c s c0 (mat fun _ _ => z) ∗ hold d c s c1 (mat fun _ _ => z)) -∗ WP d c s (k w) Q)
        -∗ WP d c s (clear c0 c1 val >>= k) Q) := by
  have h0 : ∀ M : Vec F S32x1024 .f32, mat (cleared M z 0 0) = M := fun M => (eq_mat fun r v => (if_neg (by omega)).symm).symm
  have h32 : ∀ M : Vec F S32x1024 .f32, mat (cleared M z 32 0) = mat fun _ _ => z := fun M => eq_mat fun r v => if_pos (Or.inl r.isLt)
  unfold clear
  iintro H Hk
  iapply (Scf.wp_for_bind frame (wpE (defs₀ (F := F)) 𝒱₀ (V d c s) none) Set.univ rows.lb rows.ub rows.st rows_ok 0#32 _
    (fun j _ => iprop(hold d c s c0 (mat (cleared M0 z j 0)) ∗ hold d c s c1 (mat (cleared M1 z j 0)))) ?body) $$ [H]
  case body =>
    intro t acc
    iintro ⟨H0, H1⟩
    iapply (zeros_wp d c s c0 M0 z val hval t _ 64 0 _) $$ H0
    iintro H0
    iapply (zeros_wp d c s c1 M1 z val hval t _ 64 0 _) $$ H1
    iintro H1
    iapply (WP_ret d c s)
    rw [← cleared_next, ← cleared_next]
    isplitl [H0]
    · iexact H0
    · iexact H1
  · rw [h0, h0]
    iexact H
  · rw [rows_trips, h32, h32]
    iexact Hk

end Cert.Proof.Hist
-- ==== Proof.Tile.lean ====
/-
  A tile's whole task: the copies in and out around the chunks, from the tile's rows of `x` to its rows of counts.
-/
module

public import proofs.«01_k».proof.Proof.Row

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Flight MayWaits)

variable {F : FTy → Type} [FloatOps F] [Named F]
variable (d : Dev nD) (c : Fin τ.nSC) (s : Fin τ.nSub)

/-- What a tile owes, its waits so far on the local cells beside those of `W`. -/
def owing (O : CellTallies nD τ sig (HIx 4)) (W : Waits sig (HIx 4)) : sProp (MM F) :=
  iprop(∃ W', ⌜∀ p ∈ W', p ∈ W ∨ p.2 = none⌝ ∗ owes (V d c s) O W')

/-- A tile's transfer semaphore at rest. -/
abbrev idle (sem : DmaSems sig S_) : sProp (MM F) := semVal (V d c s, SemLoc.dma sem.sem) 0

section Copies

variable {sp sp' : Space} {sh : Shape} {e : EltTy} (src : Memref sig .scVector sp sh e) (dst : Memref sig .scVector sp' sh e) (sem : DmaSems sig S_)

/-- A copy under way whose source is read at a share of a whole buffer. -/
def coming (q : PosShare TreeShare) (X : Buf (Elt F) (src.view.loc (V d c s))) : sProp (MM F) :=
  iprop(∃ fd, Flight EC (V d c s) (.dma sem.sem) none (dst.view.amount (.dma sem.sem))
    iprop((dst.view.loc (V d c s) ↦[dst.view.set]{fullShare} (dst.view.write (Elt F) fd (ReadAs.same.apply (src.view.read (Elt F) X)) Finset.univ))
      ∗ (src.view.loc (V d c s) ↦{q} X)))

/-- A copy under way whose source is held outright and reads `C`. -/
def going (C : Vec F sh e) : sProp (MM F) :=
  iprop(∃ f fd, ⌜src.view.read (Elt F) f = C⌝ ∗ Flight EC (V d c s) (.dma sem.sem) none (dst.view.amount (.dma sem.sem))
    iprop((dst.view.loc (V d c s) ↦[dst.view.set]{fullShare} (dst.view.write (Elt F) fd (ReadAs.same.apply (src.view.read (Elt F) f)) Finset.univ))
      ∗ (src.view.loc (V d c s) ↦[src.view.set]{fullShare} f)))

variable {hsrc : src.view.WordExact} {hdst : dst.view.WordExact} {hsem : DmaTarget.Typed (nD := nD) sp (.dma sem.sem) (DmaTarget.here (p := (V d c s).2) dst)}
    {α : Type} (k : PUnit → TileP F c s α) (Q : α → sProp (MM F)) (hn : 0 < sh.numel)

theorem landed (A : Vec F sh e) (fd : Buf (Elt F) (dst.view.loc (V d c s))) :
    (dst.view.loc (V d c s) ↦[dst.view.set]{fullShare} (dst.view.write (Elt F) fd (ReadAs.same.apply A) Finset.univ))
      ⊢ (hold d c s dst A : sProp (MM F)) := by
  have h := holds_intro (V d c s) dst (dst.view.write (Elt F) fd (ReadAs.same.apply A) Finset.univ)
  rw [View.read_write_univ] at h
  exact h

include hn in
theorem come_wp (q : PosShare TreeShare) (X : Buf (Elt F) (src.view.loc (V d c s))) (A : Vec F sh e) :
    iprop((src.view.loc (V d c s) ↦{q} X) ∗ hold d c s dst A ∗ idle d c s sem)
      ⊢ iprop((coming d c s src dst sem q X -∗ WP d c s (k ⟨⟩) Q)
        -∗ WP d c s (.op (.enqueueDma src (.here dst) (.dma sem.sem) hsrc hdst hsem) k) Q) := by
  unfold hold holds coming
  iintro ⟨Hx, ⟨%fd, -, Hd⟩, Hs⟩ Hk
  iapply (Transfers.wp_dmaFromWhole EC 𝒱₀ (V d c s) none (src := src) (dst := dst) (fs := X) (fd := fd) (Sd := dst.view.set) none
    (dst.view.amount (.dma sem.sem)) rfl (View.amount_pos _ _ hn) subset_rfl) $$ [Hx Hd Hs]
  · iframe Hx Hd Hs
  iintro H
  iapply Hk
  iexists fd
  iexact H

include hn in
theorem go_wp (C A : Vec F sh e) :
    iprop(hold d c s src C ∗ hold d c s dst A ∗ idle d c s sem)
      ⊢ iprop((going d c s src dst sem C -∗ WP d c s (k ⟨⟩) Q)
        -∗ WP d c s (.op (.enqueueDma src (.here dst) (.dma sem.sem) hsrc hdst hsem) k) Q) := by
  unfold hold holds going
  iintro ⟨⟨%f, %hf, Hx⟩, ⟨%fd, -, Hd⟩, Hs⟩ Hk
  iapply (Transfers.wp_dmaLocal EC 𝒱₀ (V d c s) none (src := src) (dst := dst) (fs := f) (fd := fd) (Sd := dst.view.set) none
    (dst.view.amount (.dma sem.sem)) rfl (View.amount_pos _ _ hn) subset_rfl) $$ [Hx Hd Hs]
  · iframe Hx Hd Hs
  iintro H
  iapply Hk
  iexists f, fd
  isplitr
  · ipureintro; exact hf
  · iexact H

variable (O : CellTallies nD τ sig (HIx 4)) (W : Waits sig (HIx 4))

theorem owing_elim : (owing d c s O W : sProp (MM F)) ⊢ iprop(∃ W', ⌜∀ p ∈ W', p ∈ W ∨ p.2 = none⌝ ∗ owes (V d c s) O W') := .rfl

theorem owing_insert (sm : SemLoc sig) (W' : Waits sig (HIx 4)) (h : ∀ p ∈ W', p ∈ W ∨ p.2 = none) :
    owes (V d c s) O (insert (sm, none) W') ⊢ (owing d c s O W : sProp (MM F)) := by
  unfold owing
  iintro H
  iexists _
  isplitr
  swap
  · iexact H
  · ipureintro
    intro p hp
    rcases Finset.mem_insert.mp hp with rfl | hp
    · exact Or.inr rfl
    · exact h p hp

theorem came_wp (q : PosShare TreeShare) (X : Buf (Elt F) (src.view.loc (V d c s))) :
    iprop(coming d c s src dst sem q X ∗ owing d c s O W ∗ MayWaits (V d c s) none O)
      ⊢ iprop((iprop((src.view.loc (V d c s) ↦{q} X) ∗ hold d c s dst (src.view.read (Elt F) X) ∗ idle d c s sem ∗ owing d c s O W)
          -∗ WP d c s (k ⟨⟩) Q)
        -∗ WP d c s (.op (.waitDma2 sem.sem src dst hsrc hdst) k) Q) := by
  unfold coming
  iintro ⟨⟨%fd, Hf⟩, HO, Hm⟩ Hk
  ihave HO := (owing_elim d c s O W) $$ HO
  icases HO with ⟨%W', %hW, HO⟩
  iapply (Transfers.wp_waitLocalO EC 𝒱₀ (V d c s) none (srcw := src) (dstw := dst) none rfl) $$ [Hf HO Hm]
  · iframe Hf HO
    iapply (Transfers.MayWaits.elim _)
    iexact Hm
  iintro ⟨⟨Hd, Hx⟩, Hs, HO⟩
  iapply Hk
  isplitl [Hx]
  · iexact Hx
  isplitl [Hd]
  · iapply (landed d c s dst _ fd)
    iexact Hd
  isplitl [Hs]
  · iexact Hs
  iapply (owing_insert d c s O W _ W' hW)
  iexact HO

theorem gone_wp (C : Vec F sh e) :
    iprop(going d c s src dst sem C ∗ owing d c s O W ∗ MayWaits (V d c s) none O)
      ⊢ iprop((iprop(hold d c s src C ∗ hold d c s dst C ∗ idle d c s sem ∗ owing d c s O W)
          -∗ WP d c s (k ⟨⟩) Q)
        -∗ WP d c s (.op (.waitDma2 sem.sem src dst hsrc hdst) k) Q) := by
  unfold going
  iintro ⟨⟨%f, %fd, %hf, Hf⟩, HO, Hm⟩ Hk
  ihave HO := (owing_elim d c s O W) $$ HO
  icases HO with ⟨%W', %hW, HO⟩
  subst hf
  iapply (Transfers.wp_waitLocalO EC 𝒱₀ (V d c s) none (srcw := src) (dstw := dst) none rfl) $$ [Hf HO Hm]
  · iframe Hf HO
    iapply (Transfers.MayWaits.elim _)
    iexact Hm
  iintro ⟨⟨Hd, Hx⟩, Hs, HO⟩
  iapply Hk
  isplitl [Hx]
  · iapply (holds_intro (V d c s) src f)
    iexact Hx
  isplitl [Hd]
  · iapply (landed d c s dst _ fd)
    iexact Hd
  isplitl [Hs]
  · iexact Hs
  iapply (owing_insert d c s O W _ W' hW)
  iexact HO

end Copies

/-- A chunk's counts: from zero, one more at every token. -/
def counts (A : Vec F S32x200 .i32) : Vec F S32x1024 .f32 :=
  mat (fold (Scalar.ofBits .f32 0x3F800000#32) true A (mat fun _ _ => Scalar.ofBits .f32 0x00000000#32))

section Task

variable (xo yo : BitVec 32 → Fin 2 → ℕ)
    (hxo : ∀ (r : Fin 4) a, xo (BitVec.ofNat 32 (32 * r.val)) a + S32x200.size a ≤ S16384x200.size a)
    (hyo : ∀ (r : Fin 4) a, yo (BitVec.ofNat 32 (32 * r.val)) a + S32x1024.size a ≤ S4096x1024.size a)
    (x : Memref sig .scVector .hbm S16384x200 .i32) (y : Memref sig .scVector .hbm S4096x1024 .f32)
    (x0 : Memref sig .scVector .vmem S32x200 .i32) (hx0 : x0.IsWhole) (x1 : Memref sig .scVector .vmem S32x200 .i32) (hx1 : x1.IsWhole)
    (c0 : Memref sig .scVector .vmem S32x1024 .f32) (hc0 : c0.IsWhole) (c1 : Memref sig .scVector .vmem S32x1024 .f32) (hc1 : c1.IsWhole)
    (s0 s1 r0 r1 r2 r3 : DmaSems sig S_)

/-- Chunk `r` of the tile's tokens, and of its counts. -/
abbrev xs (r : Fin 4) : Memref sig .scVector .hbm S32x200 .i32 :=
  x.slice (Rect.unit (s := S16384x200) (xo (BitVec.ofNat 32 (32 * r.val))) S32x200.size (hxo r)) (fun _ => rfl)
abbrev ys (r : Fin 4) : Memref sig .scVector .hbm S32x1024 .f32 :=
  y.slice (Rect.unit (s := S4096x1024) (yo (BitVec.ofNat 32 (32 * r.val))) S32x1024.size (hyo r)) (fun _ => rfl)

/-- A scratch buffer, its contents no matter. -/
abbrev some' {sp : Space} {sh : Shape} {e : EltTy} (m : Memref sig .scVector sp sh e) : sProp (MM F) := iprop(∃ A, hold d c s m A)

variable (q : PosShare TreeShare) (X : Buf (Elt F) (x.view.loc (V d c s)))
    (O : CellTallies nD τ sig (HIx 4)) (W : Waits sig (HIx 4))

theorem task_wp (hX : ∀ j, (x.view.read (Elt F) X j : BitVec 32).toNat < 1024) (w2 w3 : BitVec 32) :
    iprop(MayWaits (V d c s) none O ∗ (x.view.loc (V d c s) ↦{q} X)
        ∗ (some' d c s (ys yo hyo y 0) ∗ some' d c s (ys yo hyo y 1) ∗ some' d c s (ys yo hyo y 2) ∗ some' d c s (ys yo hyo y 3))
        ∗ (some' d c s x0 ∗ some' d c s x1 ∗ some' d c s c0 ∗ some' d c s c1)
        ∗ (idle d c s s0 ∗ idle d c s s1 ∗ idle d c s r0 ∗ idle d c s r1 ∗ idle d c s r2 ∗ idle d c s r3)
        ∗ owing d c s O W)
      ⊢ WP d c s (task xo yo hxo hyo x y x0 hx0 x1 hx1 c0 hc0 c1 hc1 s0 s1 r0 r1 r2 r3 w2 w3) fun _ =>
        iprop((x.view.loc (V d c s) ↦{q} X)
        ∗ (hold d c s (ys yo hyo y 0) (counts ((xs xo hxo x 0).view.read (Elt F) X))
          ∗ hold d c s (ys yo hyo y 1) (counts ((xs xo hxo x 1).view.read (Elt F) X))
          ∗ hold d c s (ys yo hyo y 2) (counts ((xs xo hxo x 2).view.read (Elt F) X))
          ∗ hold d c s (ys yo hyo y 3) (counts ((xs xo hxo x 3).view.read (Elt F) X)))
        ∗ (some' d c s x0 ∗ some' d c s x1 ∗ some' d c s c0 ∗ some' d c s c1)
        ∗ (idle d c s s0 ∗ idle d c s s1 ∗ idle d c s r0 ∗ idle d c s r1 ∗ idle d c s r2 ∗ idle d c s r3)
        ∗ owing d c s O W) := by
  have hA : ∀ r j, ((xs xo hxo x r).view.read (Elt F) X j : BitVec 32).toNat < 1024 := fun r j => hX _
  have hv0 : ∀ i, (v0s : FVec F S16 .f32) i = Scalar.ofBits .f32 0x00000000#32 := fun _ => rfl
  have hv1 : ∀ i, (v1s : FVec F S16 .f32) i = Scalar.ofBits .f32 0x3F800000#32 := fun _ => rfl
  have n0 : 0 < S32x200.numel := by decide
  have n1 : 0 < S32x1024.numel := by decide
  unfold task part1 part2 fetch send drain
  simp only [Prog.bind_assoc, Prog.lift, Prog.bind_op, Prog.bind_ret, Prog.pure_eq_ret]
  iintro ⟨#Hm, Hx, ⟨⟨%g0, Hy0⟩, ⟨%g1, Hy1⟩, ⟨%g2, Hy2⟩, ⟨%g3, Hy3⟩⟩, ⟨⟨%a0, Hx0⟩, ⟨%a1, Hx1⟩, ⟨%b0, Hc0⟩, ⟨%b1, Hc1⟩⟩, ⟨Hs0, Hs1, Hr0, Hr1, Hr2, Hr3⟩, HO⟩
  iapply (clear_wp d c s _ v0s hv0 c0 c1 b0 b1) $$ [Hc0 Hc1]
  · iframe Hc0 Hc1
  iintro %_ ⟨Hc0, Hc1⟩
  -- chunk 0
  iapply (come_wp d c s (xs xo hxo x 0) x0 r0 _ _ n0 q X a0) $$ [Hx Hx0 Hr0]
  · iframe Hx Hx0 Hr0
  iintro Hf
  iapply (came_wp d c s (xs xo hxo x 0) x0 r0 _ _ O W q X) $$ [Hf HO]
  · iframe Hf HO; iexact Hm
  iintro ⟨Hx, Hx0, Hr0, HO⟩
  iapply (chunk_wp d c s x0 c0 _ _ _ v1s hv1 true (hA 0)) $$ [Hx0 Hc0]
  · iframe Hx0 Hc0
  iintro %_ ⟨Hx0, Hc0⟩
  iapply (go_wp d c s c0 (ys yo hyo y 0) s0 _ _ n1 (counts ((xs xo hxo x 0).view.read (Elt F) X)) g0) $$ [Hc0 Hy0 Hs0]
  · iframe Hc0 Hy0 Hs0
  iintro Hg0
  -- chunk 1
  iapply (come_wp d c s (xs xo hxo x 1) x1 r1 _ _ n0 q X a1) $$ [Hx Hx1 Hr1]
  · iframe Hx Hx1 Hr1
  iintro Hf
  iapply (came_wp d c s (xs xo hxo x 1) x1 r1 _ _ O W q X) $$ [Hf HO]
  · iframe Hf HO; iexact Hm
  iintro ⟨Hx, Hx1, Hr1, HO⟩
  iapply (chunk_wp d c s x1 c1 _ _ _ v1s hv1 true (hA 1)) $$ [Hx1 Hc1]
  · iframe Hx1 Hc1
  iintro %_ ⟨Hx1, Hc1⟩
  iapply (go_wp d c s c1 (ys yo hyo y 1) s1 _ _ n1 (counts ((xs xo hxo x 1).view.read (Elt F) X)) g1) $$ [Hc1 Hy1 Hs1]
  · iframe Hc1 Hy1 Hs1
  iintro Hg1
  iapply (gone_wp d c s c0 (ys yo hyo y 0) s0 _ _ O W _) $$ [Hg0 HO]
  · iframe Hg0 HO; iexact Hm
  iintro ⟨Hc0, Hy0, Hs0, HO⟩
  -- chunk 2
  iapply (chunk_wp d c s x0 c0 _ _ _ v0s hv0 false (hA 0)) $$ [Hx0 Hc0]
  · iframe Hx0 Hc0
  iintro %_ ⟨Hx0, Hc0⟩
  rw [show mat (fold (Scalar.ofBits .f32 0x00000000#32 : Elt F .f32) false ((xs xo hxo x 0).view.read (Elt F) X) (counts ((xs xo hxo x 0).view.read (Elt F) X)))
    = mat fun _ _ => Scalar.ofBits .f32 0x00000000#32 from fold_clear _ _ _]
  iapply (come_wp d c s (xs xo hxo x 2) x0 r2 _ _ n0 q X _) $$ [Hx Hx0 Hr2]
  · iframe Hx Hx0 Hr2
  iintro Hf
  iapply (came_wp d c s (xs xo hxo x 2) x0 r2 _ _ O W q X) $$ [Hf HO]
  · iframe Hf HO; iexact Hm
  iintro ⟨Hx, Hx0, Hr2, HO⟩
  iapply (chunk_wp d c s x0 c0 _ _ _ v1s hv1 true (hA 2)) $$ [Hx0 Hc0]
  · iframe Hx0 Hc0
  iintro %_ ⟨Hx0, Hc0⟩
  iapply (go_wp d c s c0 (ys yo hyo y 2) s0 _ _ n1 (counts ((xs xo hxo x 2).view.read (Elt F) X)) g2) $$ [Hc0 Hy2 Hs0]
  · iframe Hc0 Hy2 Hs0
  iintro Hg0
  iapply (gone_wp d c s c1 (ys yo hyo y 1) s1 _ _ O W _) $$ [Hg1 HO]
  · iframe Hg1 HO; iexact Hm
  iintro ⟨Hc1, Hy1, Hs1, HO⟩
  -- chunk 3
  iapply (chunk_wp d c s x1 c1 _ _ _ v0s hv0 false (hA 1)) $$ [Hx1 Hc1]
  · iframe Hx1 Hc1
  iintro %_ ⟨Hx1, Hc1⟩
  rw [show mat (fold (Scalar.ofBits .f32 0x00000000#32 : Elt F .f32) false ((xs xo hxo x 1).view.read (Elt F) X) (counts ((xs xo hxo x 1).view.read (Elt F) X)))
    = mat fun _ _ => Scalar.ofBits .f32 0x00000000#32 from fold_clear _ _ _]
  iapply (come_wp d c s (xs xo hxo x 3) x1 r3 _ _ n0 q X _) $$ [Hx Hx1 Hr3]
  · iframe Hx Hx1 Hr3
  iintro Hf
  iapply (came_wp d c s (xs xo hxo x 3) x1 r3 _ _ O W q X) $$ [Hf HO]
  · iframe Hf HO; iexact Hm
  iintro ⟨Hx, Hx1, Hr3, HO⟩
  iapply (chunk_wp d c s x1 c1 _ _ _ v1s hv1 true (hA 3)) $$ [Hx1 Hc1]
  · iframe Hx1 Hc1
  iintro %_ ⟨Hx1, Hc1⟩
  iapply (go_wp d c s c1 (ys yo hyo y 3) s1 _ _ n1 (counts ((xs xo hxo x 3).view.read (Elt F) X)) g3) $$ [Hc1 Hy3 Hs1]
  · iframe Hc1 Hy3 Hs1
  iintro Hg1
  iapply (gone_wp d c s c0 (ys yo hyo y 2) s0 _ _ O W _) $$ [Hg0 HO]
  · iframe Hg0 HO; iexact Hm
  iintro ⟨Hc0, Hy2, Hs0, HO⟩
  iapply (gone_wp d c s c1 (ys yo hyo y 3) s1 _ _ O W _) $$ [Hg1 HO]
  · iframe Hg1 HO; iexact Hm
  iintro ⟨Hc1, Hy3, Hs1, HO⟩
  iapply (WP_ret d c s)
  iframe Hx Hy0 Hy1 Hy2 Hy3 Hs0 Hs1 Hr0 Hr1 Hr2 Hr3 HO
  isplitl [Hx0]
  · iexists _; iexact Hx0
  isplitl [Hx1]
  · iexists _; iexact Hx1
  isplitl [Hc0]
  · iexists _; iexact Hc0
  · iexists _; iexact Hc1

end Task

end Cert.Proof.Hist
-- ==== Proof.Bodies.lean ====
module

public import proofs.«01_k».proof.Proof.Task

@[expose] public section

noncomputable section

namespace Cert.Proof.Hist

open Cert.KernelIdeal Cert.KernelIdeal.Gen

open Idealize.ShloMosaic
open Idealize.SL Idealize.SL.Sem

variable {F : FTy → Type} [FloatOps F] [Named F]

/-- The number of the tile at core `i 0`, subcore `i 1`, as the programs compute it: its first row of the slice. -/
abbrev base (a b : ℕ) : BitVec 32 := Scalar.muli (Scalar.addi (Scalar.muli (BitVec.ofNat 32 b) 2#32) (BitVec.ofNat 32 a)) 128#32

variable (arg2 : Memref sig .scVector .hbm S16384x200 .i32) (harg2 : arg2.IsWhole) (arg3 : Memref sig .scVector .hbm S4096x1024 .f32) (harg3 : arg3.IsWhole)
    (arg4 : Memref sig .scVector .vmem S32x200 .i32) (harg4 : arg4.IsWhole) (arg5 : Memref sig .scVector .vmem S32x200 .i32) (harg5 : arg5.IsWhole)
    (arg6 : Memref sig .scVector .vmem S32x1024 .f32) (harg6 : arg6.IsWhole) (arg7 : Memref sig .scVector .vmem S32x1024 .f32) (harg7 : arg7.IsWhole)
    (arg8 arg9 r0 r1 r2 r3 : DmaSems sig S_)

set_option maxRecDepth 100000
set_option maxHeartbeats 4000000

theorem hist0_eq (i : grid1.Coords) :
    cc1_hist_slice0 (F := F) i arg2 harg2 arg3 harg3 arg4 harg4 arg5 harg5 arg6 harg6 arg7 harg7 arg8 arg9 r0 r1 r2 r3
      = task (k1_off65 i) (k1_off79 i) (k1_off65_inb i) (k1_off79_inb i) arg2 arg3 arg4 harg4 arg5 harg5 arg6 harg6 arg7 harg7 arg8 arg9 r0 r1 r2 r3
          (base (i 0).val (i 1).val) (Scalar.addi 0#32 (base (i 0).val (i 1).val)) := rfl

theorem hist1_eq (i : grid3.Coords) :
    cc3_hist_slice1 (F := F) i arg2 harg2 arg3 harg3 arg4 harg4 arg5 harg5 arg6 harg6 arg7 harg7 arg8 arg9 r0 r1 r2 r3
      = task (k3_off65 i) (k3_off79 i) (k3_off65_inb i) (k3_off79_inb i) arg2 arg3 arg4 harg4 arg5 harg5 arg6 harg6 arg7 harg7 arg8 arg9 r0 r1 r2 r3
          (base (i 0).val (i 1).val) (Scalar.addi 4096#32 (base (i 0).val (i 1).val)) := rfl

theorem hist2_eq (i : grid5.Coords) :
    cc5_hist_slice2 (F := F) i arg2 harg2 arg3 harg3 arg4 harg4 arg5 harg5 arg6 harg6 arg7 harg7 arg8 arg9 r0 r1 r2 r3
      = task (k5_off65 i) (k5_off79 i) (k5_off65_inb i) (k5_off79_inb i) arg2 arg3 arg4 harg4 arg5 harg5 arg6 harg6 arg7 harg7 arg8 arg9 r0 r1 r2 r3
          (base (i 0).val (i 1).val) (Scalar.addi 8192#32 (base (i 0).val (i 1).val)) := rfl

theorem hist3_eq (i : grid7.Coords) :
    cc7_hist_slice3 (F := F) i arg2 harg2 arg3 harg3 arg4 harg4 arg5 harg5 arg6 harg6 arg7 harg7 arg8 arg9 r0 r1 r2 r3
      = task (k7_off65 i) (k7_off79 i) (k7_off65_inb i) (k7_off79_inb i) arg2 arg3 arg4 harg4 arg5 harg5 arg6 harg6 arg7 harg7 arg8 arg9 r0 r1 r2 r3
          (base (i 0).val (i 1).val) (Scalar.addi 12288#32 (base (i 0).val (i 1).val)) := rfl

end Cert.Proof.Hist
-- ==== Proof.Launch.lean ====
/-
  The four SparseCore calls: what each tile of a call is handed and gives back, that its task runs on it, and how the
  launch splits among the tiles.
-/
module

public import proofs.«01_k».proof.Proof.Tile
public import proofs.«01_k».proof.Proof.Bodies

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Flight MayWaits)

variable {F : FTy → Type} [FloatOps F] [Named F]

/-- The tokens of slice `q`, as `x` holds them. -/
def NamesX (X : Vec F S16384x200 .i32) (q : ℕ) (j : S4096x1024.Idx) (l : ℕ) : Prop :=
  ∃ (b : Fin 16384) (l' : Fin 200), b.val = 4096 * q + (j 0).val ∧ l'.val = l ∧ (j 1).val = (X (ix2 b l')).toNat

instance (X : Vec F S16384x200 .i32) (q : ℕ) (j : S4096x1024.Idx) : DecidablePred (NamesX X q j) := Classical.decPred _

/-- The counts of slice `q`: from zero, one more at every token of the row that names the column. -/
def hist (X : Vec F S16384x200 .i32) (q : ℕ) : Vec F S4096x1024 .f32 := fun j =>
  run (hit (Scalar.ofBits .f32 0x3F800000#32) true) (NamesX X q j) 0 200 (Scalar.ofBits .f32 0x00000000#32)

theorem run_iff {α : Type} (op : α → α) {q q' : ℕ → Prop} {hq : DecidablePred q} {hq' : DecidablePred q'} (o n : ℕ)
    (h : ∀ l, o ≤ l → l < o + n → (q l ↔ q' l)) (x : α) : run op q o n x = run op q' o n x :=
  run_congr op o n h x

/-- Thirty-two rows of the counts. -/
def slab (b : ℕ) : Finset S4096x1024.Idx := Finset.univ.filter fun j => b ≤ (j 0).val ∧ (j 0).val < b + 32

/-- The first row of a tile's chunk. -/
abbrev first (c i r : ℕ) : ℕ := 256 * i + 128 * c + 32 * r

section Rows

variable (yo : BitVec 32 → Fin 2 → ℕ) (hyo : ∀ (r : Fin 4) a, yo (BitVec.ofNat 32 (32 * r.val)) a + S32x1024.size a ≤ S4096x1024.size a)
    (xo : BitVec 32 → Fin 2 → ℕ) (hxo : ∀ (r : Fin 4) a, xo (BitVec.ofNat 32 (32 * r.val)) a + S32x200.size a ≤ S16384x200.size a)

theorem rect_slab (r : Fin 4) (b : ℕ) (h : yo (BitVec.ofNat 32 (32 * r.val)) = ![b, 0]) :
    (Rect.unit (s := S4096x1024) (yo (BitVec.ofNat 32 (32 * r.val))) S32x1024.size (hyo r)).set = slab b := by
  ext j
  rw [Rect.mem_set_unit, slab, Finset.mem_filter]
  simp only [h, Finset.mem_univ, true_and]
  constructor
  · intro H; exact H 0
  · intro H a
    fin_cases a
    · exact H
    · exact ⟨Nat.zero_le _, by have := (j 1).isLt; simpa using this⟩

/-- A chunk's counts are those of its rows. -/
theorem counts_hist (r : Fin 4) (q b : ℕ) (hx : xo (BitVec.ofNat 32 (32 * r.val)) = ![4096 * q + b, 0])
    (hy : yo (BitVec.ofNat 32 (32 * r.val)) = ![b, 0]) (X : Vec F S16384x200 .i32) :
    counts (fun j => X ((Rect.unit (s := S16384x200) (xo (BitVec.ofNat 32 (32 * r.val))) S32x200.size (hxo r)).emb j))
      = fun j => hist X q ((Rect.unit (s := S4096x1024) (yo (BitVec.ofNat 32 (32 * r.val))) S32x1024.size (hyo r)).emb j) := by
  funext j
  unfold counts mat fold hist
  have hj0 := (j 0).isLt
  have hj1 := (j 1).isLt
  have hb : 4096 * q + b + 32 ≤ 16384 := by have := hxo r 0; rw [hx] at this; exact this
  refine run_iff _ _ _ (fun l _ hl => ?_) _
  unfold Names NamesX
  have e0 : ((Rect.unit (s := S4096x1024) (yo (BitVec.ofNat 32 (32 * r.val))) S32x1024.size (hyo r)).emb j 0).val = b + (j 0).val := by
    rw [Rect.emb_apply]; simp [hy]
  have e1 : ((Rect.unit (s := S4096x1024) (yo (BitVec.ofNat 32 (32 * r.val))) S32x1024.size (hyo r)).emb j 1).val = (j 1).val := by
    rw [Rect.emb_apply]; simp [hy]
  have hl' : l < 200 := by omega
  have hr' : 4096 * q + (b + (j 0).val) < 16384 := by have : (j 0).val < 32 := hj0; omega
  have ei : (Rect.unit (s := S16384x200) (xo (BitVec.ofNat 32 (32 * r.val))) S32x200.size (hxo r)).emb (ix2 (n := 32) (m := 200) (j 0) ⟨l, hl'⟩)
      = ix2 ⟨4096 * q + (b + (j 0).val), hr'⟩ ⟨l, hl'⟩ := by
    funext a
    refine Fin.ext ?_
    rw [Rect.emb_apply]
    fin_cases a <;> simp [hx, ix2, Nat.add_assoc]
  constructor
  · rintro ⟨h, e⟩
    exact ⟨_, _, by rw [e0], rfl, e1.trans (e.trans (congrArg (fun i => (X i).toNat) ei))⟩
  · rintro ⟨b', l', eb, el, e⟩
    have h1 : b' = ⟨4096 * q + (b + (j 0).val), hr'⟩ := Fin.ext (by rw [eb, e0])
    have h2 : l' = ⟨l, hl'⟩ := Fin.ext el
    subst h1 h2
    exact ⟨hl', e1.symm.trans (e.trans (congrArg (fun i => (X i).toNat) ei.symm))⟩

end Rows

/-! ## What a tile is handed and gives back -/

/-- A tile's four chunks of a counts buffer, at any contents; at the contents `f`. -/
def yGive (ℓ : Loc nD τ sig) (S : ℕ → Finset (Idx ℓ)) (c i : ℕ) : sProp (MM F) :=
  bigSep Finset.univ fun r : Fin 4 => iprop(∃ f, ℓ ↦[S (first c i r.val)]{fullShare} f)
def yGot (ℓ : Loc nD τ sig) (S : ℕ → Finset (Idx ℓ)) (f : Buf (Elt F) ℓ) (c i : ℕ) : sProp (MM F) :=
  bigSep Finset.univ fun r : Fin 4 => ℓ ↦[S (first c i r.val)]{fullShare} f

theorem four (Φ : Fin 4 → sProp (MM F)) : bigSep Finset.univ Φ = iprop(Φ 0 ∗ Φ 1 ∗ Φ 2 ∗ Φ 3) :=
  bigSep_univ_eq_bigSepL [0, 1, 2, 3] (by decide) (by decide) Φ

theorem six (Φ : Fin 6 → sProp (MM F)) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- A family of members of a set, out of the set. -/
theorem peel {α β : Type} [Fintype α] [DecidableEq α] [DecidableEq β] (f : α → β) (hf : Function.Injective f) (t : Finset β) (ht : ∀ a, f a ∈ t)
    (Φ : β → sProp (MM F)) : bigSep t Φ = iprop((bigSep Finset.univ fun a => Φ (f a)) ∗ bigSep (t \ Finset.univ.image f) Φ) := by
  rw [SparseCore.bigSep_sdiff_split' (t := Finset.univ.image f) (fun x hx => by
    obtain ⟨a, -, rfl⟩ := Finset.mem_image.mp hx; exact ht a), SparseCore.bigSep_image_of_injOn (hf.injOn)]

section Peel

variable (d : Dev nD) (c : Fin τ.nSC) (s : Fin τ.nSub)

theorem ownSems0_six (sem : Fin 6 → DmaSems sig S_) (hi : Function.Injective fun k => (sem k).sem)
    (hs : ∀ k, (SemLoc.dma (sem k).sem : SemLoc sig).isScoped .scVector = true) :
    ∃ R : sProp (MM F), SparseCore.Cfg.ownSems0 (V d c s)
      = iprop((idle d c s (sem 0) ∗ idle d c s (sem 1) ∗ idle d c s (sem 2) ∗ idle d c s (sem 3) ∗ idle d c s (sem 4) ∗ idle d c s (sem 5)) ∗ R) := by
  refine ⟨_, (peel (fun k => ((V d c s, SemLoc.dma (sem k).sem) : GSem nD τ sig)) ?_ _ ?_ _).trans
    (congrArg (fun P : sProp (MM F) => iprop(P ∗ _)) (six _))⟩
  · intro a b h
    exact hi (SemLoc.dma.inj (Prod.mk.inj h).2)
  · intro k
    exact SparseCore.Cfg.mem_ownCells.mpr ⟨rfl, hs k⟩

/-- A tile's own buffer, its contents no matter. -/
abbrev anyAt (b : Ref sig .scVector) : sProp (MM F) := iprop(∃ f, ((V d c s).loc b) ↦{fullShare} f)

theorem ownBufs_four (b : Fin 4 → Ref sig .scVector) (hi : Function.Injective b)
    (ho : ∀ k, ((Proc.scVector c s).devRef (b k)).owner = .proc (.scVector c s)) :
    ∃ R : sProp (MM F), SparseCore.Cfg.ownBufs (V d c s)
      = iprop((anyAt d c s (b 0) ∗ anyAt d c s (b 1) ∗ anyAt d c s (b 2) ∗ anyAt d c s (b 3)) ∗ R) := by
  refine ⟨_, (peel (fun k => (Proc.scVector c s).devRef (b k)) ?_ _ ?_ _).trans
    (congrArg (fun P : sProp (MM F) => iprop(P ∗ _)) (four _))⟩
  · intro a b' h
    exact hi (Proc.devRef_injective _ h)
  · intro k
    exact SparseCore.Cfg.mem_ownRefs_of_owner (ho k)

variable {sp : Space} {sh : Shape} {e : EltTy} (m : Memref sig .scVector sp sh e) (hm : m.IsWhole)

include hm in
theorem any_some : (iprop(∃ f, m.view.loc (V d c s) ↦{fullShare} f) : sProp (MM F)) ⊢ some' d c s m := by
  unfold some' hold
  iintro ⟨%f, H⟩
  iexists _
  iapply (holds_intro (V d c s) m f)
  rw [hm.set_eq_univ]
  iexact H

include hm in
theorem some_any : some' d c s m ⊢ (iprop(∃ f, m.view.loc (V d c s) ↦{fullShare} f) : sProp (MM F)) := by
  unfold some' hold holds
  iintro ⟨%A, %f, -, H⟩
  iexists f
  rw [hm.set_eq_univ]
  iexact H

end Peel

section Tile

variable (d : Dev nD) (c : Fin τ.nSC) (s : Fin τ.nSub)
    (xo yo : BitVec 32 → Fin 2 → ℕ)
    (hxo : ∀ (r : Fin 4) a, xo (BitVec.ofNat 32 (32 * r.val)) a + S32x200.size a ≤ S16384x200.size a)
    (hyo : ∀ (r : Fin 4) a, yo (BitVec.ofNat 32 (32 * r.val)) a + S32x1024.size a ≤ S4096x1024.size a)
    (x : Memref sig .scVector .hbm S16384x200 .i32) (y : Memref sig .scVector .hbm S4096x1024 .f32)
    (b0 b1 : Memref sig .scVector .vmem S32x200 .i32) (h0 : b0.IsWhole) (h1 : b1.IsWhole)
    (b2 b3 : Memref sig .scVector .vmem S32x1024 .f32) (h2 : b2.IsWhole) (h3 : b3.IsWhole)
    (s0 s1 r0 r1 r2 r3 : DmaSems sig S_)
    (hsems : ∃ R : sProp (MM F), SparseCore.Cfg.ownSems0 (V d c s)
      = iprop((idle d c s s0 ∗ idle d c s s1 ∗ idle d c s r0 ∗ idle d c s r1 ∗ idle d c s r2 ∗ idle d c s r3) ∗ R))
    (hbufs : ∃ R : sProp (MM F), SparseCore.Cfg.ownBufs (V d c s)
      = iprop(((∃ f, b0.view.loc (V d c s) ↦{fullShare} f) ∗ (∃ f, b1.view.loc (V d c s) ↦{fullShare} f)
        ∗ (∃ f, b2.view.loc (V d c s) ↦{fullShare} f) ∗ (∃ f, b3.view.loc (V d c s) ↦{fullShare} f)) ∗ R))
    (q : PosShare TreeShare) (X : Buf (Elt F) (x.view.loc (V d c s)))
    (n ci si : ℕ) (Y : Buf (Elt F) (y.view.loc (V d c s)))
    (Sl : ℕ → Finset (Idx (y.view.loc (V d c s))))
    (hS : ∀ r : Fin 4, (ys yo hyo y r).view.set = Sl (first ci si r.val))
    (hY : ∀ r : Fin 4, (ys yo hyo y r).view.read (Elt F) Y = counts ((xs xo hxo x r).view.read (Elt F) X))
    (O : CellTallies nD τ sig (HIx 4)) (W : Waits sig (HIx 4))

include hS in
theorem give_some (r : Fin 4) :
    iprop(∃ f, (y.view.loc (V d c s)) ↦[Sl (first ci si r.val)]{fullShare} f) ⊢ (some' d c s (ys yo hyo y r) : sProp (MM F)) := by
  unfold some' hold
  iintro ⟨%f, H⟩
  iexists _
  iapply (holds_intro (V d c s) (ys yo hyo y r) f)
  rw [hS r]
  iexact H

include hS hY in
theorem hold_got (r : Fin 4) :
    hold d c s (ys yo hyo y r) (counts ((xs xo hxo x r).view.read (Elt F) X))
      ⊢ ((y.view.loc (V d c s)) ↦[Sl (first ci si r.val)]{fullShare} Y : sProp (MM F)) := by
  unfold hold holds
  iintro ⟨%f, %hf, H⟩
  rw [← hS r]
  iapply (Entails.of_eq (pointsTo_congr (eq_of_read (V d c s) (hf.trans (hY r).symm)))) $$ H

include hsems hbufs hS hY h0 h1 h2 h3 in
/-- A tile's task on what the call hands it. -/
theorem tile_gen (hO : ∀ g, O g none = 0) (hX : ∀ j, (x.view.read (Elt F) X j : BitVec 32).toNat < 1024) (w2 w3 : BitVec 32) :
    iprop(levAts (K (F := F)).L (K (F := F)).lev ∗ emp
        ∗ ((x.view.loc (V d c s) ↦{q} X) ∗ yGive (y.view.loc (V d c s)) Sl ci si)
        ∗ scopedBufs (V d c s) ∗ scopedSems0 (V d c s) ∗ owes (V d c s) O W)
      ⊢ WP d c s (task xo yo hxo hyo x y b0 h0 b1 h1 b2 h2 b3 h3 s0 s1 r0 r1 r2 r3 w2 w3) fun _ =>
        iprop(((x.view.loc (V d c s) ↦{q} X) ∗ yGot (y.view.loc (V d c s)) Sl Y ci si)
        ∗ scopedBufs (V d c s) ∗ scopedSems0 (V d c s)
        ∗ ∃ W', ⌜∀ p ∈ W', p ∈ W ∨ p.2 = none⌝ ∗ owes (V d c s) O W') := by
  obtain ⟨Rs, hRs⟩ := hsems
  obtain ⟨Rb, hRb⟩ := hbufs
  rw [(K (F := F)).scopedBufs_V facts d c s, SparseCore.Cfg.scopedSems0_V (Val := Elt F) d c s, hRs, hRb]
  unfold yGive yGot
  rw [four, four]
  iintro ⟨#Hlv, -, ⟨Hx, Hy0, Hy1, Hy2, Hy3⟩, ⟨⟨Hb0, Hb1, Hb2, Hb3⟩, HRb⟩, ⟨Hs, HRs⟩, HO⟩
  ihave Hy0 := (give_some d c s yo hyo y ci si Sl hS 0) $$ Hy0
  ihave Hy1 := (give_some d c s yo hyo y ci si Sl hS 1) $$ Hy1
  ihave Hy2 := (give_some d c s yo hyo y ci si Sl hS 2) $$ Hy2
  ihave Hy3 := (give_some d c s yo hyo y ci si Sl hS 3) $$ Hy3
  ihave Hb0 := (any_some d c s b0 h0) $$ Hb0
  ihave Hb1 := (any_some d c s b1 h1) $$ Hb1
  ihave Hb2 := (any_some d c s b2 h2) $$ Hb2
  ihave Hb3 := (any_some d c s b3 h3) $$ Hb3
  ihave Hm := (MayWaits.intro (c := V d c s) (ι := none) fun sm => (K (F := F)).mayWait_none sm hO) $$ Hlv
  iapply (wp_wand _ _ _) $$ [Hx Hy0 Hy1 Hy2 Hy3 Hb0 Hb1 Hb2 Hb3 Hs HO Hm]
  · iapply (task_wp d c s xo yo hxo hyo x y b0 h0 b1 h1 b2 h2 b3 h3 s0 s1 r0 r1 r2 r3 q X O W hX w2 w3)
    iframe Hm Hx Hs Hy0 Hy1 Hy2 Hy3 Hb0 Hb1 Hb2 Hb3
    unfold owing
    iexists W
    isplitr
    · ipureintro; exact fun p hp => Or.inl hp
    · iexact HO
  iintro %_ ⟨Hx, ⟨Hy0, Hy1, Hy2, Hy3⟩, ⟨Hb0, Hb1, Hb2, Hb3⟩, Hs, HO⟩
  ihave Hy0 := (hold_got d c s xo yo hxo hyo x y X ci si Y Sl hS hY 0) $$ Hy0
  ihave Hy1 := (hold_got d c s xo yo hxo hyo x y X ci si Y Sl hS hY 1) $$ Hy1
  ihave Hy2 := (hold_got d c s xo yo hxo hyo x y X ci si Y Sl hS hY 2) $$ Hy2
  ihave Hy3 := (hold_got d c s xo yo hxo hyo x y X ci si Y Sl hS hY 3) $$ Hy3
  ihave Hb0 := (some_any d c s b0 h0) $$ Hb0
  ihave Hb1 := (some_any d c s b1 h1) $$ Hb1
  ihave Hb2 := (some_any d c s b2 h2) $$ Hb2
  ihave Hb3 := (some_any d c s b3 h3) $$ Hb3
  ihave HO := (owing_elim d c s O W) $$ HO
  iframe Hx Hy0 Hy1 Hy2 Hy3 Hb0 Hb1 Hb2 Hb3 HRb Hs HRs HO

end Tile

end Cert.Proof.Hist
-- ==== Proof.Calls.lean ====
/-
  The payloads of the four SparseCore calls and the launch theorem's obligations for them.
-/
module

public import proofs.«01_k».proof.Proof.Launch

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers (Flight MayWaits shareTokN shareTok shareDrop)

variable {F : FTy → Type} [FloatOps F] [Named F]

variable (m : (ℓ : Loc nD τ sig) → Buf (Elt F) ℓ)

/-- The tokens, as a location of device `d`. -/
abbrev xLoc (d : Dev nD) : Loc nD τ sig := (SparseCore.T d).loc main_arg0
abbrev X (d : Dev nD) : Vec F S16384x200 .i32 := m (xLoc d)

/-- Every token names a column of the counts. -/
def InRange : Prop := ∀ d (j : S16384x200.Idx), (X m d j : BitVec 32).toNat < 1024

abbrev cLoc0 (d : Dev nD) : Loc nD τ sig := (SparseCore.T d).loc main_v4
abbrev cLoc1 (d : Dev nD) : Loc nD τ sig := (SparseCore.T d).loc main_v6
abbrev cLoc2 (d : Dev nD) : Loc nD τ sig := (SparseCore.T d).loc main_v8
abbrev cLoc3 (d : Dev nD) : Loc nD τ sig := (SparseCore.T d).loc main_v10

/-- A tile's part of the counts buffer of a call, before and after. -/
def goY (q : Fin 4) (d : Dev nD) (c i : ℕ) : sProp (MM F) := match q with
  | 0 => yGive (cLoc0 d) slab c i
  | 1 => yGive (cLoc1 d) slab c i
  | 2 => yGive (cLoc2 d) slab c i
  | 3 => yGive (cLoc3 d) slab c i
def tdY (q : Fin 4) (d : Dev nD) (c i : ℕ) : sProp (MM F) := match q with
  | 0 => yGot (cLoc0 d) slab (hist (X m d) 0) c i
  | 1 => yGot (cLoc1 d) slab (hist (X m d) 1) c i
  | 2 => yGot (cLoc2 d) slab (hist (X m d) 2) c i
  | 3 => yGot (cLoc3 d) slab (hist (X m d) 3) c i

instance (ℓ : Loc nD τ sig) (S : ℕ → Finset (Idx ℓ)) (c i : ℕ) : Storable (upEmb : UEmb _ (MM F)) (yGive (F := F) ℓ S c i) := by
  unfold yGive; infer_instance
instance (ℓ : Loc nD τ sig) (S : ℕ → Finset (Idx ℓ)) (f : Buf (Elt F) ℓ) (c i : ℕ) : Storable (upEmb : UEmb _ (MM F)) (yGot ℓ S f c i) := by
  unfold yGot; infer_instance
instance (q : Fin 4) (d : Dev nD) (c i : ℕ) : Storable (upEmb : UEmb _ (MM F)) (goY (F := F) q d c i) := by
  unfold goY; split <;> infer_instance
instance (q : Fin 4) (d : Dev nD) (c i : ℕ) : Storable (upEmb : UEmb _ (MM F)) (tdY m q d c i) := by
  unfold tdY; split <;> infer_instance

/-- A core's share of the tokens, and a tile's of the core's. -/
abbrev coreShare (c : ℕ) : PosShare TreeShare := shareTokN fullShare c
abbrev tileShare (c i : ℕ) : PosShare TreeShare := shareTokN (coreShare c) i

/-- A call takes a share of the tokens and its counts buffer at any contents, and brings back the counts of its slice. -/
def P : (K (F := F)).Pay (nD := nD) (Val := Elt F) (Name := ℕ) (U := UU) where
  st := fun q d c => iprop((xLoc d ↦{coreShare c.val} m (xLoc d)) ∗ bigSep Finset.univ fun i : Fin ((K (F := F)).nSub q) => goY q d c.val i.val)
  dn := fun q d c => iprop((xLoc d ↦{coreShare c.val} m (xLoc d)) ∗ bigSep Finset.univ fun i : Fin ((K (F := F)).nSub q) => tdY m q d c.val i.val)
  go := fun q d c i => iprop((xLoc d ↦{tileShare c.val i.val} m (xLoc d)) ∗ goY q d c.val i.val)
  td := fun q d c i => iprop((xLoc d ↦{tileShare c.val i.val} m (xLoc d)) ∗ tdY m q d c.val i.val)
  x := fun _ _ => iprop(emp)

instance P_storable : (P m).IsStorable where
  st := by intros; unfold P; infer_instance
  dn := by intros; unfold P; infer_instance
  go := by intros; unfold P; infer_instance
  td := by intros; unfold P; infer_instance

theorem vecSplit (q : Fin 4) : (K (F := F)).VecSplit' (P m) q := by
  intro d c
  show iprop((xLoc d ↦{coreShare c.val} m (xLoc d)) ∗ bigSep Finset.univ fun i : Fin ((K (F := F)).nSub q) => goY q d c.val i.val) ⊢ |={Set.univ}=> iprop(
    (bigSep Finset.univ fun i : Fin ((K (F := F)).nSub q) => iprop((xLoc d ↦{tileShare c.val i.val} m (xLoc d)) ∗ goY q d c.val i.val))
    ∗ ((bigSep Finset.univ fun i : Fin ((K (F := F)).nSub q) => iprop((xLoc d ↦{tileShare c.val i.val} m (xLoc d)) ∗ tdY m q d c.val i.val))
      -∗ iprop((xLoc d ↦{coreShare c.val} m (xLoc d)) ∗ bigSep Finset.univ fun i : Fin ((K (F := F)).nSub q) => tdY m q d c.val i.val)))
  rw [bigSep_sep', bigSep_sep']
  iintro ⟨Hx, Hy⟩
  ihave Hx := (Transfers.pointsTo_toks_split (coreShare c.val) ((K (F := F)).nSub q)) $$ Hx
  icases Hx with ⟨Hd, Hx⟩
  imodintro
  iframe Hx Hy
  iintro ⟨Hx, Hy⟩
  iframe Hy
  iapply (Transfers.pointsTo_toks_join (coreShare c.val) ((K (F := F)).nSub q))
  iframe Hd Hx

/-! ## The tiles -/

theorem obl_post {thr : Thread nD τ} {A B C : sProp (MM F)} {O : CellTallies nD τ sig (HIx 4)} {W : Waits sig (HIx 4)} {R : Option (Fin 4) → Prop} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ R p.2⌝ ∗ owes thr O W') := by
  iintro ⟨HA, HB, HC, %W', %hW', HO⟩
  iframe HA HB HC
  iexists W'; isplitr
  · ipureintro; exact fun p hp => (hW' p hp).imp_right Or.inl
  · iexact HO

/-- Reading a slice of a whole buffer. -/
theorem read_slice (b : Ref sig .scVector) (r : Rect b.ty.shape) (f : b.ty.Contents (Elt F)) :
    ((View.whole b).slice r).read (Elt F) f = fun j => f (r.emb j) := rfl

/-- A grid point from its two numbers. -/
def at1 (c : Fin (grid1.bound 0)) (s : Fin (grid1.bound 1)) : grid1.Coords :=
  fun | 0 => c | 1 => s | ⟨_ + 2, h⟩ => absurd h (Nat.not_lt.2 (Nat.le_add_left _ _))

theorem defs1 (c : Fin τ.nSC) (s : Fin τ.nSub) :
    defs₀ (F := F) (.scVector c s) 1 ()
      = SparseCore.onTile hcore1 hsub1 (fun c s => cc1_hist_slice0 (at1 c s) (Memref.whole main_arg0_scv) (Memref.isWhole_whole _)
          (Memref.whole main_v4_scv) (Memref.isWhole_whole _) (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scratch4 cc1_scratch5 cc1_scoped0 cc1_scoped1 cc1_scoped2 cc1_scoped3) ⟨⟩ c s := rfl

set_option maxRecDepth 4096 in
/-- The tiles of call 0. -/
theorem tileObl0 (hm : InRange m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs1]; simp only [SparseCore.onTile, hc, _root_.and_self, ↓reduceDIte]
  rw [hist0_eq]
  have hx : ∀ r : Fin 4, k1_off65 (at1 ⟨_, hc.1⟩ ⟨_, hc.2⟩) (BitVec.ofNat 32 (32 * r.val)) = ![4096 * 0 + first c.val i.val r.val, 0] := fun r => by
    rw [k1_off65_eq]; simp [at1, first]
  have hy : ∀ r : Fin 4, k1_off79 (at1 ⟨_, hc.1⟩ ⟨_, hc.2⟩) (BitVec.ofNat 32 (32 * r.val)) = ![first c.val i.val r.val, 0] := fun r => by
    rw [k1_off79_eq]; rfl
  refine (tile_gen d _ _ _ _ _ _ (Memref.whole main_arg0_scv) (Memref.whole main_v4_scv) (Memref.whole cc1_scratch0) (Memref.whole cc1_scratch1) _ _
      (Memref.whole cc1_scratch2) (Memref.whole cc1_scratch3) _ _ cc1_scratch4 cc1_scratch5 cc1_scoped0 cc1_scoped1 cc1_scoped2 cc1_scoped3
      (ownSems0_six d _ _ ![cc1_scratch4, cc1_scratch5, cc1_scoped0, cc1_scoped1, cc1_scoped2, cc1_scoped3] (by decide) (by decide))
      (ownBufs_four d _ _ ![cc1_scratch0, cc1_scratch1, cc1_scratch2, cc1_scratch3] (by decide) (fun k => by fin_cases k <;> rfl))
      (tileShare c.val i.val) (X m d) c.val i.val (hist (X m d) 0) slab ?_ ?_ O W hO (hm d) _ _).trans (wp_mono frame _ _ fun _ => obl_post)
  · intro r
    exact (View.set_slice _ _).trans (Finset.map_refl.trans (rect_slab _ _ r _ (hy r)))
  · intro r
    have h := counts_hist _ (k1_off79_inb (at1 ⟨_, hc.1⟩ ⟨_, hc.2⟩)) _ (k1_off65_inb (at1 ⟨_, hc.1⟩ ⟨_, hc.2⟩)) r 0 _ (hx r) (hy r) (X m d)
    exact h.symm

def at3 (c : Fin (grid3.bound 0)) (s : Fin (grid3.bound 1)) : grid3.Coords :=
  fun | 0 => c | 1 => s | ⟨_ + 2, h⟩ => absurd h (Nat.not_lt.2 (Nat.le_add_left _ _))

theorem defs3 (c : Fin τ.nSC) (s : Fin τ.nSub) :
    defs₀ (F := F) (.scVector c s) 3 ()
      = SparseCore.onTile hcore3 hsub3 (fun c s => cc3_hist_slice1 (at3 c s) (Memref.whole main_arg0_scv) (Memref.isWhole_whole _)
          (Memref.whole main_v6_scv) (Memref.isWhole_whole _) (Memref.whole cc3_scratch0) (Memref.isWhole_whole _) (Memref.whole cc3_scratch1) (Memref.isWhole_whole _)
          (Memref.whole cc3_scratch2) (Memref.isWhole_whole _) (Memref.whole cc3_scratch3) (Memref.isWhole_whole _)
          cc3_scratch4 cc3_scratch5 cc3_scoped0 cc3_scoped1 cc3_scoped2 cc3_scoped3) ⟨⟩ c s := rfl

set_option maxRecDepth 4096 in
/-- The tiles of call 1. -/
theorem tileObl1 (hm : InRange m) : (K (F := F)).TileObl (D (F := F)) 𝒱 (P m) v₀ 1 := by
  intro d c i O W hO _ _
  simp only [show (P m).ox = fun _ _ => 0 from rfl, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs3]; simp only [SparseCore.onTile, hc, _root_.and_self, ↓reduceDIte]
  rw [hist1_eq]
  have hx : ∀ r : Fin 4, k3_off65 (at3 ⟨_, hc.1⟩ ⟨_, hc.2⟩) (BitVec.ofNat 32 (32 * r.val)) = ![4096 * 1 + first c.val i.val r.val, 0] := fun r => by
    rw [k3_off65_eq]
    exact congrArg (fun n : ℕ => ![n, 0]) (Nat.add_comm (first c.val i.val r.val) _)
  have hy : ∀ r : Fin 4, k3_off79 (at3 ⟨_, hc.1⟩ ⟨_, hc.2⟩) (BitVec.ofNat 32 (32 * r.val)) = ![first c.val i.val r.val, 0] := fun r => by
    rw [k3_off79_eq]; rfl
  refine (tile_gen d _ _ _ _ _ _ (Memref.whole main_arg0_scv) (Memref.whole main_v6_scv) (Memref.whole cc3_scratch0) (Memref.whole cc3_scratch1) _ _
      (Memref.whole cc3_scratch2) (Memref.whole cc3_scratch3) _ _ cc3_scratch4 cc3_scratch5 cc3_scoped0 cc3_scoped1 cc3_scoped2 cc3_scoped3
      (ownSems0_six d _ _ ![cc3_scratch4, cc3_scratch5, cc3_scoped0, cc3_scoped1, cc3_scoped2, cc3_scoped3] (by decide) (by decide))
      (ownBufs_four d _ _ ![cc3_scratch0, cc3_scratch1, cc3_scratch2, cc3_scratch3] (by decide) (fun k => by fin_cases k <;> rfl))
      (tileShare c.val i.val) (X m d) c.val i.val (hist (X m d) 1) slab ?_ ?_ O W hO (hm d) _ _).trans (wp_mono frame _ _ fun _ => obl_post)
  · intro r
    exact (View.set_slice _ _).trans (Finset.map_refl.trans (rect_slab _ _ r _ (hy r)))
  · intro r
    have h := counts_hist _ (k3_off79_inb (at3 ⟨_, hc.1⟩ ⟨_, hc.2⟩)) _ (k3_off65_inb (at3 ⟨_, hc.1⟩ ⟨_, hc.2⟩)) r 1 _ (hx r) (hy r) (X m d)
    exact h.symm

def at5 (c : Fin (grid5.bound 0)) (s : Fin (grid5.bound 1)) : grid5.Coords :=
  fun | 0 => c | 1 => s | ⟨_ + 2, h⟩ => absurd h (Nat.not_lt.2 (Nat.le_add_left _ _))

theorem defs5 (c : Fin τ.nSC) (s : Fin τ.nSub) :
    defs₀ (F := F) (.scVector c s) 5 ()
      = SparseCore.onTile hcore5 hsub5 (fun c s => cc5_hist_slice2 (at5 c s) (Memref.whole main_arg0_scv) (Memref.isWhole_whole _)
          (Memref.whole main_v8_scv) (Memref.isWhole_whole _) (Memref.whole cc5_scratch0) (Memref.isWhole_whole _) (Memref.whole cc5_scratch1) (Memref.isWhole_whole _)
          (Memref.whole cc5_scratch2) (Memref.isWhole_whole _) (Memref.whole cc5_scratch3) (Memref.isWhole_whole _)
          cc5_scratch4 cc5_scratch5 cc5_scoped0 cc5_scoped1 cc5_scoped2 cc5_scoped3) ⟨⟩ c s := rfl

set_option maxRecDepth 4096 in
/-- The tiles of call 2. -/
theorem tileObl2 (hm : InRange m) : (K (F := F)).TileObl (D (F := F)) 𝒱 (P m) v₀ 2 := by
  intro d c i O W hO _ _
  simp only [show (P m).ox = fun _ _ => 0 from rfl, add_zero]
  change _ ⊢ wp _ _ _ (Pipeline.liftProg (defs₀ (F := F) (.scVector ((K (F := F)).core 2 c) ((K (F := F)).sub 2 i)) 5 ())) _
  refine BI.Entails.trans ?_ (Pipeline.wp_liftProg (D (F := F)) (Pipeline.defs_kernel pcfgs defs₀) 𝒱₀ _ Set.univ none _ _)
  have hc : ((K (F := F)).core 2 c).val < grid5.bound 0 ∧ ((K (F := F)).sub 2 i).val < grid5.bound 1 := ⟨c.isLt, i.isLt⟩
  rw [defs5]; simp only [SparseCore.onTile, hc, _root_.and_self, ↓reduceDIte]
  rw [hist2_eq]
  have hx : ∀ r : Fin 4, k5_off65 (at5 ⟨_, hc.1⟩ ⟨_, hc.2⟩) (BitVec.ofNat 32 (32 * r.val)) = ![4096 * 2 + first c.val i.val r.val, 0] := fun r => by
    rw [k5_off65_eq]
    exact congrArg (fun n : ℕ => ![n, 0]) (Nat.add_comm (first c.val i.val r.val) _)
  have hy : ∀ r : Fin 4, k5_off79 (at5 ⟨_, hc.1⟩ ⟨_, hc.2⟩) (BitVec.ofNat 32 (32 * r.val)) = ![first c.val i.val r.val, 0] := fun r => by
    rw [k5_off79_eq]; rfl
  refine (tile_gen d _ _ _ _ _ _ (Memref.whole main_arg0_scv) (Memref.whole main_v8_scv) (Memref.whole cc5_scratch0) (Memref.whole cc5_scratch1) _ _
      (Memref.whole cc5_scratch2) (Memref.whole cc5_scratch3) _ _ cc5_scratch4 cc5_scratch5 cc5_scoped0 cc5_scoped1 cc5_scoped2 cc5_scoped3
      (ownSems0_six d _ _ ![cc5_scratch4, cc5_scratch5, cc5_scoped0, cc5_scoped1, cc5_scoped2, cc5_scoped3] (by decide) (by decide))
      (ownBufs_four d _ _ ![cc5_scratch0, cc5_scratch1, cc5_scratch2, cc5_scratch3] (by decide) (fun k => by fin_cases k <;> rfl))
      (tileShare c.val i.val) (X m d) c.val i.val (hist (X m d) 2) slab ?_ ?_ O W hO (hm d) _ _).trans (wp_mono frame _ _ fun _ => obl_post)
  · intro r
    exact (View.set_slice _ _).trans (Finset.map_refl.trans (rect_slab _ _ r _ (hy r)))
  · intro r
    have h := counts_hist _ (k5_off79_inb (at5 ⟨_, hc.1⟩ ⟨_, hc.2⟩)) _ (k5_off65_inb (at5 ⟨_, hc.1⟩ ⟨_, hc.2⟩)) r 2 _ (hx r) (hy r) (X m d)
    exact h.symm

def at7 (c : Fin (grid7.bound 0)) (s : Fin (grid7.bound 1)) : grid7.Coords :=
  fun | 0 => c | 1 => s | ⟨_ + 2, h⟩ => absurd h (Nat.not_lt.2 (Nat.le_add_left _ _))

theorem defs7 (c : Fin τ.nSC) (s : Fin τ.nSub) :
    defs₀ (F := F) (.scVector c s) 7 ()
      = SparseCore.onTile hcore7 hsub7 (fun c s => cc7_hist_slice3 (at7 c s) (Memref.whole main_arg0_scv) (Memref.isWhole_whole _)
          (Memref.whole main_v10_scv) (Memref.isWhole_whole _) (Memref.whole cc7_scratch0) (Memref.isWhole_whole _) (Memref.whole cc7_scratch1) (Memref.isWhole_whole _)
          (Memref.whole cc7_scratch2) (Memref.isWhole_whole _) (Memref.whole cc7_scratch3) (Memref.isWhole_whole _)
          cc7_scratch4 cc7_scratch5 cc7_scoped0 cc7_scoped1 cc7_scoped2 cc7_scoped3) ⟨⟩ c s := rfl

set_option maxRecDepth 4096 in
/-- The tiles of call 3. -/
theorem tileObl3 (hm : InRange m) : (K (F := F)).TileObl (D (F := F)) 𝒱 (P m) v₀ 3 := by
  intro d c i O W hO _ _
  simp only [show (P m).ox = fun _ _ => 0 from rfl, add_zero]
  change _ ⊢ wp _ _ _ (Pipeline.liftProg (defs₀ (F := F) (.scVector ((K (F := F)).core 3 c) ((K (F := F)).sub 3 i)) 7 ())) _
  refine BI.Entails.trans ?_ (Pipeline.wp_liftProg (D (F := F)) (Pipeline.defs_kernel pcfgs defs₀) 𝒱₀ _ Set.univ none _ _)
  have hc : ((K (F := F)).core 3 c).val < grid7.bound 0 ∧ ((K (F := F)).sub 3 i).val < grid7.bound 1 := ⟨c.isLt, i.isLt⟩
  rw [defs7]; simp only [SparseCore.onTile, hc, _root_.and_self, ↓reduceDIte]
  rw [hist3_eq]
  have hx : ∀ r : Fin 4, k7_off65 (at7 ⟨_, hc.1⟩ ⟨_, hc.2⟩) (BitVec.ofNat 32 (32 * r.val)) = ![4096 * 3 + first c.val i.val r.val, 0] := fun r => by
    rw [k7_off65_eq]
    exact congrArg (fun n : ℕ => ![n, 0]) (Nat.add_comm (first c.val i.val r.val) _)
  have hy : ∀ r : Fin 4, k7_off79 (at7 ⟨_, hc.1⟩ ⟨_, hc.2⟩) (BitVec.ofNat 32 (32 * r.val)) = ![first c.val i.val r.val, 0] := fun r => by
    rw [k7_off79_eq]; rfl
  refine (tile_gen d _ _ _ _ _ _ (Memref.whole main_arg0_scv) (Memref.whole main_v10_scv) (Memref.whole cc7_scratch0) (Memref.whole cc7_scratch1) _ _
      (Memref.whole cc7_scratch2) (Memref.whole cc7_scratch3) _ _ cc7_scratch4 cc7_scratch5 cc7_scoped0 cc7_scoped1 cc7_scoped2 cc7_scoped3
      (ownSems0_six d _ _ ![cc7_scratch4, cc7_scratch5, cc7_scoped0, cc7_scoped1, cc7_scoped2, cc7_scoped3] (by decide) (by decide))
      (ownBufs_four d _ _ ![cc7_scratch0, cc7_scratch1, cc7_scratch2, cc7_scratch3] (by decide) (fun k => by fin_cases k <;> rfl))
      (tileShare c.val i.val) (X m d) c.val i.val (hist (X m d) 3) slab ?_ ?_ O W hO (hm d) _ _).trans (wp_mono frame _ _ fun _ => obl_post)
  · intro r
    exact (View.set_slice _ _).trans (Finset.map_refl.trans (rect_slab _ _ r _ (hy r)))
  · intro r
    have h := counts_hist _ (k7_off79_inb (at7 ⟨_, hc.1⟩ ⟨_, hc.2⟩)) _ (k7_off65_inb (at7 ⟨_, hc.1⟩ ⟨_, hc.2⟩)) r 3 _ (hx r) (hy r) (X m d)
    exact h.symm

/-! ## The counts buffers, dealt and gathered -/

theorem slab_disjoint {a b : ℕ} (h : a + 32 ≤ b ∨ b + 32 ≤ a) : Disjoint (slab a) (slab b) := by
  rw [Finset.disjoint_left]
  intro j ha hb
  simp only [slab, Finset.mem_filter, Finset.mem_univ, true_and] at ha hb
  omega

theorem slab_cover (j : S4096x1024.Idx) : ∃ (c : Fin 2) (i : Fin 16) (r : Fin 4), j ∈ slab (first c.val i.val r.val) := by
  have hj : (j 0).val < 4096 := (j 0).isLt
  refine ⟨⟨(j 0).val % 256 / 128, by omega⟩, ⟨(j 0).val / 256, by omega⟩, ⟨(j 0).val % 128 / 32, by omega⟩, ?_⟩
  simp only [slab, first, Finset.mem_filter, Finset.mem_univ, true_and]
  omega

theorem slabs (ℓ : Loc nD τ sig) (S : ℕ → Finset (Idx ℓ)) (hd : ∀ a b, a + 32 ≤ b ∨ b + 32 ≤ a → Disjoint (S a) (S b))
    (hc : ∀ j, ∃ (c : Fin 2) (i : Fin 16) (r : Fin 4), j ∈ S (first c.val i.val r.val)) (f : Buf (Elt F) ℓ) :
    (ℓ ↦{fullShare} f : sProp (MM F)) = bigSep Finset.univ fun c : Fin 2 => bigSep Finset.univ fun i : Fin 16 => yGot ℓ S f c.val i.val := by
  have hu : (Finset.univ : Finset (Fin 2 × Fin 16 × Fin 4)).biUnion (fun t => S (first t.1.val t.2.1.val t.2.2.val)) = Finset.univ := by
    ext j
    simp only [Finset.mem_biUnion, Finset.mem_univ, true_and, iff_true]
    obtain ⟨c, i, r, h⟩ := hc j
    exact ⟨(c, i, r), h⟩
  rw [← hu, pointsTo_biUnion, bigSep_univ_prod]
  · refine bigSep_congr fun c _ => ?_
    rw [bigSep_univ_prod]
    rfl
  · rintro ⟨c, i, r⟩ - ⟨c', i', r'⟩ - h
    refine hd _ _ ?_
    by_contra hn
    refine h ?_
    have h1 := c.isLt; have h2 := c'.isLt; have h3 := r.isLt; have h4 := r'.isLt
    simp only [first, not_or, not_le] at hn
    have e1 : i = i' := Fin.ext (by omega)
    subst e1
    have e2 : c = c' := Fin.ext (by omega)
    subst e2
    have e3 : r = r' := Fin.ext (by omega)
    rw [e3]

theorem any_of (ℓ : Loc nD τ sig) (S : Finset (Idx ℓ)) (f : Buf (Elt F) ℓ) :
    (ℓ ↦[S]{fullShare} f) ⊢ (iprop(∃ f, ℓ ↦[S]{fullShare} f) : sProp (MM F)) := by
  iintro H
  iexists f
  iexact H

theorem got_give (ℓ : Loc nD τ sig) (S : ℕ → Finset (Idx ℓ)) (f : Buf (Elt F) ℓ) (c i : ℕ) : yGot ℓ S f c i ⊢ (yGive ℓ S c i : sProp (MM F)) := by
  unfold yGot yGive
  exact bigSep_mono fun r _ => any_of ℓ (S (first c i r.val)) f

/-- The counts buffer of call `q`, at any contents; at the counts of its slice. -/
def cAny (q : Fin 4) (d : Dev nD) : sProp (MM F) := match q with
  | 0 => iprop(∃ f, cLoc0 d ↦{fullShare} f)
  | 1 => iprop(∃ f, cLoc1 d ↦{fullShare} f)
  | 2 => iprop(∃ f, cLoc2 d ↦{fullShare} f)
  | 3 => iprop(∃ f, cLoc3 d ↦{fullShare} f)
def cGot (q : Fin 4) (d : Dev nD) : sProp (MM F) := match q with
  | 0 => cLoc0 d ↦{fullShare} hist (X m d) 0
  | 1 => cLoc1 d ↦{fullShare} hist (X m d) 1
  | 2 => cLoc2 d ↦{fullShare} hist (X m d) 2
  | 3 => cLoc3 d ↦{fullShare} hist (X m d) 3

theorem deal_of (ℓ : Loc nD τ sig) (S : ℕ → Finset (Idx ℓ)) (hd : ∀ a b, a + 32 ≤ b ∨ b + 32 ≤ a → Disjoint (S a) (S b))
    (hc : ∀ j, ∃ (c : Fin 2) (i : Fin 16) (r : Fin 4), j ∈ S (first c.val i.val r.val)) :
    (iprop(∃ f, ℓ ↦{fullShare} f) : sProp (MM F)) ⊢ bigSep Finset.univ fun c : Fin 2 => bigSep Finset.univ fun i : Fin 16 => yGive ℓ S c.val i.val := by
  iintro ⟨%f, H⟩
  have h : (ℓ ↦{fullShare} f) ⊢ (bigSep Finset.univ fun c : Fin 2 => bigSep Finset.univ fun i : Fin 16 => yGive ℓ S c.val i.val : sProp (MM F)) :=
    (Entails.of_eq (slabs ℓ S hd hc f)).trans (bigSep_mono fun c _ => bigSep_mono fun i _ => got_give ℓ S f c.val i.val)
  iapply h $$ H

theorem deal (q : Fin 4) (d : Dev nD) :
    (cAny q d : sProp (MM F)) ⊢ bigSep Finset.univ fun c : Fin 2 => bigSep Finset.univ fun i : Fin 16 => goY q d c.val i.val := by
  fin_cases q
  · exact deal_of (cLoc0 d) slab (fun _ _ => slab_disjoint) slab_cover
  · exact deal_of (cLoc1 d) slab (fun _ _ => slab_disjoint) slab_cover
  · exact deal_of (cLoc2 d) slab (fun _ _ => slab_disjoint) slab_cover
  · exact deal_of (cLoc3 d) slab (fun _ _ => slab_disjoint) slab_cover

theorem gather (q : Fin 4) (d : Dev nD) :
    (bigSep Finset.univ fun c : Fin 2 => bigSep Finset.univ fun i : Fin 16 => tdY m q d c.val i.val) ⊢ (cGot m q d : sProp (MM F)) := by
  fin_cases q
  · exact Entails.of_eq (slabs (cLoc0 d) slab (fun _ _ => slab_disjoint) slab_cover (hist (X m d) 0)).symm
  · exact Entails.of_eq (slabs (cLoc1 d) slab (fun _ _ => slab_disjoint) slab_cover (hist (X m d) 1)).symm
  · exact Entails.of_eq (slabs (cLoc2 d) slab (fun _ _ => slab_disjoint) slab_cover (hist (X m d) 2)).symm
  · exact Entails.of_eq (slabs (cLoc3 d) slab (fun _ _ => slab_disjoint) slab_cover (hist (X m d) 3)).symm

theorem nCore_eq (q : Fin 4) : (K (F := F)).nCore q = 2 := by fin_cases q <;> rfl
theorem nSub_eq (q : Fin 4) : (K (F := F)).nSub q = 16 := by fin_cases q <;> rfl

theorem over_cast {a b : ℕ} (h : a = b) (Φ : ℕ → sProp (MM F)) :
    (bigSep Finset.univ fun i : Fin a => Φ i.val) = bigSep Finset.univ fun i : Fin b => Φ i.val := by subst h; rfl

theorem over_tiles (q : Fin 4) (Φ : ℕ → ℕ → sProp (MM F)) :
    (bigSep Finset.univ fun c : Fin ((K (F := F)).nCore q) => bigSep Finset.univ fun i : Fin ((K (F := F)).nSub q) => Φ c.val i.val)
      = bigSep Finset.univ fun c : Fin 2 => bigSep Finset.univ fun i : Fin 16 => Φ c.val i.val :=
  (bigSep_congr fun c _ => over_cast (nSub_eq (F := F) q) (Φ c.val)).trans (over_cast (nCore_eq (F := F) q) fun c => bigSep Finset.univ fun i : Fin 16 => Φ c i.val)

/-- A SparseCore call from the TensorCore: the tokens stay, the counts buffer comes back with the counts of its slice. -/
theorem call_wp (κ : GSem nD τ sig → ℕ) (q : Fin 4) (d : Dev nD) (Φ : PUnit → sProp (MM F)) :
    iprop((K (F := F)).ctx EH (P m) κ (K (F := F)).lev ∗ (K (F := F)).tcSt EH d q.val ∗ (xLoc d ↦{fullShare} m (xLoc d)) ∗ cAny q d
        ∗ (((K (F := F)).tcSt EH d (q.val + 1) ∗ (xLoc d ↦{fullShare} m (xLoc d)) ∗ cGot m q d) -∗ Φ ⟨⟩))
      ⊢ wp frame (wpE ((K (F := F)).defs (D (F := F))) 𝒱 (SparseCore.T d) none) Set.univ ((K (F := F)).run d q) Φ := by
  iintro ⟨#Hctx, Hst, Hx, Hc, Hk⟩
  ihave Hx := (Transfers.pointsTo_toks_split fullShare ((K (F := F)).nCore q)) $$ Hx
  icases Hx with ⟨Hd, Hx⟩
  ihave Hc := ((deal q d).trans (Entails.of_eq (over_tiles q fun c i => goY q d c i).symm)) $$ Hc
  iapply ((K (F := F)).wp_run (D (F := F)) 𝒱 (EH := EH) (P := P m) κ d q)
  iframe Hst
  isplitr; · iexact Hctx
  isplitl [Hx Hc]
  · iapply (Entails.of_eq (bigSep_sep' _ _ _).symm)
    iframe Hx Hc
  iintro ⟨Hst, Hdn⟩
  have hdn : (bigSep Finset.univ fun c : Fin ((K (F := F)).nCore q) => (P m).dn q d c) ⊢ (iprop(
      (bigSep Finset.univ fun c : Fin ((K (F := F)).nCore q) => xLoc d ↦{coreShare c.val} m (xLoc d))
      ∗ bigSep Finset.univ fun c : Fin ((K (F := F)).nCore q) => bigSep Finset.univ fun i : Fin ((K (F := F)).nSub q) => tdY m q d c.val i.val) : sProp (MM F)) :=
    Entails.of_eq (bigSep_sep' _ _ _)
  ihave Hdn := hdn $$ Hdn
  icases Hdn with ⟨Hx, Hc⟩
  ihave Hc := ((Entails.of_eq (over_tiles q fun c i => tdY m q d c i)).trans (gather m q d)) $$ Hc
  iapply Hk
  iframe Hst Hc
  iapply (Transfers.pointsTo_toks_join fullShare ((K (F := F)).nCore q))
  iframe Hd Hx

end Cert.Proof.Hist
-- ==== Proof.Mm.lean ====
/-
  The two TensorCore bodies, each run once from its windows held outright.
-/
module

public import proofs.«01_k».proof.Proof.Calls
public import proofs.«01_k».proof.Proof.Gen.KernelIdeal.Launch
public import proofs.«01_k».proof.Proof.Gen.KernelIdeal.Points

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The table of the folded product: the padded embedding against the layer, over the sequence length. -/
def foldVal (A : Vec F S1024x128 .f32) (W : Vec F S128x128 .f32) : Vec F S1024x128 .f32 :=
  mulf (matmul dot_S1024x128_S128x128_S1024x128_1_1_0_0_n_n none (shapeCast S1024x128 A shapeCasts_S1024x128_S1024x128) W (constant S1024x128 .f32 0x00000000#32))
    (broadcast S1024x128 (Named.named κ "inv_L" 0x3BA3D70A#32))

/-- One block of the result: counts against the table, and the bias. -/
def mmVal (A : Vec F S1024x1024 .f32) (M : Vec F S1024x128 .f32) (B : Vec F S1x128 .f32) : Vec F S1024x128 .f32 :=
  addf (matmul dot_S1024x1024_S1024x128_S1024x128_1_0_0_1_n_n none
      (truncf .bf16 (shapeCast S1024x1024 A shapeCasts_S1024x1024_S1024x1024) bitsLt_bf16_f32)
      (truncf .bf16 (shapeCast S1024x128 M shapeCasts_S1024x128_S1024x128) bitsLt_bf16_f32)
      (constant S1024x128 .f32 0x00000000#32))
    (broadcastTo S1024x128 (shapeCast S1x128 B shapeCasts_S1x128_S1x128) broadcasts_S1x128_S1024x128)

theorem emb_full {a b : ℕ} (h : _) (x : Shape.Idx ⟨2, ![a, b]⟩) : (Rect.unit (s := ⟨2, ![a, b]⟩) ![0, 0] ![a, b] h).emb x = x := by
  funext k
  apply Fin.ext
  fin_cases k
  · show 0 + 1 * (x 0).val = (x 0).val
    omega
  · show 0 + 1 * (x 1).val = (x 1).val
    omega

theorem idx_full {a b : ℕ} (h : _) (x : Shape.Idx ⟨2, ![a, b]⟩) : (Rect.unit (s := ⟨2, ![a, b]⟩) ![0, 0] ![a, b] h).toLoadRect.idx x = x := by
  funext k
  apply Fin.ext
  fin_cases k
  · show 0 + 1 * (x 0).val = (x 0).val
    omega
  · show 0 + 1 * (x 1).val = (x 1).val
    omega

theorem mem_full {a b : ℕ} (h : _) (x : Shape.Idx ⟨2, ![a, b]⟩) : x ∈ (Rect.unit (s := ⟨2, ![a, b]⟩) ![0, 0] ![a, b] h).set := by
  rw [← Rect.map_emb_univ]
  have := Finset.mem_map_of_mem (Rect.unit (s := ⟨2, ![a, b]⟩) ![0, 0] ![a, b] h).emb (Finset.mem_univ x)
  rwa [emb_full h x] at this

section Bodies

variable (d : Dev nD) {Q : PUnit → sProp (MM F)}

abbrev tc : Thread nD τ := SparseCore.T d

/-- The folding call's body. -/
theorem fold_wp (a0 : Memref sig .tc .vmem S1024x128 .f32) (h0 : a0.IsWhole) (a1 : Memref sig .tc .vmem S128x128 .f32) (h1 : a1.IsWhole)
    (a2 : Memref sig .tc .vmem S1024x128 .f32) (h2 : a2.IsWhole) (A : Vec F S1024x128 .f32) (W : Vec F S128x128 .f32) (O : Vec F S1024x128 .f32) :
    iprop(holds (tc d) a0 A ∗ holds (tc d) a1 W ∗ holds (tc d) a2 O ∗ ((holds (tc d) a0 A ∗ holds (tc d) a1 W ∗ holds (tc d) a2 (foldVal A W)) -∗ Q ⟨⟩))
      ⊢ wp frame (wpE (defs₀ (F := F)) 𝒱₀ (tc d) none) Set.univ (cc0__m2_body a0 h0 a1 h1 a2 h2) Q := by
  unfold cc0__m2_body
  simp only [Prog.lift, Prog.bind_op, Prog.bind_ret, Prog.pure_eq_ret]
  iintro ⟨H0, H1, H2, Hk⟩
  iapply (holds_load (tc d) a0 A) $$ H0
  iintro H0
  iapply (holds_load (tc d) a1 W) $$ H1
  iintro H1
  iapply (holds_load (tc d) a2 O) $$ H2
  iintro H2
  iapply (holds_store (tc d) a2 O (foldVal A W) _ _ _ _ _ ?hin ?hout) $$ H2
  case hin =>
    intro x
    rw [emb_full]
    simp only [idx_full]
    rfl
  case hout =>
    intro y hy
    exact absurd (mem_full _ y) hy
  iintro H2
  rw [wp_ret]
  imodintro
  iapply Hk
  iframe H0 H1 H2

/-- The multiplying calls' body. -/
theorem mm_wp (i : grid2.Coords) (a1 : Memref sig .tc .vmem S1024x1024 .f32) (h1 : a1.IsWhole) (a2 : Memref sig .tc .vmem S1024x128 .f32) (h2 : a2.IsWhole)
    (a3 : Memref sig .tc .vmem S1x128 .f32) (h3 : a3.IsWhole) (a4 : Memref sig .tc .vmem S1024x128 .f32) (h4 : a4.IsWhole)
    (a5 : Memref sig .tc .vmem S1024x128 .f32) (h5 : a5.IsWhole)
    (A : Vec F S1024x1024 .f32) (M : Vec F S1024x128 .f32) (B : Vec F S1x128 .f32) (O : Vec F S1024x128 .f32) :
    iprop(holds (tc d) a1 A ∗ holds (tc d) a2 M ∗ holds (tc d) a3 B ∗ holds (tc d) a5 O
        ∗ ((holds (tc d) a1 A ∗ holds (tc d) a2 M ∗ holds (tc d) a3 B ∗ holds (tc d) a5 (mmVal A M B)) -∗ Q ⟨⟩))
      ⊢ wp frame (wpE (defs₀ (F := F)) 𝒱₀ (tc d) none) Set.univ (cc2__mm_body i a1 h1 a2 h2 a3 h3 a4 h4 a5 h5) Q := by
  unfold cc2__mm_body
  simp only [Prog.lift, Prog.bind_op, Prog.bind_ret, Prog.pure_eq_ret]
  iintro ⟨H1, H2, H3, H5, Hk⟩
  iapply (holds_load (tc d) a1 A) $$ H1
  iintro H1
  iapply (holds_load (tc d) a2 M) $$ H2
  iintro H2
  iapply (holds_load (tc d) a3 B) $$ H3
  iintro H3
  iapply (holds_load (tc d) a5 O) $$ H5
  iintro H5
  iapply (holds_store (tc d) a5 O (mmVal A M B) _ _ _ _ _ ?hin ?hout) $$ H5
  case hin =>
    intro x
    rw [emb_full]
    simp only [idx_full]
    rfl
  case hout =>
    intro y hy
    exact absurd (mem_full _ y) hy
  iintro H5
  rw [wp_ret]
  imodintro
  iapply Hk
  iframe H1 H2 H3 H5

theorem mm4 (i : grid4.Coords) (a1 : Memref sig .tc .vmem S1024x1024 .f32) (h1 : a1.IsWhole) (a2 : Memref sig .tc .vmem S1024x128 .f32) (h2 : a2.IsWhole)
    (a3 : Memref sig .tc .vmem S1x128 .f32) (h3 : a3.IsWhole) (a4 : Memref sig .tc .vmem S1024x128 .f32) (h4 : a4.IsWhole)
    (a5 : Memref sig .tc .vmem S1024x128 .f32) (h5 : a5.IsWhole) :
    cc4__mm_body (F := F) i a1 h1 a2 h2 a3 h3 a4 h4 a5 h5 = cc2__mm_body i a1 h1 a2 h2 a3 h3 a4 h4 a5 h5 := rfl

theorem mm6 (i : grid6.Coords) (a1 : Memref sig .tc .vmem S1024x1024 .f32) (h1 : a1.IsWhole) (a2 : Memref sig .tc .vmem S1024x128 .f32) (h2 : a2.IsWhole)
    (a3 : Memref sig .tc .vmem S1x128 .f32) (h3 : a3.IsWhole) (a4 : Memref sig .tc .vmem S1024x128 .f32) (h4 : a4.IsWhole)
    (a5 : Memref sig .tc .vmem S1024x128 .f32) (h5 : a5.IsWhole) :
    cc6__mm_body (F := F) i a1 h1 a2 h2 a3 h3 a4 h4 a5 h5 = cc2__mm_body i a1 h1 a2 h2 a3 h3 a4 h4 a5 h5 := rfl

theorem mm8 (i : grid8.Coords) (a1 : Memref sig .tc .vmem S1024x1024 .f32) (h1 : a1.IsWhole) (a2 : Memref sig .tc .vmem S1024x128 .f32) (h2 : a2.IsWhole)
    (a3 : Memref sig .tc .vmem S1x128 .f32) (h3 : a3.IsWhole) (a4 : Memref sig .tc .vmem S1024x128 .f32) (h4 : a4.IsWhole)
    (a5 : Memref sig .tc .vmem S1024x128 .f32) (h5 : a5.IsWhole) :
    cc8__mm_body (F := F) i a1 h1 a2 h2 a3 h3 a4 h4 a5 h5 = cc2__mm_body i a1 h1 a2 h2 a3 h3 a4 h4 a5 h5 := rfl

end Bodies

end Cert.Proof.Hist
-- ==== Proof.Regions.lean ====
/-
  The five TensorCore calls: what each one's windows hold, point by point, and its region over the thread's state.
-/
module

public import proofs.«01_k».proof.Proof.Mm
public import Idealize.ShloMosaic.Lib.Pipeline.RegionsLoop

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The contents of a TensorCore's buffers. -/
abbrev Vals (F : FTy → Type) : Type := Valuation τ sig (Elt F)

/-- A buffer's contents, by its TensorCore name. -/
abbrev Vals.at (W : Vals F) (b : Ref sig .tc) : b.ty.Contents (Elt F) := W (Proc.devRef (sig := sig) (.tc : Proc τ) b)

/-- What the core may have recorded as waited for before SparseCore call `n`. -/
abbrev recd (d : Dev nD) (n : ℕ) : Set (SemLoc sig × HIx 4) := {p | (K (F := F)).lev (SparseCore.T d, p.1) p.2 ≤ 8 * (inferInstance : SparseCore.Cfg.Blocks 4 4).fst n}

variable (W : Vals F)

section Dats
variable (d : Dev nD)

def dat0 : Dat τ (Elt F) (HIx 4) ℕ UU ℕ cfg0 d where
  A w := W.at (Pipeline.arrRef spec0 w)
  after w t := match w with
    | ⟨0, _⟩ => ((cfg0.win 0).blk t).view.read (Elt F) (W.at main_v0)
    | ⟨1, _⟩ => ((cfg0.win 1).blk t).view.read (Elt F) (W.at main_arg2)
    | ⟨2, _⟩ => foldVal (((cfg0.win 0).blk t).view.read (Elt F) (W.at main_v0)) (((cfg0.win 1).blk t).view.read (Elt F) (W.at main_arg2))
  Φ _ := Pipeline.scopedRest spec0 d
  q _ := fullShare
  owed _ := (K (F := F)).Otc d 0
  recorded _ := recd (F := F) d 0

def dat2 : Dat τ (Elt F) (HIx 4) ℕ UU ℕ cfg2 d where
  A w := W.at (Pipeline.arrRef spec2 w)
  after w t := match w with
    | ⟨0, _⟩ => ((cfg2.win 0).blk t).view.read (Elt F) (W.at main_v4)
    | ⟨1, _⟩ => ((cfg2.win 1).blk t).view.read (Elt F) (W.at main_v1)
    | ⟨2, _⟩ => ((cfg2.win 2).blk t).view.read (Elt F) (W.at main_v2)
    | ⟨3, _⟩ => ((cfg2.win 3).blk t).view.read (Elt F) (W.at main_v3)
    | ⟨4, _⟩ => mmVal (((cfg2.win 0).blk t).view.read (Elt F) (W.at main_v4)) (((cfg2.win 1).blk t).view.read (Elt F) (W.at main_v1))
        (((cfg2.win 2).blk t).view.read (Elt F) (W.at main_v2))
  Φ _ := Pipeline.scopedRest spec2 d
  q _ := fullShare
  owed _ := (K (F := F)).Otc d 1
  recorded _ := recd (F := F) d 1

def dat4 : Dat τ (Elt F) (HIx 4) ℕ UU ℕ cfg4 d where
  A w := W.at (Pipeline.arrRef spec4 w)
  after w t := match w with
    | ⟨0, _⟩ => ((cfg4.win 0).blk t).view.read (Elt F) (W.at main_v6)
    | ⟨1, _⟩ => ((cfg4.win 1).blk t).view.read (Elt F) (W.at main_v1)
    | ⟨2, _⟩ => ((cfg4.win 2).blk t).view.read (Elt F) (W.at main_v2)
    | ⟨3, _⟩ => ((cfg4.win 3).blk t).view.read (Elt F) (W.at main_v5)
    | ⟨4, _⟩ => mmVal (((cfg4.win 0).blk t).view.read (Elt F) (W.at main_v6)) (((cfg4.win 1).blk t).view.read (Elt F) (W.at main_v1))
        (((cfg4.win 2).blk t).view.read (Elt F) (W.at main_v2))
  Φ _ := Pipeline.scopedRest spec4 d
  q _ := fullShare
  owed _ := (K (F := F)).Otc d 2
  recorded _ := recd (F := F) d 2

def dat6 : Dat τ (Elt F) (HIx 4) ℕ UU ℕ cfg6 d where
  A w := W.at (Pipeline.arrRef spec6 w)
  after w t := match w with
    | ⟨0, _⟩ => ((cfg6.win 0).blk t).view.read (Elt F) (W.at main_v8)
    | ⟨1, _⟩ => ((cfg6.win 1).blk t).view.read (Elt F) (W.at main_v1)
    | ⟨2, _⟩ => ((cfg6.win 2).blk t).view.read (Elt F) (W.at main_v2)
    | ⟨3, _⟩ => ((cfg6.win 3).blk t).view.read (Elt F) (W.at main_v7)
    | ⟨4, _⟩ => mmVal (((cfg6.win 0).blk t).view.read (Elt F) (W.at main_v8)) (((cfg6.win 1).blk t).view.read (Elt F) (W.at main_v1))
        (((cfg6.win 2).blk t).view.read (Elt F) (W.at main_v2))
  Φ _ := Pipeline.scopedRest spec6 d
  q _ := fullShare
  owed _ := (K (F := F)).Otc d 3
  recorded _ := recd (F := F) d 3

def dat8 : Dat τ (Elt F) (HIx 4) ℕ UU ℕ cfg8 d where
  A w := W.at (Pipeline.arrRef spec8 w)
  after w t := match w with
    | ⟨0, _⟩ => ((cfg8.win 0).blk t).view.read (Elt F) (W.at main_v10)
    | ⟨1, _⟩ => ((cfg8.win 1).blk t).view.read (Elt F) (W.at main_v1)
    | ⟨2, _⟩ => ((cfg8.win 2).blk t).view.read (Elt F) (W.at main_v2)
    | ⟨3, _⟩ => ((cfg8.win 3).blk t).view.read (Elt F) (W.at main_v9)
    | ⟨4, _⟩ => mmVal (((cfg8.win 0).blk t).view.read (Elt F) (W.at main_v10)) (((cfg8.win 1).blk t).view.read (Elt F) (W.at main_v1))
        (((cfg8.win 2).blk t).view.read (Elt F) (W.at main_v2))
  Φ _ := Pipeline.scopedRest spec8 d
  q _ := fullShare
  owed _ := (K (F := F)).Otc d 4
  recorded _ := recd (F := F) d 4

end Dats

/-- A staging buffer as the pipeline holds it is the memref held. -/
theorem owns_holds (d : Dev nD) {s : Shape} {e : EltTy} (m : Memref sig .tc .vmem s e) (A : Vec F s e) :
    (owns (SparseCore.T d) m fullShare A : sProp (MM F)) = holds (tc d) m A := rfl

theorem body0 (d : Dev nD) : BodyObligation (dat0 W d) (defs₀ (F := F)) 𝒱₀ none Set.univ := fun t => by
  have hb0 : ∀ x, (dat0 W d).before 0 t x = (dat0 W d).after 0 t := fun x =>
    (dat0 W d).before_in_eq_fetched 0 rfl (fun _ => rfl) (fun _ _ _ => rfl) (fun _ => rfl) t x
  have hb1 : ∀ x, (dat0 W d).before 1 t x = (dat0 W d).after 1 t := fun x =>
    (dat0 W d).before_in_eq_fetched 1 rfl (fun _ => rfl) (fun _ _ _ => rfl) (fun _ => rfl) t x
  have hb2 : (dat0 W d).after 2 t = foldVal ((dat0 W d).after 0 t) ((dat0 W d).after 1 t) := rfl
  rw [bigSep_W0, bigSep_W0]
  rw [show (dat0 W d).Φ t.succ = (dat0 W d).Φ t.castSucc from rfl,
    show (dat0 W d).owesAt none t.succ = (dat0 W d).owesAt none t.castSucc from rfl]
  dsimp only
  simp only [owns_holds]
  iintro ⟨HΦ, Howes, ⟨%d0, H0⟩, ⟨%d1, H1⟩, ⟨%d2, H2⟩⟩
  rw [hb0, hb1, hb2]
  iapply (fold_wp d _ (hstage0_0 0) _ (hstage0_1 0) _ (hstage0_2 0) ((dat0 W d).after 0 t) ((dat0 W d).after 1 t) ((dat0 W d).before 2 t d2))
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

theorem body2 (d : Dev nD) : BodyObligation (dat2 W d) (defs₀ (F := F)) 𝒱₀ none Set.univ := fun t => by
  have hb0 : ∀ x, (dat2 W d).before 0 t x = (dat2 W d).after 0 t := fun x =>
    (dat2 W d).before_in_eq_fetched 0 rfl (fun _ => rfl) (fun _ _ _ => rfl) (fun _ => rfl) t x
  have hb1 : ∀ x, (dat2 W d).before 1 t x = (dat2 W d).after 1 t := fun x =>
    (dat2 W d).before_in_eq_fetched 1 rfl (fun _ => rfl) (fun _ _ _ => rfl) (fun _ => rfl) t x
  have hb2 : ∀ x, (dat2 W d).before 2 t x = (dat2 W d).after 2 t := fun x =>
    (dat2 W d).before_in_eq_fetched 2 rfl (fun _ => rfl) (fun _ _ _ => rfl) (fun _ => rfl) t x
  have hb3 : ∀ x, (dat2 W d).before 3 t x = (dat2 W d).after 3 t := fun x =>
    (dat2 W d).before_in_eq_fetched 3 rfl (fun _ => rfl) (fun _ _ _ => rfl) (fun _ => rfl) t x
  have hb4 : (dat2 W d).after 4 t = mmVal ((dat2 W d).after 0 t) ((dat2 W d).after 1 t) ((dat2 W d).after 2 t) := rfl
  rw [bigSep_W2, bigSep_W2]
  rw [show (dat2 W d).Φ t.succ = (dat2 W d).Φ t.castSucc from rfl,
    show (dat2 W d).owesAt none t.succ = (dat2 W d).owesAt none t.castSucc from rfl]
  dsimp only
  simp only [owns_holds]
  iintro ⟨HΦ, Howes, ⟨%d0, H0⟩, ⟨%d1, H1⟩, ⟨%d2, H2⟩, ⟨%d3, H3⟩, ⟨%d4, H4⟩⟩
  rw [hb0, hb1, hb2, hb3, hb4]
  iapply (mm_wp d (grid2.coords t) (st2_0 t) (hstage2_0 ((cfg2.slots t 0).cast nbuf2_0)) (st2_1 t) (hstage2_1 ((cfg2.slots t 1).cast nbuf2_1))
    (st2_2 t) (hstage2_2 ((cfg2.slots t 2).cast nbuf2_2)) (st2_3 t) (hstage2_3 ((cfg2.slots t 3).cast nbuf2_3))
    (st2_4 t) (hstage2_4 ((cfg2.slots t 4).cast nbuf2_4))
    ((dat2 W d).after 0 t) ((dat2 W d).after 1 t) ((dat2 W d).after 2 t) ((dat2 W d).before 4 t d4))
  iframe H0 H1 H2 H4
  iintro ⟨H0, H1, H2, H4⟩
  iframe HΦ Howes H0 H1 H2 H3
  iexact H4

theorem body4 (d : Dev nD) : BodyObligation (dat4 W d) (defs₀ (F := F)) 𝒱₀ none Set.univ := fun t => by
  have hb0 : ∀ x, (dat4 W d).before 0 t x = (dat4 W d).after 0 t := fun x =>
    (dat4 W d).before_in_eq_fetched 0 rfl (fun _ => rfl) (fun _ _ _ => rfl) (fun _ => rfl) t x
  have hb1 : ∀ x, (dat4 W d).before 1 t x = (dat4 W d).after 1 t := fun x =>
    (dat4 W d).before_in_eq_fetched 1 rfl (fun _ => rfl) (fun _ _ _ => rfl) (fun _ => rfl) t x
  have hb2 : ∀ x, (dat4 W d).before 2 t x = (dat4 W d).after 2 t := fun x =>
    (dat4 W d).before_in_eq_fetched 2 rfl (fun _ => rfl) (fun _ _ _ => rfl) (fun _ => rfl) t x
  have hb3 : ∀ x, (dat4 W d).before 3 t x = (dat4 W d).after 3 t := fun x =>
    (dat4 W d).before_in_eq_fetched 3 rfl (fun _ => rfl) (fun _ _ _ => rfl) (fun _ => rfl) t x
  have hb4 : (dat4 W d).after 4 t = mmVal ((dat4 W d).after 0 t) ((dat4 W d).after 1 t) ((dat4 W d).after 2 t) := rfl
  rw [bigSep_W4, bigSep_W4]
  rw [show (dat4 W d).Φ t.succ = (dat4 W d).Φ t.castSucc from rfl,
    show (dat4 W d).owesAt none t.succ = (dat4 W d).owesAt none t.castSucc from rfl]
  dsimp only
  simp only [owns_holds]
  iintro ⟨HΦ, Howes, ⟨%d0, H0⟩, ⟨%d1, H1⟩, ⟨%d2, H2⟩, ⟨%d3, H3⟩, ⟨%d4, H4⟩⟩
  rw [hb0, hb1, hb2, hb3, hb4]
  iapply (mm_wp d (grid4.coords t) (st4_0 t) (hstage4_0 ((cfg4.slots t 0).cast nbuf4_0)) (st4_1 t) (hstage4_1 ((cfg4.slots t 1).cast nbuf4_1))
    (st4_2 t) (hstage4_2 ((cfg4.slots t 2).cast nbuf4_2)) (st4_3 t) (hstage4_3 ((cfg4.slots t 3).cast nbuf4_3))
    (st4_4 t) (hstage4_4 ((cfg4.slots t 4).cast nbuf4_4))
    ((dat4 W d).after 0 t) ((dat4 W d).after 1 t) ((dat4 W d).after 2 t) ((dat4 W d).before 4 t d4))
  iframe H0 H1 H2 H4
  iintro ⟨H0, H1, H2, H4⟩
  iframe HΦ Howes H0 H1 H2 H3
  iexact H4

theorem body6 (d : Dev nD) : BodyObligation (dat6 W d) (defs₀ (F := F)) 𝒱₀ none Set.univ := fun t => by
  have hb0 : ∀ x, (dat6 W d).before 0 t x = (dat6 W d).after 0 t := fun x =>
    (dat6 W d).before_in_eq_fetched 0 rfl (fun _ => rfl) (fun _ _ _ => rfl) (fun _ => rfl) t x
  have hb1 : ∀ x, (dat6 W d).before 1 t x = (dat6 W d).after 1 t := fun x =>
    (dat6 W d).before_in_eq_fetched 1 rfl (fun _ => rfl) (fun _ _ _ => rfl) (fun _ => rfl) t x
  have hb2 : ∀ x, (dat6 W d).before 2 t x = (dat6 W d).after 2 t := fun x =>
    (dat6 W d).before_in_eq_fetched 2 rfl (fun _ => rfl) (fun _ _ _ => rfl) (fun _ => rfl) t x
  have hb3 : ∀ x, (dat6 W d).before 3 t x = (dat6 W d).after 3 t := fun x =>
    (dat6 W d).before_in_eq_fetched 3 rfl (fun _ => rfl) (fun _ _ _ => rfl) (fun _ => rfl) t x
  have hb4 : (dat6 W d).after 4 t = mmVal ((dat6 W d).after 0 t) ((dat6 W d).after 1 t) ((dat6 W d).after 2 t) := rfl
  rw [bigSep_W6, bigSep_W6]
  rw [show (dat6 W d).Φ t.succ = (dat6 W d).Φ t.castSucc from rfl,
    show (dat6 W d).owesAt none t.succ = (dat6 W d).owesAt none t.castSucc from rfl]
  dsimp only
  simp only [owns_holds]
  iintro ⟨HΦ, Howes, ⟨%d0, H0⟩, ⟨%d1, H1⟩, ⟨%d2, H2⟩, ⟨%d3, H3⟩, ⟨%d4, H4⟩⟩
  rw [hb0, hb1, hb2, hb3, hb4]
  iapply (mm_wp d (grid6.coords t) (st6_0 t) (hstage6_0 ((cfg6.slots t 0).cast nbuf6_0)) (st6_1 t) (hstage6_1 ((cfg6.slots t 1).cast nbuf6_1))
    (st6_2 t) (hstage6_2 ((cfg6.slots t 2).cast nbuf6_2)) (st6_3 t) (hstage6_3 ((cfg6.slots t 3).cast nbuf6_3))
    (st6_4 t) (hstage6_4 ((cfg6.slots t 4).cast nbuf6_4))
    ((dat6 W d).after 0 t) ((dat6 W d).after 1 t) ((dat6 W d).after 2 t) ((dat6 W d).before 4 t d4))
  iframe H0 H1 H2 H4
  iintro ⟨H0, H1, H2, H4⟩
  iframe HΦ Howes H0 H1 H2 H3
  iexact H4

theorem body8 (d : Dev nD) : BodyObligation (dat8 W d) (defs₀ (F := F)) 𝒱₀ none Set.univ := fun t => by
  have hb0 : ∀ x, (dat8 W d).before 0 t x = (dat8 W d).after 0 t := fun x =>
    (dat8 W d).before_in_eq_fetched 0 rfl (fun _ => rfl) (fun _ _ _ => rfl) (fun _ => rfl) t x
  have hb1 : ∀ x, (dat8 W d).before 1 t x = (dat8 W d).after 1 t := fun x =>
    (dat8 W d).before_in_eq_fetched 1 rfl (fun _ => rfl) (fun _ _ _ => rfl) (fun _ => rfl) t x
  have hb2 : ∀ x, (dat8 W d).before 2 t x = (dat8 W d).after 2 t := fun x =>
    (dat8 W d).before_in_eq_fetched 2 rfl (fun _ => rfl) (fun _ _ _ => rfl) (fun _ => rfl) t x
  have hb3 : ∀ x, (dat8 W d).before 3 t x = (dat8 W d).after 3 t := fun x =>
    (dat8 W d).before_in_eq_fetched 3 rfl (fun _ => rfl) (fun _ _ _ => rfl) (fun _ => rfl) t x
  have hb4 : (dat8 W d).after 4 t = mmVal ((dat8 W d).after 0 t) ((dat8 W d).after 1 t) ((dat8 W d).after 2 t) := rfl
  rw [bigSep_W8, bigSep_W8]
  rw [show (dat8 W d).Φ t.succ = (dat8 W d).Φ t.castSucc from rfl,
    show (dat8 W d).owesAt none t.succ = (dat8 W d).owesAt none t.castSucc from rfl]
  dsimp only
  simp only [owns_holds]
  iintro ⟨HΦ, Howes, ⟨%d0, H0⟩, ⟨%d1, H1⟩, ⟨%d2, H2⟩, ⟨%d3, H3⟩, ⟨%d4, H4⟩⟩
  rw [hb0, hb1, hb2, hb3, hb4]
  iapply (mm_wp d (grid8.coords t) (st8_0 t) (hstage8_0 ((cfg8.slots t 0).cast nbuf8_0)) (st8_1 t) (hstage8_1 ((cfg8.slots t 1).cast nbuf8_1))
    (st8_2 t) (hstage8_2 ((cfg8.slots t 2).cast nbuf8_2)) (st8_3 t) (hstage8_3 ((cfg8.slots t 3).cast nbuf8_3))
    (st8_4 t) (hstage8_4 ((cfg8.slots t 4).cast nbuf8_4))
    ((dat8 W d).after 0 t) ((dat8 W d).after 1 t) ((dat8 W d).after 2 t) ((dat8 W d).before 4 t d4))
  iframe H0 H1 H2 H4
  iintro ⟨H0, H1, H2, H4⟩
  iframe HΦ Howes H0 H1 H2 H3
  iexact H4

/-- No table is prefetched: the one admissible contents. -/
abbrev adm : (p : Fin 5) → (pcfgs (F := F) p).Adm := fun p => (cfgs p).toPCfg_adm

def pdats : (p : Fin 5) → (d : Dev nD) → Dat τ (Elt F) (HIx 4) ℕ UU ℕ (Pipeline.pin (pcfgs (F := F)) adm p) d
  | ⟨0, _⟩ => dat0 W
  | ⟨1, _⟩ => dat2 W
  | ⟨2, _⟩ => dat4 W
  | ⟨3, _⟩ => dat6 W
  | ⟨4, _⟩ => dat8 W

/-- The core's unscoped buffers at a valuation. -/
abbrev bufs (d : Dev nD) (W : Vals F) : sProp (MM F) := unscopedBufs d fun b => W.at b

/-- What the core owes before SparseCore call `n`. -/
abbrev dues (d : Dev nD) (n : ℕ) : sProp (MM F) :=
  iprop(∃ S, ⌜(K (F := F)).WBelow (SparseCore.T d) S (8 * (inferInstance : SparseCore.Cfg.Blocks 4 4).fst n)⌝ ∗ owes (SparseCore.T d) ((K (F := F)).Otc d n) S)

theorem Otc_none (d : Dev nD) (n : ℕ) (g : GSem nD τ sig) : (K (F := F)).Otc (N := 4) d n g none = 0 := by
  by_contra h
  have := SparseCore.Cfg.lev_of_Otc_pos (K := K (F := F)) (Nat.pos_of_ne_zero h)
  rw [SparseCore.Cfg.lev_none] at this
  omega

-- the launch lemmas are stated over the pinned configurations, which unification has to unfold
set_option backward.isDefEq.respectTransparency.types false in
/-- A TensorCore call's region, from one valuation of the core's buffers to another. -/
def reg (W' : Vals F) (p : Fin 5) (n : ℕ) (hl : Pipeline.LaunchFacts (nD := nD) (τ := τ) cfgs p)
    (hbody : ∀ d, BodyObligation (pdats W p d) (defs₀ (F := F)) 𝒱₀ none Set.univ)
    (hΦ : ∀ d t, (pdats W p d).Φ t = Pipeline.scopedRest (pcfgs (F := F) p).spec d)
    (hq : ∀ d w, (pdats W p d).q w = fullShare) (ho : ∀ d t, (pdats W p d).owed t = (K (F := F)).Otc d n)
    (hr : ∀ d t, (pdats W p d).recorded t = recd (F := F) d n)
    (hA : ∀ d w, (pdats W p d).A w = W.at (Pipeline.arrRef (Pipeline.pin (pcfgs (F := F)) adm p).spec w))
    (hin : ∀ d w, (pdats W p d).arrAt w (cfgs p).N = W'.at (Pipeline.arrRef (Pipeline.pin (pcfgs (F := F)) adm p).spec w))
    (hoff : ∀ b : Ref sig .tc, b ∉ Finset.univ.image (Pipeline.arrRef (Pipeline.pin (pcfgs (F := F)) adm p).spec) → W'.at b = W.at b) :
    Pipeline.RegionSeg (pcfgs (F := F)) adm (pdats W) none defs₀ 𝒱₀ (K (F := F)).L (K (F := F)).lev p where
  win := hl.win.to₀
  block_pos := hl.block_pos
  stage_whole := hl.stage_whole
  K := PEmpty
  osem k := k.elim
  ho := Pipeline.OwnSemFacts.none _
  hbody d := (hbody d).loose
  hwaits d := Pipeline.cellsWaits_intro _ (pdats W) none p d fun w s t => by
    rw [ho]
    exact (K (F := F)).mayWait_none _ (Otc_none d n)
  pre d := iprop(bufs d W ∗ dues d n)
  post d := iprop(bufs d W' ∗ dues d n)
  X _ := BI.emp
  Y _ := BI.emp
  Z d := Pipeline.unscopedRest (Ix := HIx 4) (Name := ℕ) (U := UU) (Lvl := ℕ) (pcfgs (F := F) p).spec d fun b => W.at b
  hentry d := by
    rw [Pipeline.ownSems0_none]
    have hsplit := Pipeline.arrays_of_unscopedBufs (p := p) (pcfgs (F := F)) adm (pdats W) hl.win hl.arr_whole d
      ((pdats W p d).share_full (hq d)) (fun b => W.at b) (hA d)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%S, %hS, HO⟩
      iexists S
      isplitr
      · ipureintro
        intro x hx
        refine Or.inl ?_
        rw [hr]
        exact hS x hx
      · iexact HO
    isplitr; · iempintro
    iexact Hrest
  hin d := by
    rw [hΦ]
    iintro ⟨-, -, Hr⟩; iexact Hr
  hout d := by
    rw [Pipeline.ownSems0_none, hΦ]
    iintro Hr
    isplitr; · iempintro
    isplitr; · iempintro
    iexact Hr
  hexit d := by
    have hjoin := Pipeline.unscopedBufs_of_arrays (p := p) (pcfgs (F := F)) adm (Ix := HIx 4) (Name := ℕ) (U := UU) (Lvl := ℕ) hl.win hl.arr_whole d
      (pdats W) ((pdats W p d).share_full (hq d)) (fun b => W.at b) (fun b => W'.at b) ((pdats W p d).arrAt · (cfgs p).N) (hin d) hoff
    iintro ⟨Ha, HO, -, Hrest⟩
    imodintro
    isplitl [Ha Hrest]
    · iapply hjoin; isplitl [Ha] <;> iassumption
    unfold Pipeline.Dat.owesAt Pipeline.owesWithin
    rw [ho]
    icases HO with ⟨%S, %hS, HO⟩
    iexists S
    isplitr
    · ipureintro
      intro x hx
      rcases hS hx with h | ⟨w, s, h⟩
      · rw [hr] at h
        exact h
      · rw [h]
        exact Nat.zero_le _
    · iexact HO

end Cert.Proof.Hist
-- ==== Proof.Outs.lean ====
/-
  What the five TensorCore calls leave in their results.
-/
module

public import proofs.«01_k».proof.Proof.Regions
public import Idealize.ShloMosaic.Lib.Pipeline.ValueKit

@[expose] public section

noncomputable section

namespace Cert.Proof.Hist

open Cert.KernelIdeal Cert.KernelIdeal.Gen

open Idealize.ShloMosaic
open Idealize.ShloMosaic.Pipeline (Dat Cfg Window BodyObligation cellOf)

variable {F : FTy → Type} [FloatOps F] [Named F]
variable (W : Vals F) (d : Dev nD)

/-- The `r`-th block of rows of a slice's counts. -/
def blkOf (C : Vec F S4096x1024 .f32) (r : ℕ) (hr : r < 4) : Vec F S1024x1024 .f32 :=
  fun x => C (ix2 ⟨1024 * r + (x 0).val, by have := (x 0).isLt; change (x 0).val < 1024 at this; show _ < 4096; omega⟩ (x 1))

/-- A result row's place in its block. -/
def inBlk (j : S16384x128.Idx) : S1024x128.Idx := ix2 (⟨(j 0).val % 1024, Nat.mod_lt _ (by decide)⟩ : Fin 1024) (j 1 : Fin 128)

/-- A slice of the result, over the rows of all of it. -/
def mmOut (C : Vec F S4096x1024 .f32) (M : Vec F S1024x128 .f32) (B : Vec F S1x128 .f32) : Vec F S16384x128 .f32 :=
  fun j => mmVal (blkOf C ((j 0).val / 1024 % 4) (Nat.mod_lt _ (by decide))) M B (inBlk j)

/-- The rows of slice `q`. -/
abbrev inSlice (q : ℕ) (j : S16384x128.Idx) : Prop := 4 * q ≤ (j 0).val / 1024 ∧ (j 0).val / 1024 < 4 * q + 4

theorem mmOut_at (C : Vec F S4096x1024 .f32) (M : Vec F S1024x128 .f32) (B : Vec F S1x128 .f32) (q t : ℕ) (ht : t < 4) {A' : Vec F S1024x1024 .f32}
    {M' : Vec F S1024x128 .f32} {B' : Vec F S1x128 .f32} (hA : A' = blkOf C t ht) (hM : M' = M) (hB : B' = B) (j : S16384x128.Idx) (y : S1024x128.Idx)
    (h0 : (j 0).val = (4 * q + t) * 1024 + (y 0).val) (h1 : (j 1).val = (y 1).val) : mmVal A' M' B' y = mmOut C M B j := by
  have hy : (y 0).val < 1024 := (y 0).isLt
  have hr : (j 0).val / 1024 % 4 = t := by omega
  have hc : inBlk j = y := by
    funext k
    fin_cases k
    · apply Fin.ext
      show (j 0).val % 1024 = (y 0).val
      omega
    · exact Fin.ext h1
  unfold mmOut
  rw [hc, hA, hM, hB]
  congr 2
  simp only [hr]

/-- An array read under a block's indices, at the places those name. -/
theorem read_at {a b a' b' : ℕ} {e : EltTy} (C : Vec F ⟨2, ![a, b]⟩ e) (g : Shape.Idx ⟨2, ![a', b']⟩ → Shape.Idx ⟨2, ![a, b]⟩)
    (f : Shape.Idx ⟨2, ![a', b']⟩ → Shape.Idx ⟨2, ![a, b]⟩) (h0 : ∀ x, (g x 0).val = (f x 0).val) (h1 : ∀ x, (g x 1).val = (f x 1).val) :
    (fun x => C (g x)) = fun x => C (f x) := by
  funext x
  congr 1
  funext k
  fin_cases k
  · exact Fin.ext (h0 x)
  · exact Fin.ext (h1 x)

theorem out0 : (dat0 W d).arrAt 2 cfg0.N = foldVal (W.at main_v0) (W.at main_arg2) := by
  refine (dat0 W d).arrAt_eq_of_covers 2 _ (by decide +kernel) fun t hf y => ?_
  blk_simp
  obtain rfl := fin_N0 t
  have e0 : ((win0_0.blk t0_0).view.read (Elt F) (W.at main_v0)) = W.at main_v0 :=
    read_at (W.at main_v0) (fun x => (win0_0.blk t0_0).view.emb x) id
      (fun x => (Window.rect_emb_val_off win0_0 t0_0 x 0).trans (Nat.zero_add _)) (fun x => (Window.rect_emb_val_off win0_0 t0_0 x 1).trans (Nat.zero_add _))
  have e1 : ((win0_1.blk t0_0).view.read (Elt F) (W.at main_arg2)) = W.at main_arg2 :=
    read_at (W.at main_arg2) (fun x => (win0_1.blk t0_0).view.emb x) id
      (fun x => (Window.rect_emb_val_off win0_1 t0_0 x 0).trans (Nat.zero_add _)) (fun x => (Window.rect_emb_val_off win0_1 t0_0 x 1).trans (Nat.zero_add _))
  have e2 : (win0_2.blk t0_0).view.emb y = y := by
    funext k
    fin_cases k
    · exact Fin.ext ((Window.rect_emb_val_off win0_2 t0_0 y 0).trans (Nat.zero_add _))
    · exact Fin.ext ((Window.rect_emb_val_off win0_2 t0_0 y 1).trans (Nat.zero_add _))
  rw [e2]
  show foldVal ((win0_0.blk t0_0).view.read (Elt F) (W.at main_v0)) ((win0_1.blk t0_0).view.read (Elt F) (W.at main_arg2)) y = _
  rw [e0, e1]

theorem out2 : (dat2 W d).arrAt 4 cfg2.N = fun j => if inSlice 0 j then mmOut (W.at main_v4) (W.at main_v1) (W.at main_v2) j else W.at main_v5 j := by
  refine (dat2 W d).arrAt_eq_of_coversWhere 4 _ (fun β => 4 * 0 ≤ β (0 : Fin 2) ∧ β (0 : Fin 2) < 4 * 0 + 4) (by decide +kernel) (fun t hf y => ?_) (fun j => Iff.rfl)
  blk_simp
  have i0 : ∀ t : Fin grid2.N, win2_0.index t 0 = t.val ∧ win2_4.index t 0 = 4 * 0 + t.val := by decide +kernel
  refine mmOut_at _ _ _ 0 t.val t.isLt ?_ ?_ ?_ _ y ?_ ?_
  · refine read_at (W.at main_v4) (fun x => (win2_0.blk t).view.emb x) _ (fun x => ?_) (fun x => ?_)
    · refine (Window.rect_emb_val_off win2_0 t x 0).trans ?_
      show win2_0.index t 0 * 1024 + _ = 1024 * t.val + _
      rw [(i0 t).1, Nat.mul_comm]
    · refine (Window.rect_emb_val_off win2_0 t x 1).trans ?_
      exact Nat.zero_add _
  · refine read_at (W.at main_v1) (fun x => (win2_1.blk t).view.emb x) id (fun x => ?_) (fun x => ?_)
    · exact (Window.rect_emb_val_off win2_1 t x 0).trans (Nat.zero_add _)
    · exact (Window.rect_emb_val_off win2_1 t x 1).trans (Nat.zero_add _)
  · refine read_at (W.at main_v2) (fun x => (win2_2.blk t).view.emb x) id (fun x => ?_) (fun x => ?_)
    · exact (Window.rect_emb_val_off win2_2 t x 0).trans (Nat.zero_add _)
    · exact (Window.rect_emb_val_off win2_2 t x 1).trans (Nat.zero_add _)
  · refine (Window.rect_emb_val_off win2_4 t y 0).trans ?_
    show win2_4.index t 0 * 1024 + _ = _
    rw [(i0 t).2]
  · exact (Window.rect_emb_val_off win2_4 t y 1).trans (Nat.zero_add _)

theorem out4 : (dat4 W d).arrAt 4 cfg4.N = fun j => if inSlice 1 j then mmOut (W.at main_v6) (W.at main_v1) (W.at main_v2) j else W.at main_v7 j := by
  refine (dat4 W d).arrAt_eq_of_coversWhere 4 _ (fun β => 4 * 1 ≤ β (0 : Fin 2) ∧ β (0 : Fin 2) < 4 * 1 + 4) (by decide +kernel) (fun t hf y => ?_) (fun j => Iff.rfl)
  blk_simp
  have i0 : ∀ t : Fin grid4.N, win4_0.index t 0 = t.val ∧ win4_4.index t 0 = 4 * 1 + t.val := by decide +kernel
  refine mmOut_at _ _ _ 1 t.val t.isLt ?_ ?_ ?_ _ y ?_ ?_
  · refine read_at (W.at main_v6) (fun x => (win4_0.blk t).view.emb x) _ (fun x => ?_) (fun x => ?_)
    · refine (Window.rect_emb_val_off win4_0 t x 0).trans ?_
      show win4_0.index t 0 * 1024 + _ = 1024 * t.val + _
      rw [(i0 t).1, Nat.mul_comm]
    · refine (Window.rect_emb_val_off win4_0 t x 1).trans ?_
      exact Nat.zero_add _
  · refine read_at (W.at main_v1) (fun x => (win4_1.blk t).view.emb x) id (fun x => ?_) (fun x => ?_)
    · exact (Window.rect_emb_val_off win4_1 t x 0).trans (Nat.zero_add _)
    · exact (Window.rect_emb_val_off win4_1 t x 1).trans (Nat.zero_add _)
  · refine read_at (W.at main_v2) (fun x => (win4_2.blk t).view.emb x) id (fun x => ?_) (fun x => ?_)
    · exact (Window.rect_emb_val_off win4_2 t x 0).trans (Nat.zero_add _)
    · exact (Window.rect_emb_val_off win4_2 t x 1).trans (Nat.zero_add _)
  · refine (Window.rect_emb_val_off win4_4 t y 0).trans ?_
    show win4_4.index t 0 * 1024 + _ = _
    rw [(i0 t).2]
  · exact (Window.rect_emb_val_off win4_4 t y 1).trans (Nat.zero_add _)

theorem out6 : (dat6 W d).arrAt 4 cfg6.N = fun j => if inSlice 2 j then mmOut (W.at main_v8) (W.at main_v1) (W.at main_v2) j else W.at main_v9 j := by
  refine (dat6 W d).arrAt_eq_of_coversWhere 4 _ (fun β => 4 * 2 ≤ β (0 : Fin 2) ∧ β (0 : Fin 2) < 4 * 2 + 4) (by decide +kernel) (fun t hf y => ?_) (fun j => Iff.rfl)
  blk_simp
  have i0 : ∀ t : Fin grid6.N, win6_0.index t 0 = t.val ∧ win6_4.index t 0 = 4 * 2 + t.val := by decide +kernel
  refine mmOut_at _ _ _ 2 t.val t.isLt ?_ ?_ ?_ _ y ?_ ?_
  · refine read_at (W.at main_v8) (fun x => (win6_0.blk t).view.emb x) _ (fun x => ?_) (fun x => ?_)
    · refine (Window.rect_emb_val_off win6_0 t x 0).trans ?_
      show win6_0.index t 0 * 1024 + _ = 1024 * t.val + _
      rw [(i0 t).1, Nat.mul_comm]
    · refine (Window.rect_emb_val_off win6_0 t x 1).trans ?_
      exact Nat.zero_add _
  · refine read_at (W.at main_v1) (fun x => (win6_1.blk t).view.emb x) id (fun x => ?_) (fun x => ?_)
    · exact (Window.rect_emb_val_off win6_1 t x 0).trans (Nat.zero_add _)
    · exact (Window.rect_emb_val_off win6_1 t x 1).trans (Nat.zero_add _)
  · refine read_at (W.at main_v2) (fun x => (win6_2.blk t).view.emb x) id (fun x => ?_) (fun x => ?_)
    · exact (Window.rect_emb_val_off win6_2 t x 0).trans (Nat.zero_add _)
    · exact (Window.rect_emb_val_off win6_2 t x 1).trans (Nat.zero_add _)
  · refine (Window.rect_emb_val_off win6_4 t y 0).trans ?_
    show win6_4.index t 0 * 1024 + _ = _
    rw [(i0 t).2]
  · exact (Window.rect_emb_val_off win6_4 t y 1).trans (Nat.zero_add _)

theorem out8 : (dat8 W d).arrAt 4 cfg8.N = fun j => if inSlice 3 j then mmOut (W.at main_v10) (W.at main_v1) (W.at main_v2) j else W.at main_v11 j := by
  refine (dat8 W d).arrAt_eq_of_coversWhere 4 _ (fun β => 4 * 3 ≤ β (0 : Fin 2) ∧ β (0 : Fin 2) < 4 * 3 + 4) (by decide +kernel) (fun t hf y => ?_) (fun j => Iff.rfl)
  blk_simp
  have i0 : ∀ t : Fin grid8.N, win8_0.index t 0 = t.val ∧ win8_4.index t 0 = 4 * 3 + t.val := by decide +kernel
  refine mmOut_at _ _ _ 3 t.val t.isLt ?_ ?_ ?_ _ y ?_ ?_
  · refine read_at (W.at main_v10) (fun x => (win8_0.blk t).view.emb x) _ (fun x => ?_) (fun x => ?_)
    · refine (Window.rect_emb_val_off win8_0 t x 0).trans ?_
      show win8_0.index t 0 * 1024 + _ = 1024 * t.val + _
      rw [(i0 t).1, Nat.mul_comm]
    · refine (Window.rect_emb_val_off win8_0 t x 1).trans ?_
      exact Nat.zero_add _
  · refine read_at (W.at main_v1) (fun x => (win8_1.blk t).view.emb x) id (fun x => ?_) (fun x => ?_)
    · exact (Window.rect_emb_val_off win8_1 t x 0).trans (Nat.zero_add _)
    · exact (Window.rect_emb_val_off win8_1 t x 1).trans (Nat.zero_add _)
  · refine read_at (W.at main_v2) (fun x => (win8_2.blk t).view.emb x) id (fun x => ?_) (fun x => ?_)
    · exact (Window.rect_emb_val_off win8_2 t x 0).trans (Nat.zero_add _)
    · exact (Window.rect_emb_val_off win8_2 t x 1).trans (Nat.zero_add _)
  · refine (Window.rect_emb_val_off win8_4 t y 0).trans ?_
    show win8_4.index t 0 * 1024 + _ = _
    rw [(i0 t).2]
  · exact (Window.rect_emb_val_off win8_4 t y 1).trans (Nat.zero_add _)

end Cert.Proof.Hist
-- ==== Proof.Main.lean ====
/-
  @main, step by step, over the contents of the TensorCore's buffers: its host operations, its five TensorCore calls and
  its four SparseCore calls.
-/
module

public import proofs.«01_k».proof.Proof.Outs

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The contents with one buffer's replaced. -/
def upd (W : Vals F) (b : Ref sig .tc) (v : b.ty.Contents (Elt F)) : Vals F := Function.update W (Proc.devRef (.tc : Proc τ) b) v

theorem upd_self (W : Vals F) (b : Ref sig .tc) (v : b.ty.Contents (Elt F)) : (upd W b v).at b = v := Function.update_self ..

theorem upd_ne (W : Vals F) {b c : Ref sig .tc} (v : b.ty.Contents (Elt F)) (h : c ≠ b) : (upd W b v).at c = W.at c :=
  Function.update_of_ne (fun e => h (Proc.devRef_injective _ e)) _ _

/-- The buffers that outlive a call. -/
def uc : Finset (DevRef τ sig) := (StableHlo.tcRefs τ sig).filter fun b => ¬ b.isScoped

theorem bufs_held (d : Dev nD) (W : Vals F) : bufs d W = StableHlo.held (SparseCore.T d) uc W := by
  unfold bufs unscopedBufs StableHlo.held uc StableHlo.tcRefs
  rw [Finset.filter_map, bigSep_map]
  rfl

theorem op_sub (op : HloOp τ sig (Elt F)) (h : op.bufs ⊆ StableHlo.tcRefs τ sig) : op.bufs ⊆ uc := fun b hb =>
  Finset.mem_filter.mpr ⟨h hb, by rw [op.no_scoped b hb]; decide⟩

theorem mem_uc (b : Ref sig .tc) (h : (Proc.devRef (.tc : Proc τ) b).isScoped = false) : Proc.devRef (.tc : Proc τ) b ∈ uc :=
  Finset.mem_filter.mpr ⟨Finset.mem_map.mpr ⟨b, Finset.mem_univ _, rfl⟩, by rw [h]; decide⟩

/-- What the TensorCore holds between two steps: it stands at no call's inside, its buffers hold `W`, and `n` SparseCore
    calls are over. -/
abbrev st (d : Dev nD) (n : ℕ) (W : Vals F) : sProp (MM F) :=
  iprop(boundary (SparseCore.T d) ∗ bufs d W ∗ (K (F := F)).tcSt EH d n)

/-- A host operation. -/
theorem host_wp (d : Dev nD) (n : ℕ) (W : Vals F) (op : HloOp τ sig (Elt F)) (h : op.bufs ⊆ StableHlo.tcRefs τ sig) (hf : op.fresh = ∅)
    (Φ : PUnit → sProp (MM F)) :
    iprop(st d n W ∗ (st d n (op.result W) -∗ Φ ⟨⟩))
      ⊢ wp frame (wpE ((K (F := F)).defs (D (F := F))) 𝒱 (SparseCore.T d) none) Set.univ (hlo rfl op (fun _ => .ret ⟨⟩)) Φ := by
  simp only [st, bufs_held]
  iintro ⟨⟨Hb, Hh, Ht⟩, Hk⟩
  iapply (StableHlo.wp_hlo_within 𝒱 (SparseCore.T d) none Set.univ (op_sub op h) hf) $$ [Hb Hh]
  · iframe Hb Hh
  iintro ⟨Hb, Hh⟩
  rw [wp_ret]
  imodintro
  iapply Hk
  iframe Hb Hh Ht

/-- A TensorCore call, by its region. -/
theorem region_wp (m : (ℓ : Loc nD τ sig) → Buf (Elt F) ℓ) (κ : GSem nD τ sig → ℕ) (d : Dev nD) (n : ℕ) (W W' : Vals F) (p : Fin 5)
    (R : Pipeline.RegionSeg (pcfgs (F := F)) adm (pdats W) none defs₀ 𝒱₀ (K (F := F)).L (K (F := F)).lev p)
    (hpre : R.pre d = iprop(bufs d W ∗ dues d n)) (hpost : R.post d = iprop(bufs d W' ∗ dues d n)) (Φ : PUnit → sProp (MM F)) :
    iprop((K (F := F)).ctx EH (P m) κ (K (F := F)).lev
        ∗ Pipeline.cellsGhost (Pipeline.pin (pcfgs (F := F)) adm) EP p d ∗ Pipeline.toksInit (Pipeline.pin (pcfgs (F := F)) adm) EP p d
        ∗ st d n W ∗ (st d n W' -∗ Φ ⟨⟩))
      ⊢ wp frame (wpE ((K (F := F)).defs (D (F := F))) 𝒱 (SparseCore.T d) none) Set.univ
          (Prog.lift (.customCall (SparseCore.inner (Pipeline.entry p)) ())) Φ := by
  simp only [st]
  unfold SparseCore.Cfg.tcSt
  iintro ⟨#Hctx, Hg, Ht, ⟨Hb, Hu, Hst⟩, Hk⟩
  icases Hst with ⟨HO, Hst⟩
  iapply ((K (F := F)).wp_liftProg (D (F := F)) 𝒱 (SparseCore.T d) Set.univ none (Prog.lift (.customCall (Pipeline.entry p) ())) Φ)
  have h := Pipeline.RegionSeg.wp (pcfgs (F := F)) adm (pdats W) none cellOf_inj EP defs₀ 𝒱₀ (K (F := F)).L (K (F := F)).lev R d none
    (fun u hu => nomatch hu) (fun _ => .ret ⟨⟩) Φ
  iapply h
  rw [hpre, hpost]
  isplitl [Hst Hk]
  · iintro ⟨Hb, Hu, HO⟩
    rw [wp_ret]
    imodintro
    iapply Hk
    isplitl [Hb]; · iexact Hb
    isplitl [Hu]; · iexact Hu
    isplitl [HO]; · iexact HO
    iexact Hst
  isplitl [Hb]; · iexact Hb
  isplitl [Hu HO]
  · isplitl [Hu]; · iexact Hu
    iexact HO
  iframe Hg Ht
  iapply ((K (F := F)).ctx_levAts κ)
  iexact Hctx

/-- Two distinct buffers out of those held. -/
theorem take_two (d : Dev nD) (W : Vals F) {a c : Ref sig .tc} (ha : Proc.devRef (.tc : Proc τ) a ∈ uc) (hc : Proc.devRef (.tc : Proc τ) c ∈ uc) (hac : a ≠ c) :
    bufs d W = iprop(((SparseCore.T d).loc a ↦{fullShare} W.at a) ∗ ((SparseCore.T d).loc c ↦{fullShare} W.at c)
      ∗ StableHlo.held (SparseCore.T d) ((uc.erase (Proc.devRef (.tc : Proc τ) a)).erase (Proc.devRef (.tc : Proc τ) c)) W) := by
  rw [bufs_held]
  unfold StableHlo.held
  rw [BI.bigSep_erase ha, BI.bigSep_erase (i := Proc.devRef (.tc : Proc τ) c) (Finset.mem_erase.mpr ⟨fun e => hac (Proc.devRef_injective _ e).symm, hc⟩)]
  rfl

/-- A SparseCore call: it reads the tokens and leaves its counts. -/
theorem count_wp (m : (ℓ : Loc nD τ sig) → Buf (Elt F) ℓ) (κ : GSem nD τ sig → ℕ) (d : Dev nD) (q : Fin 4) (W : Vals F) (c : Ref sig .tc)
    (v : c.ty.Contents (Elt F)) (hx : W.at main_arg0 = m (xLoc d)) (hc : Proc.devRef (.tc : Proc τ) c ∈ uc) (hne : main_arg0 ≠ c)
    (hgo : ((SparseCore.T d).loc c ↦{fullShare} W.at c) ⊢ (cAny q d : sProp (MM F)))
    (hgot : cGot m q d = ((SparseCore.T d).loc c ↦{fullShare} v)) (Φ : PUnit → sProp (MM F)) :
    iprop((K (F := F)).ctx EH (P m) κ (K (F := F)).lev ∗ st d q.val W ∗ (st d (q.val + 1) (upd W c v) -∗ Φ ⟨⟩))
      ⊢ wp frame (wpE ((K (F := F)).defs (D (F := F))) 𝒱 (SparseCore.T d) none) Set.univ ((K (F := F)).run d q) Φ := by
  have h0 : Proc.devRef (.tc : Proc τ) main_arg0 ∈ uc := mem_uc _ rfl
  have hrest : StableHlo.held (SparseCore.T d) ((uc.erase (Proc.devRef (.tc : Proc τ) main_arg0)).erase (Proc.devRef (.tc : Proc τ) c)) (upd W c v)
      = (StableHlo.held (SparseCore.T d) ((uc.erase (Proc.devRef (.tc : Proc τ) main_arg0)).erase (Proc.devRef (.tc : Proc τ) c)) W : sProp (MM F)) :=
    StableHlo.held_congr _ fun b hb => Function.update_of_ne (Finset.ne_of_mem_erase hb) _ _
  simp only [st]
  rw [take_two d W h0 hc hne, take_two d (upd W c v) h0 hc hne, hrest, upd_self, upd_ne W v hne, hx]
  iintro ⟨#Hctx, ⟨Hb, ⟨Hx, Hc, Hr⟩, Ht⟩, Hk⟩
  ihave Hc := hgo $$ Hc
  iapply (call_wp m κ q d Φ)
  iframe Ht Hx Hc
  isplitr; · iexact Hctx
  rw [hgot]
  iintro ⟨Ht, Hx, Hc⟩
  iapply Hk
  iframe Hb Hx Hc Hr Ht

end Cert.Proof.Hist

end
-- ==== Proof.Segs.lean ====
/-
  The five TensorCore calls' regions, with what each writes.
-/
module

public import proofs.«01_k».proof.Proof.Main

@[expose] public section

noncomputable section

namespace Cert.Proof.Hist

open Cert.KernelIdeal Cert.KernelIdeal.Gen

open Idealize.ShloMosaic
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- A linear-layer call's result: its slice's rows new, the others as they were. -/
def outVal (q : ℕ) (C : Vec F S4096x1024 .f32) (M : Vec F S1024x128 .f32) (B : Vec F S1x128 .f32) (O : Vec F S16384x128 .f32) : Vec F S16384x128 .f32 :=
  fun j => if inSlice q j then mmOut C M B j else O j

/-- The contents after each TensorCore call. -/
abbrev aft0 (W : Vals F) : Vals F := upd W main_v1 (foldVal (W.at main_v0) (W.at main_arg2))
abbrev aft2 (W : Vals F) : Vals F := upd W main_v5 (outVal 0 (W.at main_v4) (W.at main_v1) (W.at main_v2) (W.at main_v5))
abbrev aft4 (W : Vals F) : Vals F := upd W main_v7 (outVal 1 (W.at main_v6) (W.at main_v1) (W.at main_v2) (W.at main_v7))
abbrev aft6 (W : Vals F) : Vals F := upd W main_v9 (outVal 2 (W.at main_v8) (W.at main_v1) (W.at main_v2) (W.at main_v9))
abbrev aft8 (W : Vals F) : Vals F := upd W main_v11 (outVal 3 (W.at main_v10) (W.at main_v1) (W.at main_v2) (W.at main_v11))

/-- An input window's array ends as it began, and the call's result lies elsewhere. -/
theorem in_or_out (W : Vals F) (o : Ref sig .tc) (v : o.ty.Contents (Elt F)) (b : Ref sig .tc) {x : b.ty.Contents (Elt F)} (h : x = W.at b) (hb : b ≠ o) :
    x = (upd W o v).at b := h.trans (upd_ne W v hb).symm

set_option backward.isDefEq.respectTransparency.types false in
theorem in0 (W : Vals F) (d : Dev nD) (w : Fin 3) : (dat0 W d).arrAt w cfg0.N = (aft0 W).at (Pipeline.arrRef spec0 w) := by
  match w with
  | ⟨0, _⟩ => exact in_or_out W main_v1 _ main_v0 ((dat0 W d).arrAt_in 0 rfl _) (by decide)
  | ⟨1, _⟩ => exact in_or_out W main_v1 _ main_arg2 ((dat0 W d).arrAt_in 1 rfl _) (by decide)
  | ⟨2, _⟩ => exact (out0 W d).trans (upd_self W main_v1 _).symm

theorem off0 (W : Vals F) (b : Ref sig .tc) (hb : b ∉ Finset.univ.image (Pipeline.arrRef spec0)) : (aft0 W).at b = W.at b :=
  upd_ne W _ fun e => hb (e ▸ Finset.mem_image.mpr ⟨2, Finset.mem_univ _, rfl⟩)

theorem spec_eq0 (d : Dev nD) : (Pipeline.scopedRest spec0 d : sProp (MM F)) = Pipeline.scopedRest (pcfgs (F := F) 0).spec d := rfl
theorem phi0 (W : Vals F) (d : Dev nD) (t) : (pdats W 0 d).Φ t = Pipeline.scopedRest (pcfgs (F := F) 0).spec d :=
  (show (pdats W 0 d).Φ t = Pipeline.scopedRest spec0 d from rfl).trans (spec_eq0 d)
theorem share0 (W : Vals F) (d : Dev nD) (w) : (pdats W 0 d).q w = fullShare := rfl
theorem owed0 (W : Vals F) (d : Dev nD) (t) : (pdats W 0 d).owed t = (K (F := F)).Otc d 0 := rfl
theorem recd0 (W : Vals F) (d : Dev nD) (t) : (pdats W 0 d).recorded t = recd (F := F) d 0 := rfl
theorem arr0 (W : Vals F) (d : Dev nD) (w) : (pdats W 0 d).A w = W.at (Pipeline.arrRef (Pipeline.pin (pcfgs (F := F)) adm 0).spec w) := rfl

set_option backward.isDefEq.respectTransparency.types false in
def reg0 (W : Vals F) : Pipeline.RegionSeg (pcfgs (F := F)) adm (pdats W) none defs₀ 𝒱₀ (K (F := F)).L (K (F := F)).lev 0 :=
  reg W (aft0 W) 0 0 launch0 (body0 W) (phi0 W) (share0 W) (owed0 W) (recd0 W) (arr0 W) (in0 W) (off0 W)

set_option backward.isDefEq.respectTransparency.types false in
theorem in2 (W : Vals F) (d : Dev nD) (w : Fin 5) : (dat2 W d).arrAt w cfg2.N = (aft2 W).at (Pipeline.arrRef spec2 w) := by
  match w with
  | ⟨0, _⟩ => exact in_or_out W main_v5 _ main_v4 ((dat2 W d).arrAt_in 0 rfl _) (by decide)
  | ⟨1, _⟩ => exact in_or_out W main_v5 _ main_v1 ((dat2 W d).arrAt_in 1 rfl _) (by decide)
  | ⟨2, _⟩ => exact in_or_out W main_v5 _ main_v2 ((dat2 W d).arrAt_in 2 rfl _) (by decide)
  | ⟨3, _⟩ => exact in_or_out W main_v5 _ main_v3 ((dat2 W d).arrAt_in 3 rfl _) (by decide)
  | ⟨4, _⟩ => exact (out2 W d).trans (upd_self W main_v5 _).symm

theorem off2 (W : Vals F) (b : Ref sig .tc) (hb : b ∉ Finset.univ.image (Pipeline.arrRef spec2)) : (aft2 W).at b = W.at b :=
  upd_ne W _ fun e => hb (e ▸ Finset.mem_image.mpr ⟨4, Finset.mem_univ _, rfl⟩)

theorem spec_eq2 (d : Dev nD) : (Pipeline.scopedRest spec2 d : sProp (MM F)) = Pipeline.scopedRest (pcfgs (F := F) 1).spec d := rfl
theorem phi2 (W : Vals F) (d : Dev nD) (t) : (pdats W 1 d).Φ t = Pipeline.scopedRest (pcfgs (F := F) 1).spec d :=
  (show (pdats W 1 d).Φ t = Pipeline.scopedRest spec2 d from rfl).trans (spec_eq2 d)
theorem share2 (W : Vals F) (d : Dev nD) (w) : (pdats W 1 d).q w = fullShare := rfl
theorem owed2 (W : Vals F) (d : Dev nD) (t) : (pdats W 1 d).owed t = (K (F := F)).Otc d 1 := rfl
theorem recd2 (W : Vals F) (d : Dev nD) (t) : (pdats W 1 d).recorded t = recd (F := F) d 1 := rfl
theorem arr2 (W : Vals F) (d : Dev nD) (w) : (pdats W 1 d).A w = W.at (Pipeline.arrRef (Pipeline.pin (pcfgs (F := F)) adm 1).spec w) := rfl

set_option backward.isDefEq.respectTransparency.types false in
def reg2 (W : Vals F) : Pipeline.RegionSeg (pcfgs (F := F)) adm (pdats W) none defs₀ 𝒱₀ (K (F := F)).L (K (F := F)).lev 1 :=
  reg W (aft2 W) 1 1 launch2 (body2 W) (phi2 W) (share2 W) (owed2 W) (recd2 W) (arr2 W) (in2 W) (off2 W)

set_option backward.isDefEq.respectTransparency.types false in
theorem in4 (W : Vals F) (d : Dev nD) (w : Fin 5) : (dat4 W d).arrAt w cfg4.N = (aft4 W).at (Pipeline.arrRef spec4 w) := by
  match w with
  | ⟨0, _⟩ => exact in_or_out W main_v7 _ main_v6 ((dat4 W d).arrAt_in 0 rfl _) (by decide)
  | ⟨1, _⟩ => exact in_or_out W main_v7 _ main_v1 ((dat4 W d).arrAt_in 1 rfl _) (by decide)
  | ⟨2, _⟩ => exact in_or_out W main_v7 _ main_v2 ((dat4 W d).arrAt_in 2 rfl _) (by decide)
  | ⟨3, _⟩ => exact in_or_out W main_v7 _ main_v5 ((dat4 W d).arrAt_in 3 rfl _) (by decide)
  | ⟨4, _⟩ => exact (out4 W d).trans (upd_self W main_v7 _).symm

theorem off4 (W : Vals F) (b : Ref sig .tc) (hb : b ∉ Finset.univ.image (Pipeline.arrRef spec4)) : (aft4 W).at b = W.at b :=
  upd_ne W _ fun e => hb (e ▸ Finset.mem_image.mpr ⟨4, Finset.mem_univ _, rfl⟩)

theorem spec_eq4 (d : Dev nD) : (Pipeline.scopedRest spec4 d : sProp (MM F)) = Pipeline.scopedRest (pcfgs (F := F) 2).spec d := rfl
theorem phi4 (W : Vals F) (d : Dev nD) (t) : (pdats W 2 d).Φ t = Pipeline.scopedRest (pcfgs (F := F) 2).spec d :=
  (show (pdats W 2 d).Φ t = Pipeline.scopedRest spec4 d from rfl).trans (spec_eq4 d)
theorem share4 (W : Vals F) (d : Dev nD) (w) : (pdats W 2 d).q w = fullShare := rfl
theorem owed4 (W : Vals F) (d : Dev nD) (t) : (pdats W 2 d).owed t = (K (F := F)).Otc d 2 := rfl
theorem recd4 (W : Vals F) (d : Dev nD) (t) : (pdats W 2 d).recorded t = recd (F := F) d 2 := rfl
theorem arr4 (W : Vals F) (d : Dev nD) (w) : (pdats W 2 d).A w = W.at (Pipeline.arrRef (Pipeline.pin (pcfgs (F := F)) adm 2).spec w) := rfl

set_option backward.isDefEq.respectTransparency.types false in
def reg4 (W : Vals F) : Pipeline.RegionSeg (pcfgs (F := F)) adm (pdats W) none defs₀ 𝒱₀ (K (F := F)).L (K (F := F)).lev 2 :=
  reg W (aft4 W) 2 2 launch4 (body4 W) (phi4 W) (share4 W) (owed4 W) (recd4 W) (arr4 W) (in4 W) (off4 W)

set_option backward.isDefEq.respectTransparency.types false in
theorem in6 (W : Vals F) (d : Dev nD) (w : Fin 5) : (dat6 W d).arrAt w cfg6.N = (aft6 W).at (Pipeline.arrRef spec6 w) := by
  match w with
  | ⟨0, _⟩ => exact in_or_out W main_v9 _ main_v8 ((dat6 W d).arrAt_in 0 rfl _) (by decide)
  | ⟨1, _⟩ => exact in_or_out W main_v9 _ main_v1 ((dat6 W d).arrAt_in 1 rfl _) (by decide)
  | ⟨2, _⟩ => exact in_or_out W main_v9 _ main_v2 ((dat6 W d).arrAt_in 2 rfl _) (by decide)
  | ⟨3, _⟩ => exact in_or_out W main_v9 _ main_v7 ((dat6 W d).arrAt_in 3 rfl _) (by decide)
  | ⟨4, _⟩ => exact (out6 W d).trans (upd_self W main_v9 _).symm

theorem off6 (W : Vals F) (b : Ref sig .tc) (hb : b ∉ Finset.univ.image (Pipeline.arrRef spec6)) : (aft6 W).at b = W.at b :=
  upd_ne W _ fun e => hb (e ▸ Finset.mem_image.mpr ⟨4, Finset.mem_univ _, rfl⟩)

theorem spec_eq6 (d : Dev nD) : (Pipeline.scopedRest spec6 d : sProp (MM F)) = Pipeline.scopedRest (pcfgs (F := F) 3).spec d := rfl
theorem phi6 (W : Vals F) (d : Dev nD) (t) : (pdats W 3 d).Φ t = Pipeline.scopedRest (pcfgs (F := F) 3).spec d :=
  (show (pdats W 3 d).Φ t = Pipeline.scopedRest spec6 d from rfl).trans (spec_eq6 d)
theorem share6 (W : Vals F) (d : Dev nD) (w) : (pdats W 3 d).q w = fullShare := rfl
theorem owed6 (W : Vals F) (d : Dev nD) (t) : (pdats W 3 d).owed t = (K (F := F)).Otc d 3 := rfl
theorem recd6 (W : Vals F) (d : Dev nD) (t) : (pdats W 3 d).recorded t = recd (F := F) d 3 := rfl
theorem arr6 (W : Vals F) (d : Dev nD) (w) : (pdats W 3 d).A w = W.at (Pipeline.arrRef (Pipeline.pin (pcfgs (F := F)) adm 3).spec w) := rfl

set_option backward.isDefEq.respectTransparency.types false in
def reg6 (W : Vals F) : Pipeline.RegionSeg (pcfgs (F := F)) adm (pdats W) none defs₀ 𝒱₀ (K (F := F)).L (K (F := F)).lev 3 :=
  reg W (aft6 W) 3 3 launch6 (body6 W) (phi6 W) (share6 W) (owed6 W) (recd6 W) (arr6 W) (in6 W) (off6 W)

set_option backward.isDefEq.respectTransparency.types false in
theorem in8 (W : Vals F) (d : Dev nD) (w : Fin 5) : (dat8 W d).arrAt w cfg8.N = (aft8 W).at (Pipeline.arrRef spec8 w) := by
  match w with
  | ⟨0, _⟩ => exact in_or_out W main_v11 _ main_v10 ((dat8 W d).arrAt_in 0 rfl _) (by decide)
  | ⟨1, _⟩ => exact in_or_out W main_v11 _ main_v1 ((dat8 W d).arrAt_in 1 rfl _) (by decide)
  | ⟨2, _⟩ => exact in_or_out W main_v11 _ main_v2 ((dat8 W d).arrAt_in 2 rfl _) (by decide)
  | ⟨3, _⟩ => exact in_or_out W main_v11 _ main_v9 ((dat8 W d).arrAt_in 3 rfl _) (by decide)
  | ⟨4, _⟩ => exact (out8 W d).trans (upd_self W main_v11 _).symm

theorem off8 (W : Vals F) (b : Ref sig .tc) (hb : b ∉ Finset.univ.image (Pipeline.arrRef spec8)) : (aft8 W).at b = W.at b :=
  upd_ne W _ fun e => hb (e ▸ Finset.mem_image.mpr ⟨4, Finset.mem_univ _, rfl⟩)

theorem spec_eq8 (d : Dev nD) : (Pipeline.scopedRest spec8 d : sProp (MM F)) = Pipeline.scopedRest (pcfgs (F := F) 4).spec d := rfl
theorem phi8 (W : Vals F) (d : Dev nD) (t) : (pdats W 4 d).Φ t = Pipeline.scopedRest (pcfgs (F := F) 4).spec d :=
  (show (pdats W 4 d).Φ t = Pipeline.scopedRest spec8 d from rfl).trans (spec_eq8 d)
theorem share8 (W : Vals F) (d : Dev nD) (w) : (pdats W 4 d).q w = fullShare := rfl
theorem owed8 (W : Vals F) (d : Dev nD) (t) : (pdats W 4 d).owed t = (K (F := F)).Otc d 4 := rfl
theorem recd8 (W : Vals F) (d : Dev nD) (t) : (pdats W 4 d).recorded t = recd (F := F) d 4 := rfl
theorem arr8 (W : Vals F) (d : Dev nD) (w) : (pdats W 4 d).A w = W.at (Pipeline.arrRef (Pipeline.pin (pcfgs (F := F)) adm 4).spec w) := rfl

set_option backward.isDefEq.respectTransparency.types false in
def reg8 (W : Vals F) : Pipeline.RegionSeg (pcfgs (F := F)) adm (pdats W) none defs₀ 𝒱₀ (K (F := F)).L (K (F := F)).lev 4 :=
  reg W (aft8 W) 4 4 launch8 (body8 W) (phi8 W) (share8 W) (owed8 W) (recd8 W) (arr8 W) (in8 W) (off8 W)

end Cert.Proof.Hist

end
-- ==== Proof.Whole.lean ====
/-
  @main as a whole: the contents of the buffers at its end, and its run.
-/
module

public import proofs.«01_k».proof.Proof.Segs

@[expose] public section

noncomputable section

namespace Cert.Proof.Hist

open Cert.KernelIdeal Cert.KernelIdeal.Gen Cert.KernelIdeal.Facts

open Idealize.ShloMosaic
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The contents after a host operation. -/
abbrev Vals.run (W : Vals F) (op : HloOp τ sig (Elt F)) : Vals F := op.result W

/-- The host's operations. -/
abbrev opC : HloOp τ sig (Elt F) := StableHlo.nullary main_c (constantI S_ 32 0#32)
abbrev opConv : HloOp τ sig (Elt F) := StableHlo.TRef.unary (.of main_c : StableHlo.TRef sig ⟨S_, .i32⟩) (.of main_call0_v0 : StableHlo.TRef sig ⟨S_, .f32⟩) (sitofp .f32)
abbrev opPad : HloOp τ sig (Elt F) :=
  StableHlo.TRef.binary (.of main_arg1 : StableHlo.TRef sig ⟨S1000x128, .f32⟩) (.of main_call0_v0 : StableHlo.TRef sig ⟨S_, .f32⟩)
    (.of main_v0 : StableHlo.TRef sig ⟨S1024x128, .f32⟩) (fun x v => pad S1024x128 ![0, 0] ![24, 0] ![0, 0] x v pads_S1000x128_S1024x128_0240_000 h_S_)
abbrev opBias : HloOp τ sig (Elt F) := StableHlo.reshape main_arg3 main_v2 (rfl : (.f32 : EltTy) = .f32) shapeCasts_S128_S1x128
abbrev opZero : HloOp τ sig (Elt F) := StableHlo.nullary main_cst (constant S_ .f32 0x00000000#32)
abbrev opOut : HloOp τ sig (Elt F) :=
  StableHlo.unary main_cst main_v3 (broadcastInDim S16384x128 ![] bcast_S_S16384x128 : (⟨S_, .f32⟩ : BufTy).Contents (Elt F) → (⟨S16384x128, .f32⟩ : BufTy).Contents (Elt F))
abbrev opCopy0 : HloOp τ sig (Elt F) := StableHlo.unary main_v3 main_v5 id
abbrev opCopy1 : HloOp τ sig (Elt F) := StableHlo.unary main_v5 main_v7 id
abbrev opCopy2 : HloOp τ sig (Elt F) := StableHlo.unary main_v7 main_v9 id
abbrev opCopy3 : HloOp τ sig (Elt F) := StableHlo.unary main_v9 main_v11 id

variable (m : (ℓ : Loc nD τ sig) → Buf (Elt F) ℓ) (d : Dev nD)

/-- The contents at the launch, up to the first SparseCore call, and after each slice. -/
def W0 : Vals F := fun b => m (d, b)
def Wpad : Vals F := (((W0 m d).run opC).run opConv).run opPad
def Wpre : Vals F := (((aft0 (Wpad m d)).run opBias).run opZero).run opOut
def WC0 : Vals F := upd (Wpre m d) main_v4 (hist (X m d) 0)
def WE0 : Vals F := aft2 ((WC0 m d).run opCopy0)
def WC1 : Vals F := upd (WE0 m d) main_v6 (hist (X m d) 1)
def WE1 : Vals F := aft4 ((WC1 m d).run opCopy1)
def WC2 : Vals F := upd (WE1 m d) main_v8 (hist (X m d) 2)
def WE2 : Vals F := aft6 ((WC2 m d).run opCopy2)
def WC3 : Vals F := upd (WE2 m d) main_v10 (hist (X m d) 3)
def WE3 : Vals F := aft8 ((WC3 m d).run opCopy3)

section Keep
variable {W : Vals F} {r : Ref sig .tc}
theorem keepC (h : r ≠ main_c) : (W.run opC).at r = W.at r := StableHlo.nullary_result_ne' _ _ _ h
theorem keepConv (h : r ≠ main_call0_v0) : (W.run opConv).at r = W.at r := StableHlo.unary_result_ne' _ _ _ _ h
theorem keepPad (h : r ≠ main_v0) : (W.run opPad).at r = W.at r := StableHlo.binary_result_ne' _ _ _ _ _ h
theorem keepBias (h : r ≠ main_v2) : (W.run opBias).at r = W.at r := StableHlo.reshape_result_ne' _ _ _ _ _ h
theorem keepZero (h : r ≠ main_cst) : (W.run opZero).at r = W.at r := StableHlo.nullary_result_ne' _ _ _ h
theorem keepOut (h : r ≠ main_v3) : (W.run opOut).at r = W.at r := StableHlo.unary_result_ne' _ _ _ _ h
theorem keepCopy0 (h : r ≠ main_v5) : (W.run opCopy0).at r = W.at r := StableHlo.unary_result_ne' _ _ _ _ h
theorem keepCopy1 (h : r ≠ main_v7) : (W.run opCopy1).at r = W.at r := StableHlo.unary_result_ne' _ _ _ _ h
theorem keepCopy2 (h : r ≠ main_v9) : (W.run opCopy2).at r = W.at r := StableHlo.unary_result_ne' _ _ _ _ h
theorem keepCopy3 (h : r ≠ main_v11) : (W.run opCopy3).at r = W.at r := StableHlo.unary_result_ne' _ _ _ _ h
end Keep

/-- What @main reads only. -/
abbrev Arg (r : Ref sig .tc) : Prop := r ∉ ([main_c, main_call0_v0, main_v0, main_v1, main_v2, main_cst, main_v3, main_v4, main_v5, main_v6, main_v7, main_v8, main_v9, main_v10, main_v11] : List (Ref sig .tc))

/-- What @main's first part writes for the slices. -/
abbrev Tab (r : Ref sig .tc) : Prop := r ∉ ([main_v4, main_v5, main_v6, main_v7, main_v8, main_v9, main_v10, main_v11] : List (Ref sig .tc))

theorem keep_pre {r : Ref sig .tc} (h : Arg r) : (Wpre m d).at r = m ((SparseCore.T d).loc r) := by
  simp only [Arg, List.mem_cons, not_or] at h
  obtain ⟨h1, h2, h3, h4, h5, h6, h7, -⟩ := h
  unfold Wpre Wpad
  rw [keepOut h7, keepZero h6, keepBias h5, upd_ne _ _ h4, keepPad h3, keepConv h2, keepC h1]
  rfl

theorem keep_slices {r : Ref sig .tc} (h : Tab r) :
    (WE0 m d).at r = (Wpre m d).at r ∧ (WE1 m d).at r = (Wpre m d).at r ∧ (WE2 m d).at r = (Wpre m d).at r
    ∧ (WE3 m d).at r = (Wpre m d).at r := by
  simp only [Tab, List.mem_cons, not_or] at h
  obtain ⟨h4, h5, h6, h7, h8, h9, h10, h11, -⟩ := h
  have e0 : (WE0 m d).at r = (Wpre m d).at r := by
    unfold WE0 WC0; rw [upd_ne _ _ h5, keepCopy0 h5, upd_ne _ _ h4]
  have e1 : (WE1 m d).at r = (Wpre m d).at r := by
    unfold WE1 WC1; rw [upd_ne _ _ h7, keepCopy1 h7, upd_ne _ _ h6, e0]
  have e2 : (WE2 m d).at r = (Wpre m d).at r := by
    unfold WE2 WC2; rw [upd_ne _ _ h9, keepCopy2 h9, upd_ne _ _ h8, e1]
  refine ⟨e0, e1, e2, ?_⟩
  unfold WE3 WC3; rw [upd_ne _ _ h11, keepCopy3 h11, upd_ne _ _ h10, e2]

end Cert.Proof.Hist

end
-- ==== Proof.Run.lean ====
/-
  The run of the whole program, from its launch.
-/
module

public import proofs.«01_k».proof.Proof.Whole
public import Idealize.ShloMosaic.Lib.SparseCore.Quiescent

@[expose] public section

noncomputable section

namespace Cert.Proof.Hist

open Cert.KernelIdeal Cert.KernelIdeal.Gen Cert.KernelIdeal.Facts

open Idealize.ShloMosaic
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (m : (ℓ : Loc nD τ sig) → Buf (Elt F) ℓ) (d : Dev nD)

/-- A TensorCore call's ghost state. -/
abbrev pg (p : Fin 5) (d : Dev nD) : sProp (MM F) :=
  iprop(Pipeline.cellsGhost (Pipeline.pin (pcfgs (F := F)) adm) EP p d ∗ Pipeline.toksInit (Pipeline.pin (pcfgs (F := F)) adm) EP p d)

/-- @main, over its buffers. -/
theorem main_wp (κ : GSem nD τ sig → ℕ) (Φ : PUnit → sProp (MM F)) :
    iprop((K (F := F)).ctx EH (P m) κ (K (F := F)).lev ∗ (pg 0 d ∗ pg 1 d ∗ pg 2 d ∗ pg 3 d ∗ pg 4 d) ∗ st d 0 (W0 m d) ∗ (st d 4 (WE3 m d) -∗ Φ ⟨⟩))
      ⊢ wp frame (wpE ((K (F := F)).defs (D (F := F))) 𝒱 (SparseCore.T d) none) Set.univ (main d) Φ := by
  have hx : (Wpre m d).at main_arg0 = m (xLoc d) := keep_pre m d (by decide)
  have hk := keep_slices m d (r := main_arg0) (by decide)
  simp only [main, fn_pad.body, wp_bind, wp_pure]
  iintro ⟨#Hctx, ⟨⟨G0, T0⟩, ⟨G1, T1⟩, ⟨G2, T2⟩, ⟨G3, T3⟩, ⟨G4, T4⟩⟩, Hst, Hk⟩
  iapply (host_wp d 0 (W0 m d) opC (StableHlo.nullary_bufs_sub _ _ _) rfl _)
  iframe Hst
  iintro Hst
  iapply (host_wp d 0 _ opConv (StableHlo.unary_bufs_sub _ _ _ _ _) rfl _)
  iframe Hst
  iintro Hst
  iapply (host_wp d 0 _ opPad (StableHlo.binary_bufs_sub _ _ _ _ _ _ _) rfl _)
  iframe Hst
  iintro Hst
  imodintro
  iapply (region_wp m κ d 0 (Wpad m d) (aft0 (Wpad m d)) 0 (reg0 (Wpad m d)) rfl rfl _)
  isplitr; · iexact Hctx
  isplitl [G0]; · iexact G0
  isplitl [T0]; · iexact T0
  isplitl [Hst]; · iexact Hst
  iintro Hst
  iapply (host_wp d 0 _ opBias (StableHlo.reshape_bufs_sub _ _ _ _ _ _) rfl _)
  iframe Hst
  iintro Hst
  iapply (host_wp d 0 _ opZero (StableHlo.nullary_bufs_sub _ _ _) rfl _)
  iframe Hst
  iintro Hst
  iapply (host_wp d 0 _ opOut (StableHlo.unary_bufs_sub _ _ _ _ _) rfl _)
  iframe Hst
  iintro Hst
  have go : ∀ (q : Fin 4) (c : Ref sig .tc) (f : Buf (Elt F) ((SparseCore.T d).loc c)),
      (cAny q d : sProp (MM F)) = iprop(∃ f, (SparseCore.T d).loc c ↦{fullShare} f) → ((SparseCore.T d).loc c ↦{fullShare} f) ⊢ (cAny q d : sProp (MM F)) := by
    intro q c f e
    rw [e]
    iintro H
    iexists f
    iexact H
  iapply (count_wp m κ d 0 (Wpre m d) main_v4 (hist (X m d) 0) hx (mem_uc _ rfl) (by decide) (go 0 main_v4 _ rfl) rfl _)
  isplitr; · iexact Hctx
  isplitl [Hst]; · iexact Hst
  iintro Hst
  iapply (host_wp d 1 (WC0 m d) opCopy0 (StableHlo.unary_bufs_sub _ _ _ _ _) rfl _)
  isplitl [Hst]; · iexact Hst
  iintro Hst
  iapply (region_wp m κ d 1 _ (WE0 m d) 1 (reg2 ((WC0 m d).run opCopy0)) rfl rfl _)
  isplitr; · iexact Hctx
  isplitl [G1]; · iexact G1
  isplitl [T1]; · iexact T1
  isplitl [Hst]; · iexact Hst
  iintro Hst
  iapply (count_wp m κ d 1 (WE0 m d) main_v6 (hist (X m d) 1) (hk.1.trans hx) (mem_uc _ rfl) (by decide) (go 1 main_v6 _ rfl) rfl _)
  isplitr; · iexact Hctx
  isplitl [Hst]; · iexact Hst
  iintro Hst
  iapply (host_wp d 2 (WC1 m d) opCopy1 (StableHlo.unary_bufs_sub _ _ _ _ _) rfl _)
  isplitl [Hst]; · iexact Hst
  iintro Hst
  iapply (region_wp m κ d 2 _ (WE1 m d) 2 (reg4 ((WC1 m d).run opCopy1)) rfl rfl _)
  isplitr; · iexact Hctx
  isplitl [G2]; · iexact G2
  isplitl [T2]; · iexact T2
  isplitl [Hst]; · iexact Hst
  iintro Hst
  iapply (count_wp m κ d 2 (WE1 m d) main_v8 (hist (X m d) 2) (hk.2.1.trans hx) (mem_uc _ rfl) (by decide) (go 2 main_v8 _ rfl) rfl _)
  isplitr; · iexact Hctx
  isplitl [Hst]; · iexact Hst
  iintro Hst
  iapply (host_wp d 3 (WC2 m d) opCopy2 (StableHlo.unary_bufs_sub _ _ _ _ _) rfl _)
  isplitl [Hst]; · iexact Hst
  iintro Hst
  iapply (region_wp m κ d 3 _ (WE2 m d) 3 (reg6 ((WC2 m d).run opCopy2)) rfl rfl _)
  isplitr; · iexact Hctx
  isplitl [G3]; · iexact G3
  isplitl [T3]; · iexact T3
  isplitl [Hst]; · iexact Hst
  iintro Hst
  iapply (count_wp m κ d 3 (WE2 m d) main_v10 (hist (X m d) 3) (hk.2.2.1.trans hx) (mem_uc _ rfl) (by decide) (go 3 main_v10 _ rfl) rfl _)
  isplitr; · iexact Hctx
  isplitl [Hst]; · iexact Hst
  iintro Hst
  iapply (host_wp d 4 (WC3 m d) opCopy3 (StableHlo.unary_bufs_sub _ _ _ _ _) rfl _)
  isplitl [Hst]; · iexact Hst
  iintro Hst
  iapply (region_wp m κ d 4 _ (WE3 m d) 4 (reg8 ((WC3 m d).run opCopy3)) rfl rfl _)
  isplitr; · iexact Hctx
  isplitl [G4]; · iexact G4
  isplitl [T4]; · iexact T4
  isplitl [Hst]; · iexact Hst
  iintro Hst
  imodintro
  iapply Hk
  iexact Hst

/-- The ghost state the launch deals: the handshakes', and the TensorCore calls' windows'. -/
def u₀ : UU :=
  (initOf (K (F := F)).hsCells (K (F := F)).hsToks, (initOf (Pipeline.cells (nD := nD) (τ := τ) cfgs cellOf_inj) (Pipeline.launchToks (nD := nD) (τ := τ) cfgs cellOf_inj), 1))

theorem ownU_split (a : UH) (b : UK) : (ownU ((a, (b, 1)) : UU) : sProp (MM F)) ⊢ iprop(BI.own (EH a) ∗ BI.own (EP b)) :=
  BI.own_op_elim ((uEmb (nD := nD) (τ := τ) (sig := sig) (Ix := HIx 4) (Val := Elt F) (Name := ℕ) (U := UU) (Lvl := ℕ)).toEmb.op_of_mem
    (Prod.mk_mem_op (URA.mem_op_one a) (URA.mem_one_op (b, 1))))

theorem five {Φ : Fin 5 → sProp (MM F)} : bigSep Finset.univ Φ = iprop(Φ 0 ∗ Φ 1 ∗ Φ 2 ∗ Φ 3 ∗ Φ 4) := by
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

/-- What the launch gives a TensorCore besides its buffers. -/
abbrev G (d : Dev nD) : sProp (MM F) :=
  iprop((bigSep Finset.univ fun p : Fin 5 => Pipeline.cellsGhost (Pipeline.pin (pcfgs (F := F)) adm) EP p d)
    ∗ bigSep Finset.univ fun p : Fin 5 => Pipeline.toksInit (Pipeline.pin (pcfgs (F := F)) adm) EP p d)

theorem no_sep {I : Type} (s : Finset I) : (bigSep s fun _ => iprop(emp)) = (iprop(emp) : sProp (MM F)) := bigSep_emp_const s

theorem noX : (bigSep Finset.univ fun thr : Thread nD τ => bigSep Finset.univ fun q : Fin 4 => (P m).x q thr) = (iprop(emp) : sProp (MM F)) :=
  (congrArg (bigSep Finset.univ) (funext fun _ => no_sep Finset.univ)).trans (no_sep Finset.univ)

theorem hu₀ : (ownU (u₀ (F := F)) : sProp (MM F))
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 4 => (P m).x q thr) := by
  unfold u₀
  iintro Hu
  ihave H := (ownU_split _ _) $$ Hu
  icases H with ⟨HH, HK⟩
  imod (Pipeline.fund_ghost (Pipeline.pin (pcfgs (F := F)) adm) EP cellOf_inj) $$ HK with ⟨Hg, Ht⟩
  imodintro
  isplitl [HH]; · iexact HH
  isplitl [Hg Ht]
  · rw [bigSep_sep']
    isplitl [Hg]; · iexact Hg
    iexact Ht
  · rw [noX]
    iempintro

theorem hmain (g : Dev nD → PrngReg) (κ : GSem nD τ sig → ℕ) (d : Dev nD) :
    iprop((K (F := F)).ctx EH (P m) κ (K (F := F)).lev ∗ (K (F := F)).tcSt EH d 0 ∗ (K (F := F)).tcRes m g d ∗ G d)
      ⊢ wp frame (wpE ((K (F := F)).defs (D (F := F))) 𝒱 (SparseCore.T d) none) Set.univ (main d)
          fun _ => iprop((K (F := F)).tcSt EH d 4 ∗ bufs d (WE3 m d) ∗ (K (F := F)).tcEnd d) := by
  unfold SparseCore.Cfg.tcRes SparseCore.Cfg.tcEnd G
  rw [five, five]
  iintro ⟨#Hctx, Hst, ⟨Hb, Hu, Hs, -⟩, ⟨G0, G1, G2, G3, G4⟩, ⟨T0, T1, T2, T3, T4⟩⟩
  iapply (main_wp m d κ _)
  isplitr; · iexact Hctx
  isplitl [G0 G1 G2 G3 G4 T0 T1 T2 T3 T4]
  · iframe G0 T0 G1 T1 G2 T2 G3 T3 G4 T4
  isplitl [Hst Hb Hu]
  · isplitl [Hb]; · iexact Hb
    isplitl [Hu]; · iexact Hu
    iexact Hst
  iintro ⟨Hb, Hu, Hst⟩
  iframe Hst Hu Hb Hs

theorem agree (W : Vals F) (s' : Phys nD τ sig (Elt F)) (r : Ref sig .tc) (h : (Proc.devRef (.tc : Proc τ) r).isScoped = false) :
    iprop(bufs d W ∗ SI s') ⊢ (⌜s'.mem.mem ((SparseCore.T d).loc r) = W.at r⌝ : sProp (MM F)) := by
  have e : bufs d W = iprop(((SparseCore.T d).loc r ↦{fullShare} W.at r) ∗ StableHlo.held (SparseCore.T d) (uc.erase (Proc.devRef (.tc : Proc τ) r)) W) := by
    rw [bufs_held]
    exact BI.bigSep_erase (mem_uc r h)
  rw [e]
  iintro ⟨⟨Hr, -⟩, HSI⟩
  ihave H := (SI_pointsTo_agree (st := s') (ℓ := (SparseCore.T d).loc r) (I := Finset.univ) (q := fullShare) (f := W.at r)) $$ [HSI Hr]
  · isplitl [HSI]
    · iexact HSI
    · iexact Hr
  icases H with %h
  ipureintro
  exact funext fun i => h i (Finset.mem_univ i)

theorem both {A : sProp (MM F)} {p q : Prop} (h : A ⊢ (⌜p⌝ : sProp (MM F))) (h' : A ⊢ (⌜q⌝ : sProp (MM F))) : A ⊢ (⌜p ∧ q⌝ : sProp (MM F)) :=
  (BIClass.and_intro h h').trans pure_and.1

/-- What a final memory holds on device `d`. -/
def fq (d : Dev nD) (s' : Phys nD τ sig (Elt F)) : Prop :=
  s'.mem.mem ((SparseCore.T d).loc main_v11) = (WE3 m d).at main_v11 ∧ s'.mem.mem ((SparseCore.T d).loc main_arg0) = (WE3 m d).at main_arg0
    ∧ s'.mem.mem ((SparseCore.T d).loc main_arg1) = (WE3 m d).at main_arg1 ∧ s'.mem.mem ((SparseCore.T d).loc main_arg2) = (WE3 m d).at main_arg2
    ∧ s'.mem.mem ((SparseCore.T d).loc main_arg3) = (WE3 m d).at main_arg3

theorem hfin (s' : Phys nD τ sig (Elt F)) : iprop(bufs d (WE3 m d) ∗ SI s') ⊢ (⌜fq m d s'⌝ : sProp (MM F)) :=
  both (agree d _ s' main_v11 rfl) (both (agree d _ s' main_arg0 rfl) (both (agree d _ s' main_arg1 rfl) (both (agree d _ s' main_arg2 rfl) (agree d _ s' main_arg3 rfl))))

theorem keep_arg {r : Ref sig .tc} (h : Arg r) (h' : Tab r) : (WE3 m d).at r = m ((SparseCore.T d).loc r) :=
  ((keep_slices m d h').2.2.2).trans (keep_pre m d h)

/-- What the run leaves: the result, the arguments as they were, every semaphore's counter at zero. -/
def QC : PUnit × MemSt nD τ sig (Elt F) → Prop := fun r =>
  (∀ d : Dev nD, r.2.mem ((d.tc : Thread nD τ).loc main_v11) = (WE3 m d).at main_v11
    ∧ r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2)
    ∧ r.2.mem ((d.tc : Thread nD τ).loc main_arg3) = m ((d.tc : Thread nD τ).loc main_arg3)) ∧ r.2.sem = fun _ => 0

theorem run_main [∀ e, Nonempty (Elt F e)] (g : Dev nD → PrngReg) (hm : InRange m) :
    θ_run (defs (F := F)) (threads (F := F)) ⟨m, fun _ => 0, g⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq | 2 => nomatch hq | 3 => nomatch hq)
    (fun q _ => match q with | 0 => tileObl0 m hm | 1 => tileObl1 m hm | 2 => tileObl2 m hm | 3 => tileObl3 m hm)
    (fun q _ => SparseCore.Cfg.VecSplit.of_plain (vecSplit m q))
    m g main G (fun d => bufs d (WE3 m d)) (u₀ (F := F)) (sep_elim_left.trans (hu₀ m)) (hmain m g) (fq m) (hfin m) (QC m)
    (fun _ h hz => ⟨fun d => ⟨(h d).1, (h d).2.1.trans (keep_arg m d (by decide) (by decide)), (h d).2.2.1.trans (keep_arg m d (by decide) (by decide)),
      (h d).2.2.2.1.trans (keep_arg m d (by decide) (by decide)), (h d).2.2.2.2.trans (keep_arg m d (by decide) (by decide))⟩, hz⟩)

end Cert.Proof.Hist

end
-- ==== Proof.Frames.lean ====
/-
  The frames of the kernel, as printed and as idealized, both from the one run.
-/
module

public import proofs.«01_k».proof.Proof.Run
public import proofs.«01_k».proof.Proof.Gen.Kernel
public import proofs.«01_k».proof.Proof.Gen.Pre_tokens_in_vocab
public import proofs.«01_k».proof.Proof.Gen.Pre_finite_tables
public import proofs.«01_k».proof.Defs
public import Idealize.ShloMosaic.Lib.ReduceAll

@[expose] public section

noncomputable section

namespace Cert.Proof.Hist

open Idealize.ShloMosaic Idealize.SL.Sem

/-- At the machine's floats the named constant is the literal's own word. -/
instance namedBits : Named Bits where
  named _ _ {φ} bits := Scalar.ofBits φ bits

/-- A signed word in [0, 1000) is its own value. -/
theorem word_lt (v : BitVec 32) (e : IntOp.andi (IntOp.cmpi .sge v 0#32) (IntOp.cmpi .slt v 1000#32) = 1#1) : v.toNat < 1000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

instance : Subsingleton (Shape.Idx ⟨0, ![]⟩) := ⟨fun a b => funext fun i => i.elim0⟩

section Pre
variable {F : FTy → Type} [FloatOps F]

theorem tokens_of_pre (x : IVec Cert.Pre_tokens_in_vocab.S16384x200 32) (e f b)
    (h : Cert.Pre_tokens_in_vocab.fn (F := F) x e f b = fun _ => 1#1) (j) : (x j).toNat < 1000 :=
  word_lt _ (Host.reduce_andi_all _ _ _ _ _ (congrFun h (fun i => i.elim0)) j)

theorem tables_of_pre (x : IVec Cert.Pre_finite_tables.S16384x200 32) (e f b)
    (h : Cert.Pre_finite_tables.fn (F := F) x e f b = fun _ => 1#1) :
    (∀ j, (x j).toNat < 1000) ∧ (∀ j, FloatOps.cmpf .olt (FloatOps.hostAbsf (e j)) (Scalar.ofBits .f32 0x7F800000#32) = 1#1)
      ∧ (∀ j, FloatOps.cmpf .olt (FloatOps.hostAbsf (f j)) (Scalar.ofBits .f32 0x7F800000#32) = 1#1) := by
  have h := congrFun h (fun i => i.elim0)
  obtain ⟨h12, h3⟩ := IntOp.andi_eq_one.1 h
  obtain ⟨h1, h2⟩ := IntOp.andi_eq_one.1 h12
  refine ⟨fun j => word_lt _ (Host.reduce_andi_all _ _ _ _ _ h1 j), fun j => ?_, fun j => ?_⟩
  · exact Host.reduce_andi_all _ _ _ _ _ h2 j
  · exact Host.reduce_andi_all _ _ _ _ _ h3 j
end Pre

/-- The run, less the result. -/
theorem run_args {F : FTy → Type} [FloatOps F] [Named F] [∀ e, Nonempty (Elt F e)] (m : (ℓ : Loc Cert.KernelIdeal.nD Cert.KernelIdeal.τ Cert.KernelIdeal.sig) → Buf (Elt F) ℓ)
    (g : Dev Cert.KernelIdeal.nD → PrngReg) (hm : InRange m) :
    θ_run (Cert.KernelIdeal.defs (F := F)) (Cert.KernelIdeal.threads (F := F)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) := by
  refine (θ_run _ _ _).mono ?_ (run_main m g hm)
  intro r h
  exact ⟨fun c => (h.1 c).2, h.2⟩

theorem inRange_Ideal (m : (ℓ : Loc Cert.KernelIdeal.nD Cert.KernelIdeal.τ Cert.KernelIdeal.sig) → Buf (Elt Ideal) ℓ) (h : Cert.Pre_KernelIdeal m) : InRange (F := Ideal) m :=
  fun d j => lt_trans (tokens_of_pre _ _ _ _ (h d) j) (by decide)

theorem frame_Ideal : Cert.quiescent_KernelIdeal := fun m g h => run_args (F := Ideal) m g (inRange_Ideal m h)

theorem inRange_Bits (m : (ℓ : Loc Cert.Kernel.nD Cert.Kernel.τ Cert.Kernel.sig) → Buf (Elt Bits) ℓ) (h : Cert.Pre_Kernel m) : InRange (F := Bits) m :=
  fun d j => lt_trans (tokens_of_pre _ _ _ _ (h d) j) (by decide)

end Cert.Proof.Hist
-- ==== Proof.Words.lean ====
/-
  Over words the bodies of the kernel as printed are those of the idealized kernel.
-/
module

public import proofs.«01_k».proof.Proof.Frames

@[expose] public section

namespace Cert.Proof.Hist

open Idealize.ShloMosaic Idealize.SL.Sem

set_option maxRecDepth 100000
set_option maxHeartbeats 4000000

theorem fold_eq : @Cert.Kernel.cc0__m2_body Bits _ _ = @Cert.KernelIdeal.cc0__m2_body Bits _ _ _ := rfl
theorem product0_eq : @Cert.Kernel.cc2__mm_body Bits _ _ = @Cert.KernelIdeal.cc2__mm_body Bits _ _ := rfl
theorem product1_eq : @Cert.Kernel.cc4__mm_body Bits _ _ = @Cert.KernelIdeal.cc4__mm_body Bits _ _ := rfl
theorem product2_eq : @Cert.Kernel.cc6__mm_body Bits _ _ = @Cert.KernelIdeal.cc6__mm_body Bits _ _ := rfl
theorem product3_eq : @Cert.Kernel.cc8__mm_body Bits _ _ = @Cert.KernelIdeal.cc8__mm_body Bits _ _ := rfl
theorem counts0_eq : @Cert.Kernel.cc1_hist_slice0 Bits _ _ = @Cert.KernelIdeal.cc1_hist_slice0 Bits _ _ := rfl
theorem counts1_eq : @Cert.Kernel.cc3_hist_slice1 Bits _ _ = @Cert.KernelIdeal.cc3_hist_slice1 Bits _ _ := rfl
theorem counts2_eq : @Cert.Kernel.cc5_hist_slice2 Bits _ _ = @Cert.KernelIdeal.cc5_hist_slice2 Bits _ _ := rfl
theorem counts3_eq : @Cert.Kernel.cc7_hist_slice3 Bits _ _ = @Cert.KernelIdeal.cc7_hist_slice3 Bits _ _ := rfl

end Cert.Proof.Hist
-- ==== Proof.Printed.lean ====
/-
  The frame of the kernel as printed.
-/
module

public import proofs.«01_k».proof.Proof.Words

@[expose] public section

namespace Cert.Proof.Hist

open Idealize.ShloMosaic Idealize.SL.Sem

set_option maxRecDepth 100000
set_option maxHeartbeats 4000000

/-- The tables of bodies are one. -/
theorem bodies_eq : Cert.Kernel.defs₀ (F := Bits) = Cert.KernelIdeal.defs₀ (F := Bits) := by
  unfold Cert.Kernel.defs₀
  rw [fold_eq, product0_eq, product1_eq, product2_eq, product3_eq, counts0_eq, counts1_eq, counts2_eq, counts3_eq]
  funext p l a
  rcases p with ⟨⟩ | c | ⟨c, s⟩ <;>
  · change Fin 9 at l
    fin_cases l <;> rfl

theorem defs_eq : Cert.Kernel.defs (F := Bits) = Cert.KernelIdeal.defs (F := Bits) :=
  congrArg (fun D => Cert.KernelIdeal.sc.defs (Pipeline.defs Cert.KernelIdeal.pcfgs D)) bodies_eq

theorem frame_Bits : Cert.quiescent_Kernel := by
  intro m g h
  have key : ∀ D, D = Cert.KernelIdeal.defs (F := Bits) → ∀ Q, θ_run (Cert.KernelIdeal.defs (F := Bits)) (Cert.KernelIdeal.threads (F := Bits)) ⟨m, fun _ => 0, g⟩ Q →
      θ_run D (Cert.KernelIdeal.threads (F := Bits)) ⟨m, fun _ => 0, g⟩ Q := by
    rintro _ rfl Q hQ
    exact hQ
  exact key _ defs_eq _ (run_args (F := Bits) m g (inRange_Bits m h))

end Cert.Proof.Hist
-- ==== Proof.KerVal.lean ====
/-
  The result the kernel's main program leaves, from its arguments.
-/
module

public import proofs.«01_k».proof.Proof.Whole

@[expose] public section

noncomputable section

namespace Cert.Proof.Hist

open Cert.KernelIdeal Cert.KernelIdeal.Gen Cert.KernelIdeal.Facts

open Idealize.ShloMosaic

variable {F : FTy → Type} [FloatOps F] [Named F]

/-- The embedding with its rows of padding. -/
def padded (E : Vec F S1000x128 .f32) : Vec F S1024x128 .f32 :=
  pad S1024x128 ![0, 0] ![24, 0] ![0, 0] E (sitofp .f32 (constantI S_ 32 0#32) : Vec F S_ .f32) pads_S1000x128_S1024x128_0240_000 h_S_

/-- The bias as one row. -/
def rowed (B : Vec F S128 .f32) : Vec F S1x128 .f32 := shapeCast S1x128 B shapeCasts_S128_S1x128

variable (m : (ℓ : Loc nD τ sig) → Buf (Elt F) ℓ) (d : Dev nD)

theorem pad_at : (Wpad m d).at main_v0 = padded (W0 m d |>.at main_arg1) := by
  unfold Wpad
  refine (StableHlo.binary_result' _ _ _ _ _).trans ?_
  have e1 : (((W0 m d).run opC).run opConv).at main_arg1 = (W0 m d).at main_arg1 := by rw [keepConv (by decide), keepC (by decide)]
  have e2 : (((W0 m d).run opC).run opConv).at main_call0_v0 = (sitofp .f32 (constantI S_ 32 0#32) : Vec F S_ .f32) := by
    refine (StableHlo.unary_result' _ _ _ _).trans ?_
    have : ((W0 m d).run opC).at main_c = constantI S_ 32 0#32 := StableHlo.nullary_result' _ _ _
    exact congrArg (sitofp .f32) this
  show pad S1024x128 ![0, 0] ![24, 0] ![0, 0] ((((W0 m d).run opC).run opConv).at main_arg1) ((((W0 m d).run opC).run opConv).at main_call0_v0)
    pads_S1000x128_S1024x128_0240_000 h_S_ = _
  rw [e1, e2]
  rfl

theorem table_at : (Wpre m d).at main_v1 = foldVal (padded (W0 m d |>.at main_arg1)) (W0 m d |>.at main_arg2) := by
  unfold Wpre
  rw [keepOut (by decide), keepZero (by decide), keepBias (by decide)]
  refine (upd_self _ _ _).trans ?_
  have e : (Wpad m d).at main_arg2 = (W0 m d).at main_arg2 := by
    unfold Wpad
    rw [keepPad (by decide), keepConv (by decide), keepC (by decide)]
  rw [pad_at, e]

theorem bias_at : (Wpre m d).at main_v2 = rowed (W0 m d |>.at main_arg3) := by
  unfold Wpre
  rw [keepOut (by decide), keepZero (by decide)]
  refine (StableHlo.reshape_result' _ _ _ _ _).trans ?_
  have e : (aft0 (Wpad m d)).at main_arg3 = (W0 m d).at main_arg3 := by
    rw [upd_ne _ _ (by decide)]
    unfold Wpad
    rw [keepPad (by decide), keepConv (by decide), keepC (by decide)]
  exact congrArg rowed e

/-- What one slice's calls put in their rows. -/
abbrev sliced (q : ℕ) : Vec F S16384x128 .f32 :=
  mmOut (hist (X m d) q) (foldVal (padded (W0 m d |>.at main_arg1)) (W0 m d |>.at main_arg2)) (rowed (W0 m d |>.at main_arg3))

theorem slice0 (j : S16384x128.Idx) (h : inSlice 0 j) : (WE0 m d).at main_v5 j = sliced m d 0 j := by
  unfold WE0
  rw [upd_self]
  refine (if_pos h).trans ?_
  unfold WC0
  rw [keepCopy0 (by decide), keepCopy0 (by decide), keepCopy0 (by decide), upd_self, upd_ne _ _ (by decide), upd_ne _ _ (by decide), table_at, bias_at]

theorem slice1 (j : S16384x128.Idx) : (WE1 m d).at main_v7 j = if inSlice 1 j then sliced m d 1 j else (WE0 m d).at main_v5 j := by
  unfold WE1
  rw [upd_self]
  unfold WC1
  have e : ((upd (WE0 m d) main_v6 (hist (X m d) 1)).run opCopy1).at main_v7 = (WE0 m d).at main_v5 :=
    (StableHlo.unary_result' _ _ _ _).trans (upd_ne _ _ (by decide))
  rw [e, keepCopy1 (by decide), keepCopy1 (by decide), keepCopy1 (by decide), upd_self, upd_ne _ _ (by decide), upd_ne _ _ (by decide),
    (keep_slices m d (by decide)).1, (keep_slices m d (by decide)).1, table_at, bias_at]
  rfl

theorem slice2 (j : S16384x128.Idx) : (WE2 m d).at main_v9 j = if inSlice 2 j then sliced m d 2 j else (WE1 m d).at main_v7 j := by
  unfold WE2
  rw [upd_self]
  unfold WC2
  have e : ((upd (WE1 m d) main_v8 (hist (X m d) 2)).run opCopy2).at main_v9 = (WE1 m d).at main_v7 :=
    (StableHlo.unary_result' _ _ _ _).trans (upd_ne _ _ (by decide))
  rw [e, keepCopy2 (by decide), keepCopy2 (by decide), keepCopy2 (by decide), upd_self, upd_ne _ _ (by decide), upd_ne _ _ (by decide),
    (keep_slices m d (by decide)).2.1, (keep_slices m d (by decide)).2.1, table_at, bias_at]
  rfl

theorem slice3 (j : S16384x128.Idx) : (WE3 m d).at main_v11 j = if inSlice 3 j then sliced m d 3 j else (WE2 m d).at main_v9 j := by
  unfold WE3
  rw [upd_self]
  unfold WC3
  have e : ((upd (WE2 m d) main_v10 (hist (X m d) 3)).run opCopy3).at main_v11 = (WE2 m d).at main_v9 :=
    (StableHlo.unary_result' _ _ _ _).trans (upd_ne _ _ (by decide))
  rw [e, keepCopy3 (by decide), keepCopy3 (by decide), keepCopy3 (by decide), upd_self, upd_ne _ _ (by decide), upd_ne _ _ (by decide),
    (keep_slices m d (by decide)).2.2.1, (keep_slices m d (by decide)).2.2.1, table_at, bias_at]
  rfl

/-- Every row of the result is its slice's. -/
theorem result_at (j : S16384x128.Idx) : (WE3 m d).at main_v11 j = sliced m d ((j 0).val / 4096) j := by
  have hj : (j 0).val < 16384 := (j 0).isLt
  rw [slice3, slice2, slice1]
  split_ifs with h3 h2 h1
  · rw [show (j 0).val / 4096 = 3 by have := h3.1; omega]
  · rw [show (j 0).val / 4096 = 2 by have := h2.1; have := h2.2; omega]
  · rw [show (j 0).val / 4096 = 1 by have := h1.1; have := h1.2; omega]
  · have h0 : inSlice 0 j := by unfold inSlice at *; omega
    rw [slice0 m d j h0, show (j 0).val / 4096 = 0 by have := h0.2; omega]

end Cert.Proof.Hist

end
-- ==== Proof.KerIdeal.lean ====
/-
  The kernel's result over the reals with infinities, at an index.
-/
module

public import proofs.«01_k».proof.Proof.KerVal
public import Idealize.ShloMosaic.Lib.MatmulPlain
public import Idealize.ShloMosaic.Lib.IdealHost
public import Idealize.ShloMosaic.Lib.Pointwise
public import Idealize.ShloMosaic.PureOps.IdealRules

@[expose] public section

noncomputable section

namespace Cert.Proof.HistVal

open Cert.KernelIdeal Cert.KernelIdeal.Gen Cert.KernelIdeal.Facts

open Idealize.ShloMosaic
open Cert.Proof.Hist hiding ix2

theorem ix_eq {n k : ℕ} (r : Fin n) (l : Fin k) : Hist.ix2 r l = ix2 r l := by
  funext a
  match a with
  | ⟨0, _⟩ => rfl
  | ⟨1, _⟩ => rfl

theorem ixv_eq {n k : ℕ} (r : Fin n) (l : Fin k) : ValueIdx.ix2 r l = ix2 r l := by
  funext a
  match a with
  | ⟨0, _⟩ => rfl
  | ⟨1, _⟩ => rfl

/-- A real sum, read among the extended reals. -/
theorem coe_sum' {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- Ones added at the positions that hit. -/
theorem run_ones (q : ℕ → Prop) [DecidablePred q] (n : ℕ) :
    run (hit (F := Ideal) (Ideal.ofBits .f32 0x3F800000#32 : Elt Ideal .f32) true) q 0 n (Ideal.ofBits .f32 0x00000000#32 : Elt Ideal .f32)
      = ((∑ l ∈ Finset.range n, (if q l then 1 else 0 : ℝ) : ℝ) : EReal) := by
  induction n with
  | zero => exact Ideal.ofBits_zero_f32.trans (by simp)
  | succ n ih =>
    rw [run_add, ih, Finset.sum_range_succ, EReal.coe_add]
    show (if q (0 + n) then _ else _) = _
    rw [Nat.zero_add]
    split_ifs
    · show _ + Ideal.ofBits .f32 0x3F800000#32 = _
      rw [Ideal.ofBits_one_f32]
      rfl
    · simp

/-- A count: how many of the row's tokens name the column. -/
theorem hist_apply (X : Vec Ideal S16384x200 .i32) (q : ℕ) (r : Fin 4096) (v : Fin 1024) (b : Fin 16384) (hb : b.val = 4096 * q + r.val) :
    hist X q (ix2 r v) = ((∑ l : Fin 200, (if v.val = (X (ix2 b l) : BitVec 32).toNat then 1 else 0 : ℝ) : ℝ) : EReal) := by
  refine (run_ones _ 200).trans ?_
  congr 1
  rw [Finset.sum_range]
  refine Finset.sum_congr rfl fun l _ => if_congr ?_ rfl rfl
  constructor
  · rintro ⟨b', l', h0, h1, h2⟩
    obtain rfl : b' = b := Fin.ext (h0.trans hb.symm)
    obtain rfl : l' = l := Fin.ext h1
    rwa [ix_eq] at h2
  · exact fun h => ⟨b, l, hb, rfl, by rw [ix_eq]; exact h⟩

theorem padded_apply (E : Vec Ideal S1000x128 .f32) (v : Fin 1024) (e : Fin 128) :
    padded E (ix2 v e) = if h : v.val < 1000 then E (ix2 ⟨v.val, h⟩ e) else 0 := by
  unfold padded
  rw [pad_apply]
  by_cases h : v.val < 1000
  · rw [dif_pos h, dif_pos]
    · congr 1
      funext k
      fin_cases k
      · exact Fin.ext (by show (v.val - 0) / (0 + 1) = v.val; simp)
      · exact Fin.ext (by show (e.val - 0) / (0 + 1) = e.val; simp)
    · intro a
      fin_cases a
      · show 0 ≤ v.val ∧ (v.val - 0) % (0 + 1) = 0 ∧ (v.val - 0) / (0 + 1) < 1000
        simp [h, Nat.mod_one]
      · show 0 ≤ e.val ∧ (e.val - 0) % (0 + 1) = 0 ∧ (e.val - 0) / (0 + 1) < 128
        simp [Nat.mod_one]
  · rw [dif_neg h, dif_neg]
    · show (((0#32 : BitVec 32).toInt : ℝ) : EReal) = 0
      simp
    · intro hin
      have h0 : (v.val - 0) / (0 + 1) < 1000 := (hin 0).2.2
      simp at h0
      exact h h0

theorem foldVal_apply (A : Vec Ideal S1024x128 .f32) (W : Vec Ideal S128x128 .f32) (v : Fin 1024) (o : Fin 128) :
    foldVal A W (ix2 v o) = (∑ e : Fin 128, A (ix2 v e) * W (ix2 o e)) * ((200⁻¹ : ℝ) : EReal) := by
  have hs := Ideal.matmul_transposedRhs_apply (φ₁ := .f32) (φ₂ := .f32) (M := 1024) (K := 128) (N := 128) none
    (shapeCast S1024x128 A shapeCasts_S1024x128_S1024x128 : FVec Ideal S1024x128 .f32) (W : FVec Ideal S128x128 .f32) (constant S1024x128 .f32 0x00000000#32) v o
  refine (congrArg₂ (· * ·) hs (IdealRules.named_const.ideal_named_scalar _ _ _ _ rfl)).trans ?_
  refine congrArg (· * _) ((congrArg₂ (· + ·) Ideal.ofBits_zero_f32 (Finset.sum_congr rfl fun e _ => ?_)).trans (zero_add _))
  pointwise
  rw [ixv_eq, ixv_eq]

theorem mmVal_apply (A : Vec Ideal S1024x1024 .f32) (M : Vec Ideal S1024x128 .f32) (B : Vec Ideal S1x128 .f32) (r : Fin 1024) (o : Fin 128) :
    mmVal A M B (ix2 r o) = (∑ v : Fin 1024, A (ix2 r v) * M (ix2 v o)) + B (ix2 0 o) := by
  have hs := Ideal.matmul_plain_apply (M := 1024) (K := 1024) (N := 128) none
    (truncf .bf16 (shapeCast S1024x1024 A shapeCasts_S1024x1024_S1024x1024 : FVec Ideal S1024x1024 .f32) bitsLt_bf16_f32)
    (truncf .bf16 (shapeCast S1024x128 M shapeCasts_S1024x128_S1024x128 : FVec Ideal S1024x128 .f32) bitsLt_bf16_f32) (constant S1024x128 .f32 0x00000000#32) r o
  refine congrArg₂ (· + ·) (hs.trans ((congrArg₂ (· + ·) Ideal.ofBits_zero_f32 (Finset.sum_congr rfl fun v _ => ?_)).trans (zero_add _))) ?_
  · pointwise
    rw [ixv_eq, ixv_eq]
  · pointwise

theorem rowed_apply (B : Vec Ideal S128 .f32) (o : Fin 128) : rowed B (ix2 0 o) = B (ix1 o) := by
  unfold rowed
  pointwise

variable (m : (ℓ : Loc nD τ sig) → Buf (Elt Ideal) ℓ) (d : Dev nD)

/-- The kernel's result: counts against the folded table, and the bias. -/
theorem kernel_at (b : Fin 16384) (o : Fin 128) : (WE3 m d).at main_v11 (ix2 b o)
    = (∑ v : Fin 1024, ((∑ l : Fin 200, (if v.val = (X m d (ix2 b l) : BitVec 32).toNat then 1 else 0 : ℝ) : ℝ) : EReal)
        * ((∑ e : Fin 128, (if h : v.val < 1000 then (W0 m d).at main_arg1 (ix2 ⟨v.val, h⟩ e) else 0 : EReal) * (W0 m d).at main_arg2 (ix2 o e)) * ((200⁻¹ : ℝ) : EReal)))
      + (W0 m d).at main_arg3 (ix1 o) := by
  refine (result_at m d (ix2 b o)).trans ?_
  have hb := b.isLt
  refine (congrArg (mmVal _ _ _) (ix_eq (⟨b.val % 1024, Nat.mod_lt _ (by decide)⟩ : Fin 1024) o)).trans ?_
  refine (mmVal_apply _ _ _ (⟨b.val % 1024, Nat.mod_lt _ (by decide)⟩ : Fin 1024) o).trans ?_
  refine congrArg₂ (· + ·) (Finset.sum_congr rfl fun v _ => congrArg₂ (· * ·) ?_ ?_) (rowed_apply _ o)
  · refine (congrArg (hist (X m d) (b.val / 4096)) (ix_eq _ _)).trans ?_
    refine hist_apply (X m d) (b.val / 4096) ⟨1024 * (b.val / 1024 % 4) + b.val % 1024, by omega⟩ v b ?_
    show b.val = 4096 * (b.val / 4096) + (1024 * (b.val / 1024 % 4) + b.val % 1024)
    omega
  · refine (foldVal_apply _ _ v o).trans (congrArg (· * _) (Finset.sum_congr rfl fun e _ => congrArg (· * _) (padded_apply _ v e)))

end Cert.Proof.HistVal

end
-- ==== Proof.RefRun.lean ====
/-
  The run of the reference: its frame, and what its result holds.
-/
module

public import proofs.«01_k».proof.Proof.Gen.ReferenceIdeal
public import proofs.«01_k».proof.Defs
public import Idealize.ShloMosaic.Lib.Claim
public import Idealize.ShloMosaic.Lib.StableHlo.RunRead

@[expose] public section

namespace Cert.Proof.Hist

open Idealize.ShloMosaic Idealize.SL.Sem

/-- The reference has no counter at all. -/
theorem no_counter : IsEmpty (SemLoc Cert.ReferenceIdeal.sig) :=
  ⟨fun s => match s with
    | .reg i => absurd i.2 (Nat.not_lt_zero _)
    | .dma i => absurd i.2 (Nat.not_lt_zero _)⟩

theorem frame_ref : Cert.quiescent_ReferenceIdeal := by
  intro m g h
  hlo_run
  · exact fun _ => ⟨trivial, trivial, trivial, trivial⟩
  funext s
  exact (no_counter.false (Prod.snd (α := Thread Cert.ReferenceIdeal.nD Cert.ReferenceIdeal.τ) s)).elim

open Cert.ReferenceIdeal Cert.ReferenceIdeal.Facts₀ Cert.ReferenceIdeal.Facts in
/-- The row each token names, a negative one counted from the end. -/
noncomputable def rIdx (x : IVec S16384x200 32) : IVec S16384x200x1 32 :=
  broadcastInDim S16384x200x1 ![0, 1] bcast_S16384x200_S16384x200x1_0_1
    (select (cmpi .slt x (broadcastInDim S16384x200 ![] bcast_S_S16384x200 (constantI S_ 32 0#32)))
      (addi x (broadcastInDim S16384x200 ![] bcast_S_S16384x200 (constantI S_ 32 1000#32))) x)

open Cert.ReferenceIdeal Cert.ReferenceIdeal.Facts₀ Cert.ReferenceIdeal.Facts in
/-- Whether the row is one of the table's. -/
noncomputable def rOk (x : IVec S16384x200 32) : IVec S16384x200 1 :=
  Host.reduce IntOp.andi
    (andi (cmpi .sge (rIdx x) (broadcastInDim S16384x200x1 ![] bcast_S_S16384x200x1 (constantI S_ 32 0#32)))
      (cmpi .sle (rIdx x) (broadcastInDim S16384x200x1 ![0, 1, 2] bcast_S1x1x1_S16384x200x1_0_1_2
        (broadcastInDim S1x1x1 ![2] bcast_S1_S1x1x1_2 (constantI S1 32 999#32)))))
    (constantI S_ 1 1#1) reducesTo_S16384x200x1_S16384x200_d2 h_S_

open Cert.ReferenceIdeal Cert.ReferenceIdeal.Facts₀ Cert.ReferenceIdeal.Facts in
/-- The rows taken. -/
noncomputable def rTake (x : IVec S16384x200 32) (e : FVec Ideal S1000x128 .f32) : FVec Ideal S16384x200x128 .f32 :=
  select (broadcastInDim S16384x200x128 ![0, 1] bcast_S16384x200_S16384x200x128_0_1 (rOk x))
    (Host.gather gather_S1000x128_S16384x200x1_S16384x200x128_2_0_n_n_0_2_1128 e (rIdx x))
    (broadcastInDim S16384x200x128 ![] bcast_S_S16384x200x128 (constant S_ .f32 0x7FC00000#32))

open Cert.ReferenceIdeal Cert.ReferenceIdeal.Facts₀ Cert.ReferenceIdeal.Facts in
/-- The means of the rows. -/
noncomputable def rMean (x : IVec S16384x200 32) (e : FVec Ideal S1000x128 .f32) : FVec Ideal S16384x128 .f32 :=
  Host.divf (Host.reduceAdd (rTake x e) (constant S_ .f32 0x00000000#32) reducesTo_S16384x200x128_S16384x128_d1 h_S_)
    (broadcastInDim S16384x128 ![] bcast_S_S16384x128 (constant S_ .f32 0x43480000#32))

open Cert.ReferenceIdeal Cert.ReferenceIdeal.Facts₀ Cert.ReferenceIdeal.Facts in
/-- The reference's result. -/
noncomputable def rOut (x : IVec S16384x200 32) (e : FVec Ideal S1000x128 .f32) (w : FVec Ideal S128x128 .f32) (b : FVec Ideal S128 .f32) :
    FVec Ideal S16384x128 .f32 :=
  addf (Host.dotGeneral dot_S16384x128_S128x128_S16384x128_1_0_0_1_n_n none (rMean x e) (transpose S128x128 [1, 0] w transposes_S128x128_S128x128_1_0))
    (broadcastInDim S16384x128 ![0, 1] bcast_S1x128_S16384x128_0_1 (broadcastInDim S1x128 ![1] bcast_S128_S1x128_1 b))

open Cert.ReferenceIdeal in
theorem run_ref (m : (ℓ : Loc nD τ sig) → Buf (Elt Ideal) ℓ) (g : Dev nD → PrngReg) :
    θ_run (Cert.ReferenceIdeal.defs (F := Ideal)) (onTc (τ := τ) (Cert.ReferenceIdeal.main (F := Ideal))) ⟨m, fun _ => 0, g⟩ (fun r => ∀ c : Dev nD,
      r.2.mem ((c.tc : Thread nD τ).loc main_v8) = rOut (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono ?_ (StableHlo.run_hlo _ _ (by hlo_seq) (by decide) (by decide) (by simp)
      (by intro _ h; (repeat (cases h with | head => rfl | tail _ h => ?_)); exact nomatch h) _ _)
  intro r hc c
  refine ⟨(hc c main_v8).trans ?_, (hc c main_arg0).trans ?_, (hc c main_arg1).trans ?_, (hc c main_arg2).trans ?_, (hc c main_arg3).trans ?_⟩
  · after_reads_simp
    simp only [StableHlo.TRef.ofBuf_toBuf]
    simp -implicitDefEqProofs only [StableHlo.TRef.toBuf, StableHlo.TRef.ofBuf, cast_cast, cast_eq]
    clear hc
    unfold rOut rMean rTake rOk rIdx
    rfl
  all_goals after_reads_simp

end Cert.Proof.Hist
-- ==== Proof.RefVal.lean ====
/-
  The reference's result at an index.
-/
module

public import proofs.«01_k».proof.Proof.RefRun
public import Idealize.ShloMosaic.Lib.ReduceAll
public import Idealize.ShloMosaic.Lib.ValueIdx
public import Idealize.ShloMosaic.Lib.StackMember
public import Idealize.ShloMosaic.Lib.Pointwise.Reduce
public import Idealize.ShloMosaic.Lib.StableHlo.ReadAt

@[expose] public section

namespace Cert.Proof.Hist

open Idealize.ShloMosaic Idealize.SL.Sem
open Cert.ReferenceIdeal Cert.ReferenceIdeal.Facts₀ Cert.ReferenceIdeal.Facts

theorem toInt_small {a : BitVec 32} (h : a.toNat < 1000) : a.toInt = (a.toNat : ℤ) :=
  BitVec.toInt_eq_toNat_of_lt (by omega)

/-- A word below 1000 is not negative. -/
theorem not_neg {a : BitVec 32} (h : a.toNat < 1000) : IntOp.cmpi .slt a 0#32 = 0#1 := by
  have hb : BitVec.slt a 0#32 = false := by
    rw [BitVec.slt_eq_decide, toInt_small h]
    simp
  show BitVec.ofBool (BitVec.slt a 0#32) = 0#1
  rw [hb]; rfl

theorem is_nonneg {a : BitVec 32} (h : a.toNat < 1000) : IntOp.cmpi .sge a 0#32 = 1#1 := by
  have hb : BitVec.sle 0#32 a = true := by
    rw [BitVec.sle_eq_decide, toInt_small h]
    simp
  show BitVec.ofBool (BitVec.sle 0#32 a) = 1#1
  rw [hb]; rfl

theorem is_small {a : BitVec 32} (h : a.toNat < 1000) : IntOp.cmpi .sle a 999#32 = 1#1 := by
  have hb : BitVec.sle a 999#32 = true := by
    rw [BitVec.sle_eq_decide, toInt_small h]
    have : (999#32 : BitVec 32).toInt = 999 := rfl
    rw [this]
    simp; omega
  show BitVec.ofBool (BitVec.sle a 999#32) = 1#1
  rw [hb]; rfl

theorem rIdx_apply (x : IVec S16384x200 32) (h : ∀ j, (x j).toNat < 1000) (b : Fin 16384) (l : Fin 200) (z : Fin 1) :
    rIdx x (ix3 b l z) = x (ix2 b l) := by
  unfold rIdx
  pointwise
  rw [not_neg (h _)]
  rfl

theorem rOk_apply (x : IVec S16384x200 32) (h : ∀ j, (x j).toNat < 1000) (b : Fin 16384) (l : Fin 200) :
    rOk x (ix2 b l) = 1#1 := by
  unfold rOk
  refine Host.reduce_andi_one _ _ _ _ _ rfl fun i => ?_
  have hi : i = ix3 (i 0) (i 1) (i 2) := by
    funext a
    match a with
    | ⟨0, _⟩ => rfl
    | ⟨1, _⟩ => rfl
    | ⟨2, _⟩ => rfl
  have e := (congrArg (rIdx x) hi).trans (rIdx_apply x h (i 0) (i 1) (i 2))
  show IntOp.andi (IntOp.cmpi .sge (rIdx x i) 0#32) (IntOp.cmpi .sle (rIdx x i) 999#32) = 1#1
  rw [e, is_nonneg (h _), is_small (h _)]
  rfl

theorem gather_apply (x : IVec S16384x200x1 32) (e : FVec Ideal S1000x128 .f32) (b : Fin 16384) (l : Fin 200) (c : Fin 128) (r : Fin 1000)
    (h : (x (ix3 b l 0)).toInt.toNat = r.val) :
    Host.gather gather_S1000x128_S16384x200x1_S16384x200x128_2_0_n_n_0_2_1128 e x (ix3 b l c) = e (ix2 r c) := by
  unfold Host.gather
  refine congrArg e (funext fun a => Fin.ext ?_)
  generalize hd : gather_S1000x128_S16384x200x1_S16384x200x128_2_0_n_n_0_2_1128 = d
  match a with
  | ⟨0, _⟩ =>
    show d.start (ix3 b l c) x 0 + d.batchCoord (ix3 b l c) 0 + d.offCoord (ix3 b l c) 0 = r.val
    subst hd
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000x128_S16384x200x1_S16384x200x128_2_0_n_n_0_2_1128.startIndexMap from List.mem_singleton.mpr rfl)]
    have hsi : gather_S1000x128_S16384x200x1_S16384x200x128_2_0_n_n_0_2_1128.siIdx (ix3 b l c) ⟨List.idxOf (0 : Fin 2) gather_S1000x128_S16384x200x1_S16384x200x128_2_0_n_n_0_2_1128.startIndexMap,
        List.idxOf_lt_length_iff.2 (List.mem_singleton.mpr rfl)⟩ = ix3 b l 0 := by
      funext b'; refine Fin.ext ?_
      match b' with
      | ⟨0, _⟩ => rfl
      | ⟨1, _⟩ => rfl
      | ⟨2, _⟩ => rfl
    rw [hsi, h]
    show min r.val (1000 - 1) = r.val
    have := r.isLt
    omega
  | ⟨1, _⟩ =>
    show d.start (ix3 b l c) x 1 + d.batchCoord (ix3 b l c) 1 + d.offCoord (ix3 b l c) 1 = c.val
    subst hd
    rw [GatherDims.batchCoord_eq_zero _ _ _ List.not_mem_nil]
    unfold GatherDims.start
    rw [dif_neg (show ¬ (1 : Fin 2) ∈ gather_S1000x128_S16384x200x1_S16384x200x128_2_0_n_n_0_2_1128.startIndexMap from by
      intro h; exact absurd (List.mem_singleton.1 h) (by decide))]
    simp only [Nat.zero_add]
    rfl

theorem rTake_apply (x : IVec S16384x200 32) (h : ∀ j, (x j).toNat < 1000) (e : FVec Ideal S1000x128 .f32) (b : Fin 16384) (l : Fin 200) (c : Fin 128) :
    rTake x e (ix3 b l c) = e (ix2 ⟨(x (ix2 b l)).toNat, h _⟩ c) := by
  unfold rTake
  pointwise
  rw [rOk_apply x h, gather_apply _ e b l c ⟨(x (ix2 b l)).toNat, h _⟩]
  · rfl
  · rw [rIdx_apply x h, toInt_small (h _)]
    rfl

theorem two_hundred : Ideal.ofBits .f32 0x43480000#32 = ((200 : ℝ) : EReal) := by
  simp [Ideal.ofBits, Ideal.ieee, -EReal.coe_mul]; norm_num

theorem rMean_apply (x : IVec S16384x200 32) (h : ∀ j, (x j).toNat < 1000) (e : FVec Ideal S1000x128 .f32) (b : Fin 16384) (c : Fin 128) :
    rMean x e (ix2 b c) = (∑ l : Fin 200, e (ix2 ⟨(x (ix2 b l)).toNat, h _⟩ c)) * ((1 / 200 : ℝ) : EReal) := by
  have hs : Host.reduceAdd (rTake x e) (constant S_ .f32 0x00000000#32) reducesTo_S16384x200x128_S16384x128_d1 h_S_ (ix2 b c)
      = ∑ l : Fin 200, e (ix2 ⟨(x (ix2 b l)).toNat, h _⟩ c) := by
    refine (Ideal.hostReduceAdd_r3_a1 reducesTo_S16384x200x128_S16384x128_d1 (rTake x e) _ (ix2 b c)).trans ?_
    refine (congrArg₂ (· + ·) Ideal.ofBits_zero_f32 (Finset.sum_congr rfl fun l _ => rTake_apply x h e b l c)).trans (zero_add _)
  unfold rMean
  pointwise
  refine (congrArg (fun z => FloatOps.hostDivf z (FloatOps.ofBits .f32 0x43480000#32)) hs).trans ?_
  refine Eq.trans ?_ (Ideal.div_coe (y := 200) (by norm_num) _)
  rw [← two_hundred]
  rfl

theorem rOut_apply (x : IVec S16384x200 32) (e : FVec Ideal S1000x128 .f32) (w : FVec Ideal S128x128 .f32) (v : FVec Ideal S128 .f32)
    (b : Fin 16384) (o : Fin 128) :
    rOut x e w v (ix2 b o) = (∑ c : Fin 128, rMean x e (ix2 b c) * w (ix2 o c)) + v (ix1 o) := by
  have hs := StackMember.dotGeneral_plain_apply (m := 16384) (k := 128) (n := 128) none (rMean x e) (transpose S128x128 [1, 0] w transposes_S128x128_S128x128_1_0) b o
  unfold rOut
  pointwise
  refine congrArg₂ (· + ·) (hs.trans (Finset.sum_congr rfl fun c _ => congrArg₂ (· * ·) rfl ?_)) rfl
  pointwise

end Cert.Proof.Hist
-- ==== Proof.Algebra.lean ====
/-
  The kernel's result is the reference's, where the tables are finite.
-/
module

public import proofs.«01_k».proof.Proof.KerIdeal
public import proofs.«01_k».proof.Proof.RefVal
public import proofs.«01_k».proof.Proof.Frames

@[expose] public section

noncomputable section

namespace Cert.Proof.HistVal

open Idealize.ShloMosaic Idealize.SL.Sem
open Cert.Proof.Hist hiding ix2

/-- A value below infinity in magnitude is a real. -/
theorem real_of_finite (x : Ideal .f32)
    (h : FloatOps.cmpf (F := Ideal) (φ := .f32) .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  have hlt : max (x : EReal) (-(x : EReal)) < ⊤ := by
    by_contra hn
    simp [Ideal.cmp, hn] at h
  rw [max_lt_iff] at hlt
  refine ⟨EReal.toReal x, (EReal.coe_toReal (ne_of_lt hlt.1) fun e => ?_).symm⟩
  rw [e] at hlt
  exact absurd hlt.2 (by simp)

/-- Counts against a folded table are a mean of rows against the layer. -/
theorem counts_mean (t : Fin 200 → Fin 1024) (P : Fin 1024 → Fin 128 → ℝ) (w : Fin 128 → ℝ) :
    (∑ v, (∑ l, (if v.val = (t l).val then 1 else 0 : ℝ)) * ((∑ e, P v e * w e) * 200⁻¹)) = ∑ e, ((∑ l, P (t l) e) * (1 / 200)) * w e := by
  have h : ∀ l, (∑ v : Fin 1024, (if v.val = (t l).val then 1 else 0 : ℝ) * ((∑ e, P v e * w e) * 200⁻¹)) = (∑ e, P (t l) e * w e) * 200⁻¹ := fun l => by
    rw [Finset.sum_eq_single (t l) (fun v _ hv => by rw [if_neg (fun e => hv (Fin.ext e)), zero_mul]) (fun h => absurd (Finset.mem_univ _) h), if_pos rfl, one_mul]
  simp_rw [Finset.sum_mul (s := Finset.univ) (f := fun l => (if _ = (t l).val then 1 else 0 : ℝ))]
  rw [Finset.sum_comm]
  simp_rw [h, Finset.sum_mul]
  rw [Finset.sum_comm]
  refine Finset.sum_congr rfl fun e _ => Finset.sum_congr rfl fun l _ => by ring

/-- The same among the extended reals, on tables of reals. -/
theorem result_eq (x : IVec Cert.KernelIdeal.S16384x200 32) (E : FVec Ideal Cert.KernelIdeal.S1000x128 .f32) (W : FVec Ideal Cert.KernelIdeal.S128x128 .f32)
    (hx : ∀ j, (x j).toNat < 1000) (hE : ∀ j, ∃ r : ℝ, E j = (r : EReal)) (hW : ∀ j, ∃ r : ℝ, W j = (r : EReal)) (b : Fin 16384) (o : Fin 128) :
    (∑ v : Fin 1024, ((∑ l : Fin 200, (if v.val = (x (ix2 b l)).toNat then 1 else 0 : ℝ) : ℝ) : EReal)
        * ((∑ e : Fin 128, (if h : v.val < 1000 then E (ix2 ⟨v.val, h⟩ e) else 0 : EReal) * W (ix2 o e)) * ((200⁻¹ : ℝ) : EReal)))
      = ∑ e : Fin 128, rMean x E (ix2 b e) * W (ix2 o e) := by
  choose E' hE using hE
  choose W' hW using hW
  have key := congrArg (fun r : ℝ => (r : EReal)) (counts_mean (fun l => ⟨(x (ix2 b l)).toNat, lt_trans (hx _) (by decide)⟩)
    (fun v e => if h : v.val < 1000 then E' (ix2 ⟨v.val, h⟩ e) else 0) (fun e => W' (ix2 o e)))
  have hp : ∀ (v : Fin 1024) (e : Fin 128), (if h : v.val < 1000 then E (ix2 ⟨v.val, h⟩ e) else 0 : EReal)
      = ((if h : v.val < 1000 then E' (ix2 ⟨v.val, h⟩ e) else 0 : ℝ) : EReal) := fun v e => by
    split_ifs with h
    · exact hE _
    · rfl
  refine Eq.trans ?_ (key.trans ?_)
  · simp only [coe_sum', EReal.coe_mul]
    simp only [hp, hW]
  · simp only [coe_sum', EReal.coe_mul]
    refine Finset.sum_congr rfl fun e _ => ?_
    rw [rMean_apply x hx, hW]
    refine congrArg (· * _) (congrArg (· * _) (Finset.sum_congr rfl fun l _ => ?_))
    rw [dif_pos (hx _), hE]

section Run

variable (m : (ℓ : Loc Cert.KernelIdeal.nD Cert.KernelIdeal.τ Cert.KernelIdeal.sig) → Buf (Elt Ideal) ℓ)

theorem kernel_eq (h : Cert.Pre_KernelIdeal_finite_tables m) (d : Dev Cert.KernelIdeal.nD) :
    (WE3 m d).at Cert.KernelIdeal.main_v11 = rOut (m ((d.tc : Thread Cert.KernelIdeal.nD Cert.KernelIdeal.τ).loc Cert.KernelIdeal.main_arg0))
      (m ((d.tc : Thread Cert.KernelIdeal.nD Cert.KernelIdeal.τ).loc Cert.KernelIdeal.main_arg1))
      (m ((d.tc : Thread Cert.KernelIdeal.nD Cert.KernelIdeal.τ).loc Cert.KernelIdeal.main_arg2))
      (m ((d.tc : Thread Cert.KernelIdeal.nD Cert.KernelIdeal.τ).loc Cert.KernelIdeal.main_arg3)) := by
  obtain ⟨hx, hE, hW⟩ := tables_of_pre _ _ _ _ (h d)
  funext j
  have hj : j = ix2 (n0 := 16384) (n1 := 128) (j 0) (j 1) := by
    funext a
    match a with
    | ⟨0, _⟩ => rfl
    | ⟨1, _⟩ => rfl
  rw [hj]
  refine (kernel_at m d (j 0) (j 1)).trans (Eq.trans ?_ (rOut_apply _ _ _ _ (j 0) (j 1)).symm)
  exact congrArg (· + _) (result_eq _ _ _ hx (fun j => real_of_finite _ (hE j)) (fun j => real_of_finite _ (hW j)) (j 0) (j 1))

theorem inRange_tables (h : Cert.Pre_KernelIdeal_finite_tables m) : InRange (F := Ideal) m :=
  fun d j => lt_trans ((tables_of_pre _ _ _ _ (h d)).1 j) (by decide)

end Run

theorem frame_tables : Cert.quiescent_KernelIdeal_pre_finite_tables := fun m g h => run_args (F := Ideal) m g (inRange_tables m h)

theorem frame_ref_tables : Cert.quiescent_ReferenceIdeal_pre_finite_tables := fun m g _ => frame_ref m g trivial

theorem algebraic : Cert.algebraic_KernelIdeal_ReferenceIdeal_pre_finite_tables := by
  intro m g m' g' h ha
  refine ⟨fun c => (WE3 m c).at Cert.KernelIdeal.main_v11, ?_, ?_⟩
  · exact (θ_run _ _ _).mono (fun r hr => hr.1) (run_main m g (inRange_tables m h))
  · refine (θ_run _ _ _).mono (fun r hr c => ?_) (run_ref m' g')
    obtain ⟨h0, h1, h2, h3, h4⟩ := hr c
    obtain ⟨a0, a1, a2, a3⟩ := ha c
    refine ⟨h0.trans ?_, h1, h2, h3, h4⟩
    rw [a0, a1, a2, a3]
    exact (kernel_eq m h c).symm

end Cert.Proof.HistVal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_tokens_in_vocab
public import proofs.«01_k».proof.Proof.Gen.Pre_finite_tables
public import proofs.«01_k».proof.Proof.Printed
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_tokens_in_vocab.Gen.facts, Cert.Pre_finite_tables.Gen.facts,
  Hist.frame_Bits, Hist.frame_Ideal, HistVal.frame_tables, Hist.frame_ref, HistVal.frame_ref_tables,
  IdealRules.named_const.statement Cert.KernelIdeal.κ "inv_L" .f32 0x3BA3D70A#32 ((200⁻¹ : ℝ) : EReal) rfl, HistVal.algebraic⟩

end Cert.Proof

end
